-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x2048x3072 : Shape := ⟨3, ![4, 2048, 3072]⟩
abbrev S4x2048x2048 : Shape := ⟨3, ![4, 2048, 2048]⟩
abbrev S1x2048x11776 : Shape := ⟨3, ![1, 2048, 11776]⟩
abbrev S_ : Shape := ⟨0, ![]⟩
abbrev S3072 : Shape := ⟨1, ![3072]⟩
abbrev S1x1x3072 : Shape := ⟨3, ![1, 1, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x2048x1024 : Shape := ⟨3, ![4, 2048, 1024]⟩
abbrev S4x2048x4096 : Shape := ⟨3, ![4, 2048, 4096]⟩
abbrev S1x2048x256 : Shape := ⟨3, ![1, 2048, 256]⟩
abbrev S1x2048x512 : Shape := ⟨3, ![1, 2048, 512]⟩
abbrev S1x2048x2048 : Shape := ⟨3, ![1, 2048, 2048]⟩
abbrev S1x2048x1024 : Shape := ⟨3, ![1, 2048, 1024]⟩
abbrev S2048x1024 : Shape := ⟨2, ![2048, 1024]⟩
abbrev S2048x512 : Shape := ⟨2, ![2048, 512]⟩
abbrev S1x256x128 : Shape := ⟨3, ![1, 256, 128]⟩
abbrev S256x128 : Shape := ⟨2, ![256, 128]⟩
abbrev S1x256x2048 : Shape := ⟨3, ![1, 256, 2048]⟩
abbrev S256x2048 : Shape := ⟨2, ![256, 2048]⟩
abbrev S2048x256 : Shape := ⟨2, ![2048, 256]⟩
abbrev S1x256x256 : Shape := ⟨3, ![1, 256, 256]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩
abbrev S1x2048x128 : Shape := ⟨3, ![1, 2048, 128]⟩
abbrev S2048x128 : Shape := ⟨2, ![2048, 128]⟩

abbrev nBuf : Space → Nat
  | .hbm => 33
  | .vmem => 16
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x2048, .bf16⟩
  | .hbm, ⟨2, _⟩ => ⟨S1x2048x11776, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S3072, .i32⟩
  | .hbm, ⟨11, _⟩ => ⟨S_, .i32⟩
  | .hbm, ⟨12, _⟩ => ⟨S3072, .i32⟩
  | .hbm, ⟨13, _⟩ => ⟨S3072, .i1⟩
  | .hbm, ⟨14, _⟩ => ⟨S_, .f32⟩
  | .hbm, ⟨15, _⟩ => ⟨S_, .f32⟩
  | .hbm, ⟨16, _⟩ => ⟨S3072, .f32⟩
  | .hbm, ⟨17, _⟩ => ⟨S3072, .f32⟩
  | .hbm, ⟨18, _⟩ => ⟨S3072, .f32⟩
  | .hbm, ⟨19, _⟩ => ⟨S4x2048x3072, .f32⟩
  | .hbm, ⟨20, _⟩ => ⟨S1x1x3072, .f32⟩
  | .hbm, ⟨21, _⟩ => ⟨S4x2048x3072, .f32⟩
  | .hbm, ⟨22, _⟩ => ⟨S4x2048x3072, .f32⟩
  | .hbm, ⟨23, _⟩ => ⟨S4x2048x3072, .bf16⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S4x2048x1024, .bf16⟩
  | .hbm, ⟨32, _⟩ => ⟨S4x2048x4096, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S256x256, .bf16⟩
  | .local _ .vmem, ⟨9, _⟩ => ⟨S1x2048x2048, .bf16⟩
  | .local _ .vmem, ⟨10, _⟩ => ⟨S1x2048x2048, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S2048x1024, .bf16⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c15_i32 : BitVec 32 := 15#32
  let v1 : BitVec 32 := Scalar.addi c15_i32 v0
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c15_i32 : BitVec 32 := 15#32
  let v1 : BitVec 32 := Scalar.addi c15_i32 v0
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x2048x3072 : Shape := ⟨3, ![4, 2048, 3072]⟩
abbrev S4x2048x2048 : Shape := ⟨3, ![4, 2048, 2048]⟩
abbrev S1x2048x11776 : Shape := ⟨3, ![1, 2048, 11776]⟩
abbrev S4x2048x1024 : Shape := ⟨3, ![4, 2048, 1024]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩
abbrev S2048x11776 : Shape := ⟨2, ![2048, 11776]⟩
abbrev S2048x4096 : Shape := ⟨2, ![2048, 4096]⟩
abbrev S4x2048x4096 : Shape := ⟨3, ![4, 2048, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x2048, .bf16⟩
  | .hbm, ⟨2, _⟩ => ⟨S1x2048x11776, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x8x128, .f32⟩
  | .hbm, ⟨8, _⟩ => ⟨S4x2048x8x128, .f32⟩
  | .hbm, ⟨9, _⟩ => ⟨S4x2048x8x128, .f32⟩
  | .hbm, ⟨10, _⟩ => ⟨S4x8x2048x2048, .f32⟩
  | .hbm, ⟨11, _⟩ => ⟨S_, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .i1⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S_, .f32⟩
  | .hbm, ⟨38, _⟩ => ⟨S4x8x2048x2048, .i1⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S_, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .i1⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x2048, .f32⟩
  | .hbm, ⟨62, _⟩ => ⟨S4x8x2048x2048, .f32⟩
  | .hbm, ⟨63, _⟩ => ⟨S_, .f32⟩
  | .hbm, ⟨64, _⟩ => ⟨S_, .f32⟩
  | .hbm, ⟨65, _⟩ => ⟨S4x8x2048x2048, .i1⟩
  | .hbm, ⟨66, _⟩ => ⟨S4x8x2048x2048, .f32⟩
  | .hbm, ⟨67, _⟩ => ⟨S4x8x2048x2048, .f32⟩
  | .hbm, ⟨68, _⟩ => ⟨S4x8x128x2048, .f32⟩
  | .hbm, ⟨69, _⟩ => ⟨S4x2048x8x128, .f32⟩
  | .hbm, ⟨70, _⟩ => ⟨S4x2048x1024, .f32⟩
  | .hbm, ⟨71, _⟩ => ⟨S4x2048x2048, .f32⟩
  | .hbm, ⟨72, _⟩ => ⟨S2048x11776, .f32⟩
  | .hbm, ⟨73, _⟩ => ⟨S2048x4096, .f32⟩
  | .hbm, ⟨74, _⟩ => ⟨S4x2048x4096, .f32⟩
  | .hbm, ⟨75, _⟩ => ⟨S4x2048x1024, .bf16⟩
  | .hbm, ⟨76, _⟩ => ⟨S4x2048x4096, .bf16⟩
  | _, _ => ⟨S4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]
-- ==== Kernel2.lean ====
abbrev S4x2048x2048 : Shape := ⟨3, ![4, 2048, 2048]⟩
abbrev S1x2048x5632 : Shape := ⟨3, ![1, 2048, 5632]⟩
abbrev S8192x2048 : Shape := ⟨2, ![8192, 2048]⟩
abbrev S8192x5632 : Shape := ⟨2, ![8192, 5632]⟩
abbrev S2048x2048 : Shape := ⟨2, ![2048, 2048]⟩
abbrev S1x2048x512 : Shape := ⟨3, ![1, 2048, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x5632, .f32⟩
  | .hbm, ⟨2, _⟩ => ⟨S1x2048x5632, .f32⟩
  | .hbm, ⟨3, _⟩ => ⟨S8192x2048, .bf16⟩
  | .hbm, ⟨4, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x2048 : Shape := ⟨3, ![4, 2048, 2048]⟩
abbrev S1x2048x5632 : Shape := ⟨3, ![1, 2048, 5632]⟩
abbrev S2048x5632 : Shape := ⟨2, ![2048, 5632]⟩
abbrev S4x2048x5632 : Shape := ⟨3, ![4, 2048, 5632]⟩
abbrev S_ : Shape := ⟨0, ![]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x5632, .f32⟩
  | .hbm, ⟨2, _⟩ => ⟨S1x2048x5632, .f32⟩
  | .hbm, ⟨3, _⟩ => ⟨S4x2048x2048, .f32⟩
  | .hbm, ⟨4, _⟩ => ⟨S2048x5632, .f32⟩
  | .hbm, ⟨5, _⟩ => ⟨S4x2048x5632, .f32⟩
  | .hbm, ⟨6, _⟩ => ⟨S4x2048x5632, .f32⟩
  | .hbm, ⟨7, _⟩ => ⟨S4x2048x5632, .f32⟩
  | .hbm, ⟨8, _⟩ => ⟨S_, .f32⟩
  | .hbm, ⟨9, _⟩ => ⟨S4x2048x5632, .f32⟩
  | .hbm, ⟨10, _⟩ => ⟨S4x2048x5632, .f32⟩
  | .hbm, ⟨11, _⟩ => ⟨S_, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S2048x5632, .f32⟩
  | .hbm, ⟨16, _⟩ => ⟨S4x2048x5632, .f32⟩
  | .hbm, ⟨17, _⟩ => ⟨S4x2048x5632, .f32⟩
  | .hbm, ⟨18, _⟩ => ⟨S4x2048x5632, .bf16⟩
  | .hbm, ⟨19, _⟩ => ⟨S8192x5632, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048x11776 : Shape := ⟨3, ![1, 2048, 11776]⟩
abbrev S8192x2048 : Shape := ⟨2, ![8192, 2048]⟩
abbrev S8192x3072 : Shape := ⟨2, ![8192, 3072]⟩
abbrev S2048x2048 : Shape := ⟨2, ![2048, 2048]⟩
abbrev S1x2048x512 : Shape := ⟨3, ![1, 2048, 512]⟩
abbrev S2048x1024 : Shape := ⟨2, ![2048, 1024]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S8192x2048, .bf16⟩
  | .hbm, ⟨3, _⟩ => ⟨S8192x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x2048 : Shape := ⟨3, ![4, 2048, 2048]⟩
abbrev S1x2048x11776 : Shape := ⟨3, ![1, 2048, 11776]⟩
abbrev S2048x11776 : Shape := ⟨2, ![2048, 11776]⟩
abbrev S2048x3072 : Shape := ⟨2, ![2048, 3072]⟩
abbrev S4x2048x3072 : Shape := ⟨3, ![4, 2048, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S4x2048x2048, .f32⟩
  | .hbm, ⟨3, _⟩ => ⟨S2048x11776, .f32⟩
  | .hbm, ⟨4, _⟩ => ⟨S2048x3072, .f32⟩
  | .hbm, ⟨5, _⟩ => ⟨S4x2048x3072, .f32⟩
  | .hbm, ⟨6, _⟩ => ⟨S4x2048x3072, .bf16⟩
  | .hbm, ⟨7, _⟩ => ⟨S8192x3072, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S4x2048x5632 : Shape := ⟨3, ![4, 2048, 5632]⟩
abbrev S1x5632x2048 : Shape := ⟨3, ![1, 5632, 2048]⟩
abbrev S4x2048x2048 : Shape := ⟨3, ![4, 2048, 2048]⟩
abbrev S4x12288 : Shape := ⟨2, ![4, 12288]⟩
abbrev S2048 : Shape := ⟨1, ![2048]⟩
abbrev S_ : Shape := ⟨0, ![]⟩
abbrev S8x12288 : Shape := ⟨2, ![8, 12288]⟩
abbrev S8x6x2048 : Shape := ⟨3, ![8, 6, 2048]⟩
abbrev S8192x5632 : Shape := ⟨2, ![8192, 5632]⟩
abbrev S8192x2048 : Shape := ⟨2, ![8192, 2048]⟩
abbrev S1x2048 : Shape := ⟨2, ![1, 2048]⟩
abbrev S512x5632 : Shape := ⟨2, ![512, 5632]⟩
abbrev S512x2048 : Shape := ⟨2, ![512, 2048]⟩
abbrev S1x6x2048 : Shape := ⟨3, ![1, 6, 2048]⟩
abbrev S5632x2048 : Shape := ⟨2, ![5632, 2048]⟩
abbrev S4x128x2048 : Shape := ⟨3, ![4, 128, 2048]⟩
abbrev S4 : Shape := ⟨1, ![4]⟩
abbrev S1 : Shape := ⟨1, ![1]⟩
abbrev S1x128x2048 : Shape := ⟨3, ![1, 128, 2048]⟩
abbrev S128x2048 : Shape := ⟨2, ![128, 2048]⟩
abbrev S256x2048 : Shape := ⟨2, ![256, 2048]⟩
abbrev S1x1x2048 : Shape := ⟨3, ![1, 1, 2048]⟩
abbrev S256x5632 : Shape := ⟨2, ![256, 5632]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x5632, .bf16⟩
  | .hbm, ⟨1, _⟩ => ⟨S1x5632x2048, .f32⟩
  | .hbm, ⟨2, _⟩ => ⟨S4x2048x2048, .f32⟩
  | .hbm, ⟨3, _⟩ => ⟨S4x12288, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S8x12288, .f32⟩
  | .hbm, ⟨8, _⟩ => ⟨S8x6x2048, .f32⟩
  | .hbm, ⟨9, _⟩ => ⟨S8192x5632, .bf16⟩
  | .hbm, ⟨10, _⟩ => ⟨S8192x2048, .f32⟩
  | .hbm, ⟨11, _⟩ => ⟨S1x2048, .f32⟩
  | .hbm, ⟨12, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S5632x2048, .bf16⟩
  | .local _ .vmem, ⟨10, _⟩ => ⟨S4x128x2048, .f32⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_48 : BitVec 32 := 0#32
  let c44_i32 : BitVec 32 := 44#32
  let v73 : BitVec 32 := Scalar.addi c0_i32_48 c44_i32
  let c1_i32_49 : BitVec 32 := 1#32
  ⟨c0_i32_48, v73, c1_i32_49⟩
def k0_cond2 (k0_t1 : Fin k0_t1_loop.trips) : BitVec 1 :=
  let c0_i32_48 : BitVec 32 := 0#32
  let c1_i32_49 : BitVec 32 := 1#32
  let arg10 : BitVec 32 := Scf.iv c0_i32_48 c1_i32_49 k0_t1
  let c3_i32 : BitVec 32 := 3#32
  let v75 : BitVec 32 := Scalar.addi arg10 c3_i32
  let c44_i32_51 : BitVec 32 := 44#32
  let v76 : BitVec 1 := Scalar.cmpi .slt v75 c44_i32_51
  let v77 : BitVec 32 := Scalar.extui v76
  let c0_i32_52 : BitVec 32 := 0#32
  let v78 : BitVec 1 := Scalar.cmpi .ne v77 c0_i32_52
  v78

def k0_off1 (k0_t1 : Fin k0_t1_loop.trips) : Fin 1 → Nat :=
  let c0_i32_48 : BitVec 32 := 0#32
  let c1_i32_49 : BitVec 32 := 1#32
  let arg10 : BitVec 32 := Scf.iv c0_i32_48 c1_i32_49 k0_t1
  let c3_i32_63 : BitVec 32 := 3#32
  let v97 : BitVec 32 := Scalar.addi arg10 c3_i32_63
  let c4_i32_64 : BitVec 32 := 4#32
  let v98 : BitVec 32 := Scalar.remsi v97 c4_i32_64
  ![v98.toNat]
def k0_off2 (k0_t1 : Fin k0_t1_loop.trips) : Fin 3 → Nat :=
  let c0_i32_48 : BitVec 32 := 0#32
  let c1_i32_49 : BitVec 32 := 1#32
  let arg10 : BitVec 32 := Scf.iv c0_i32_48 c1_i32_49 k0_t1
  let c3_i32_63 : BitVec 32 := 3#32
  let v97 : BitVec 32 := Scalar.addi arg10 c3_i32_63
  let c4_i32_64 : BitVec 32 := 4#32
  let v98 : BitVec 32 := Scalar.remsi v97 c4_i32_64
  let c0_i32_67 : BitVec 32 := 0#32
  let c0_i32_68 : BitVec 32 := 0#32
  ![v98.toNat, 0, 0]
def k0_off3 (k0_t1 : Fin k0_t1_loop.trips) : Fin 3 → Nat :=
  let c0_i32_66 : BitVec 32 := 0#32
  let c0_i32_48 : BitVec 32 := 0#32
  let c1_i32_49 : BitVec 32 := 1#32
  let arg10 : BitVec 32 := Scf.iv c0_i32_48 c1_i32_49 k0_t1
  let c3_i32_62 : BitVec 32 := 3#32
  let v96 : BitVec 32 := Scalar.addi arg10 c3_i32_62
  let c128_i32_65 : BitVec 32 := 128#32
  let v99 : BitVec 32 := Scalar.muli v96 c128_i32_65
  let c0_i32_69 : BitVec 32 := 0#32
  ![0, v99.toNat, 0]
def k0_off4 (k0_t1 : Fin k0_t1_loop.trips) : Fin 1 → Nat :=
  let c0_i32_48 : BitVec 32 := 0#32
  let c1_i32_49 : BitVec 32 := 1#32
  let arg10 : BitVec 32 := Scf.iv c0_i32_48 c1_i32_49 k0_t1
  let c4_i32 : BitVec 32 := 4#32
  let v74 : BitVec 32 := Scalar.remsi arg10 c4_i32
  ![v74.toNat]
def k0_off5 (k0_t1 : Fin k0_t1_loop.trips) : Fin 3 → Nat :=
  let c0_i32_48 : BitVec 32 := 0#32
  let c1_i32_49 : BitVec 32 := 1#32
  let arg10 : BitVec 32 := Scf.iv c0_i32_48 c1_i32_49 k0_t1
  let c4_i32 : BitVec 32 := 4#32
  let v74 : BitVec 32 := Scalar.remsi arg10 c4_i32
  let c0_i32_55 : BitVec 32 := 0#32
  let c0_i32_56 : BitVec 32 := 0#32
  ![v74.toNat, 0, 0]
def k0_off6 (k0_t1 : Fin k0_t1_loop.trips) : Fin 3 → Nat :=
  let c0_i32_54 : BitVec 32 := 0#32
  let c0_i32_48 : BitVec 32 := 0#32
  let c1_i32_49 : BitVec 32 := 1#32
  let arg10 : BitVec 32 := Scf.iv c0_i32_48 c1_i32_49 k0_t1
  let c128_i32_53 : BitVec 32 := 128#32
  let v79 : BitVec 32 := Scalar.muli arg10 c128_i32_53
  let c0_i32_57 : BitVec 32 := 0#32
  ![0, v79.toNat, 0]
def k0_mult1 (k0_t1 : Fin k0_t1_loop.trips) : BitVec 32 :=
  let c0_i32_48 : BitVec 32 := 0#32
  let c1_i32_49 : BitVec 32 := 1#32
  let arg10 : BitVec 32 := Scf.iv c0_i32_48 c1_i32_49 k0_t1
  let c128_i32_58 : BitVec 32 := 128#32
  let v86 : BitVec 32 := Scalar.muli arg10 c128_i32_58
  v86
def k0_off7 (k0_t1 : Fin k0_t1_loop.trips) : Fin 3 → Nat :=
  let c0_i32_48 : BitVec 32 := 0#32
  let c1_i32_49 : BitVec 32 := 1#32
  let arg10 : BitVec 32 := Scf.iv c0_i32_48 c1_i32_49 k0_t1
  let c4_i32 : BitVec 32 := 4#32
  let v74 : BitVec 32 := Scalar.remsi arg10 c4_i32
  let v88 : Index := Scalar.indexCast v74
  let c0_59 : Index := 0#32
  let c0_60 : Index := 0#32
  ![v88.toNat, 0, 0]
def k0_off8 (k0_t1 : Fin k0_t1_loop.trips) : Fin 2 → Nat :=
  let c0_i32_48 : BitVec 32 := 0#32
  let c1_i32_49 : BitVec 32 := 1#32
  let arg10 : BitVec 32 := Scf.iv c0_i32_48 c1_i32_49 k0_t1
  let c128_i32_58 : BitVec 32 := 128#32
  let v86 : BitVec 32 := Scalar.muli arg10 c128_i32_58
  let v87 : BitVec 32 := v86
  let v92 : Index := Scalar.indexCast v87
  let c0_61 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x2048x5632 : Shape := ⟨3, ![4, 2048, 5632]⟩
abbrev S1x5632x2048 : Shape := ⟨3, ![1, 5632, 2048]⟩
abbrev S4x2048x2048 : Shape := ⟨3, ![4, 2048, 2048]⟩
abbrev S4x12288 : Shape := ⟨2, ![4, 12288]⟩
abbrev S2048 : Shape := ⟨1, ![2048]⟩
abbrev S4x2048 : Shape := ⟨2, ![4, 2048]⟩
abbrev S4x1x2048 : Shape := ⟨3, ![4, 1, 2048]⟩
abbrev S5632x2048 : Shape := ⟨2, ![5632, 2048]⟩
abbrev S_ : Shape := ⟨0, ![]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S1x5632x2048, .f32⟩
  | .hbm, ⟨2, _⟩ => ⟨S4x2048x2048, .f32⟩
  | .hbm, ⟨3, _⟩ => ⟨S4x12288, .f32⟩
  | .hbm, ⟨4, _⟩ => ⟨S2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x2048x5632, .f32⟩
  | .hbm, ⟨13, _⟩ => ⟨S5632x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S4x2048x2048 : Shape := ⟨3, ![4, 2048, 2048]⟩
abbrev S1x2048x11776 : Shape := ⟨3, ![1, 2048, 11776]⟩
abbrev S8192x2048 : Shape := ⟨2, ![8192, 2048]⟩
abbrev S8192x1536 : Shape := ⟨2, ![8192, 1536]⟩
abbrev S2048x2048 : Shape := ⟨2, ![2048, 2048]⟩
abbrev S1x2048x512 : Shape := ⟨3, ![1, 2048, 512]⟩
abbrev S2048x1536 : Shape := ⟨2, ![2048, 1536]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S8192x2048, .bf16⟩
  | .hbm, ⟨3, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S2048x1536, .bf16⟩
  | .local _ .vmem, ⟨6, _⟩ => ⟨S2048x1536, .bf16⟩
  | .local _ .vmem, ⟨7, _⟩ => ⟨S2048x1536, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c12_i32 : BitVec 32 := 12#32
  let c0_i32_1 : BitVec 32 := 0#32
  ![c0_i32.toNat, c0_i32_0.toNat, c12_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x2048x2048 : Shape := ⟨3, ![4, 2048, 2048]⟩
abbrev S1x2048x11776 : Shape := ⟨3, ![1, 2048, 11776]⟩
abbrev S2048x11776 : Shape := ⟨2, ![2048, 11776]⟩
abbrev S4x2048x11776 : Shape := ⟨3, ![4, 2048, 11776]⟩
abbrev S4x2048x4608 : Shape := ⟨3, ![4, 2048, 4608]⟩
abbrev S4x2048x3x3x512 : Shape := ⟨5, ![4, 2048, 3, 3, 512]⟩
abbrev S4x2048x3x1x512 : Shape := ⟨5, ![4, 2048, 3, 1, 512]⟩
abbrev S4x2048x3x512 : Shape := ⟨4, ![4, 2048, 3, 512]⟩
abbrev S8192x1536 : Shape := ⟨2, ![8192, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S4x2048x2048, .f32⟩
  | .hbm, ⟨3, _⟩ => ⟨S2048x11776, .f32⟩
  | .hbm, ⟨4, _⟩ => ⟨S4x2048x11776, .f32⟩
  | .hbm, ⟨5, _⟩ => ⟨S4x2048x4608, .f32⟩
  | .hbm, ⟨6, _⟩ => ⟨S4x2048x3x3x512, .f32⟩
  | .hbm, ⟨7, _⟩ => ⟨S4x2048x3x1x512, .f32⟩
  | .hbm, ⟨8, _⟩ => ⟨S4x2048x3x512, .f32⟩
  | .hbm, ⟨9, _⟩ => ⟨S4x2048x3x512, .bf16⟩
  | .hbm, ⟨10, _⟩ => ⟨S8192x1536, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel6.lean ====
abbrev S4x2048x2048 : Shape := ⟨3, ![4, 2048, 2048]⟩
abbrev S1x2048x11776 : Shape := ⟨3, ![1, 2048, 11776]⟩
abbrev S8192x2048 : Shape := ⟨2, ![8192, 2048]⟩
abbrev S8192x1536 : Shape := ⟨2, ![8192, 1536]⟩
abbrev S2048x2048 : Shape := ⟨2, ![2048, 2048]⟩
abbrev S1x2048x512 : Shape := ⟨3, ![1, 2048, 512]⟩
abbrev S2048x1536 : Shape := ⟨2, ![2048, 1536]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S8192x2048, .bf16⟩
  | .hbm, ⟨3, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S2048x1536, .bf16⟩
  | .local _ .vmem, ⟨6, _⟩ => ⟨S2048x1536, .bf16⟩
  | .local _ .vmem, ⟨7, _⟩ => ⟨S2048x1536, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c10_i32 : BitVec 32 := 10#32
  let c0_i32_1 : BitVec 32 := 0#32
  ![c0_i32.toNat, c0_i32_0.toNat, c10_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x2048x2048 : Shape := ⟨3, ![4, 2048, 2048]⟩
abbrev S1x2048x11776 : Shape := ⟨3, ![1, 2048, 11776]⟩
abbrev S2048x11776 : Shape := ⟨2, ![2048, 11776]⟩
abbrev S4x2048x11776 : Shape := ⟨3, ![4, 2048, 11776]⟩
abbrev S4x2048x4608 : Shape := ⟨3, ![4, 2048, 4608]⟩
abbrev S4x2048x3x3x512 : Shape := ⟨5, ![4, 2048, 3, 3, 512]⟩
abbrev S4x2048x3x1x512 : Shape := ⟨5, ![4, 2048, 3, 1, 512]⟩
abbrev S4x2048x3x512 : Shape := ⟨4, ![4, 2048, 3, 512]⟩
abbrev S8192x1536 : Shape := ⟨2, ![8192, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S4x2048x2048, .f32⟩
  | .hbm, ⟨3, _⟩ => ⟨S2048x11776, .f32⟩
  | .hbm, ⟨4, _⟩ => ⟨S4x2048x11776, .f32⟩
  | .hbm, ⟨5, _⟩ => ⟨S4x2048x4608, .f32⟩
  | .hbm, ⟨6, _⟩ => ⟨S4x2048x3x3x512, .f32⟩
  | .hbm, ⟨7, _⟩ => ⟨S4x2048x3x1x512, .f32⟩
  | .hbm, ⟨8, _⟩ => ⟨S4x2048x3x512, .f32⟩
  | .hbm, ⟨9, _⟩ => ⟨S4x2048x3x512, .bf16⟩
  | .hbm, ⟨10, _⟩ => ⟨S8192x1536, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel7.lean ====
abbrev S4x2048x2048 : Shape := ⟨3, ![4, 2048, 2048]⟩
abbrev S1x2048x11776 : Shape := ⟨3, ![1, 2048, 11776]⟩
abbrev S8192x2048 : Shape := ⟨2, ![8192, 2048]⟩
abbrev S8192x1536 : Shape := ⟨2, ![8192, 1536]⟩
abbrev S2048x2048 : Shape := ⟨2, ![2048, 2048]⟩
abbrev S1x2048x512 : Shape := ⟨3, ![1, 2048, 512]⟩
abbrev S2048x1536 : Shape := ⟨2, ![2048, 1536]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S8192x2048, .bf16⟩
  | .hbm, ⟨3, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S2048x1536, .bf16⟩
  | .local _ .vmem, ⟨6, _⟩ => ⟨S2048x1536, .bf16⟩
  | .local _ .vmem, ⟨7, _⟩ => ⟨S2048x1536, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c11_i32 : BitVec 32 := 11#32
  let c0_i32_1 : BitVec 32 := 0#32
  ![c0_i32.toNat, c0_i32_0.toNat, c11_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c14_i32 : BitVec 32 := 14#32
  let c0_i32_1 : BitVec 32 := 0#32
  ![c0_i32.toNat, c0_i32_0.toNat, c14_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4x2048x2048 : Shape := ⟨3, ![4, 2048, 2048]⟩
abbrev S1x2048x11776 : Shape := ⟨3, ![1, 2048, 11776]⟩
abbrev S2048x11776 : Shape := ⟨2, ![2048, 11776]⟩
abbrev S4x2048x11776 : Shape := ⟨3, ![4, 2048, 11776]⟩
abbrev S4x2048x4608 : Shape := ⟨3, ![4, 2048, 4608]⟩
abbrev S4x2048x3x3x512 : Shape := ⟨5, ![4, 2048, 3, 3, 512]⟩
abbrev S4x2048x3x1x512 : Shape := ⟨5, ![4, 2048, 3, 1, 512]⟩
abbrev S4x2048x3x512 : Shape := ⟨4, ![4, 2048, 3, 512]⟩
abbrev S8192x1536 : Shape := ⟨2, ![8192, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x11776, .f32⟩
  | .hbm, ⟨2, _⟩ => ⟨S4x2048x2048, .f32⟩
  | .hbm, ⟨3, _⟩ => ⟨S2048x11776, .f32⟩
  | .hbm, ⟨4, _⟩ => ⟨S4x2048x11776, .f32⟩
  | .hbm, ⟨5, _⟩ => ⟨S4x2048x4608, .f32⟩
  | .hbm, ⟨6, _⟩ => ⟨S4x2048x3x3x512, .f32⟩
  | .hbm, ⟨7, _⟩ => ⟨S4x2048x3x1x512, .f32⟩
  | .hbm, ⟨8, _⟩ => ⟨S4x2048x3x512, .f32⟩
  | .hbm, ⟨9, _⟩ => ⟨S4x2048x3x512, .bf16⟩
  | .hbm, ⟨10, _⟩ => ⟨S8192x1536, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel8.lean ====
abbrev S4x2048x1024 : Shape := ⟨3, ![4, 2048, 1024]⟩
abbrev S4x2048x512 : Shape := ⟨3, ![4, 2048, 512]⟩
abbrev S4x2048x4096 : Shape := ⟨3, ![4, 2048, 4096]⟩
abbrev S1x4096 : Shape := ⟨2, ![1, 4096]⟩
abbrev S4x2048x2048 : Shape := ⟨3, ![4, 2048, 2048]⟩
abbrev S4x12288 : Shape := ⟨2, ![4, 12288]⟩
abbrev S1x2048 : Shape := ⟨2, ![1, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S_ : Shape := ⟨0, ![]⟩
abbrev S8x12288 : Shape := ⟨2, ![8, 12288]⟩
abbrev S8x6x2048 : Shape := ⟨3, ![8, 6, 2048]⟩
abbrev S8192x1024 : Shape := ⟨2, ![8192, 1024]⟩
abbrev S8192x512 : Shape := ⟨2, ![8192, 512]⟩
abbrev S8192x4096 : Shape := ⟨2, ![8192, 4096]⟩
abbrev S8192x2048 : Shape := ⟨2, ![8192, 2048]⟩
abbrev S512x1024 : Shape := ⟨2, ![512, 1024]⟩
abbrev S512x512 : Shape := ⟨2, ![512, 512]⟩
abbrev S512x4096 : Shape := ⟨2, ![512, 4096]⟩
abbrev S512x2048 : Shape := ⟨2, ![512, 2048]⟩
abbrev S1x6x2048 : Shape := ⟨3, ![1, 6, 2048]⟩
abbrev S1024x2048 : Shape := ⟨2, ![1024, 2048]⟩
abbrev S2048x2048 : Shape := ⟨2, ![2048, 2048]⟩
abbrev S4x128x2048 : Shape := ⟨3, ![4, 128, 2048]⟩
abbrev S4 : Shape := ⟨1, ![4]⟩
abbrev S1 : Shape := ⟨1, ![1]⟩
abbrev S1x128x2048 : Shape := ⟨3, ![1, 128, 2048]⟩
abbrev S128x2048 : Shape := ⟨2, ![128, 2048]⟩
abbrev S256x1024 : Shape := ⟨2, ![256, 1024]⟩
abbrev S256x2048 : Shape := ⟨2, ![256, 2048]⟩
abbrev S256x512 : Shape := ⟨2, ![256, 512]⟩
abbrev S256x4096 : Shape := ⟨2, ![256, 4096]⟩
abbrev S1x1x2048 : Shape := ⟨3, ![1, 1, 2048]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x512, .bf16⟩
  | .hbm, ⟨2, _⟩ => ⟨S4x2048x4096, .bf16⟩
  | .hbm, ⟨3, _⟩ => ⟨S1x4096, .f32⟩
  | .hbm, ⟨4, _⟩ => ⟨S4x2048x2048, .f32⟩
  | .hbm, ⟨5, _⟩ => ⟨S4x12288, .f32⟩
  | .hbm, ⟨6, _⟩ => ⟨S1x2048, .f32⟩
  | .hbm, ⟨7, _⟩ => ⟨S1x1024x2048, .f32⟩
  | .hbm, ⟨8, _⟩ => ⟨S1x512x2048, .f32⟩
  | .hbm, ⟨9, _⟩ => ⟨S1x2048x2048, .f32⟩
  | .hbm, ⟨10, _⟩ => ⟨S_, .i32⟩
  | .hbm, ⟨11, _⟩ => ⟨S_, .f32⟩
  | .hbm, ⟨12, _⟩ => ⟨S8x12288, .f32⟩
  | .hbm, ⟨13, _⟩ => ⟨S8x6x2048, .f32⟩
  | .hbm, ⟨14, _⟩ => ⟨S8192x1024, .bf16⟩
  | .hbm, ⟨15, _⟩ => ⟨S8192x512, .bf16⟩
  | .hbm, ⟨16, _⟩ => ⟨S8192x4096, .bf16⟩
  | .hbm, ⟨17, _⟩ => ⟨S8192x2048, .f32⟩
  | .hbm, ⟨18, _⟩ => ⟨S8192x2048, .f32⟩
  | .hbm, ⟨19, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x4096, .bf16⟩
  | .local _ .vmem, ⟨5, _⟩ => ⟨S512x4096, .bf16⟩
  | .local _ .vmem, ⟨6, _⟩ => ⟨S1x4096, .f32⟩
  | .local _ .vmem, ⟨7, _⟩ => ⟨S512x2048, .f32⟩
  | .local _ .vmem, ⟨8, _⟩ => ⟨S512x2048, .f32⟩
  | .local _ .vmem, ⟨9, _⟩ => ⟨S1x6x2048, .f32⟩
  | .local _ .vmem, ⟨10, _⟩ => ⟨S1x6x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1024x2048, .bf16⟩
  | .local _ .vmem, ⟨17, _⟩ => ⟨S512x2048, .bf16⟩
  | .local _ .vmem, ⟨18, _⟩ => ⟨S2048x2048, .bf16⟩
  | .local _ .vmem, ⟨19, _⟩ => ⟨S4x128x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_94 : BitVec 32 := 0#32
  let c8_i32 : BitVec 32 := 8#32
  let v145 : BitVec 32 := Scalar.addi c0_i32_94 c8_i32
  let c1_i32_95 : BitVec 32 := 1#32
  ⟨c0_i32_94, v145, c1_i32_95⟩
def k0_cond2 (k0_t1 : Fin k0_t1_loop.trips) : BitVec 1 :=
  let c0_i32_94 : BitVec 32 := 0#32
  let c1_i32_95 : BitVec 32 := 1#32
  let arg18 : BitVec 32 := Scf.iv c0_i32_94 c1_i32_95 k0_t1
  let c3_i32 : BitVec 32 := 3#32
  let v185 : BitVec 32 := Scalar.addi arg18 c3_i32
  let c8_i32_146 : BitVec 32 := 8#32
  let v186 : BitVec 1 := Scalar.cmpi .slt v185 c8_i32_146
  let v187 : BitVec 32 := Scalar.extui v186
  let c0_i32_147 : BitVec 32 := 0#32
  let v188 : BitVec 1 := Scalar.cmpi .ne v187 c0_i32_147
  v188

def k0_off1 (k0_t1 : Fin k0_t1_loop.trips) : Fin 1 → Nat :=
  let c0_i32_94 : BitVec 32 := 0#32
  let c1_i32_95 : BitVec 32 := 1#32
  let arg18 : BitVec 32 := Scf.iv c0_i32_94 c1_i32_95 k0_t1
  let c3_i32_158 : BitVec 32 := 3#32
  let v207 : BitVec 32 := Scalar.addi arg18 c3_i32_158
  let c4_i32_159 : BitVec 32 := 4#32
  let v208 : BitVec 32 := Scalar.remsi v207 c4_i32_159
  ![v208.toNat]
def k0_off2 (k0_t1 : Fin k0_t1_loop.trips) : Fin 3 → Nat :=
  let c0_i32_94 : BitVec 32 := 0#32
  let c1_i32_95 : BitVec 32 := 1#32
  let arg18 : BitVec 32 := Scf.iv c0_i32_94 c1_i32_95 k0_t1
  let c3_i32_158 : BitVec 32 := 3#32
  let v207 : BitVec 32 := Scalar.addi arg18 c3_i32_158
  let c4_i32_159 : BitVec 32 := 4#32
  let v208 : BitVec 32 := Scalar.remsi v207 c4_i32_159
  let c0_i32_162 : BitVec 32 := 0#32
  let c0_i32_163 : BitVec 32 := 0#32
  ![v208.toNat, 0, 0]
def k0_off3 (k0_t1 : Fin k0_t1_loop.trips) : Fin 3 → Nat :=
  let c0_i32_161 : BitVec 32 := 0#32
  let c0_i32_94 : BitVec 32 := 0#32
  let c1_i32_95 : BitVec 32 := 1#32
  let arg18 : BitVec 32 := Scf.iv c0_i32_94 c1_i32_95 k0_t1
  let c3_i32_157 : BitVec 32 := 3#32
  let v206 : BitVec 32 := Scalar.addi arg18 c3_i32_157
  let c128_i32_160 : BitVec 32 := 128#32
  let v209 : BitVec 32 := Scalar.muli v206 c128_i32_160
  let c0_i32_164 : BitVec 32 := 0#32
  ![0, v209.toNat, 0]
def k0_off4 (k0_t1 : Fin k0_t1_loop.trips) : Fin 1 → Nat :=
  let c0_i32_94 : BitVec 32 := 0#32
  let c1_i32_95 : BitVec 32 := 1#32
  let arg18 : BitVec 32 := Scf.iv c0_i32_94 c1_i32_95 k0_t1
  let c4_i32_145 : BitVec 32 := 4#32
  let v184 : BitVec 32 := Scalar.remsi arg18 c4_i32_145
  ![v184.toNat]
def k0_off5 (k0_t1 : Fin k0_t1_loop.trips) : Fin 3 → Nat :=
  let c0_i32_94 : BitVec 32 := 0#32
  let c1_i32_95 : BitVec 32 := 1#32
  let arg18 : BitVec 32 := Scf.iv c0_i32_94 c1_i32_95 k0_t1
  let c4_i32_145 : BitVec 32 := 4#32
  let v184 : BitVec 32 := Scalar.remsi arg18 c4_i32_145
  let c0_i32_150 : BitVec 32 := 0#32
  let c0_i32_151 : BitVec 32 := 0#32
  ![v184.toNat, 0, 0]
def k0_off6 (k0_t1 : Fin k0_t1_loop.trips) : Fin 3 → Nat :=
  let c0_i32_149 : BitVec 32 := 0#32
  let c0_i32_94 : BitVec 32 := 0#32
  let c1_i32_95 : BitVec 32 := 1#32
  let arg18 : BitVec 32 := Scf.iv c0_i32_94 c1_i32_95 k0_t1
  let c128_i32_148 : BitVec 32 := 128#32
  let v189 : BitVec 32 := Scalar.muli arg18 c128_i32_148
  let c0_i32_152 : BitVec 32 := 0#32
  ![0, v189.toNat, 0]
def k0_mult1 (k0_t1 : Fin k0_t1_loop.trips) : BitVec 32 :=
  let c0_i32_94 : BitVec 32 := 0#32
  let c1_i32_95 : BitVec 32 := 1#32
  let arg18 : BitVec 32 := Scf.iv c0_i32_94 c1_i32_95 k0_t1
  let c128_i32_153 : BitVec 32 := 128#32
  let v196 : BitVec 32 := Scalar.muli arg18 c128_i32_153
  v196
def k0_off7 (k0_t1 : Fin k0_t1_loop.trips) : Fin 3 → Nat :=
  let c0_i32_94 : BitVec 32 := 0#32
  let c1_i32_95 : BitVec 32 := 1#32
  let arg18 : BitVec 32 := Scf.iv c0_i32_94 c1_i32_95 k0_t1
  let c4_i32_145 : BitVec 32 := 4#32
  let v184 : BitVec 32 := Scalar.remsi arg18 c4_i32_145
  let v198 : Index := Scalar.indexCast v184
  let c0_154 : Index := 0#32
  let c0_155 : Index := 0#32
  ![v198.toNat, 0, 0]
def k0_off8 (k0_t1 : Fin k0_t1_loop.trips) : Fin 2 → Nat :=
  let c0_i32_94 : BitVec 32 := 0#32
  let c1_i32_95 : BitVec 32 := 1#32
  let arg18 : BitVec 32 := Scf.iv c0_i32_94 c1_i32_95 k0_t1
  let c128_i32_153 : BitVec 32 := 128#32
  let v196 : BitVec 32 := Scalar.muli arg18 c128_i32_153
  let v197 : BitVec 32 := v196
  let v202 : Index := Scalar.indexCast v197
  let c0_156 : Index := 0#32
  ![v202.toNat, 0]
@[reducible] def k0_t2_loop : Scf.Loop 32 :=
  let c0_i32_118 : BitVec 32 := 0#32
  let c4_i32 : BitVec 32 := 4#32
  let v164 : BitVec 32 := Scalar.addi c0_i32_118 c4_i32
  let c1_i32_119 : BitVec 32 := 1#32
  ⟨c0_i32_118, v164, c1_i32_119⟩
def k0_cond3 (k0_t2 : Fin k0_t2_loop.trips) : BitVec 1 :=
  let c0_i32_118 : BitVec 32 := 0#32
  let c1_i32_119 : BitVec 32 := 1#32
  let arg18 : BitVec 32 := Scf.iv c0_i32_118 c1_i32_119 k0_t2
  let c3_i32 : BitVec 32 := 3#32
  let v185 : BitVec 32 := Scalar.addi arg18 c3_i32
  let c4_i32_146 : BitVec 32 := 4#32
  let v186 : BitVec 1 := Scalar.cmpi .slt v185 c4_i32_146
  let v187 : BitVec 32 := Scalar.extui v186
  let c0_i32_147 : BitVec 32 := 0#32
  let v188 : BitVec 1 := Scalar.cmpi .ne v187 c0_i32_147
  v188

def k0_off9 (k0_t2 : Fin k0_t2_loop.trips) : Fin 1 → Nat :=
  let c0_i32_118 : BitVec 32 := 0#32
  let c1_i32_119 : BitVec 32 := 1#32
  let arg18 : BitVec 32 := Scf.iv c0_i32_118 c1_i32_119 k0_t2
  let c3_i32_158 : BitVec 32 := 3#32
  let v207 : BitVec 32 := Scalar.addi arg18 c3_i32_158
  let c4_i32_159 : BitVec 32 := 4#32
  let v208 : BitVec 32 := Scalar.remsi v207 c4_i32_159
  ![v208.toNat]
def k0_off10 (k0_t2 : Fin k0_t2_loop.trips) : Fin 3 → Nat :=
  let c0_i32_118 : BitVec 32 := 0#32
  let c1_i32_119 : BitVec 32 := 1#32
  let arg18 : BitVec 32 := Scf.iv c0_i32_118 c1_i32_119 k0_t2
  let c3_i32_158 : BitVec 32 := 3#32
  let v207 : BitVec 32 := Scalar.addi arg18 c3_i32_158
  let c4_i32_159 : BitVec 32 := 4#32
  let v208 : BitVec 32 := Scalar.remsi v207 c4_i32_159
  let c0_i32_162 : BitVec 32 := 0#32
  let c0_i32_163 : BitVec 32 := 0#32
  ![v208.toNat, 0, 0]
def k0_off11 (k0_t2 : Fin k0_t2_loop.trips) : Fin 3 → Nat :=
  let c0_i32_161 : BitVec 32 := 0#32
  let c0_i32_118 : BitVec 32 := 0#32
  let c1_i32_119 : BitVec 32 := 1#32
  let arg18 : BitVec 32 := Scf.iv c0_i32_118 c1_i32_119 k0_t2
  let c3_i32_157 : BitVec 32 := 3#32
  let v206 : BitVec 32 := Scalar.addi arg18 c3_i32_157
  let c128_i32_160 : BitVec 32 := 128#32
  let v209 : BitVec 32 := Scalar.muli v206 c128_i32_160
  let c0_i32_164 : BitVec 32 := 0#32
  ![0, v209.toNat, 0]
def k0_off12 (k0_t2 : Fin k0_t2_loop.trips) : Fin 1 → Nat :=
  let c0_i32_118 : BitVec 32 := 0#32
  let c1_i32_119 : BitVec 32 := 1#32
  let arg18 : BitVec 32 := Scf.iv c0_i32_118 c1_i32_119 k0_t2
  let c4_i32_145 : BitVec 32 := 4#32
  let v184 : BitVec 32 := Scalar.remsi arg18 c4_i32_145
  ![v184.toNat]
def k0_off13 (k0_t2 : Fin k0_t2_loop.trips) : Fin 3 → Nat :=
  let c0_i32_118 : BitVec 32 := 0#32
  let c1_i32_119 : BitVec 32 := 1#32
  let arg18 : BitVec 32 := Scf.iv c0_i32_118 c1_i32_119 k0_t2
  let c4_i32_145 : BitVec 32 := 4#32
  let v184 : BitVec 32 := Scalar.remsi arg18 c4_i32_145
  let c0_i32_150 : BitVec 32 := 0#32
  let c0_i32_151 : BitVec 32 := 0#32
  ![v184.toNat, 0, 0]
def k0_off14 (k0_t2 : Fin k0_t2_loop.trips) : Fin 3 → Nat :=
  let c0_i32_149 : BitVec 32 := 0#32
  let c0_i32_118 : BitVec 32 := 0#32
  let c1_i32_119 : BitVec 32 := 1#32
  let arg18 : BitVec 32 := Scf.iv c0_i32_118 c1_i32_119 k0_t2
  let c128_i32_148 : BitVec 32 := 128#32
  let v189 : BitVec 32 := Scalar.muli arg18 c128_i32_148
  let c0_i32_152 : BitVec 32 := 0#32
  ![0, v189.toNat, 0]
def k0_mult2 (k0_t2 : Fin k0_t2_loop.trips) : BitVec 32 :=
  let c0_i32_118 : BitVec 32 := 0#32
  let c1_i32_119 : BitVec 32 := 1#32
  let arg18 : BitVec 32 := Scf.iv c0_i32_118 c1_i32_119 k0_t2
  let c128_i32_153 : BitVec 32 := 128#32
  let v196 : BitVec 32 := Scalar.muli arg18 c128_i32_153
  v196
def k0_off15 (k0_t2 : Fin k0_t2_loop.trips) : Fin 3 → Nat :=
  let c0_i32_118 : BitVec 32 := 0#32
  let c1_i32_119 : BitVec 32 := 1#32
  let arg18 : BitVec 32 := Scf.iv c0_i32_118 c1_i32_119 k0_t2
  let c4_i32_145 : BitVec 32 := 4#32
  let v184 : BitVec 32 := Scalar.remsi arg18 c4_i32_145
  let v198 : Index := Scalar.indexCast v184
  let c0_154 : Index := 0#32
  let c0_155 : Index := 0#32
  ![v198.toNat, 0, 0]
def k0_off16 (k0_t2 : Fin k0_t2_loop.trips) : Fin 2 → Nat :=
  let c0_i32_118 : BitVec 32 := 0#32
  let c1_i32_119 : BitVec 32 := 1#32
  let arg18 : BitVec 32 := Scf.iv c0_i32_118 c1_i32_119 k0_t2
  let c128_i32_153 : BitVec 32 := 128#32
  let v196 : BitVec 32 := Scalar.muli arg18 c128_i32_153
  let v197 : BitVec 32 := v196
  let v202 : Index := Scalar.indexCast v197
  let c0_156 : Index := 0#32
  ![v202.toNat, 0]
@[reducible] def k0_t3_loop : Scf.Loop 32 :=
  let c0_i32_142 : BitVec 32 := 0#32
  let c16_i32 : BitVec 32 := 16#32
  let v183 : BitVec 32 := Scalar.addi c0_i32_142 c16_i32
  let c1_i32_143 : BitVec 32 := 1#32
  ⟨c0_i32_142, v183, c1_i32_143⟩
def k0_cond4 (k0_t3 : Fin k0_t3_loop.trips) : BitVec 1 :=
  let c0_i32_142 : BitVec 32 := 0#32
  let c1_i32_143 : BitVec 32 := 1#32
  let arg18 : BitVec 32 := Scf.iv c0_i32_142 c1_i32_143 k0_t3
  let c3_i32 : BitVec 32 := 3#32
  let v185 : BitVec 32 := Scalar.addi arg18 c3_i32
  let c16_i32_146 : BitVec 32 := 16#32
  let v186 : BitVec 1 := Scalar.cmpi .slt v185 c16_i32_146
  let v187 : BitVec 32 := Scalar.extui v186
  let c0_i32_147 : BitVec 32 := 0#32
  let v188 : BitVec 1 := Scalar.cmpi .ne v187 c0_i32_147
  v188

def k0_off17 (k0_t3 : Fin k0_t3_loop.trips) : Fin 1 → Nat :=
  let c0_i32_142 : BitVec 32 := 0#32
  let c1_i32_143 : BitVec 32 := 1#32
  let arg18 : BitVec 32 := Scf.iv c0_i32_142 c1_i32_143 k0_t3
  let c3_i32_158 : BitVec 32 := 3#32
  let v207 : BitVec 32 := Scalar.addi arg18 c3_i32_158
  let c4_i32_159 : BitVec 32 := 4#32
  let v208 : BitVec 32 := Scalar.remsi v207 c4_i32_159
  ![v208.toNat]
def k0_off18 (k0_t3 : Fin k0_t3_loop.trips) : Fin 3 → Nat :=
  let c0_i32_142 : BitVec 32 := 0#32
  let c1_i32_143 : BitVec 32 := 1#32
  let arg18 : BitVec 32 := Scf.iv c0_i32_142 c1_i32_143 k0_t3
  let c3_i32_158 : BitVec 32 := 3#32
  let v207 : BitVec 32 := Scalar.addi arg18 c3_i32_158
  let c4_i32_159 : BitVec 32 := 4#32
  let v208 : BitVec 32 := Scalar.remsi v207 c4_i32_159
  let c0_i32_162 : BitVec 32 := 0#32
  let c0_i32_163 : BitVec 32 := 0#32
  ![v208.toNat, 0, 0]
def k0_off19 (k0_t3 : Fin k0_t3_loop.trips) : Fin 3 → Nat :=
  let c0_i32_161 : BitVec 32 := 0#32
  let c0_i32_142 : BitVec 32 := 0#32
  let c1_i32_143 : BitVec 32 := 1#32
  let arg18 : BitVec 32 := Scf.iv c0_i32_142 c1_i32_143 k0_t3
  let c3_i32_157 : BitVec 32 := 3#32
  let v206 : BitVec 32 := Scalar.addi arg18 c3_i32_157
  let c128_i32_160 : BitVec 32 := 128#32
  let v209 : BitVec 32 := Scalar.muli v206 c128_i32_160
  let c0_i32_164 : BitVec 32 := 0#32
  ![0, v209.toNat, 0]
def k0_off20 (k0_t3 : Fin k0_t3_loop.trips) : Fin 1 → Nat :=
  let c0_i32_142 : BitVec 32 := 0#32
  let c1_i32_143 : BitVec 32 := 1#32
  let arg18 : BitVec 32 := Scf.iv c0_i32_142 c1_i32_143 k0_t3
  let c4_i32_145 : BitVec 32 := 4#32
  let v184 : BitVec 32 := Scalar.remsi arg18 c4_i32_145
  ![v184.toNat]
def k0_off21 (k0_t3 : Fin k0_t3_loop.trips) : Fin 3 → Nat :=
  let c0_i32_142 : BitVec 32 := 0#32
  let c1_i32_143 : BitVec 32 := 1#32
  let arg18 : BitVec 32 := Scf.iv c0_i32_142 c1_i32_143 k0_t3
  let c4_i32_145 : BitVec 32 := 4#32
  let v184 : BitVec 32 := Scalar.remsi arg18 c4_i32_145
  let c0_i32_150 : BitVec 32 := 0#32
  let c0_i32_151 : BitVec 32 := 0#32
  ![v184.toNat, 0, 0]
def k0_off22 (k0_t3 : Fin k0_t3_loop.trips) : Fin 3 → Nat :=
  let c0_i32_149 : BitVec 32 := 0#32
  let c0_i32_142 : BitVec 32 := 0#32
  let c1_i32_143 : BitVec 32 := 1#32
  let arg18 : BitVec 32 := Scf.iv c0_i32_142 c1_i32_143 k0_t3
  let c128_i32_148 : BitVec 32 := 128#32
  let v189 : BitVec 32 := Scalar.muli arg18 c128_i32_148
  let c0_i32_152 : BitVec 32 := 0#32
  ![0, v189.toNat, 0]
def k0_mult3 (k0_t3 : Fin k0_t3_loop.trips) : BitVec 32 :=
  let c0_i32_142 : BitVec 32 := 0#32
  let c1_i32_143 : BitVec 32 := 1#32
  let arg18 : BitVec 32 := Scf.iv c0_i32_142 c1_i32_143 k0_t3
  let c128_i32_153 : BitVec 32 := 128#32
  let v196 : BitVec 32 := Scalar.muli arg18 c128_i32_153
  v196
def k0_off23 (k0_t3 : Fin k0_t3_loop.trips) : Fin 3 → Nat :=
  let c0_i32_142 : BitVec 32 := 0#32
  let c1_i32_143 : BitVec 32 := 1#32
  let arg18 : BitVec 32 := Scf.iv c0_i32_142 c1_i32_143 k0_t3
  let c4_i32_145 : BitVec 32 := 4#32
  let v184 : BitVec 32 := Scalar.remsi arg18 c4_i32_145
  let v198 : Index := Scalar.indexCast v184
  let c0_154 : Index := 0#32
  let c0_155 : Index := 0#32
  ![v198.toNat, 0, 0]
def k0_off24 (k0_t3 : Fin k0_t3_loop.trips) : Fin 2 → Nat :=
  let c0_i32_142 : BitVec 32 := 0#32
  let c1_i32_143 : BitVec 32 := 1#32
  let arg18 : BitVec 32 := Scf.iv c0_i32_142 c1_i32_143 k0_t3
  let c128_i32_153 : BitVec 32 := 128#32
  let v196 : BitVec 32 := Scalar.muli arg18 c128_i32_153
  let v197 : BitVec 32 := v196
  let v202 : Index := Scalar.indexCast v197
  let c0_156 : Index := 0#32
  ![v202.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4x2048x1024 : Shape := ⟨3, ![4, 2048, 1024]⟩
abbrev S4x2048x512 : Shape := ⟨3, ![4, 2048, 512]⟩
abbrev S4x2048x4096 : Shape := ⟨3, ![4, 2048, 4096]⟩
abbrev S1x4096 : Shape := ⟨2, ![1, 4096]⟩
abbrev S4x2048x2048 : Shape := ⟨3, ![4, 2048, 2048]⟩
abbrev S4x12288 : Shape := ⟨2, ![4, 12288]⟩
abbrev S1x2048 : Shape := ⟨2, ![1, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S4x2048 : Shape := ⟨2, ![4, 2048]⟩
abbrev S4x1x2048 : Shape := ⟨3, ![4, 1, 2048]⟩
abbrev S1024x2048 : Shape := ⟨2, ![1024, 2048]⟩
abbrev S512x2048 : Shape := ⟨2, ![512, 2048]⟩
abbrev S4096 : Shape := ⟨1, ![4096]⟩
abbrev S1x1x4096 : Shape := ⟨3, ![1, 1, 4096]⟩
abbrev S_ : Shape := ⟨0, ![]⟩
abbrev S2048x2048 : Shape := ⟨2, ![2048, 2048]⟩
abbrev S4x2048x1 : Shape := ⟨3, ![4, 2048, 1]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x512, .bf16⟩
  | .hbm, ⟨2, _⟩ => ⟨S4x2048x4096, .bf16⟩
  | .hbm, ⟨3, _⟩ => ⟨S1x4096, .f32⟩
  | .hbm, ⟨4, _⟩ => ⟨S4x2048x2048, .f32⟩
  | .hbm, ⟨5, _⟩ => ⟨S4x12288, .f32⟩
  | .hbm, ⟨6, _⟩ => ⟨S1x2048, .f32⟩
  | .hbm, ⟨7, _⟩ => ⟨S1x1024x2048, .f32⟩
  | .hbm, ⟨8, _⟩ => ⟨S1x512x2048, .f32⟩
  | .hbm, ⟨9, _⟩ => ⟨S1x2048x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S4x1x2048, .f32⟩
  | .hbm, ⟨20, _⟩ => ⟨S4x1x2048, .f32⟩
  | .hbm, ⟨21, _⟩ => ⟨S4x1x2048, .f32⟩
  | .hbm, ⟨22, _⟩ => ⟨S4x2048x1024, .f32⟩
  | .hbm, ⟨23, _⟩ => ⟨S1024x2048, .f32⟩
  | .hbm, ⟨24, _⟩ => ⟨S4x2048x2048, .f32⟩
  | .hbm, ⟨25, _⟩ => ⟨S4x2048x512, .f32⟩
  | .hbm, ⟨26, _⟩ => ⟨S512x2048, .f32⟩
  | .hbm, ⟨27, _⟩ => ⟨S4x2048x2048, .f32⟩
  | .hbm, ⟨28, _⟩ => ⟨S4x2048x4096, .f32⟩
  | .hbm, ⟨29, _⟩ => ⟨S4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x4096, .f32⟩
  | .hbm, ⟨37, _⟩ => ⟨S4x2048x4096, .f32⟩
  | .hbm, ⟨38, _⟩ => ⟨S_, .f32⟩
  | .hbm, ⟨39, _⟩ => ⟨S4x2048x4096, .f32⟩
  | .hbm, ⟨40, _⟩ => ⟨S4x2048x4096, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S2048, .f32⟩
  | .hbm, ⟨65, _⟩ => ⟨S1x1x2048, .f32⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S4x1x2048, .f32⟩
  | .hbm, ⟨70, _⟩ => ⟨S4x1x2048, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S8192x2048, .f32⟩
  | .hbm, ⟨76, _⟩ => ⟨S4x2048x2048, .bf16⟩
  | .hbm, ⟨77, _⟩ => ⟨S8192x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel9.lean ====
abbrev S4x2048 : Shape := ⟨2, ![4, 2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2048x12288, .f32⟩
  | .hbm, ⟨7, _⟩ => ⟨S12288, .f32⟩
  | .hbm, ⟨8, _⟩ => ⟨S1x12288, .f32⟩
  | .hbm, ⟨9, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4x2048 : Shape := ⟨2, ![4, 2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 21
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x12288, .f32⟩
  | .hbm, ⟨2, _⟩ => ⟨S1x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S2048x12288, .f32⟩
  | .hbm, ⟨16, _⟩ => ⟨S8x12288, .f32⟩
  | .hbm, ⟨17, _⟩ => ⟨S12288, .f32⟩
  | .hbm, ⟨18, _⟩ => ⟨S1x12288, .f32⟩
  | .hbm, ⟨19, _⟩ => ⟨S8x12288, .f32⟩
  | .hbm, ⟨20, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Scalars.lean ====
/-
  The scalar mathematics of stick-breaking attention over the extended reals: the softplus in base `e` and in base `2`,
  and the equality of one attention weight written both ways, with no finiteness assumed of the score.
-/
module

public import Idealize.ShloMosaic.PureOps.Ideal
public import Idealize.ShloMosaic.PureOps.Ideal.Laws

@[expose] public section

noncomputable section

namespace Cert.Stick

open Idealize.ShloMosaic
open scoped BigOperators

/-- `log₂ e` as an extended real. -/
def lg : EReal := (((Real.log 2)⁻¹ : ℝ) : EReal)

/-- The softplus of an extended real, `max x 0 + log (1 + e^(-|x|))`. -/
def sft (x : EReal) : EReal := max x 0 + Ideal.log1p (Ideal.exp (-(max x (-x))))

/-- The softplus in base two, of a score already multiplied by `log₂ e`. -/
def sp (x : EReal) : EReal := max x 0 + Ideal.log (1 + Ideal.exp2 (0 - max x (-x))) * lg

/-- The larger of two reals, as extended reals. -/
theorem coe_max (a b : ℝ) : ((max a b : ℝ) : EReal) = max (a : EReal) (b : EReal) := EReal.coe_strictMono.monotone.map_max

theorem log2_pos : 0 < Real.log 2 := Real.log_pos one_lt_two

theorem lg_pos : (0 : ℝ) < (Real.log 2)⁻¹ := inv_pos.2 log2_pos

/-- `2` to a power is `e` to the power times `log 2`. -/
theorem rpow_two (r : ℝ) : Real.rpow 2 r = Real.exp (r * Real.log 2) := by
  show (2 : ℝ) ^ r = _
  rw [Real.rpow_def_of_pos two_pos, mul_comm]

/-- The softplus of a real number is a real number. -/
theorem sft_coe (r : ℝ) : sft r = ((max r 0 + Real.log (1 + Real.exp (-|r|)) : ℝ) : EReal) := by
  unfold sft Ideal.log1p
  have hp : ¬ (1 + Real.exp (-|r|)) ≤ 0 := by have := Real.exp_pos (-|r|); linarith
  have h1 : max (r : EReal) (-(r : EReal)) = ((|r| : ℝ) : EReal) := by
    rw [← EReal.coe_neg, ← coe_max]; rfl
  have h0 : max (r : EReal) 0 = ((max r 0 : ℝ) : EReal) := by rw [← EReal.coe_zero, ← coe_max]
  rw [h1, h0, ← EReal.coe_neg, Ideal.exp_coe, ← EReal.coe_one, ← EReal.coe_add, Ideal.log_coe, if_neg hp, ← EReal.coe_add]

theorem sft_top : sft ⊤ = ⊤ := by
  unfold sft Ideal.log1p
  have h : max (⊤ : EReal) (-⊤) = ⊤ := max_eq_left le_top
  rw [h, EReal.neg_top, Ideal.exp_bot, add_zero, max_eq_left le_top, ← EReal.coe_one, Ideal.log_coe, if_neg (by norm_num)]
  exact EReal.top_add_coe _

theorem sft_bot : sft ⊥ = 0 := by
  unfold sft Ideal.log1p
  have h : max (⊥ : EReal) (-⊥) = ⊤ := by rw [EReal.neg_bot]; exact max_eq_right le_top
  rw [h, EReal.neg_top, Ideal.exp_bot, add_zero, max_eq_right bot_le, ← EReal.coe_one, Ideal.log_coe, if_neg (by norm_num),
    Real.log_one, EReal.coe_zero, add_zero]

/-- The softplus is nonnegative. -/
theorem sft_nonneg (x : EReal) : 0 ≤ sft x := by
  induction x with
  | bot => rw [sft_bot]
  | top => rw [sft_top]; exact le_top
  | coe r =>
    rw [sft_coe, ← EReal.coe_zero, EReal.coe_le_coe_iff]
    have := Real.exp_pos (-|r|)
    exact add_nonneg (le_max_right _ _) (Real.log_nonneg (by linarith))

/-- The base-two softplus of a score times `log₂ e` is `log₂ e` times the softplus of the score. -/
theorem sp_mul (x : EReal) : sp (x * lg) = sft x * lg := by
  induction x with
  | bot =>
    have e : (⊥ : EReal) * lg = ⊥ := EReal.bot_mul_coe_of_pos lg_pos
    have h : max (⊥ : EReal) (-⊥) = ⊤ := by rw [EReal.neg_bot]; exact max_eq_right le_top
    rw [e, sft_bot]
    unfold sp
    rw [h, zero_sub, EReal.neg_top, Ideal.exp2_bot, add_zero, max_eq_right bot_le, ← EReal.coe_one, Ideal.log_coe,
      if_neg (by norm_num), Real.log_one, EReal.coe_zero, zero_add]
  | top =>
    have e : (⊤ : EReal) * lg = ⊤ := EReal.top_mul_coe_of_pos lg_pos
    have h : max (⊤ : EReal) (-⊤) = ⊤ := max_eq_left le_top
    rw [e, sft_top, e]
    unfold sp
    rw [h, zero_sub, EReal.neg_top, Ideal.exp2_bot, add_zero, max_eq_left le_top, ← EReal.coe_one, Ideal.log_coe,
      if_neg (by norm_num), Real.log_one, EReal.coe_zero, zero_mul, add_zero]
  | coe r =>
    rw [sft_coe]
    unfold sp lg
    rw [← EReal.coe_mul, ← EReal.coe_mul]
    generalize hu : (Real.log 2)⁻¹ = u
    have hu0 : 0 < u := hu ▸ lg_pos
    have h1 : max ((r * u : ℝ) : EReal) (-((r * u : ℝ) : EReal)) = ((|r| * u : ℝ) : EReal) := by
      rw [← EReal.coe_neg, ← coe_max]
      congr 1
      show |r * u| = _
      rw [abs_mul, abs_of_pos hu0]
    have h0 : max ((r * u : ℝ) : EReal) 0 = ((max r 0 * u : ℝ) : EReal) := by
      rw [← EReal.coe_zero, ← coe_max, max_mul_of_nonneg _ _ hu0.le, zero_mul]
    have he : -(|r| * u) * Real.log 2 = -|r| := by
      have := log2_pos
      rw [← hu]; field_simp
    have hp : ¬ (1 + Real.exp (-|r|)) ≤ 0 := by have := Real.exp_pos (-|r|); linarith
    rw [h1, h0, zero_sub, ← EReal.coe_neg, Ideal.exp2_coe, rpow_two, he, ← EReal.coe_one, ← EReal.coe_add, Ideal.log_coe,
      if_neg hp, ← EReal.coe_mul, ← EReal.coe_add, add_mul]

/-- A positive real factor passes into a finite sum of extended reals. -/
theorem sum_mul_lg {ι : Type} (s : Finset ι) (f : ι → EReal) {u : ℝ} (hu : 0 ≤ u) : ∑ i ∈ s, f i * (u : EReal) = (∑ i ∈ s, f i) * (u : EReal) := by
  classical
  induction s using Finset.induction_on with
  | empty => simp
  | insert a s ha ih =>
    rw [Finset.sum_insert ha, Finset.sum_insert ha, ih,
      EReal.right_distrib_of_nonneg_of_ne_top (EReal.coe_nonneg.2 hu) (EReal.coe_ne_top u)]

/-- The negation of a sum of nonnegative extended reals is the sum of the negations. -/
theorem sum_neg_nonneg {ι : Type} (s : Finset ι) (f : ι → EReal) (hf : ∀ i, 0 ≤ f i) : ∑ i ∈ s, -f i = -∑ i ∈ s, f i := by
  classical
  induction s using Finset.induction_on with
  | empty => simp
  | insert a s ha ih =>
    have h2 : 0 ≤ ∑ i ∈ s, f i := Finset.sum_nonneg fun i _ => hf i
    rw [Finset.sum_insert ha, Finset.sum_insert ha, ih, EReal.neg_add, sub_eq_add_neg]
    · exact Or.inl (fun h => by have := hf a; rw [h] at this; exact absurd this (by simp))
    · exact Or.inr (fun h => by rw [h] at h2; exact absurd h2 (by simp))

/-- For a real score, the score less its softplus is the log of its sigmoid. -/
theorem sub_softplus (r : ℝ) : r - (max r 0 + Real.log (1 + Real.exp (-|r|))) = -(max (-r) 0 + Real.log (1 + Real.exp (-|-r|))) := by
  rw [abs_neg]
  rcases le_total r 0 with h | h
  · rw [max_eq_right h, max_eq_left (by linarith : (0 : ℝ) ≤ -r)]; ring
  · rw [max_eq_left h, max_eq_right (by linarith : -r ≤ (0 : ℝ))]; ring

/-- One attention weight. In base two, from the score times `log₂ e` and the softpluses after it times `log₂ e`; in base `e`,
    from the log of the sigmoid and the difference of the running sum of the negated softpluses and this one. -/
theorem weight_eq (x Λ : EReal) (hΛ : 0 ≤ Λ) :
    Ideal.exp2 (x * lg - sp (x * lg) - Λ * lg) = Ideal.exp (-sft (-x) + (-(sft x + Λ) - -sft x)) := by
  rw [sp_mul]
  induction x with
  | bot =>
    rw [sft_bot, EReal.neg_bot, sft_top, EReal.neg_top, zero_mul, show (⊥ : EReal) * lg = ⊥ from EReal.bot_mul_coe_of_pos lg_pos,
      EReal.bot_sub, EReal.bot_sub, EReal.bot_add]
    rfl
  | top =>
    rw [sft_top, show (⊤ : EReal) * lg = ⊤ from EReal.top_mul_coe_of_pos lg_pos, EReal.sub_top, EReal.bot_sub,
      EReal.top_add_of_ne_bot (fun h => by rw [h] at hΛ; exact absurd hΛ (by simp)), EReal.neg_top, EReal.bot_sub, EReal.add_bot]
    rfl
  | coe r =>
    rw [← EReal.coe_neg, sft_coe, sft_coe]
    have hs := sub_softplus r
    revert hs
    generalize max r 0 + Real.log (1 + Real.exp (-|r|)) = σ
    generalize max (-r) 0 + Real.log (1 + Real.exp (-|-r|)) = τ
    intro hs
    induction Λ with
    | bot => exact absurd hΛ (by simp)
    | top =>
      rw [show (⊤ : EReal) * lg = ⊤ from EReal.top_mul_coe_of_pos lg_pos, EReal.sub_top, EReal.coe_add_top, EReal.neg_top,
        EReal.bot_sub, EReal.add_bot]
      rfl
    | coe l =>
      unfold lg
      simp only [← EReal.coe_mul, ← EReal.coe_sub, ← EReal.coe_neg, ← EReal.coe_add, Ideal.exp2_coe, Ideal.exp_coe, rpow_two]
      congr 2
      have := log2_pos.ne'
      field_simp
      linarith

end Cert.Stick

end
-- ==== Proof.Blocks.lean ====
/-
  One query tile of the stick-breaking attention, block by block: the vectors the kernel forms (at any floats), and what
  each holds at an index over the extended reals.
-/
module

public import proofs.«01_k».proof.Proof.Scalars
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.IdealHost
public import Idealize.ShloMosaic.Lib.WordCmp

@[expose] public section

set_option maxRecDepth 16384

noncomputable section

namespace Cert.Stick

open Idealize.ShloMosaic Idealize.ShloMosaic.ValueIdx
open scoped BigOperators

section Any
variable {F : FTy → Type} [FloatOps F]

/-- The keys strictly before the query, on the block the diagonal crosses. -/
def keep : IVec ⟨2, ![256, 256]⟩ 1 :=
  cmpi .slt (addi (iota .tc ⟨2, ![256, 256]⟩ 32 [1]) (broadcast ⟨2, ![256, 256]⟩ 0#32)) (iota .tc ⟨2, ![256, 256]⟩ 32 [0])

/-- A block of zeros. -/
def zeros (s : Shape) : FVec F s .f32 := broadcast s (Scalar.ofBits .f32 0x00000000#32)

/-- The base-two softplus of a block of scores, `e` the named literal. -/
def soft (e : F .f32) (z : FVec F ⟨2, ![256, 256]⟩ .f32) : FVec F ⟨2, ![256, 256]⟩ .f32 :=
  addf (maximumf z (zeros _))
    (mulf (log (addf (broadcast _ (Scalar.ofBits .f32 0x3F800000#32)) (exp2 (subf (zeros _) (absf z))))) (broadcast _ e))

/-- What the `k`-th block visited charges: its softplus, on the first one only the keys before the query. -/
def cost (e : F .f32) (k : ℕ) (z : FVec F ⟨2, ![256, 256]⟩ .f32) : FVec F ⟨2, ![256, 256]⟩ .bf16 :=
  match k with
  | 0 => truncf .bf16 (select keep (soft e z) (zeros _))
  | _ + 1 => truncf .bf16 (soft e z)

/-- The charges of the keys after each key, inside one block. -/
def later (tri s : FVec F ⟨2, ![256, 256]⟩ .bf16) : FVec F ⟨2, ![256, 256]⟩ .f32 :=
  matmul (DotDims.plain 256 256 256) none s tri (constant ⟨2, ![256, 256]⟩ .f32 0x00000000#32)

/-- The charges of all the blocks visited before the `k`-th. -/
def carry (e : F .f32) (tri : FVec F ⟨2, ![256, 256]⟩ .bf16) (zs : ℕ → FVec F ⟨2, ![256, 256]⟩ .f32) : ℕ → FVec F ⟨2, ![256, 1]⟩ .f32
  | 0 => zeros _
  | k + 1 => addf (addf (carry e tri zs k) (extractStridedSlice ⟨2, ![256, 1]⟩ ![0, 0] (later tri (cost e k (zs k)))))
      (extf .f32 (extractStridedSlice ⟨2, ![256, 1]⟩ ![0, 0] (cost e k (zs k))))

/-- The attention weights of the `k`-th block visited, before the mask. -/
def bare (e : F .f32) (tri : FVec F ⟨2, ![256, 256]⟩ .bf16) (zs : ℕ → FVec F ⟨2, ![256, 256]⟩ .f32) (k : ℕ) :
    FVec F ⟨2, ![256, 256]⟩ .f32 :=
  exp2 (subf (subf (zs k) (soft e (zs k))) (addf (broadcastTo ⟨2, ![256, 256]⟩ (carry e tri zs k)) (later tri (cost e k (zs k)))))

/-- The attention weights of the `k`-th block visited. -/
def weight (e : F .f32) (tri : FVec F ⟨2, ![256, 256]⟩ .bf16) (zs : ℕ → FVec F ⟨2, ![256, 256]⟩ .f32) (k : ℕ) :
    FVec F ⟨2, ![256, 256]⟩ .bf16 :=
  match k with
  | 0 => truncf .bf16 (select keep (bare e tri zs 0) (zeros _))
  | k + 1 => truncf .bf16 (bare e tri zs (k + 1))

/-- The scores of a query tile against `N` keys. -/
def score (N : ℕ) (q : FVec F ⟨3, ![1, 256, 128]⟩ .bf16) (k : FVec F ⟨3, ![1, N, 128]⟩ .bf16)
    (hk : (⟨3, ![1, N, 128]⟩ : Shape).ShapeCasts ⟨2, ![N, 128]⟩) : FVec F ⟨2, ![256, N]⟩ .f32 :=
  matmul (DotDims.transposedRhs 256 128 N) none (shapeCast ⟨2, ![256, 128]⟩ q) (shapeCast ⟨2, ![N, 128]⟩ k hk)
    (constant ⟨2, ![256, N]⟩ .f32 0x00000000#32)

/-- A block of columns lies inside the scores of `n` blocks. -/
theorem slices_block {n N : ℕ} (hn : 0 < n) (hN : N = 256 * n) (k : ℕ) :
    (⟨2, ![256, N]⟩ : Shape).Slices ![0, 256 * (n - 1 - k)] ⟨2, ![256, 256]⟩ :=
  ⟨rfl, fun a => by match a with
    | ⟨0, _⟩ => exact Nat.le_refl 256
    | ⟨1, _⟩ => show 256 * (n - 1 - k) + 256 ≤ N; omega⟩

/-- `n` square blocks side by side make `256 * n` columns. -/
theorem concat_blocks {n N : ℕ} (hn : 2 ≤ n) (hN : N = 256 * n) {α : Type} (f : Fin n → ((⟨2, ![256, 256]⟩ : Shape).Idx → α)) :
    Shape.Concatenates ((List.ofFn fun j : Fin n => (⟨⟨2, ![256, 256]⟩, f j⟩ : (s : Shape) × (s.Idx → α))).map (·.1)) ⟨2, ![256, N]⟩ 1 := by
  have h : (List.ofFn fun j : Fin n => (⟨⟨2, ![256, 256]⟩, f j⟩ : (s : Shape) × (s.Idx → α))).map (·.1)
      = List.replicate n (⟨2, ![256, 256]⟩ : Shape) := by
    rw [List.map_ofFn]
    exact List.ofFn_const n _
  rw [h]
  refine ⟨by rw [List.length_replicate]; exact hn, fun s hs => ?_, ?_⟩
  · rw [List.eq_of_mem_replicate hs]
    refine ⟨rfl, fun b hb => ?_⟩
    match b with
    | ⟨0, _⟩ => rfl
    | ⟨1, _⟩ => exact absurd rfl hb
  · rw [List.map_replicate, List.sum_replicate]
    show n * 256 = N
    omega

/-- The blocks of scores in the order they are visited: the diagonal one first, then leftwards. -/
def blocks (n N : ℕ) (hn : 0 < n) (hN : N = 256 * n) (Z : FVec F ⟨2, ![256, N]⟩ .f32) (k : ℕ) : FVec F ⟨2, ![256, 256]⟩ .f32 :=
  extractStridedSlice ⟨2, ![256, 256]⟩ ![0, 256 * (n - 1 - k)] Z (slices_block hn hN k)

/-- A query tile's output from its weights. -/
def gather (N : ℕ) (A : FVec F ⟨2, ![256, N]⟩ .bf16) (v : FVec F ⟨3, ![1, N, 128]⟩ .bf16)
    (hk : (⟨3, ![1, N, 128]⟩ : Shape).ShapeCasts ⟨2, ![N, 128]⟩) : FVec F ⟨3, ![1, 256, 128]⟩ .bf16 :=
  shapeCast ⟨3, ![1, 256, 128]⟩ (truncf .bf16
    (matmul (DotDims.plain 256 N 128) none A (shapeCast ⟨2, ![N, 128]⟩ v hk) (constant ⟨2, ![256, 128]⟩ .f32 0x00000000#32)))

/-- The output of the first query tile, whose keys are one block. -/
def tileOne (e : F .f32) (tri : FVec F ⟨2, ![256, 256]⟩ .bf16) (q : FVec F ⟨3, ![1, 256, 128]⟩ .bf16)
    (k v : FVec F ⟨3, ![1, 256, 128]⟩ .bf16) : FVec F ⟨3, ![1, 256, 128]⟩ .bf16 :=
  gather 256 (weight e tri (fun _ => score 256 q k (by decide)) 0) v (by decide)

/-- The output of a later query tile, whose keys are `n` blocks. -/
def tile (n N : ℕ) (hn : 2 ≤ n) (hN : N = 256 * n) (hk : (⟨3, ![1, N, 128]⟩ : Shape).ShapeCasts ⟨2, ![N, 128]⟩)
    (e : F .f32) (tri : FVec F ⟨2, ![256, 256]⟩ .bf16) (q : FVec F ⟨3, ![1, 256, 128]⟩ .bf16)
    (k v : FVec F ⟨3, ![1, N, 128]⟩ .bf16) : FVec F ⟨3, ![1, 256, 128]⟩ .bf16 :=
  gather N (concatenate ⟨2, ![256, N]⟩ 1
    (List.ofFn fun j : Fin n => (⟨⟨2, ![256, 256]⟩, weight e tri (blocks n N (by omega) hN (score N q k hk)) (n - 1 - j.val)⟩ :
      (s : Shape) × (s.Idx → F .bf16)))
    (concat_blocks hn hN _)) v hk

end Any

/-! ## Over the extended reals -/

/-- The mask is one exactly at the keys before the query. -/
theorem keep_apply (r c : Fin 256) : keep (ix2 r c) = if c.val < r.val then 1#1 else 0#1 := by
  show BitVec.ofBool (BitVec.slt (iota .tc _ 32 [1] _ (ix2 r c) + 0#32) (iota .tc _ 32 [0] _ (ix2 r c))) = _
  rw [iota_single_apply, iota_single_apply, BitVec.add_zero]
  show BitVec.ofBool (BitVec.slt (BitVec.ofNat 32 c.val) (BitVec.ofNat 32 r.val)) = _
  have hc : (BitVec.ofNat 32 c.val).toInt = (c.val : Int) := WordCmp.toInt_ofNat_of_lt (by have := c.isLt; norm_num; omega)
  have hr : (BitVec.ofNat 32 r.val).toInt = (r.val : Int) := WordCmp.toInt_ofNat_of_lt (by have := r.isLt; norm_num; omega)
  rw [BitVec.slt, hc, hr]
  by_cases h : c.val < r.val
  · rw [if_pos h, decide_eq_true (by exact_mod_cast h)]; rfl
  · rw [if_neg h, decide_eq_false (by exact_mod_cast h)]; rfl

/-- A select by the mask reads the first choice exactly at the keys before the query. -/
theorem select_keep {α : Type} (a b : (⟨2, ![256, 256]⟩ : Shape).Idx → α) (r c : Fin 256) :
    select keep a b (ix2 r c) = if c.val < r.val then a (ix2 r c) else b (ix2 r c) := by
  rw [select_apply, keep_apply]
  by_cases h : c.val < r.val
  · rw [if_pos h, if_pos h]; rfl
  · rw [if_neg h, if_neg h]; rfl

theorem zeros_apply (s : Shape) (i : s.Idx) : zeros (F := Ideal) s i = (0 : EReal) := Ideal.ofBits_zero_f32

theorem soft_apply (z : FVec Ideal ⟨2, ![256, 256]⟩ .f32) (i : (⟨2, ![256, 256]⟩ : Shape).Idx) :
    soft (F := Ideal) lg z i = sp (z i) := by
  show max (z i) (zeros (F := Ideal) _ i) + Ideal.log (Ideal.ofBits .f32 0x3F800000#32
    + Ideal.exp2 (zeros (F := Ideal) _ i - max (z i) (-z i))) * lg = _
  rw [zeros_apply, Ideal.ofBits_one_f32]
  rfl

/-- The charge of key `s` to the query `R`. -/
def charge (z : ℕ → EReal) (R s : ℕ) : EReal := if s < R then sp (z s) else 0

theorem cost_apply (z : ℕ → EReal) (r : Fin 256) {n : ℕ} (zs : ℕ → FVec Ideal ⟨2, ![256, 256]⟩ .f32)
    (hz : ∀ k < n, ∀ c : Fin 256, zs k (ix2 r c) = z (256 * (n - 1 - k) + c.val)) (k : ℕ) (hk : k < n) (c : Fin 256) :
    cost (F := Ideal) lg k (zs k) (ix2 r c) = charge z (256 * (n - 1) + r.val) (256 * (n - 1 - k) + c.val) := by
  have hc := c.isLt
  match k, hk with
  | 0, hk =>
    show select keep (soft (F := Ideal) lg (zs 0)) (zeros _) (ix2 r c) = _
    rw [select_keep, soft_apply, zeros_apply, hz 0 hk, charge]
    by_cases h : c.val < r.val
    · rw [if_pos h, if_pos (by omega)]
    · rw [if_neg h, if_neg (by omega)]
  | k + 1, hk =>
    show soft (F := Ideal) lg (zs (k + 1)) (ix2 r c) = _
    rw [soft_apply, hz _ hk, charge, if_pos (by omega)]

/-- A sum over the later columns of a block is a sum over the later keys. -/
theorem sum_later (g : ℕ → EReal) (B : ℕ) (c : ℕ) (hc : c < 256) :
    (∑ a : Fin 256, g (B + a.val) * (if c < a.val then (1 : EReal) else 0)) = ∑ s ∈ Finset.Ico (B + c + 1) (B + 256), g s := by
  have h1 : (∑ a : Fin 256, g (B + a.val) * (if c < a.val then (1 : EReal) else 0))
      = ∑ a ∈ Finset.range 256, (if c < a then g (B + a) else 0) := by
    rw [Finset.sum_range]
    refine Finset.sum_congr rfl fun a _ => ?_
    by_cases h : c < a.val
    · rw [if_pos h, if_pos h, mul_one]
    · rw [if_neg h, if_neg h, mul_zero]
  rw [h1, ← Finset.sum_filter]
  have h2 : (Finset.range 256).filter (fun a => c < a) = Finset.Ico (c + 1) 256 := by
    ext a; simp only [Finset.mem_filter, Finset.mem_range, Finset.mem_Ico]; omega
  rw [h2, show B + c + 1 = (c + 1) + B by omega, show B + 256 = 256 + B by omega, ← Finset.sum_Ico_add' g]
  exact Finset.sum_congr rfl fun a _ => by rw [Nat.add_comm]

theorem later_apply (tri s : FVec Ideal ⟨2, ![256, 256]⟩ .bf16)
    (htri : ∀ a b : Fin 256, tri (ix2 a b) = if b.val < a.val then (1 : EReal) else 0) (g : ℕ → EReal) (B : ℕ) (r c : Fin 256)
    (hs : ∀ a : Fin 256, s (ix2 r a) = g (B + a.val)) :
    later (F := Ideal) tri s (ix2 r c) = ∑ s ∈ Finset.Ico (B + c.val + 1) (B + 256), g s := by
  unfold later
  show FloatOps.matmul (F := Ideal) (DotDims.plain 256 256 256) none s tri _ (ix2 r c) = _
  rw [Ideal.matmul_plain_apply, ← sum_later g B c.val c.isLt]
  show Ideal.ofBits .f32 0x00000000#32 + _ = _
  rw [Ideal.ofBits_zero_f32, zero_add]
  exact Finset.sum_congr rfl fun a _ => by rw [hs, htri]

section Tile
variable (z : ℕ → EReal) (r : Fin 256) {n : ℕ} (zs : ℕ → FVec Ideal ⟨2, ![256, 256]⟩ .f32)
  (hz : ∀ k < n, ∀ c : Fin 256, zs k (ix2 r c) = z (256 * (n - 1 - k) + c.val))
  (tri : FVec Ideal ⟨2, ![256, 256]⟩ .bf16)
  (htri : ∀ a b : Fin 256, tri (ix2 a b) = if b.val < a.val then (1 : EReal) else 0)
include hz htri

/-- The carry holds the charges of the keys in the blocks already visited. -/
theorem carry_apply (k : ℕ) (hk : k ≤ n) (u : Fin 1) :
    carry (F := Ideal) lg tri zs k (ix2 r u) = ∑ s ∈ Finset.Ico (256 * (n - k)) (256 * n), charge z (256 * (n - 1) + r.val) s := by
  induction k with
  | zero => rw [Nat.sub_zero, Finset.Ico_self, Finset.sum_empty]; exact zeros_apply _ _
  | succ k ih =>
    have hu : u.val = 0 := by omega
    have hL := later_apply tri (cost (F := Ideal) lg k (zs k)) htri _ _ r 0 (cost_apply z r zs hz k hk)
    have hC := cost_apply z r zs hz k hk 0
    show (carry (F := Ideal) lg tri zs k (ix2 r u) + extractStridedSlice ⟨2, ![256, 1]⟩ ![0, 0] (later (F := Ideal) tri (cost lg k (zs k))) (by decide) (ix2 r u))
      + extractStridedSlice ⟨2, ![256, 1]⟩ ![0, 0] (cost (F := Ideal) lg k (zs k)) (by decide) (ix2 r u) = _
    rw [extractStridedSlice_apply _ _ _ (ix2 r u) (ix2 r (0 : Fin 256)) (fun a => by match a with
        | ⟨0, _⟩ => exact (Nat.zero_add _).symm
        | ⟨1, _⟩ => show 0 = 0 + u.val; omega),
      extractStridedSlice_apply _ _ _ (ix2 r u) (ix2 r (0 : Fin 256)) (fun a => by match a with
        | ⟨0, _⟩ => exact (Nat.zero_add _).symm
        | ⟨1, _⟩ => show 0 = 0 + u.val; omega), ih (by omega), hL, hC]
    have e0 : 256 * (n - (k + 1)) = 256 * (n - 1 - k) := by omega
    have e1 : 256 * (n - 1 - k) + 256 = 256 * (n - k) := by omega
    rw [e0, Fin.val_zero, Nat.add_zero, e1, add_assoc, add_comm (Finset.sum _ _), add_comm (Finset.sum _ _),
      ← Finset.sum_eq_sum_Ico_succ_bot (by omega), Finset.sum_Ico_consecutive _ (by omega) (by omega)]
    rfl

/-- The weight of key `s` to the query `R`, both counted in the whole sequence. -/
def share (z : ℕ → EReal) (R s : ℕ) : EReal :=
  if s < R then Ideal.exp2 (z s - sp (z s) - ∑ s' ∈ Finset.Ico (s + 1) R, sp (z s')) else 0

omit hz htri in
/-- The charges after key `s` are those of the keys between it and the query. -/
theorem sum_charge (R s M : ℕ) (hR : R ≤ M) : (∑ s' ∈ Finset.Ico (s + 1) M, charge z R s') = ∑ s' ∈ Finset.Ico (s + 1) R, sp (z s') := by
  unfold charge
  rw [← Finset.sum_filter]
  refine Finset.sum_congr ?_ fun _ _ => rfl
  ext a; simp only [Finset.mem_filter, Finset.mem_Ico]; omega

theorem bare_apply (k : ℕ) (hk : k < n) (c : Fin 256) :
    bare (F := Ideal) lg tri zs k (ix2 r c) = Ideal.exp2 (z (256 * (n - 1 - k) + c.val) - sp (z (256 * (n - 1 - k) + c.val))
      - ∑ s' ∈ Finset.Ico (256 * (n - 1 - k) + c.val + 1) (256 * (n - 1) + r.val), sp (z s')) := by
  have hc := c.isLt
  have hr := r.isLt
  show Ideal.exp2 (zs k (ix2 r c) - soft (F := Ideal) lg (zs k) (ix2 r c)
    - (broadcastTo ⟨2, ![256, 256]⟩ (carry (F := Ideal) lg tri zs k) (by decide) (ix2 r c) + later (F := Ideal) tri (cost lg k (zs k)) (ix2 r c))) = _
  rw [soft_apply, hz k hk, later_apply tri _ htri _ _ r c (cost_apply z r zs hz k hk),
    broadcastTo_apply _ _ (ix2 r c) (ix2 r (0 : Fin 1)) (fun a => by match a with
      | ⟨0, _⟩ => rfl
      | ⟨1, _⟩ => rfl), carry_apply z r zs hz tri htri k (by omega), add_comm (Finset.sum _ _),
    show 256 * (n - 1 - k) + 256 = 256 * (n - k) by omega, Finset.sum_Ico_consecutive _ (by omega) (by omega),
    sum_charge z _ _ _ (by omega)]

theorem weight_apply (k : ℕ) (hk : k < n) (c : Fin 256) :
    weight (F := Ideal) lg tri zs k (ix2 r c) = share z (256 * (n - 1) + r.val) (256 * (n - 1 - k) + c.val) := by
  have hc := c.isLt
  match k, hk with
  | 0, hk =>
    show select keep (bare (F := Ideal) lg tri zs 0) (zeros _) (ix2 r c) = _
    rw [select_keep, bare_apply z r zs hz tri htri 0 hk, zeros_apply, share]
    by_cases h : c.val < r.val
    · rw [if_pos h, if_pos (by omega)]
    · rw [if_neg h, if_neg (by omega)]
  | k + 1, hk =>
    show bare (F := Ideal) lg tri zs (k + 1) (ix2 r c) = _
    rw [bare_apply z r zs hz tri htri _ hk, share, if_pos (by omega)]

end Tile

theorem score_apply {N : ℕ} (q : FVec Ideal ⟨3, ![1, 256, 128]⟩ .bf16) (k : FVec Ideal ⟨3, ![1, N, 128]⟩ .bf16)
    (hk : (⟨3, ![1, N, 128]⟩ : Shape).ShapeCasts ⟨2, ![N, 128]⟩) (r : Fin 256) (s : Fin N) :
    score (F := Ideal) N q k hk (ix2 r s) = ∑ d : Fin 128, q (ix3 (0 : Fin 1) r d) * k (ix3 (0 : Fin 1) s d) := by
  unfold score
  show FloatOps.matmul (F := Ideal) (DotDims.transposedRhs 256 128 N) none _ _ _ (ix2 r s) = _
  rw [Ideal.matmul_transposedRhs_apply]
  show Ideal.ofBits .f32 0x00000000#32 + _ = _
  rw [Ideal.ofBits_zero_f32, zero_add]
  exact Finset.sum_congr rfl fun d _ => by rw [shapeCast_1ab_ab_apply, shapeCast_1ab_ab_apply]

theorem gather_apply {N : ℕ} (A : FVec Ideal ⟨2, ![256, N]⟩ .bf16) (v : FVec Ideal ⟨3, ![1, N, 128]⟩ .bf16)
    (hk : (⟨3, ![1, N, 128]⟩ : Shape).ShapeCasts ⟨2, ![N, 128]⟩) (u : Fin 1) (r : Fin 256) (d : Fin 128) :
    gather (F := Ideal) N A v hk (ix3 u r d) = ∑ s : Fin N, A (ix2 r s) * v (ix3 (0 : Fin 1) s d) := by
  unfold gather
  rw [shapeCast_ab_1ab_apply, truncf_apply]
  show FloatOps.matmul (F := Ideal) (DotDims.plain 256 N 128) none _ _ _ (ix2 r d) = _
  rw [Ideal.matmul_plain_apply]
  show Ideal.ofBits .f32 0x00000000#32 + _ = _
  rw [Ideal.ofBits_zero_f32, zero_add]
  exact Finset.sum_congr rfl fun s _ => by rw [shapeCast_1ab_ab_apply]

/-- The attention's output at query `R`: every earlier key's value by its share. -/
def mix (z v : ℕ → EReal) (R : ℕ) : EReal := ∑ s ∈ Finset.range R, share z R s * v s

/-- A sum of shares over more keys than those before the query. -/
theorem sum_share (z v : ℕ → EReal) (R N : ℕ) (hR : R ≤ N) : (∑ s : Fin N, share z R s.val * v s.val) = mix z v R := by
  rw [← Finset.sum_range (fun s => share z R s * v s), mix]
  refine (Finset.sum_subset (Finset.range_mono hR) fun s _ h => ?_).symm
  rw [share, if_neg (by simpa using h), zero_mul]

theorem tileOne_apply (z v' : ℕ → EReal) (tri : FVec Ideal ⟨2, ![256, 256]⟩ .bf16)
    (htri : ∀ a b : Fin 256, tri (ix2 a b) = if b.val < a.val then (1 : EReal) else 0)
    (q : FVec Ideal ⟨3, ![1, 256, 128]⟩ .bf16) (k v : FVec Ideal ⟨3, ![1, 256, 128]⟩ .bf16) (u : Fin 1) (r : Fin 256) (d : Fin 128)
    (hz : ∀ s : Fin 256, (∑ d : Fin 128, q (ix3 (0 : Fin 1) r d) * k (ix3 (0 : Fin 1) s d)) = z s.val)
    (hv : ∀ s : Fin 256, v (ix3 (0 : Fin 1) s d) = v' s.val) :
    tileOne (F := Ideal) lg tri q k v (ix3 u r d) = mix z v' r.val := by
  unfold tileOne
  rw [gather_apply, ← sum_share z v' r.val 256 (by omega)]
  refine Finset.sum_congr rfl fun s _ => ?_
  rw [hv, weight_apply z r (n := 1) (fun _ => score (F := Ideal) 256 q k (by decide)) (fun k' hk' c => by
    rw [score_apply, hz, Nat.lt_one_iff.1 hk', Nat.mul_zero, Nat.zero_add]) tri htri 0 Nat.one_pos]
  simp

theorem tile_apply (z v' : ℕ → EReal) {n N : ℕ} (hn : 2 ≤ n) (hN : N = 256 * n)
    (hk : (⟨3, ![1, N, 128]⟩ : Shape).ShapeCasts ⟨2, ![N, 128]⟩) (tri : FVec Ideal ⟨2, ![256, 256]⟩ .bf16)
    (htri : ∀ a b : Fin 256, tri (ix2 a b) = if b.val < a.val then (1 : EReal) else 0)
    (q : FVec Ideal ⟨3, ![1, 256, 128]⟩ .bf16) (k v : FVec Ideal ⟨3, ![1, N, 128]⟩ .bf16) (u : Fin 1) (r : Fin 256) (d : Fin 128)
    (hz : ∀ s : Fin N, (∑ d : Fin 128, q (ix3 (0 : Fin 1) r d) * k (ix3 (0 : Fin 1) s d)) = z s.val)
    (hv : ∀ s : Fin N, v (ix3 (0 : Fin 1) s d) = v' s.val) :
    tile (F := Ideal) n N hn hN hk lg tri q k v (ix3 u r d) = mix z v' (256 * (n - 1) + r.val) := by
  have hr := r.isLt
  unfold tile
  rw [gather_apply, ← sum_share z v' (256 * (n - 1) + r.val) N (by omega)]
  refine Finset.sum_congr rfl fun s _ => ?_
  have hs := s.isLt
  have hsn : s.val / 256 < n := by omega
  have hm : s.val % 256 < 256 := Nat.mod_lt _ (by norm_num)
  rw [hv, concatenate_ofFn_apply (t := ⟨2, ![256, N]⟩) (s₁ := ⟨2, ![256, 256]⟩) (1 : Fin 2) _ _ rfl 256 rfl (ix2 r s) ⟨s.val / 256, hsn⟩ rfl
    (ix2 r ⟨s.val % 256, hm⟩) rfl (fun b hb => by match b with
      | ⟨0, _⟩ => rfl
      | ⟨1, _⟩ => exact absurd rfl hb),
    weight_apply z r (n := n) _ (fun k' hk' c => by
      have hc := c.isLt
      show extractStridedSlice ⟨2, ![256, 256]⟩ ![0, 256 * (n - 1 - k')] (score (F := Ideal) N q k hk) (slices_block (by omega) hN k') (ix2 r c) = _
      rw [extractStridedSlice_apply _ _ _ (ix2 r c) (ix2 r (⟨256 * (n - 1 - k') + c.val, by omega⟩ : Fin N)) (fun a => by match a with
        | ⟨0, _⟩ => exact (Nat.zero_add _).symm
        | ⟨1, _⟩ => rfl), score_apply, hz]) tri htri (n - 1 - s.val / 256) (by omega)]
  show share z _ (256 * (n - 1 - (n - 1 - s.val / 256)) + s.val % 256) * _ = _
  rw [show 256 * (n - 1 - (n - 1 - s.val / 256)) + s.val % 256 = s.val by omega]

end Cert.Stick
end
-- ==== Proof.Spec.lean ====
/-
  The layer's mathematics on the arrays' entries: the attention's scores, shares and output, and the kernel's shares (in base
  two) equal to them.
-/
module

public import proofs.«01_k».proof.Proof.Blocks

@[expose] public section

set_option maxRecDepth 16384

noncomputable section

namespace Cert.Stick

open Idealize.ShloMosaic Idealize.ShloMosaic.ValueIdx
open scoped BigOperators

/-- The entry of an array at a batch element, a row and a column, zero outside it. -/
def at3 {a n m : ℕ} (X : (⟨3, ![a, n, m]⟩ : Shape).Idx → EReal) (b s d : ℕ) : EReal :=
  if h : b < a ∧ s < n ∧ d < m then X (ix3 ⟨b, h.1⟩ ⟨s, h.2.1⟩ ⟨d, h.2.2⟩) else 0

theorem at3_eq {a n m : ℕ} (X : (⟨3, ![a, n, m]⟩ : Shape).Idx → EReal) (b s d : ℕ) (y : (⟨3, ![a, n, m]⟩ : Shape).Idx)
    (h0 : (y 0).val = b) (h1 : (y 1).val = s) (h2 : (y 2).val = d) : at3 X b s d = X y := by
  subst h0 h1 h2
  rw [at3, dif_pos ⟨(y 0).isLt, (y 1).isLt, (y 2).isLt⟩]
  exact congrArg X (eq_ix3 y).symm

/-- The product of the query at row `r` with the key at row `s`, in head `h` of batch element `b`. -/
def product (X : (⟨3, ![4, 2048, 3072]⟩ : Shape).Idx → EReal) (b h r s : ℕ) : EReal :=
  ∑ d : Fin 128, at3 X b r (128 * h + d.val) * at3 X b s (1024 + (128 * h + d.val))

/-- The score: the product over the root of the head's width. -/
def scaled (X : (⟨3, ![4, 2048, 3072]⟩ : Shape).Idx → EReal) (b h r s : ℕ) : EReal := product X b h r s * (((Real.sqrt 128)⁻¹ : ℝ) : EReal)

/-- The share that query `R` gives to the key `s`: what the softplus takes from it and from every later key before the query. -/
def portion (x : ℕ → EReal) (R s : ℕ) : EReal :=
  if s < R then Ideal.exp (-sft (-x s) + (-(sft (x s) + ∑ j ∈ Finset.Ico (s + 1) R, sft (x j)) - -sft (x s))) else 0

/-- The attention's output at batch element `b`, row `r`, column `c`. -/
def attended (X : (⟨3, ![4, 2048, 3072]⟩ : Shape).Idx → EReal) (b r c : ℕ) : EReal :=
  ∑ s : Fin 2048, at3 X b s.val (2048 + c) * portion (scaled X b (c / 128) r) r s.val

/-- The gate projection at batch element `b`, row `r`, column `c`. -/
def projected (H : (⟨3, ![4, 2048, 2048]⟩ : Shape).Idx → EReal) (W : (⟨3, ![1, 2048, 11776]⟩ : Shape).Idx → EReal) (b r c : ℕ) : EReal :=
  ∑ k : Fin 2048, at3 H b r k.val * at3 W 0 k.val (7680 + c)

/-- The kernel's share, from scores in base two, is the share. -/
theorem share_eq (z x : ℕ → EReal) (hz : ∀ s, z s = x s * lg) (R s : ℕ) : share z R s = portion x R s := by
  unfold share portion
  by_cases h : s < R
  · have hl : ∑ j ∈ Finset.Ico (s + 1) R, sft (x j) * lg = (∑ j ∈ Finset.Ico (s + 1) R, sft (x j)) * lg :=
      sum_mul_lg _ (fun j => sft (x j)) (inv_nonneg.2 log2_pos.le)
    rw [if_pos h, if_pos h, ← weight_eq (x s) _ (Finset.sum_nonneg fun j _ => sft_nonneg (x j)), hz, ← hl]
    refine congrArg (fun t => Ideal.exp2 (x s * lg - sp (x s * lg) - t)) (Finset.sum_congr rfl fun j _ => ?_)
    rw [hz, sp_mul]
  · rw [if_neg h, if_neg h]

/-- The kernel's output is the attention's. -/
theorem mix_eq (z x v : ℕ → EReal) (hz : ∀ s, z s = x s * lg) (R N : ℕ) (hR : R ≤ N) :
    mix z v R = ∑ s : Fin N, v s.val * portion x R s.val := by
  rw [← sum_share z v R N hR]
  exact Finset.sum_congr rfl fun s _ => by rw [share_eq z x hz, mul_comm]

/-- The kernel's query scale, times the score's products, is the score in base two. -/
theorem scale_sum (f g : Fin 128 → EReal) :
    (∑ d, f d * (((1 / (Real.sqrt 128 * Real.log 2)) : ℝ) : EReal) * g d) = (∑ d, f d * g d) * (((Real.sqrt 128)⁻¹ : ℝ) : EReal) * lg := by
  have h0 : 0 ≤ 1 / (Real.sqrt 128 * Real.log 2) := by have := log2_pos; positivity
  rw [mul_assoc, lg, ← EReal.coe_mul, ← mul_inv, ← one_div, ← sum_mul_lg _ _ h0]
  exact Finset.sum_congr rfl fun d _ => mul_right_comm _ _ _

end Cert.Stick
end
-- ==== Proof.Scan.lean ====
/-
  A running sum from the end of the last axis, as the host writes it (a window of the whole axis, padded high), read at an
  index: the sum of the entries from there on.
-/
module

public import Idealize.ShloMosaic.Lib.Pipeline.Value
public import Idealize.ShloMosaic.Lib.ValueIdx
public import Idealize.ShloMosaic.PureOps.Ideal.Laws

@[expose] public section

set_option maxRecDepth 16384

noncomputable section

namespace Cert.Stick

open Idealize.ShloMosaic Idealize.ShloMosaic.ValueIdx
open scoped BigOperators

/-- A left fold of sums is a sum. -/
theorem foldl_add_sum {ι : Type} (l : List ι) (f : ι → EReal) (a : EReal) : l.foldl (fun r n => r + f n) a = a + (l.map f).sum := by
  induction l generalizing a with
  | nil => simp
  | cons x l ih => rw [List.foldl_cons, ih, List.map_cons, List.sum_cons, add_assoc]

/-- A sum over the indices of a shape of one row is a sum over its columns. -/
theorem sum_window (N : ℕ) (g : (⟨4, ![1, 1, 1, N]⟩ : Shape).Idx → EReal) :
    ∑ i, g i = ∑ k : Fin N, g (ix4 (0 : Fin 1) (0 : Fin 1) (0 : Fin 1) k) := by
  refine (Fintype.sum_equiv ⟨fun k : Fin N => ix4 (0 : Fin 1) (0 : Fin 1) (0 : Fin 1) k, fun i => i 3, fun _ => rfl, fun i => ?_⟩ _ _ fun _ => rfl).symm
  have h0 : i 0 = (0 : Fin 1) := Subsingleton.elim (α := Fin 1) _ _
  have h1 : i 1 = (0 : Fin 1) := Subsingleton.elim (α := Fin 1) _ _
  have h2 : i 2 = (0 : Fin 1) := Subsingleton.elim (α := Fin 1) _ _
  funext a
  match a with
  | ⟨0, _⟩ => exact h0.symm
  | ⟨1, _⟩ => exact h1.symm
  | ⟨2, _⟩ => exact h2.symm
  | ⟨3, _⟩ => rfl

/-- The running sum from the end, at an index. -/
theorem suffix_sum {A B C N Nm1 : ℕ} {φ : FTy} (x : FVec Ideal ⟨4, ![A, B, C, N]⟩ φ) {u : Shape} (init : u.Idx → Ideal φ)
    (h : (⟨4, ![A, B, C, N]⟩ : Shape).ReduceWindows (![1, 1, 1, N] : Fin 4 → Nat) ![1, 1, 1, 1] ![0, 0, 0, 0] ![0, 0, 0, Nm1] ⟨4, ![A, B, C, N]⟩)
    (hu : 0 < u.numel) (hinit : init (Shape.Idx.first hu) = (0 : EReal)) (a : Fin A) (b : Fin B) (c : Fin C) (s : Fin N) :
    Host.reduceWindowAdd (F := Ideal) ![1, 1, 1, N] ![1, 1, 1, 1] ![0, 0, 0, 0] ![0, 0, 0, Nm1] x init h hu (ix4 a b c s)
      = ∑ k : Fin N, if hk : s.val + k.val < N then (x (ix4 a b c ⟨s.val + k.val, hk⟩) : EReal) else 0 := by
  have ha := a.isLt
  have hb := b.isLt
  have hc := c.isLt
  unfold Host.reduceWindowAdd
  rw [Ideal.hostReduceWindowAdd_def]
  unfold Ideal.hostReduceWindowAdd
  rw [hinit]
  refine (foldl_add_sum _ _ _).trans ?_
  rw [zero_add, ← Fin.sum_univ_def]
  refine Eq.trans (Finset.sum_congr rfl fun n _ => ?_) ((Equiv.sum_comp (Shape.rowMajor (⟨4, ![1, 1, 1, N]⟩ : Shape)).symm
    (fun i : (⟨4, ![1, 1, 1, N]⟩ : Shape).Idx => if hk : s.val + (i 3).val < N then (x (ix4 a b c ⟨s.val + (i 3).val, hk⟩) : EReal) else 0)).trans
    (sum_window N _))
  let w : (⟨4, ![1, 1, 1, N]⟩ : Shape).Idx := (Shape.rowMajor (⟨4, ![1, 1, 1, N]⟩ : Shape)).symm n
  show _ = if hk : s.val + (w 3).val < N then (x (ix4 a b c ⟨s.val + (w 3).val, hk⟩) : EReal) else 0
  have h0 : (w 0).val < 1 := (w 0).isLt
  have h1 : (w 1).val < 1 := (w 1).isLt
  have h2 : (w 2).val < 1 := (w 2).isLt
  by_cases hk : s.val + (w 3).val < N
  · rw [dif_pos hk, dif_pos (fun e => by
      match e with
      | ⟨0, _⟩ => exact ⟨Nat.zero_le _, by show a.val * 1 + (w 0).val - 0 < A; omega⟩
      | ⟨1, _⟩ => exact ⟨Nat.zero_le _, by show b.val * 1 + (w 1).val - 0 < B; omega⟩
      | ⟨2, _⟩ => exact ⟨Nat.zero_le _, by show c.val * 1 + (w 2).val - 0 < C; omega⟩
      | ⟨3, _⟩ => exact ⟨Nat.zero_le _, by show s.val * 1 + (w 3).val - 0 < N; omega⟩)]
    refine congrArg x (funext fun e => Fin.ext ?_)
    match e with
    | ⟨0, _⟩ => show a.val * 1 + (w 0).val - 0 = a.val; omega
    | ⟨1, _⟩ => show b.val * 1 + (w 1).val - 0 = b.val; omega
    | ⟨2, _⟩ => show c.val * 1 + (w 2).val - 0 = c.val; omega
    | ⟨3, _⟩ => show s.val * 1 + (w 3).val - 0 = s.val + (w 3).val; omega
  · rw [dif_neg hk, dif_neg (fun hin => hk (by have := (hin 3).2; change s.val * 1 + (w 3).val - 0 < N at this; omega))]

/-- The same sum over the later entries of a sequence on the naturals. -/
theorem suffix_ico (N s : ℕ) (hs : s < N) (f : ℕ → EReal) : (∑ k : Fin N, if s + k.val < N then f (s + k.val) else 0) = ∑ j ∈ Finset.Ico s N, f j := by
  rw [Fin.sum_univ_eq_sum_range (fun k => if s + k < N then f (s + k) else 0) N, Finset.sum_Ico_eq_sum_range, ← Finset.sum_filter]
  refine Finset.sum_congr (Finset.ext fun k => ?_) fun _ _ => rfl
  simp only [Finset.mem_filter, Finset.mem_range]
  omega

end Cert.Stick
end
-- ==== Proof.Ref.lean ====
/-
  What the reference computes, at an index: the attention's output and the gate projection.
-/
module

public import proofs.«01_k».proof.Proof.Gen.ReferenceIdeal.Read
public import proofs.«01_k».proof.Proof.Spec
public import proofs.«01_k».proof.Proof.Scan

@[expose] public section

set_option maxRecDepth 16384

noncomputable section

namespace Cert.Stick

open Cert.ReferenceIdeal Cert.ReferenceIdeal.Read
open Idealize.ShloMosaic Idealize.ShloMosaic.TcCoe Idealize.ShloMosaic.ValueIdx
open scoped BigOperators

variable (X : (⟨3, ![4, 2048, 3072]⟩ : Shape).Idx → EReal)

/-- A literal's value. -/
theorem ofBits_128 : Ideal.ofBits .f32 0x43000000#32 = ((128 : ℝ) : EReal) := by
  simp [Ideal.ofBits, Ideal.ieee, -EReal.coe_mul]; norm_num

theorem ref_queries (b : Fin 4) (r : Fin 2048) (h : Fin 8) (d : Fin 128) :
    val_main_v4 (F := Ideal) X (ix4 b r h d) = at3 X b.val r.val (128 * h.val + d.val) := by
  have := b.isLt; have := r.isLt; have := h.isLt; have := d.isLt
  rw [val_main_v4_apply, val_main_v1_apply]
  refine (at3_eq X _ _ _ _ ?_ ?_ ?_).symm
  · show (((b.val * 2048 + r.val) * 8 + h.val) * 128 + d.val) / 2097152 = b.val; omega
  · show (((b.val * 2048 + r.val) * 8 + h.val) * 128 + d.val) / 1024 % 2048 = r.val; omega
  · show (((b.val * 2048 + r.val) * 8 + h.val) * 128 + d.val) % 1024 = 128 * h.val + d.val; omega

theorem ref_keys (b : Fin 4) (r : Fin 2048) (h : Fin 8) (d : Fin 128) :
    val_main_v5 (F := Ideal) X (ix4 b r h d) = at3 X b.val r.val (1024 + (128 * h.val + d.val)) := by
  have := b.isLt; have := r.isLt; have := h.isLt; have := d.isLt
  rw [val_main_v5_apply, val_main_v2_apply]
  refine (at3_eq X _ _ _ _ ?_ ?_ ?_).symm
  · show (((b.val * 2048 + r.val) * 8 + h.val) * 128 + d.val) / 2097152 = b.val; omega
  · show (((b.val * 2048 + r.val) * 8 + h.val) * 128 + d.val) / 1024 % 2048 = r.val; omega
  · show 1024 + (((b.val * 2048 + r.val) * 8 + h.val) * 128 + d.val) % 1024 = 1024 + (128 * h.val + d.val); omega

theorem ref_values (b : Fin 4) (r : Fin 2048) (h : Fin 8) (d : Fin 128) :
    val_main_v6 (F := Ideal) X (ix4 b r h d) = at3 X b.val r.val (2048 + (128 * h.val + d.val)) := by
  have := b.isLt; have := r.isLt; have := h.isLt; have := d.isLt
  rw [val_main_v6_apply, val_main_v3_apply]
  refine (at3_eq X _ _ _ _ ?_ ?_ ?_).symm
  · show (((b.val * 2048 + r.val) * 8 + h.val) * 128 + d.val) / 2097152 = b.val; omega
  · show (((b.val * 2048 + r.val) * 8 + h.val) * 128 + d.val) / 1024 % 2048 = r.val; omega
  · show 2048 + (((b.val * 2048 + r.val) * 8 + h.val) * 128 + d.val) % 1024 = 2048 + (128 * h.val + d.val); omega

theorem ref_score (b : Fin 4) (h : Fin 8) (r s : Fin 2048) :
    val_main_v10 (F := Ideal) X (ix4 b h r s) = scaled X b.val h.val r.val s.val := by
  rw [val_main_v10_apply, val_main_v9_apply, val_main_v8_apply, val_main_cst_apply, val_main_v7_apply]
  show Ideal.div _ (Ideal.sqrt (Ideal.ofBits .f32 0x43000000#32)) = _
  have h0 : Real.sqrt 128 ≠ 0 := (Real.sqrt_pos.2 (by norm_num)).ne'
  rw [ofBits_128, Ideal.sqrt_coe, if_neg (by norm_num), Ideal.div_coe h0, one_div, scaled, product]
  refine congrArg (· * _) (Finset.sum_congr rfl fun d _ => ?_)
  exact congrArg₂ (· * ·) (ref_queries X b r h d) (ref_keys X b s h d)

/-- The softplus as the reference prints it. -/
theorem ref_soft (x : EReal) : Scalar.select (FloatOps.cmpf (F := Ideal) (φ := .f32) .une (FloatOps.subf (F := Ideal) (φ := .f32) x (Ideal.ofBits .f32 0x00000000#32)) (FloatOps.subf (F := Ideal) (φ := .f32) x (Ideal.ofBits .f32 0x00000000#32)))
      (FloatOps.addf (F := Ideal) (φ := .f32) x (Ideal.ofBits .f32 0x00000000#32))
      (FloatOps.addf (F := Ideal) (φ := .f32) (FloatOps.maximumf (F := Ideal) (φ := .f32) x (Ideal.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) x (Ideal.ofBits .f32 0x00000000#32))))))) = sft x := by
  have h : FloatOps.subf (F := Ideal) (φ := .f32) x (Ideal.ofBits .f32 0x00000000#32) = x := by
    show x - Ideal.ofBits .f32 0x00000000#32 = x
    rw [Ideal.ofBits_zero_f32, sub_zero]
  have hc : FloatOps.cmpf (F := Ideal) (φ := .f32) .une x x = 0#1 := by
    show BitVec.ofBool (decide (x ≠ x)) = 0#1
    rw [decide_eq_false (by simp)]; rfl
  rw [h, hc]
  show max x (Ideal.ofBits .f32 0x00000000#32) + Ideal.log1p (Ideal.exp (-(max x (-x)))) = sft x
  rw [Ideal.ofBits_zero_f32]
  rfl

theorem ref_softplus (i : S4x8x2048x2048.Idx) : val_main_v17 (F := Ideal) X i = sft (val_main_v10 (F := Ideal) X i) := by
  rw [val_main_v17_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  exact ref_soft _

theorem ref_logsig (i : S4x8x2048x2048.Idx) : val_main_v22 (F := Ideal) X i = -sft (-(val_main_v10 (F := Ideal) X i)) := by
  rw [val_main_v22_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, val_main_call3_v0_apply]
  exact congrArg (fun t : EReal => -t) (ref_soft _)

theorem ref_mask (r s : Fin 2048) : val_main_v16 (F := Ideal) (ix2 r s) = if s.val < r.val then 1#1 else 0#1 := by
  rw [val_main_v16_apply, val_main_v14_apply, val_main_v15_apply, val_main_v12_apply, val_main_v13_apply, val_main_v11_apply, val_main_v11_apply]
  show BitVec.ofBool (BitVec.slt (BitVec.ofNat 32 s.val) (BitVec.ofNat 32 r.val)) = _
  have hc : (BitVec.ofNat 32 s.val).toInt = (s.val : Int) := WordCmp.toInt_ofNat_of_lt (by have := s.isLt; norm_num; omega)
  have hr : (BitVec.ofNat 32 r.val).toInt = (r.val : Int) := WordCmp.toInt_ofNat_of_lt (by have := r.isLt; norm_num; omega)
  rw [BitVec.slt, hc, hr]
  by_cases h : s.val < r.val
  · rw [if_pos h, decide_eq_true (by exact_mod_cast h)]; rfl
  · rw [if_neg h, decide_eq_false (by exact_mod_cast h)]; rfl

theorem select_if {p : Prop} [Decidable p] (a b : EReal) : Scalar.select (if p then 1#1 else 0#1) a b = if p then a else b := by
  by_cases h : p
  · rw [if_pos h, if_pos h]; rfl
  · rw [if_neg h, if_neg h]; rfl

theorem ref_log1m (b : Fin 4) (h : Fin 8) (r s : Fin 2048) :
    val_main_v19 (F := Ideal) X (ix4 b h r s) = if s.val < r.val then -sft (scaled X b.val h.val r.val s.val) else 0 := by
  rw [val_main_v19_apply, val_main_call1_v1_apply, val_main_v18_apply, ref_softplus, ref_score, val_main_call1_v2_apply,
    val_main_call1_v0_apply, val_main_cst_0_apply]
  rw [show idx_main_call1_v1 (ix4 b h r s) = ix2 r s from funext fun a => by match a with
    | ⟨0, _⟩ => rfl
    | ⟨1, _⟩ => rfl, ref_mask, select_if]
  show (if s.val < r.val then _ else Ideal.ofBits .f32 0x00000000#32) = _
  rw [Ideal.ofBits_zero_f32]
  rfl

theorem ref_suffix (b : Fin 4) (h : Fin 8) (r s : Fin 2048) (hs : s.val < r.val) :
    val_main_v20 (F := Ideal) X (ix4 b h r s) = -(sft (scaled X b.val h.val r.val s.val) + ∑ j ∈ Finset.Ico (s.val + 1) r.val, sft (scaled X b.val h.val r.val j)) := by
  have hr := r.isLt
  unfold val_main_v20
  rw [suffix_sum _ _ _ _ (by rw [val_main_call2_v0_apply]; exact Ideal.ofBits_zero_f32)]
  rw [← Finset.sum_eq_sum_Ico_succ_bot hs (fun j => sft (scaled X b.val h.val r.val j)), ← sum_neg_nonneg _ _ (fun j => sft_nonneg _)]
  refine Eq.trans (b := ∑ k : Fin 2048, if s.val + k.val < 2048 then (fun j => if j < r.val then -sft (scaled X b.val h.val r.val j) else 0) (s.val + k.val) else 0)
    (Finset.sum_congr rfl fun k _ => ?_) ((suffix_ico 2048 s.val s.isLt (fun j => if j < r.val then -sft (scaled X b.val h.val r.val j) else 0)).trans ?_)
  · by_cases hk : s.val + k.val < 2048
    · rw [dif_pos hk, if_pos hk, ref_log1m]
    · rw [dif_neg hk, if_neg hk]
  · rw [← Finset.sum_filter]
    refine Finset.sum_congr (Finset.ext fun j => ?_) fun _ _ => rfl
    simp only [Finset.mem_filter, Finset.mem_Ico]
    omega

theorem ref_share (b : Fin 4) (h : Fin 8) (r s : Fin 2048) :
    val_main_v25 (F := Ideal) X (ix4 b h r s) = portion (scaled X b.val h.val r.val) r.val s.val := by
  rw [val_main_v25_apply, val_main_call4_v1_apply, val_main_call4_v2_apply, val_main_call4_v0_apply, val_main_cst_1_apply]
  rw [show idx_main_call4_v1 (ix4 b h r s) = ix2 r s from funext fun a => by match a with
    | ⟨0, _⟩ => rfl
    | ⟨1, _⟩ => rfl, ref_mask, select_if, portion]
  by_cases hs : s.val < r.val
  · rw [if_pos hs, if_pos hs, val_main_v24_apply, val_main_v23_apply, val_main_v21_apply, ref_logsig, ref_suffix X b h r s hs, ref_log1m, if_pos hs, ref_score]
    rfl
  · rw [if_neg hs, if_neg hs]
    exact Ideal.ofBits_zero_f32

theorem lidx_ix (b : Fin 4) (h : Fin 8) (d : Fin 128) (r s : Fin 2048) : lidx_main_v26 (ix4 b h d r) s = ix4 b s h d := funext fun a => by
  match a with
  | ⟨0, _⟩ => rfl
  | ⟨1, _⟩ => rfl
  | ⟨2, _⟩ => rfl
  | ⟨3, _⟩ => rfl

theorem ridx_ix (b : Fin 4) (h : Fin 8) (d : Fin 128) (r s : Fin 2048) : ridx_main_v26 (ix4 b h d r) s = ix4 b h r s := funext fun a => by
  match a with
  | ⟨0, _⟩ => rfl
  | ⟨1, _⟩ => rfl
  | ⟨2, _⟩ => rfl
  | ⟨3, _⟩ => rfl

/-- The reference's attention output at an index. -/
theorem ref_attended (b : Fin 4) (r : Fin 2048) (c : Fin 1024) :
    val_main_v33 (F := Ideal) X (ix3 b r c) = attended X b.val r.val c.val := by
  have hb := b.isLt; have hr := r.isLt; have hc := c.isLt
  rw [val_main_v33_apply]
  show val_main_v28 (F := Ideal) X (ix3 b r c) = _
  have e : idx_main_v27 (idx_main_v28 (ix3 b r c)) = ix4 b (⟨c.val / 128, by omega⟩ : Fin 8) (⟨c.val % 128, by omega⟩ : Fin 128) r := funext fun a => Fin.ext (by
    match a with
    | ⟨0, _⟩ => show ((b.val * 2048 + r.val) * 1024 + c.val) / 2097152 = b.val; omega
    | ⟨1, _⟩ => show ((b.val * 2048 + r.val) * 1024 + c.val) / 128 % 8 = c.val / 128; omega
    | ⟨2, _⟩ => show ((b.val * 2048 + r.val) * 1024 + c.val) % 128 = c.val % 128; omega
    | ⟨3, _⟩ => show ((b.val * 2048 + r.val) * 1024 + c.val) / 1024 % 2048 = r.val; omega)
  rw [val_main_v28_apply, val_main_v27_apply, e, val_main_v26_apply]
  unfold attended
  refine Finset.sum_congr rfl fun s _ => ?_
  rw [lidx_ix, ridx_ix, ref_values, ref_share]
  show at3 X b.val s.val (2048 + (128 * (c.val / 128) + c.val % 128)) * _ = _
  rw [Nat.div_add_mod]

/-- The reference's gate projection at an index. -/
theorem ref_projected (H : (⟨3, ![4, 2048, 2048]⟩ : Shape).Idx → EReal) (W : (⟨3, ![1, 2048, 11776]⟩ : Shape).Idx → EReal) (b : Fin 4) (r : Fin 2048) (c : Fin 4096) :
    val_main_v34 (F := Ideal) H W (ix3 b r c) = projected H W b.val r.val c.val := by
  have hc := c.isLt
  rw [val_main_v34_apply]
  show val_main_v32 (F := Ideal) H W (ix3 b r c) = _
  rw [val_main_v32_apply]
  refine Finset.sum_congr rfl fun k _ => ?_
  have hk := k.isLt
  rw [val_main_v31_apply, val_main_v30_apply, val_main_v29_apply]
  refine congrArg₂ (· * ·) (at3_eq H _ _ _ _ rfl rfl rfl).symm (at3_eq W _ _ _ _ rfl ?_ ?_).symm
  · show (k.val * 11776 + (7680 + c.val)) / 11776 % 2048 = k.val; omega
  · show (k.val * 11776 + (7680 + c.val)) % 11776 = 7680 + c.val; omega

end Cert.Stick
end
-- ==== Proof.Pieces.lean ====
/-
  The pieces the kernel's body stores, named: each query tile of the attention and each block of the gate projection, at
  any floats, and what the two cases of the body leave in their buffers.
-/
module

public import proofs.«01_k».proof.Proof.Gen.KernelIdeal.Frame
public import proofs.«01_k».proof.Proof.Blocks
public import Idealize.ShloMosaic.Lib.Pipeline.ValueKit.Tiles

@[expose] public section

set_option maxRecDepth 16384

noncomputable section

namespace Cert.Stick

open Cert.KernelIdeal Cert.KernelIdeal.Gen
open Idealize.ShloMosaic Idealize.ShloMosaic.TcCoe Idealize.ShloMosaic.Tactic

variable {F : FTy → Type} [FloatOps F] [Named F]

/-- The kernel's literal, by its name. -/
def lgF : F .f32 := Named.named κ "log2e" 0x3FB8AA3B#32

theorem inbRow {n h : ℕ} (hn : n ≤ 8) (hh : h ≤ 1) (a : Fin 3) :
    (![0, 256 * (n - 1), 128 * h] : Fin 3 → Nat) a + (![1, 256, 128] : Fin 3 → Nat) a ≤ S1x2048x256.size a := by
  match a with
  | ⟨0, _⟩ => exact Nat.le_refl 1
  | ⟨1, _⟩ => show 256 * (n - 1) + 256 ≤ 2048; omega
  | ⟨2, _⟩ => show 128 * h + 128 ≤ 256; omega

theorem inbKeys {N h : ℕ} (hN : N ≤ 2048) (hh : h ≤ 1) (a : Fin 3) :
    (![0, 0, 128 * h] : Fin 3 → Nat) a + (![1, N, 128] : Fin 3 → Nat) a ≤ S1x2048x256.size a := by
  match a with
  | ⟨0, _⟩ => exact Nat.le_refl 1
  | ⟨1, _⟩ => show 0 + N ≤ 2048; omega
  | ⟨2, _⟩ => show 128 * h + 128 ≤ 256; omega

/-- The rows of the `n`-th query tile, in the columns of head `h`. -/
def row (n h : ℕ) (hn : n ≤ 8) (hh : h ≤ 1) : Rect S1x2048x256 := Rect.unit ![0, 256 * (n - 1), 128 * h] ![1, 256, 128] (inbRow hn hh)

/-- The first `N` rows, in the columns of head `h`. -/
def keys (N h : ℕ) (hN : N ≤ 2048) (hh : h ≤ 1) : Rect S1x2048x256 := Rect.unit ![0, 0, 128 * h] ![1, N, 128] (inbKeys hN hh)

section Attention
variable (T : FVec F S256x256 .bf16) (Q K V : Vec F S1x2048x256 .bf16)

/-- The first query tile's store. -/
def pieceOne (h : ℕ) (hh : h ≤ 1) : View.Piece (Elt F) S1x2048x256 .bf16 :=
  ⟨row 1 h (by decide) hh, tileOne lgF T (View.ld Q (row 1 h (by decide) hh)) (View.ld K (keys 256 h (by decide) hh))
    (View.ld V (keys 256 h (by decide) hh))⟩

/-- The `n`-th query tile's store. -/
def piece (n N h : ℕ) (hn : 2 ≤ n) (hn' : n ≤ 8) (hN : N = 256 * n) (hk : (⟨3, ![1, N, 128]⟩ : Shape).ShapeCasts ⟨2, ![N, 128]⟩)
    (hh : h ≤ 1) : View.Piece (Elt F) S1x2048x256 .bf16 :=
  ⟨row n h hn' hh, tile n N hn hN hk lgF T (View.ld Q (row n h hn' hh)) (View.ld K (keys N h (by omega) hh))
    (View.ld V (keys N h (by omega) hh))⟩

/-- The attention's stores, the last first. -/
def pieces : List (View.Piece (Elt F) S1x2048x256 .bf16) :=
  [
   piece T Q K V 8 2048 1 (by decide) (by decide) (by decide) (by decide) (by decide),
   piece T Q K V 8 2048 0 (by decide) (by decide) (by decide) (by decide) (by decide),
   piece T Q K V 7 1792 1 (by decide) (by decide) (by decide) (by decide) (by decide),
   piece T Q K V 7 1792 0 (by decide) (by decide) (by decide) (by decide) (by decide),
   piece T Q K V 6 1536 1 (by decide) (by decide) (by decide) (by decide) (by decide),
   piece T Q K V 6 1536 0 (by decide) (by decide) (by decide) (by decide) (by decide),
   piece T Q K V 5 1280 1 (by decide) (by decide) (by decide) (by decide) (by decide),
   piece T Q K V 5 1280 0 (by decide) (by decide) (by decide) (by decide) (by decide),
   piece T Q K V 4 1024 1 (by decide) (by decide) (by decide) (by decide) (by decide),
   piece T Q K V 4 1024 0 (by decide) (by decide) (by decide) (by decide) (by decide),
   piece T Q K V 3 768 1 (by decide) (by decide) (by decide) (by decide) (by decide),
   piece T Q K V 3 768 0 (by decide) (by decide) (by decide) (by decide) (by decide),
   piece T Q K V 2 512 1 (by decide) (by decide) (by decide) (by decide) (by decide),
   piece T Q K V 2 512 0 (by decide) (by decide) (by decide) (by decide) (by decide),
   pieceOne T Q K V 1 (by decide),
   pieceOne T Q K V 0 (by decide)]

end Attention

theorem inbGate {i j : ℕ} (hi : i ≤ 7) (hj : j ≤ 3) (a : Fin 3) :
    (![0, 256 * i, 256 * j] : Fin 3 → Nat) a + (![1, 256, 256] : Fin 3 → Nat) a ≤ S1x2048x1024.size a := by
  match a with
  | ⟨0, _⟩ => exact Nat.le_refl 1
  | ⟨1, _⟩ => show 256 * i + 256 ≤ 2048; omega
  | ⟨2, _⟩ => show 256 * j + 256 ≤ 1024; omega

theorem inbRows {i : ℕ} (hi : i ≤ 7) (a : Fin 3) :
    (![0, 256 * i, 0] : Fin 3 → Nat) a + (![1, 256, 2048] : Fin 3 → Nat) a ≤ S1x2048x2048.size a := by
  match a with
  | ⟨0, _⟩ => exact Nat.le_refl 1
  | ⟨1, _⟩ => show 256 * i + 256 ≤ 2048; omega
  | ⟨2, _⟩ => exact Nat.le_refl 2048

theorem inbCols {j : ℕ} (hj : j ≤ 3) (a : Fin 2) :
    (![0, 256 * j] : Fin 2 → Nat) a + (![2048, 256] : Fin 2 → Nat) a ≤ S2048x1024.size a := by
  match a with
  | ⟨0, _⟩ => exact Nat.le_refl 2048
  | ⟨1, _⟩ => show 256 * j + 256 ≤ 1024; omega

/-- A block of the gate projection from its rows and its columns. -/
def gateBlock (hrows : FVec F ⟨3, ![1, 256, 2048]⟩ .bf16) (w : FVec F ⟨2, ![2048, 256]⟩ .bf16) : FVec F ⟨3, ![1, 256, 256]⟩ .bf16 :=
  shapeCast ⟨3, ![1, 256, 256]⟩ (truncf .bf16
    (matmul (DotDims.plain 256 2048 256) none (shapeCast ⟨2, ![256, 2048]⟩ hrows) w (constant ⟨2, ![256, 256]⟩ .f32 0x00000000#32)))

section Gate
variable (H : Vec F S1x2048x2048 .bf16) (W : (r : Rect S2048x1024) → r.shape.Idx → F .bf16)

/-- The store of the gate projection's block at row block `i`, column block `j`. -/
def gatePiece (i j : ℕ) (hi : i ≤ 7) (hj : j ≤ 3) : View.Piece (Elt F) S1x2048x1024 .bf16 :=
  ⟨Rect.unit ![0, 256 * i, 256 * j] ![1, 256, 256] (inbGate hi hj),
    gateBlock (View.ld H (Rect.unit ![0, 256 * i, 0] ![1, 256, 2048] (inbRows hi)))
      (W (Rect.unit ![0, 256 * j] ![2048, 256] (inbCols hj)))⟩

/-- The gate projection's stores of one row block, the last first. -/
def gateRow (i : ℕ) (hi : i ≤ 7) : List (View.Piece (Elt F) S1x2048x1024 .bf16) :=
  [gatePiece H W i 3 hi (by decide), gatePiece H W i 2 hi (by decide), gatePiece H W i 1 hi (by decide), gatePiece H W i 0 hi (by decide)]

/-- The gate projection's stores, the last first. -/
def gatePieces : List (View.Piece (Elt F) S1x2048x1024 .bf16) :=
  gateRow H W 7 (by decide) ++ gateRow H W 6 (by decide) ++ gateRow H W 5 (by decide) ++ gateRow H W 4 (by decide)
    ++ gateRow H W 3 (by decide) ++ gateRow H W 2 (by decide) ++ gateRow H W 1 (by decide) ++ gateRow H W 0 (by decide)

end Gate

/-- Half of the gate's weights, as the body keeps them. -/
def half (w : Vec F S1x2048x512 .f32) : FVec F ⟨2, ![2048, 512]⟩ .bf16 :=
  shapeCast ⟨2, ![2048, 512]⟩ (truncf .bf16 (shapeCast ⟨2, ![2048, 512]⟩ (View.ld w (Rect.unit (s := S1x2048x512) ![0, 0, 0] ![1, 2048, 512] (by decide)))))

/-- The stores of the gate's weights in the scratch, the last first. -/
def keptPieces (w0 w1 : Vec F S1x2048x512 .f32) : List (View.Piece (Elt F) S2048x1024 .bf16) :=
  [⟨Rect.unit (s := S2048x1024) ![0, 512] ![2048, 512] (by decide), half w1⟩,
   ⟨Rect.unit (s := S2048x1024) ![0, 0] ![2048, 512] (by decide), half w0⟩]

/-- The triangle as the body reads it. -/
def triOf (x : Vec F S256x256 .bf16) : FVec F S256x256 .bf16 :=
  shapeCast S256x256 (View.ld x (Rect.unit (s := S256x256) ![0, 0] ![256, 256] (by decide))) (by decide)

variable (c : Dev nD) (i : grid0.Coords) (arg2 : Memref sig .tc .vmem S1x2048x256 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S1x2048x2048 .bf16) (harg8 : arg8.IsWhole) (arg9 : Memref sig .tc .vmem S1x2048x256 .bf16) (harg9 : arg9.IsWhole) (arg10 : Memref sig .tc .vmem S1x2048x1024 .bf16) (harg10 : arg10.IsWhole) (arg11 : Memref sig .tc .vmem S2048x1024 .bf16) (harg11 : arg11.IsWhole)
  (x0 : Vec F S1x2048x256 .bf16) (x1 : Vec F S1x2048x512 .f32) (x2 : Vec F S1x2048x512 .f32) (x3 : Vec F S1x2048x256 .bf16) (x4 : Vec F S1x2048x256 .bf16) (x5 : Vec F S256x256 .bf16) (x6 : Vec F S1x2048x2048 .bf16) (xs0 : Vec F S2048x1024 .bf16)

/-- Case A stores the attention's tiles. -/
theorem run_A_7 (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).1 =
      pieces (triOf (arg7.view.read (Elt F) (harg7.unread x5))) (arg2.view.read (Elt F) (harg2.unread x0)) (arg5.view.read (Elt F) (harg5.unread x3)) (arg6.view.read (Elt F) (harg6.unread x4)) := by
  unfold kernelRun0_A
  dsimp only
  sl_unfold_words
  sl_kernel_rfl

/-- Case A stores the gate's blocks. -/
theorem run_A_8 (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.1 =
      gatePieces (arg8.view.read (Elt F) (harg8.unread x6)) (fun r => arg11.view.readCov (keptPieces (arg3.view.read (Elt F) (harg3.unread x1)) (arg4.view.read (Elt F) (harg4.unread x2))) r.toLoadRect) := by
  unfold kernelRun0_A
  dsimp only
  sl_unfold_words
  sl_kernel_rfl

/-- Case B stores the attention's tiles. -/
theorem run_B_7 (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0).1 =
      pieces (triOf (arg7.view.read (Elt F) (harg7.unread x5))) (arg2.view.read (Elt F) (harg2.unread x0)) (arg5.view.read (Elt F) (harg5.unread x3)) (arg6.view.read (Elt F) (harg6.unread x4)) := by
  unfold kernelRun0_B
  dsimp only
  sl_unfold_words
  sl_kernel_rfl

/-- Case B stores the gate's blocks. -/
theorem run_B_8 (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0).2.1 =
      gatePieces (arg8.view.read (Elt F) (harg8.unread x6)) (fun r => View.ld (arg11.view.read (Elt F) (harg11.unread xs0)) r) := by
  unfold kernelRun0_B
  dsimp only
  sl_unfold_words
  sl_kernel_rfl

/-- Case A stores the gate's weights. -/
theorem run_A_0 (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.2.1 =
      keptPieces (arg3.view.read (Elt F) (harg3.unread x1)) (arg4.view.read (Elt F) (harg4.unread x2)) := by
  unfold kernelRun0_A
  dsimp only
  sl_unfold_words
  sl_kernel_rfl

/-- What case A leaves of the attention. -/
theorem out_A_7 (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6 = View.canon (pieces (triOf x5) x0 x3 x4) := by
  unfold out0_A_7
  rw [View.read_writes_junk_eq_canon, run_A_7, harg7.read_unread, harg2.read_unread, harg5.read_unread, harg6.read_unread]

/-- What case B leaves of the attention. -/
theorem out_B_7 (hc0 : ¬cond0_0 i) :
    out0_B_7 c i arg2 harg2 arg3 harg3 arg4 harg4 arg5 harg5 arg6 harg6 arg7 harg7 arg8 harg8 arg9 harg9 arg10 harg10 arg11 harg11 hc0 x0 x1 x2 x3 x4 x5 x6 xs0 = View.canon (pieces (triOf x5) x0 x3 x4) := by
  unfold out0_B_7
  rw [View.read_writes_junk_eq_canon, run_B_7, harg7.read_unread, harg2.read_unread, harg5.read_unread, harg6.read_unread]

/-- What case A leaves of the gate projection. -/
theorem out_A_8 (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6 = View.canon (gatePieces x6 (fun r => View.ld (View.canon (keptPieces x1 x2)) r)) := by
  unfold out0_A_8
  rw [View.read_writes_junk_eq_canon, run_A_8, harg8.read_unread, harg3.read_unread, harg4.read_unread]
  simp only [View.readCov_eq_canon']

/-- What case B leaves of the gate projection. -/
theorem out_B_8 (hc0 : ¬cond0_0 i) :
    out0_B_8 c i arg2 harg2 arg3 harg3 arg4 harg4 arg5 harg5 arg6 harg6 arg7 harg7 arg8 harg8 arg9 harg9 arg10 harg10 arg11 harg11 hc0 x0 x1 x2 x3 x4 x5 x6 xs0 = View.canon (gatePieces x6 (fun r => View.ld xs0 r)) := by
  unfold out0_B_8
  rw [View.read_writes_junk_eq_canon, run_B_8, harg8.read_unread, harg11.read_unread]

/-- What case A leaves in the scratch. -/
theorem sout_A_0 (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 = View.canon (keptPieces x1 x2) := by
  unfold sout0_A_0
  rw [View.read_writes_junk_eq_canon, run_A_0, harg3.read_unread, harg4.read_unread]

/-- Case B leaves the scratch as it was. -/
theorem sout_B_0 (hc0 : ¬cond0_0 i) :
    sout0_B_0 c i arg2 harg2 arg3 harg3 arg4 harg4 arg5 harg5 arg6 harg6 arg7 harg7 arg8 harg8 arg9 harg9 arg10 harg10 arg11 harg11 hc0 x0 x1 x2 x3 x4 x5 x6 xs0 = xs0 := by
  rfl

end Cert.Stick
end
-- ==== Proof.Attn.lean ====
/-
  What the stored pieces hold at an index over the extended reals: the attention's output as shares of the values, the gate
  projection's as sums of products.
-/
module

public import proofs.«01_k».proof.Proof.Pieces
public import Idealize.ShloMosaic.Lib.Pipeline.ValueKit.Geometry

@[expose] public section

set_option maxRecDepth 16384

noncomputable section

namespace Cert.Stick

open Cert.KernelIdeal Cert.KernelIdeal.Gen
open Idealize.ShloMosaic Idealize.ShloMosaic.TcCoe Idealize.ShloMosaic.Tactic Idealize.ShloMosaic.ValueIdx
open scoped BigOperators

/-- The kernel's literal is the reciprocal of the natural logarithm of two. -/
theorem lgF_eq : lgF (F := Ideal) = lg := rfl

/-- The entry of a block at a row and a column, zero outside it. -/
def cell {n m : ℕ} (X : (⟨3, ![1, n, m]⟩ : Shape).Idx → EReal) (s d : ℕ) : EReal :=
  if h : s < n ∧ d < m then X (ix3 (0 : Fin 1) ⟨s, h.1⟩ ⟨d, h.2⟩) else 0

theorem cell_eq {n m : ℕ} (X : (⟨3, ![1, n, m]⟩ : Shape).Idx → EReal) (s d : ℕ) (y : (⟨3, ![1, n, m]⟩ : Shape).Idx)
    (h1 : (y 1).val = s) (h2 : (y 2).val = d) : cell X s d = X y := by
  subst h1 h2
  have h0 : y 0 = (0 : Fin 1) := Subsingleton.elim (α := Fin 1) _ _
  have e : y = ix3 (0 : Fin 1) (y 1) (y 2) := (eq_ix3 y).trans (congrArg (fun a : Fin 1 => ix3 a (y 1) (y 2)) h0)
  rw [cell, dif_pos ⟨(y 1).isLt, (y 2).isLt⟩]
  exact congrArg X e.symm

/-- A load of a part of a block, at an index. -/
theorem ld_cell {n m : ℕ} (X : (⟨3, ![1, n, m]⟩ : Shape).Idx → EReal) (off size : Fin 3 → ℕ) (inb) (s d : ℕ)
    (x : (Rect.unit (s := ⟨3, ![1, n, m]⟩) off size inb).shape.Idx) (h1 : off 1 + (x 1).val = s) (h2 : off 2 + (x 2).val = d) :
    X ((Rect.unit (s := ⟨3, ![1, n, m]⟩) off size inb).idx x) = cell X s d := by
  refine (cell_eq X s d ((Rect.unit (s := ⟨3, ![1, n, m]⟩) off size inb).idx x) ?_ ?_).symm
  · rw [Rect.idx_unit_val]; exact h1
  · rw [Rect.idx_unit_val]; exact h2

/-- The products of query `r` with every key, in the columns of head `h`. -/
def logit (Q K : S1x2048x256.Idx → EReal) (h r s : ℕ) : EReal := ∑ d : Fin 128, cell Q r (128 * h + d.val) * cell K s (128 * h + d.val)

/-- A block of the attention's output at an index. -/
def attn (Q K V : S1x2048x256.Idx → EReal) (y : S1x2048x256.Idx) : EReal :=
  mix (logit Q K ((y 2).val / 128) (y 1).val) (fun s => cell V s (y 2).val) (y 1).val

section Attention
variable (T : FVec Ideal S256x256 .bf16) (htri : ∀ a b : Fin 256, T (ix2 a b) = if b.val < a.val then (1 : EReal) else 0)
  (Q K V : S1x2048x256.Idx → EReal)

include htri

theorem pieceOne_at (h : ℕ) (hh : h ≤ 1) (x : (pieceOne (F := Ideal) T Q K V h hh).1.shape.Idx) :
    (pieceOne (F := Ideal) T Q K V h hh).2 x = attn Q K V ((pieceOne (F := Ideal) T Q K V h hh).1.emb x) := by
  have e0 : ∀ a, ((pieceOne (F := Ideal) T Q K V h hh).1.emb x a).val = ![0, 256 * (1 - 1), 128 * h] a + (x a).val := fun a => ValueKit.rect_emb_unit_val _ _ (inbRow (by decide) hh) x a
  have e1 := e0 1
  have e2 := e0 2
  have hd : (x 2).val < 128 := (x 2).isLt
  have hr : (x 1).val < 256 := (x 1).isLt
  simp only [Matrix.cons_val] at e1 e2
  rw [attn, e1, e2, show (128 * h + (x 2).val) / 128 = h by omega, show 256 * (1 - 1) + (x 1).val = (x 1).val by omega]
  rw [eq_ix3 x]
  refine tileOne_apply _ _ T htri _ _ _ _ _ _ (fun s => ?_) (fun s => ?_)
  · refine Finset.sum_congr rfl fun d _ => ?_
    exact congrArg₂ (· * ·) (ld_cell Q _ _ _ _ _ _ (by show 256 * (1 - 1) + (x 1).val = (x 1).val; omega) rfl)
      (ld_cell K _ _ _ _ _ _ (by show 0 + s.val = s.val; omega) rfl)
  · exact ld_cell V _ _ _ _ _ _ (by show 0 + s.val = s.val; omega) rfl

theorem piece_at (n N h : ℕ) (hn : 2 ≤ n) (hn' : n ≤ 8) (hN : N = 256 * n) (hk : (⟨3, ![1, N, 128]⟩ : Shape).ShapeCasts ⟨2, ![N, 128]⟩)
    (hh : h ≤ 1) (x : (piece (F := Ideal) T Q K V n N h hn hn' hN hk hh).1.shape.Idx) :
    (piece (F := Ideal) T Q K V n N h hn hn' hN hk hh).2 x = attn Q K V ((piece (F := Ideal) T Q K V n N h hn hn' hN hk hh).1.emb x) := by
  have e0 : ∀ a, ((piece (F := Ideal) T Q K V n N h hn hn' hN hk hh).1.emb x a).val = ![0, 256 * (n - 1), 128 * h] a + (x a).val := fun a => ValueKit.rect_emb_unit_val _ _ (inbRow hn' hh) x a
  have e1 := e0 1
  have e2 := e0 2
  have hd : (x 2).val < 128 := (x 2).isLt
  simp only [Matrix.cons_val] at e1 e2
  rw [attn, e1, e2, show (128 * h + (x 2).val) / 128 = h by omega]
  rw [eq_ix3 x]
  refine tile_apply _ _ hn hN hk T htri _ _ _ _ _ _ (fun s => ?_) (fun s => ?_)
  · refine Finset.sum_congr rfl fun d _ => ?_
    exact congrArg₂ (· * ·) (ld_cell Q _ _ _ _ _ _ rfl rfl) (ld_cell K _ _ _ _ _ _ (by show 0 + s.val = s.val; omega) rfl)
  · exact ld_cell V _ _ _ _ _ _ (by show 0 + s.val = s.val; omega) rfl

/-- The attention's stores together, at an index. -/
theorem pieces_apply (y : S1x2048x256.Idx) : View.canon (pieces (F := Ideal) T Q K V) y = attn Q K V y := by
  refine View.canon_apply_of_pieces (Val := Elt Ideal) (e := .bf16) (attn Q K V) _ ?_ y (View.cover_of_tiledL _ ![1, 256, 128] (by sl_kernel_rfl) y)
  simp only [pieces, List.forall_mem_cons]
  have hp := piece_at T htri Q K V
  exact ⟨hp 8 _ 1 _ _ _ _ _, hp 8 _ 0 _ _ _ _ _, hp 7 _ 1 _ _ _ _ _, hp 7 _ 0 _ _ _ _ _, hp 6 _ 1 _ _ _ _ _, hp 6 _ 0 _ _ _ _ _,
    hp 5 _ 1 _ _ _ _ _, hp 5 _ 0 _ _ _ _ _, hp 4 _ 1 _ _ _ _ _, hp 4 _ 0 _ _ _ _ _, hp 3 _ 1 _ _ _ _ _, hp 3 _ 0 _ _ _ _ _,
    hp 2 _ 1 _ _ _ _ _, hp 2 _ 0 _ _ _ _ _, pieceOne_at T htri Q K V 1 _, pieceOne_at T htri Q K V 0 _, fun _ h => absurd h (List.not_mem_nil)⟩

end Attention

/-- A block of the gate projection at an index. -/
theorem gateBlock_apply (hrows : FVec Ideal ⟨3, ![1, 256, 2048]⟩ .bf16) (w : FVec Ideal ⟨2, ![2048, 256]⟩ .bf16) (u : Fin 1) (r d : Fin 256) :
    gateBlock (F := Ideal) hrows w (ix3 u r d) = ∑ k : Fin 2048, hrows (ix3 (0 : Fin 1) r k) * w (ix2 k d) := by
  unfold gateBlock
  rw [shapeCast_ab_1ab_apply, truncf_apply]
  show FloatOps.matmul (F := Ideal) (DotDims.plain 256 2048 256) none _ _ _ (ix2 r d) = _
  rw [Ideal.matmul_plain_apply]
  show Ideal.ofBits .f32 0x00000000#32 + _ = _
  rw [Ideal.ofBits_zero_f32, zero_add]
  exact Finset.sum_congr rfl fun s _ => by rw [shapeCast_1ab_ab_apply]

/-- A block of the gate's output at an index. -/
def gate (H : S1x2048x2048.Idx → EReal) (W : ℕ → ℕ → EReal) (y : S1x2048x1024.Idx) : EReal :=
  ∑ k : Fin 2048, cell H (y 1).val k.val * W k.val (y 2).val

theorem gatePiece_at (H : S1x2048x2048.Idx → EReal) (W) (W' : ℕ → ℕ → EReal)
    (hW : ∀ j (hj : j ≤ 3) (k : Fin 2048) (d : Fin 256), W (Rect.unit (s := S2048x1024) ![0, 256 * j] ![2048, 256] (inbCols hj)) (ix2 k d) = W' k.val (256 * j + d.val))
    (i j : ℕ) (hi : i ≤ 7) (hj : j ≤ 3) (x : (gatePiece (F := Ideal) H W i j hi hj).1.shape.Idx) :
    (gatePiece (F := Ideal) H W i j hi hj).2 x = gate H W' ((gatePiece (F := Ideal) H W i j hi hj).1.emb x) := by
  have e0 : ∀ a, ((gatePiece (F := Ideal) H W i j hi hj).1.emb x a).val = ![0, 256 * i, 256 * j] a + (x a).val := fun a => ValueKit.rect_emb_unit_val _ _ (inbGate hi hj) x a
  have e1 := e0 1
  have e2 := e0 2
  simp only [Matrix.cons_val] at e1 e2
  rw [gate, e1, e2, eq_ix3 x]
  refine (gateBlock_apply _ _ _ _ _).trans (Finset.sum_congr rfl fun k _ => ?_)
  exact congrArg₂ (· * ·) (ld_cell H _ _ _ _ _ _ rfl (Nat.zero_add _)) (hW j hj k (x 2))

/-- The gate projection's stores together, at an index. -/
theorem gatePieces_apply (H : S1x2048x2048.Idx → EReal) (W) (W' : ℕ → ℕ → EReal)
    (hW : ∀ j (hj : j ≤ 3) (k : Fin 2048) (d : Fin 256), W (Rect.unit (s := S2048x1024) ![0, 256 * j] ![2048, 256] (inbCols hj)) (ix2 k d) = W' k.val (256 * j + d.val))
    (y : S1x2048x1024.Idx) : View.canon (gatePieces (F := Ideal) H W) y = gate H W' y := by
  refine View.canon_apply_of_pieces (Val := Elt Ideal) (e := .bf16) (gate H W') _ ?_ y (View.cover_of_tiledL _ ![1, 256, 256] (by sl_kernel_rfl) y)
  have hr : ∀ i (hi : i ≤ 7), ∀ p ∈ gateRow (F := Ideal) H W i hi, ∀ x : p.1.shape.Idx, p.2 x = gate H W' (p.1.emb x) := by
    intro i hi
    simp only [gateRow, List.forall_mem_cons]
    exact ⟨gatePiece_at H W W' hW i 3 hi _, gatePiece_at H W W' hW i 2 hi _, gatePiece_at H W W' hW i 1 hi _, gatePiece_at H W W' hW i 0 hi _,
      fun _ h => absurd h (List.not_mem_nil)⟩
  intro p hp
  simp only [gatePieces, List.mem_append] at hp
  rcases hp with ((((((hp | hp) | hp) | hp) | hp) | hp) | hp) | hp <;> exact hr _ _ p hp

/-- The gate's weights as kept: two blocks side by side. -/
def kept (w0 w1 : S1x2048x512.Idx → EReal) (k n : ℕ) : EReal := if n < 512 then cell w0 k n else cell w1 k (n - 512)

theorem half_apply (w : S1x2048x512.Idx → EReal) (k : Fin 2048) (n : Fin 512) : half (F := Ideal) w (ix2 k n) = cell w k.val n.val := by
  unfold half
  rw [shapeCast_apply _ _ (ix2 k n) (ix2 k n) rfl, truncf_apply, shapeCast_1ab_ab_apply]
  exact ld_cell w _ _ _ _ _ _ (Nat.zero_add _) (Nat.zero_add _)

theorem keptPieces_apply (w0 w1 : S1x2048x512.Idx → EReal) (y : S2048x1024.Idx) :
    View.canon (keptPieces (F := Ideal) w0 w1) y = kept w0 w1 (y 0).val (y 1).val := by
  refine View.canon_apply_of_pieces (Val := Elt Ideal) (e := .bf16) (fun y => kept w0 w1 (y 0).val (y 1).val) _ ?_ y (View.cover_of_tiledL _ ![2048, 512] (by sl_kernel_rfl) y)
  simp only [keptPieces, List.forall_mem_cons]
  refine ⟨fun x => ?_, fun x => ?_, fun _ h => absurd h (List.not_mem_nil)⟩
  · have h1 : (x 1).val < 512 := (x 1).isLt
    have e0 := ValueKit.rect_emb_unit_val (s := S2048x1024) ![0, 512] ![2048, 512] (by decide) x
    rw [e0, e0]
    show half (F := Ideal) w1 x = kept w0 w1 (0 + (x 0).val) (512 + (x 1).val)
    rw [kept, if_neg (by omega), Nat.zero_add, Nat.add_sub_cancel_left, eq_ix2 x]
    exact half_apply w1 _ _
  · have h1 : (x 1).val < 512 := (x 1).isLt
    have e0 := ValueKit.rect_emb_unit_val (s := S2048x1024) ![0, 0] ![2048, 512] (by decide) x
    rw [e0, e0]
    show half (F := Ideal) w0 x = kept w0 w1 (0 + (x 0).val) (0 + (x 1).val)
    rw [kept, if_pos (by omega), Nat.zero_add, Nat.zero_add, eq_ix2 x]
    exact half_apply w0 _ _

/-- The triangle as read is the triangle. -/
theorem triOf_apply (x : S256x256.Idx → EReal) (a b : Fin 256) : triOf (F := Ideal) x (ix2 a b) = x (ix2 a b) := by
  unfold triOf
  rw [shapeCast_apply _ _ (ix2 a b) (ix2 a b) rfl]
  refine congrArg x (funext fun i => Fin.ext ?_)
  rw [Rect.idx_unit_val]
  match i with
  | ⟨0, _⟩ => exact Nat.zero_add _
  | ⟨1, _⟩ => exact Nat.zero_add _

end Cert.Stick
end
-- ==== Proof.Entry.lean ====
/-
  What the kernel finds in its input arrays: the queries scaled beforehand beside the keys and the values, and the triangle.
-/
module

public import proofs.«01_k».proof.Proof.Gen.KernelIdeal.Value
public import proofs.«01_k».proof.Proof.Ref
public import proofs.«01_k».proof.Proof.Attn

@[expose] public section

set_option maxRecDepth 16384

noncomputable section

namespace Cert.Stick

open Cert.KernelIdeal Cert.KernelIdeal.Gen
open Idealize.ShloMosaic Idealize.ShloMosaic.TcCoe Idealize.ShloMosaic.Tactic Idealize.ShloMosaic.ValueIdx
open scoped BigOperators

/-- A literal's value. -/
theorem ofBits_2 : Ideal.ofBits .f32 0x40000000#32 = ((2 : ℝ) : EReal) := by
  simp [Ideal.ofBits, Ideal.ieee, -EReal.coe_mul]; norm_num

/-- The queries' scale: the reciprocal of the root of the head's width times the natural logarithm of two. -/
theorem scale_value : Ideal.div (Ideal.ofBits .f32 0x3F800000#32) (Ideal.sqrt (Ideal.ofBits .f32 0x43000000#32) * Ideal.log (Ideal.ofBits .f32 0x40000000#32))
    = (((1 / (Real.sqrt 128 * Real.log 2)) : ℝ) : EReal) := by
  have h0 : Real.sqrt 128 * Real.log 2 ≠ 0 := mul_ne_zero (Real.sqrt_pos.2 (by norm_num)).ne' log2_pos.ne'
  rw [Ideal.ofBits_one_f32, ofBits_128, ofBits_2, Ideal.sqrt_coe, if_neg (by norm_num), Ideal.log_coe, if_neg (by norm_num), ← EReal.coe_mul,
    Ideal.div_coe h0, one_mul]

/-- Comparing two coordinates as signed words. -/
theorem slt_if (a b : ℕ) (ha : a < 2 ^ 31) (hb : b < 2 ^ 31) : IntOp.cmpi .slt (BitVec.ofNat 32 a) (BitVec.ofNat 32 b) = if a < b then 1#1 else 0#1 := by
  show BitVec.ofBool ((BitVec.ofNat 32 a).slt (BitVec.ofNat 32 b)) = _
  rw [BitVec.slt, WordCmp.toInt_ofNat_of_lt ha, WordCmp.toInt_ofNat_of_lt hb]
  by_cases h : a < b
  · rw [if_pos h, decide_eq_true (by exact_mod_cast h)]; rfl
  · rw [if_neg h, decide_eq_false (by exact_mod_cast h)]; rfl

/-- What a column is scaled by. -/
def factor (d : ℕ) : EReal := if d < 1024 then (((1 / (Real.sqrt 128 * Real.log 2)) : ℝ) : EReal) else 1

variable (m : (ℓ : Loc nD τ sig) → Buf (Elt Ideal) ℓ)

/-- The queries, keys and values as given. -/
def qkvIn (c : Dev nD) : S4x2048x3072.Idx → EReal := m ((c : Thread nD τ).loc main_arg0)
/-- The hidden states as given. -/
def hIn (c : Dev nD) : S4x2048x2048.Idx → EReal := m ((c : Thread nD τ).loc main_arg1)
/-- The weights as given. -/
def wIn (c : Dev nD) : S1x2048x11776.Idx → EReal := m ((c : Thread nD τ).loc main_arg2)
/-- The queries, keys and values with the queries scaled. -/
def scaledIn (c : Dev nD) : S4x2048x3072.Idx → EReal := V m c main_v12
/-- The triangle. -/
def triIn (c : Dev nD) : S256x256.Idx → EReal := V m c main_v19

/-- The scaled array, at an index. -/
theorem V_scaled (c : Dev nD) (y : S4x2048x3072.Idx) :
    scaledIn m c y = qkvIn m c y * factor (y 2).val := by
  unfold scaledIn
  simp only [V, List.flatten_cons, List.flatten_nil, List.append_nil, List.cons_append, List.nil_append]
  simp only [StableHlo.TRef.binary, StableHlo.TRef.nullary, StableHlo.TRef.ternary, StableHlo.TRef.unary, StableHlo.TRef.toBuf, StableHlo.TRef.ofBuf, cast_eq]
  after_results_simp
  rw [truncf_apply, mulf_apply, extf_apply]
  refine congrArg (fun t : EReal => qkvIn m c y * t) ?_
  rw [broadcastInDim_apply _ bcast_S1x1x3072_S4x2048x3072_0_1_2 _ y (ix3 (0 : Fin 1) (0 : Fin 1) (y 2)) (fun a => by
      match a with
      | ⟨0, _⟩ => rfl
      | ⟨1, _⟩ => rfl
      | ⟨2, _⟩ => rfl),
    broadcastInDim_apply _ bcast_S3072_S1x1x3072_2 _ _ (ix1 (y 2)) (fun a => by
      match a with
      | ⟨0, _⟩ => rfl)]
  have hy : (y 2).val < 3072 := (y 2).isLt
  refine (congrArg (fun w => Scalar.select w _ _) (slt_if (y 2).val 1024 (by omega) (by omega))).trans ?_
  refine (select_if _ _).trans ?_
  exact congrArg₂ (fun a b : EReal => if (y 2).val < 1024 then a else b) scale_value Ideal.ofBits_one_f32

/-- The triangle, at an index. -/
theorem V_triangle (c : Dev nD) (a b : Fin 256) :
    triIn m c (ix2 a b) = if b.val < a.val then 1 else 0 := by
  unfold triIn
  simp only [V, List.flatten_cons, List.flatten_nil, List.append_nil, List.cons_append, List.nil_append]
  simp only [StableHlo.TRef.binary, StableHlo.TRef.nullary, StableHlo.TRef.ternary, StableHlo.TRef.unary, StableHlo.TRef.toBuf, StableHlo.TRef.ofBuf, cast_eq]
  after_results_simp
  have ha := a.isLt
  have hb := b.isLt
  refine (congrArg (fun w => FloatOps.uitofp (F := Ideal) .bf16 w) (slt_if b.val a.val (by omega) (by omega))).trans ?_
  by_cases h : b.val < a.val
  · rw [if_pos h, if_pos h]
    show (((1#1).toNat : ℝ) : EReal) = 1
    simp
  · rw [if_neg h, if_neg h]
    show (((0#1).toNat : ℝ) : EReal) = 0
    simp

/-! ## The blocks a point reads: batch element `t % 4`, pair of heads `t / 4`. -/

theorem index_0 : ∀ t : Fin cfg0.N, win0_0.index t = ![t.val % 4, 0, t.val / 4] := (by decide +kernel : ∀ t : Fin grid0.N, win0_0.index t = ![t.val % 4, 0, t.val / 4])
theorem index_1 : ∀ t : Fin cfg0.N, win0_1.index t = ![0, 0, 15 + 2 * (t.val / 4)] := (by decide +kernel : ∀ t : Fin grid0.N, win0_1.index t = ![0, 0, 15 + 2 * (t.val / 4)])
theorem index_2 : ∀ t : Fin cfg0.N, win0_2.index t = ![0, 0, 16 + 2 * (t.val / 4)] := (by decide +kernel : ∀ t : Fin grid0.N, win0_2.index t = ![0, 0, 16 + 2 * (t.val / 4)])
theorem index_3 : ∀ t : Fin cfg0.N, win0_3.index t = ![t.val % 4, 0, 4 + t.val / 4] := (by decide +kernel : ∀ t : Fin grid0.N, win0_3.index t = ![t.val % 4, 0, 4 + t.val / 4])
theorem index_4 : ∀ t : Fin cfg0.N, win0_4.index t = ![t.val % 4, 0, 8 + t.val / 4] := (by decide +kernel : ∀ t : Fin grid0.N, win0_4.index t = ![t.val % 4, 0, 8 + t.val / 4])
theorem index_5 : ∀ t : Fin cfg0.N, win0_5.index t = ![0, 0] := (by decide +kernel : ∀ t : Fin grid0.N, win0_5.index t = ![0, 0])
theorem index_6 : ∀ t : Fin cfg0.N, win0_6.index t = ![t.val % 4, 0, 0] := (by decide +kernel : ∀ t : Fin grid0.N, win0_6.index t = ![t.val % 4, 0, 0])

/-- The entry of an array as read, at an entry of a block whose place in the array is known. -/
theorem cell_at {a n w m' : ℕ} (A : (⟨3, ![a, n, w]⟩ : Shape).Idx → EReal) (B : (⟨3, ![1, n, m']⟩ : Shape).Idx → EReal) (b off : ℕ)
    (h : ∀ y : (⟨3, ![1, n, m']⟩ : Shape).Idx, B y = at3 A b (y 1).val (off + (y 2).val)) (s d : ℕ) (hd : d < m') :
    cell B s d = at3 A b s (off + d) := by
  by_cases hs : s < n
  · rw [cell, dif_pos ⟨hs, hd⟩]
    exact h (ix3 (0 : Fin 1) ⟨s, hs⟩ ⟨d, hd⟩)
  · rw [cell, dif_neg (fun h => hs h.1), at3, dif_neg (fun h => hs h.2.1)]

variable (c : Dev nD) (t : Fin cfg0.N)

/-- The queries' block. -/
def qBlk : S1x2048x256.Idx → EReal := iblk m c 0 t
/-- The blocks of the gate's weights. -/
def w0Blk : S1x2048x512.Idx → EReal := iblk m c 1 t
def w1Blk : S1x2048x512.Idx → EReal := iblk m c 2 t
/-- The keys' block. -/
def kBlk : S1x2048x256.Idx → EReal := iblk m c 3 t
/-- The values' block. -/
def vBlk : S1x2048x256.Idx → EReal := iblk m c 4 t
/-- The triangle's block. -/
def triBlk : S256x256.Idx → EReal := iblk m c 5 t
/-- The hidden states' block. -/
def hBlk : S1x2048x2048.Idx → EReal := iblk m c 6 t

theorem read_0 (y : S1x2048x256.Idx) : qBlk m c t y = at3 (scaledIn m c) (t.val % 4) (y 1).val (256 * (t.val / 4) + (y 2).val) := by
  have h0 : (y 0).val < 1 := (y 0).isLt
  refine (at3_eq (scaledIn m c) _ _ _ (((cfg0.win 0).blk t).view.emb y) ?_ ?_ ?_).symm
  · show win0_0.index t 0 * 1 + 1 * (y 0).val = _
    rw [index_0]; show t.val % 4 * 1 + 1 * (y 0).val = _; omega
  · show win0_0.index t 1 * 2048 + 1 * (y 1).val = _
    rw [index_0]; show 0 * 2048 + 1 * (y 1).val = _; omega
  · show win0_0.index t 2 * 256 + 1 * (y 2).val = _
    rw [index_0]; show t.val / 4 * 256 + 1 * (y 2).val = _; omega

theorem read_3 (y : S1x2048x256.Idx) : kBlk m c t y = at3 (scaledIn m c) (t.val % 4) (y 1).val (1024 + 256 * (t.val / 4) + (y 2).val) := by
  have h0 : (y 0).val < 1 := (y 0).isLt
  refine (at3_eq (scaledIn m c) _ _ _ (((cfg0.win 3).blk t).view.emb y) ?_ ?_ ?_).symm
  · show win0_3.index t 0 * 1 + 1 * (y 0).val = _
    rw [index_3]; show t.val % 4 * 1 + 1 * (y 0).val = _; omega
  · show win0_3.index t 1 * 2048 + 1 * (y 1).val = _
    rw [index_3]; show 0 * 2048 + 1 * (y 1).val = _; omega
  · show win0_3.index t 2 * 256 + 1 * (y 2).val = _
    rw [index_3]; show (4 + t.val / 4) * 256 + 1 * (y 2).val = _; omega

theorem read_4 (y : S1x2048x256.Idx) : vBlk m c t y = at3 (scaledIn m c) (t.val % 4) (y 1).val (2048 + 256 * (t.val / 4) + (y 2).val) := by
  have h0 : (y 0).val < 1 := (y 0).isLt
  refine (at3_eq (scaledIn m c) _ _ _ (((cfg0.win 4).blk t).view.emb y) ?_ ?_ ?_).symm
  · show win0_4.index t 0 * 1 + 1 * (y 0).val = _
    rw [index_4]; show t.val % 4 * 1 + 1 * (y 0).val = _; omega
  · show win0_4.index t 1 * 2048 + 1 * (y 1).val = _
    rw [index_4]; show 0 * 2048 + 1 * (y 1).val = _; omega
  · show win0_4.index t 2 * 256 + 1 * (y 2).val = _
    rw [index_4]; show (8 + t.val / 4) * 256 + 1 * (y 2).val = _; omega

theorem read_6 (y : S1x2048x2048.Idx) : hBlk m c t y = at3 (hIn m c) (t.val % 4) (y 1).val (0 + (y 2).val) := by
  have h0 : (y 0).val < 1 := (y 0).isLt
  refine (congrFun (V_main_arg1 m c) _).trans (at3_eq (hIn m c) _ _ _ (((cfg0.win 6).blk t).view.emb y) ?_ ?_ ?_).symm
  · show win0_6.index t 0 * 1 + 1 * (y 0).val = _
    rw [index_6]; show t.val % 4 * 1 + 1 * (y 0).val = _; omega
  · show win0_6.index t 1 * 2048 + 1 * (y 1).val = _
    rw [index_6]; show 0 * 2048 + 1 * (y 1).val = _; omega
  · show win0_6.index t 2 * 2048 + 1 * (y 2).val = _
    rw [index_6]; show 0 * 2048 + 1 * (y 2).val = _; omega

theorem read_1 (y : S1x2048x512.Idx) : w0Blk m c t y = at3 (wIn m c) 0 (y 1).val (7680 + 1024 * (t.val / 4) + (y 2).val) := by
  have h0 : (y 0).val < 1 := (y 0).isLt
  refine (congrFun (V_main_arg2 m c) _).trans (at3_eq (wIn m c) _ _ _ (((cfg0.win 1).blk t).view.emb y) ?_ ?_ ?_).symm
  · show win0_1.index t 0 * 1 + 1 * (y 0).val = _
    rw [index_1]; show 0 * 1 + 1 * (y 0).val = _; omega
  · show win0_1.index t 1 * 2048 + 1 * (y 1).val = _
    rw [index_1]; show 0 * 2048 + 1 * (y 1).val = _; omega
  · show win0_1.index t 2 * 512 + 1 * (y 2).val = _
    rw [index_1]; show (15 + 2 * (t.val / 4)) * 512 + 1 * (y 2).val = _; omega

theorem read_2 (y : S1x2048x512.Idx) : w1Blk m c t y = at3 (wIn m c) 0 (y 1).val (8192 + 1024 * (t.val / 4) + (y 2).val) := by
  have h0 : (y 0).val < 1 := (y 0).isLt
  refine (congrFun (V_main_arg2 m c) _).trans (at3_eq (wIn m c) _ _ _ (((cfg0.win 2).blk t).view.emb y) ?_ ?_ ?_).symm
  · show win0_2.index t 0 * 1 + 1 * (y 0).val = _
    rw [index_2]; show 0 * 1 + 1 * (y 0).val = _; omega
  · show win0_2.index t 1 * 2048 + 1 * (y 1).val = _
    rw [index_2]; show 0 * 2048 + 1 * (y 1).val = _; omega
  · show win0_2.index t 2 * 512 + 1 * (y 2).val = _
    rw [index_2]; show (16 + 2 * (t.val / 4)) * 512 + 1 * (y 2).val = _; omega

/-- The triangle's block is the triangle. -/
theorem read_5 (a b : Fin 256) : triBlk m c t (ix2 a b) = if b.val < a.val then 1 else 0 := by
  refine Eq.trans ?_ (V_triangle m c a b)
  refine congrArg (triIn m c) (funext fun i => Fin.ext ?_)
  match i with
  | ⟨0, _⟩ =>
    show win0_5.index t 0 * 256 + 1 * a.val = a.val
    rw [index_5]; show 0 * 256 + 1 * a.val = a.val; omega
  | ⟨1, _⟩ =>
    show win0_5.index t 1 * 256 + 1 * b.val = b.val
    rw [index_5]; show 0 * 256 + 1 * b.val = b.val; omega

end Cert.Stick
end
-- ==== Proof.Final.lean ====
/-
  What the kernel leaves in its two output arrays: the attention's output and the gate projection.
-/
module

public import proofs.«01_k».proof.Proof.Entry
public import Idealize.ShloMosaic.Lib.Pipeline.ValueKit.Held

@[expose] public section

set_option maxRecDepth 16384

noncomputable section

namespace Cert.Stick

open Cert.KernelIdeal Cert.KernelIdeal.Gen
open Idealize.ShloMosaic Idealize.ShloMosaic.TcCoe Idealize.ShloMosaic.Tactic Idealize.ShloMosaic.ValueIdx
open scoped BigOperators

variable (m : (ℓ : Loc nD τ sig) → Buf (Elt Ideal) ℓ) (c : Dev nD)

/-- An entry of the scaled array is the entry given, scaled. -/
theorem at3_scaled (b s d : ℕ) : at3 (scaledIn m c) b s d = at3 (qkvIn m c) b s d * factor d := by
  by_cases h : b < 4 ∧ s < 2048 ∧ d < 3072
  · rw [at3, dif_pos h, at3, dif_pos h]
    exact V_scaled m c _
  · rw [at3, dif_neg h, at3, dif_neg h, zero_mul]

/-- The scores of a point in base two. -/
theorem logit_point (t : Fin cfg0.N) (h r s : ℕ) (hh : h < 2) :
    logit (qBlk m c t) (kBlk m c t) h r s = scaled (qkvIn m c) (t.val % 4) (2 * (t.val / 4) + h) r s * lg := by
  have ht : t.val < 16 := lt_of_lt_of_eq t.isLt N_0
  rw [scaled, product, ← scale_sum]
  unfold logit
  refine Finset.sum_congr rfl fun d _ => ?_
  have hd := d.isLt
  rw [cell_at (scaledIn m c) (qBlk m c t) _ _ (read_0 m c t) r _ (by omega), cell_at (scaledIn m c) (kBlk m c t) _ _ (read_3 m c t) s _ (by omega),
    at3_scaled, at3_scaled, factor, if_pos (by omega), factor, if_neg (by omega), mul_one,
    show 256 * (t.val / 4) + (128 * h + d.val) = 128 * (2 * (t.val / 4) + h) + d.val by omega,
    show 1024 + 256 * (t.val / 4) + (128 * h + d.val) = 1024 + (128 * (2 * (t.val / 4) + h) + d.val) by omega]

/-- What a point computes of the attention. -/
theorem attn_point (t : Fin cfg0.N) (y : S1x2048x256.Idx) :
    attn (qBlk m c t) (kBlk m c t) (vBlk m c t) y = attended (qkvIn m c) (t.val % 4) (y 1).val (256 * (t.val / 4) + (y 2).val) := by
  have ht : t.val < 16 := lt_of_lt_of_eq t.isLt N_0
  have h1 : (y 1).val < 2048 := (y 1).isLt
  have h2 : (y 2).val < 256 := (y 2).isLt
  rw [attn, mix_eq _ (scaled (qkvIn m c) (t.val % 4) (2 * (t.val / 4) + (y 2).val / 128) (y 1).val) _ (fun s => logit_point m c t _ _ s (by omega)) _ 2048 (by omega),
    attended, show (256 * (t.val / 4) + (y 2).val) / 128 = 2 * (t.val / 4) + (y 2).val / 128 by omega]
  refine Finset.sum_congr rfl fun s _ => ?_
  refine congrArg (· * _) ?_
  rw [cell_at (scaledIn m c) (vBlk m c t) _ _ (read_4 m c t) _ _ h2, at3_scaled, factor, if_neg (by omega), mul_one, Nat.add_assoc]

/-- The gate's weights as kept by a pair of heads. -/
theorem kept_point (t : Fin cfg0.N) (k n : ℕ) (hn : n < 1024) :
    kept (w0Blk m c t) (w1Blk m c t) k n = at3 (wIn m c) 0 k (7680 + 1024 * (t.val / 4) + n) := by
  unfold kept
  by_cases h : n < 512
  · rw [if_pos h, cell_at (wIn m c) (w0Blk m c t) _ _ (read_1 m c t) _ _ h]
  · rw [if_neg h, cell_at (wIn m c) (w1Blk m c t) _ _ (read_2 m c t) _ _ (by omega),
      show 8192 + 1024 * (t.val / 4) + (n - 512) = 7680 + 1024 * (t.val / 4) + n by omega]

/-- What a point computes of the gate projection, over the weights its pair of heads keeps. -/
theorem gate_point (t : Fin cfg0.N) (y : S1x2048x1024.Idx) :
    gate (hBlk m c t) (fun k n => at3 (wIn m c) 0 k (7680 + 1024 * (t.val / 4) + n)) y = projected (hIn m c) (wIn m c) (t.val % 4) (y 1).val (1024 * (t.val / 4) + (y 2).val) := by
  unfold gate projected
  refine Finset.sum_congr rfl fun k _ => ?_
  rw [cell_at (hIn m c) (hBlk m c t) _ _ (read_6 m c t) _ _ k.isLt, Nat.zero_add, ← Nat.add_assoc 7680]

/-- The first point of a pair of heads keeps the gate's weights. -/
theorem keeps (t : Fin cfg0.N) (h0 : t.val % 4 = 0) : (outsAt0 m c t.val t.isLt).2.2 = View.canon (keptPieces (F := Ideal) (w0Blk m c t) (w1Blk m c t)) := by
  rw [outsAt0_A m c t h0]
  dsimp only
  exact sout_A_0 (F := Ideal) ..

/-- A later point leaves them. -/
theorem leaves (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  dsimp only
  exact sout_B_0 (F := Ideal) ..

/-- The weights kept after any point. -/
theorem weights_kept (t : Fin cfg0.N) (y : S2048x1024.Idx) :
    ((outsAt0 m c t.val t.isLt).2.2 : S2048x1024.Idx → EReal) y = at3 (wIn m c) 0 (y 0).val (7680 + 1024 * (t.val / 4) + (y 1).val) := by
  have h := Pipeline.eq_of_write_hold_apply (fun n hn => ((outsAt0 m c n hn).2.2 : S2048x1024.Idx → EReal)) 4
    (fun t => (View.canon (keptPieces (F := Ideal) (w0Blk m c t) (w1Blk m c t)) : S2048x1024.Idx → EReal))
    (fun t h0 i => congrFun (keeps m c t h0) i) (fun t h0 i => congrFun (leaves m c t h0) i) t y
  refine h.trans ((keptPieces_apply _ _ y).trans ((kept_point m c _ _ _ (y 1).isLt).trans ?_))
  rw [show 4 * (t.val / 4) / 4 = t.val / 4 by omega]

/-- The gate projection's stores, over kept weights whose entries are known. -/
theorem gate_of (H : S1x2048x2048.Idx → EReal) (W : S2048x1024.Idx → EReal) (W' : ℕ → ℕ → EReal) (hW : ∀ y, W y = W' (y 0).val (y 1).val) (y : S1x2048x1024.Idx) :
    View.canon (gatePieces (F := Ideal) H (fun r => View.ld (Val := Elt Ideal) (e' := .bf16) W r)) y = gate H W' y := by
  refine gatePieces_apply H (fun r => View.ld (Val := Elt Ideal) (e' := .bf16) W r) W' (fun j hj k d => ?_) y
  show W ((Rect.unit (s := S2048x1024) ![0, 256 * j] ![2048, 256] (inbCols hj)).idx (ix2 k d)) = _
  rw [hW, Rect.idx_unit_val, Rect.idx_unit_val]
  show W' (0 + k.val) (256 * j + d.val) = _
  rw [Nat.zero_add]

/-- What any point leaves of the attention. -/
theorem point_attn (t : Fin cfg0.N) (y : S1x2048x256.Idx) :
    ((outsAt0 m c t.val t.isLt).1 : S1x2048x256.Idx → EReal) y = attended (qkvIn m c) (t.val % 4) (y 1).val (256 * (t.val / 4) + (y 2).val) := by
  have e : (outsAt0 m c t.val t.isLt).1 = View.canon (pieces (F := Ideal) (triOf (triBlk m c t)) (qBlk m c t) (kBlk m c t) (vBlk m c t)) := by
    by_cases h0 : t.val % 4 = 0
    · rw [outsAt0_A m c t h0]
      dsimp only
      exact out_A_7 (F := Ideal) ..
    · rw [outsAt0_B m c t h0]
      dsimp only
      exact out_B_7 (F := Ideal) ..
  rw [e, ← attn_point]
  exact pieces_apply _ (fun a b => (triOf_apply _ a b).trans (read_5 m c t a b)) _ _ _ y

/-- What any point leaves of the gate projection. -/
theorem point_gate (t : Fin cfg0.N) (y : S1x2048x1024.Idx) :
    ((outsAt0 m c t.val t.isLt).2.1 : S1x2048x1024.Idx → EReal) y = projected (hIn m c) (wIn m c) (t.val % 4) (y 1).val (1024 * (t.val / 4) + (y 2).val) := by
  rw [← gate_point]
  by_cases h0 : t.val % 4 = 0
  · have e : (outsAt0 m c t.val t.isLt).2.1 = View.canon (gatePieces (F := Ideal) (hBlk m c t) (fun r => View.ld (View.canon (keptPieces (F := Ideal) (w0Blk m c t) (w1Blk m c t))) r)) := by
      rw [outsAt0_A m c t h0]
      dsimp only
      exact out_A_8 (F := Ideal) ..
    rw [e]
    exact gate_of (hBlk m c t) _ _ (fun y => (keptPieces_apply _ _ y).trans (kept_point m c t _ _ (y 1).isLt)) y
  · have e : (outsAt0 m c t.val t.isLt).2.1 = View.canon (gatePieces (F := Ideal) (hBlk m c t) (fun r => View.ld (outsAt0 m c (t.val - 1) (Nat.lt_of_le_of_lt (Nat.sub_le _ _) t.isLt)).2.2 r)) := by
      rw [outsAt0_B m c t h0]
      dsimp only
      exact out_B_8 (F := Ideal) ..
    rw [e]
    refine gate_of (hBlk m c t) _ _ (fun y => ?_) y
    rw [← leaves m c t h0]
    exact weights_kept m c t y

/-- The attention's array after the run. -/
theorem G7_apply (b : Fin 4) (r : Fin 2048) (d : Fin 1024) :
    (Value.G7 m c : S4x2048x1024.Idx → EReal) (ix3 b r d) = attended (qkvIn m c) b.val r.val d.val := by
  have hb := b.isLt
  have hr := r.isLt
  have hd := d.isLt
  have hp : Value.pt7Of (ix3 b r d) = b.val + 4 * (d.val / 256) := by
    show 1 * (b.val / 1 - 0) + 4 * (r.val / 2048 - 0) + 4 * (d.val / 256 - 0) = _
    omega
  have hN : Value.pt7Of (ix3 b r d) < cfg0.N := by
    rw [hp, show cfg0.N = 16 from N_0]; omega
  unfold Value.G7
  rw [dif_pos hN, ← Value.outsAt0_sweep m c _ hN]
  refine (point_attn m c ⟨_, hN⟩ _).trans ?_
  show attended (qkvIn m c) (Value.pt7Of (ix3 b r d) % 4) (r.val % 2048) (256 * (Value.pt7Of (ix3 b r d) / 4) + d.val % 256) = _
  rw [hp, show (b.val + 4 * (d.val / 256)) % 4 = b.val by omega, show r.val % 2048 = r.val by omega,
    show 256 * ((b.val + 4 * (d.val / 256)) / 4) + d.val % 256 = d.val by omega]

/-- The gate projection's array after the run. -/
theorem G8_apply (b : Fin 4) (r : Fin 2048) (d : Fin 4096) :
    (Value.G8 m c : S4x2048x4096.Idx → EReal) (ix3 b r d) = projected (hIn m c) (wIn m c) b.val r.val d.val := by
  have hb := b.isLt
  have hr := r.isLt
  have hd := d.isLt
  have hp : Value.pt8Of (ix3 b r d) = b.val + 4 * (d.val / 1024) := by
    show 1 * (b.val / 1 - 0) + 4 * (r.val / 2048 - 0) + 4 * (d.val / 1024 - 0) = _
    omega
  have hN : Value.pt8Of (ix3 b r d) < cfg0.N := by
    rw [hp, show cfg0.N = 16 from N_0]; omega
  unfold Value.G8
  rw [dif_pos hN, ← Value.outsAt0_sweep m c _ hN]
  refine (point_gate m c ⟨_, hN⟩ _).trans ?_
  show projected (hIn m c) (wIn m c) (Value.pt8Of (ix3 b r d) % 4) (r.val % 2048) (1024 * (Value.pt8Of (ix3 b r d) / 4) + d.val % 1024) = _
  rw [hp, show (b.val + 4 * (d.val / 1024)) % 4 = b.val by omega, show r.val % 2048 = r.val by omega,
    show 1024 * ((b.val + 4 * (d.val / 1024)) / 4) + d.val % 1024 = d.val by omega]

end Cert.Stick
end
-- ==== Proof.Claims.lean ====
/-
  The claims: every run ends as it should, the named constant keeps the program, and the kernel's two results are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Final
public import Idealize.ShloMosaic.Adequacy
public import Idealize.ShloMosaic.Init

@[expose] public section

set_option maxRecDepth 16384

noncomputable section

namespace Cert.Stick

open Idealize.ShloMosaic Idealize.ShloMosaic.TcCoe Idealize.ShloMosaic.ValueIdx Idealize.SL.Sem

/-- The kernel runs to its end on any floats and leaves its arguments. -/
theorem frame_p : Cert.quiescent_Kernel := fun m g _ => Cert.Kernel.Gen.frame (F := Bits) m g

/-- The kernel over the extended reals runs to its end and leaves its arguments. -/
theorem frame_pi : Cert.quiescent_KernelIdeal := fun m g _ => Cert.KernelIdeal.Gen.frame (F := Ideal) m g

/-- The reference over the extended reals runs to its end and leaves its arguments. -/
theorem frame_ri : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The named constant is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-- The kernel's attention is the reference's. -/
theorem attention_eq (m : (ℓ : Loc Cert.KernelIdeal.nD Cert.KernelIdeal.τ Cert.KernelIdeal.sig) → Buf (Elt Ideal) ℓ) (c : Dev Cert.KernelIdeal.nD) :
    Cert.ReferenceIdeal.Read.val_main_v33 (F := Ideal) (qkvIn m c) = Cert.KernelIdeal.Value.G7 m c := funext fun y => by
  have e : y = ix3 (y 0) (y 1) (y 2) := eq_ix3 y
  rw [e]
  exact (ref_attended (qkvIn m c) (y 0) (y 1) (y 2)).trans (G7_apply m c (y 0) (y 1) (y 2)).symm

/-- The kernel's gate projection is the reference's. -/
theorem projection_eq (m : (ℓ : Loc Cert.KernelIdeal.nD Cert.KernelIdeal.τ Cert.KernelIdeal.sig) → Buf (Elt Ideal) ℓ) (c : Dev Cert.KernelIdeal.nD) :
    Cert.ReferenceIdeal.Read.val_main_v34 (F := Ideal) (hIn m c) (wIn m c) = Cert.KernelIdeal.Value.G8 m c := funext fun y => by
  have e : y = ix3 (y 0) (y 1) (y 2) := eq_ix3 y
  rw [e]
  exact (ref_projected (hIn m c) (wIn m c) (y 0) (y 1) (y 2)).trans (G8_apply m c (y 0) (y 1) (y 2)).symm

/-- Over the extended reals the kernel's results are the reference's. -/
theorem algebraic : Cert.algebraic_KernelIdeal_ReferenceIdeal := by
  intro m g m' g' _ hagree
  refine ⟨_, _, Cert.KernelIdeal.Value.run (F := Ideal) m g, ?_⟩
  refine (θ_run Cert.ReferenceIdeal.defs _ _).mono (fun _ h c => ⟨(h c).1.trans ?_, (h c).2.1.trans ?_, (h c).2.2⟩) (Cert.ReferenceIdeal.Value.run (F := Ideal) m' g')
  · rw [Cert.ReferenceIdeal.Read.val_main_v33_eq, (hagree c).1]
    exact attention_eq m c
  · rw [Cert.ReferenceIdeal.Read.val_main_v34_eq, (hagree c).2.1, (hagree c).2.2]
    exact projection_eq m c

end Cert.Stick

end
-- ==== Proof.SwigluPieces.lean ====
/-
  What the gated feed-forward call stores at a grid point: two blocks of rows of the gated products, and the two weights it keeps.
-/
module

public import proofs.«01_k».proof.Proof.Gen.Kernel2Ideal.Frame
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost

@[expose] public section

set_option maxRecDepth 16384

noncomputable section

namespace Cert.Swiglu

open Cert.Kernel2Ideal Cert.Kernel2Ideal.Gen
open Idealize.ShloMosaic Idealize.ShloMosaic.TcCoe Idealize.ShloMosaic.Tactic Idealize.ShloMosaic.ValueIdx
open scoped BigOperators

variable {F : FTy → Type} [FloatOps F]

/-- A block of rows times the kept weights. -/
def times (hrows : FVec F ⟨2, ![1024, 2048]⟩ .bf16) (w : FVec F ⟨2, ![2048, 512]⟩ .bf16) : FVec F ⟨2, ![1024, 512]⟩ .f32 :=
  matmul (DotDims.plain 1024 2048 512) none (shapeCast ⟨2, ![1024, 2048]⟩ hrows (by decide)) w (constant ⟨2, ![1024, 512]⟩ .f32 0x00000000#32)

/-- The gate's product times its logistic, times the other product. -/
def gated (g u : FVec F ⟨2, ![1024, 512]⟩ .f32) : FVec F ⟨2, ![1024, 512]⟩ .bf16 :=
  truncf .bf16 (mulf (mulf g (divf (broadcast ⟨2, ![1024, 512]⟩ (Scalar.ofBits .f32 0x3F800000#32))
    (addf (broadcast ⟨2, ![1024, 512]⟩ (Scalar.ofBits .f32 0x3F800000#32)) (exp (subf (broadcast ⟨2, ![1024, 512]⟩ (Scalar.ofBits .f32 0x00000000#32)) g))))) u)

theorem inbOut {n : ℕ} (hn : n ≤ 1) (a : Fin 2) : (![1024 * n, 0] : Fin 2 → Nat) a + (![1024, 512] : Fin 2 → Nat) a ≤ S2048x512.size a := by
  match a with
  | ⟨0, _⟩ => show 1024 * n + 1024 ≤ 2048; omega
  | ⟨1, _⟩ => exact Nat.le_refl 512

theorem inbIn {n : ℕ} (hn : n ≤ 1) (a : Fin 2) : (![1024 * n, 0] : Fin 2 → Nat) a + (![1024, 2048] : Fin 2 → Nat) a ≤ S2048x2048.size a := by
  match a with
  | ⟨0, _⟩ => show 1024 * n + 1024 ≤ 2048; omega
  | ⟨1, _⟩ => exact Nat.le_refl 2048

/-- The store of the `n`-th block of rows. -/
def piece (H : Vec F S2048x2048 .bf16) (G U : FVec F ⟨2, ![2048, 512]⟩ .bf16) (n : ℕ) (hn : n ≤ 1) : View.Piece (Elt F) S2048x512 .bf16 :=
  ⟨Rect.unit ![1024 * n, 0] ![1024, 512] (inbOut hn),
    gated (times (View.ld H (Rect.unit ![1024 * n, 0] ![1024, 2048] (inbIn hn))) G) (times (View.ld H (Rect.unit ![1024 * n, 0] ![1024, 2048] (inbIn hn))) U)⟩

/-- The stores of a point, the last first. -/
def pieces (H : Vec F S2048x2048 .bf16) (G U : FVec F ⟨2, ![2048, 512]⟩ .bf16) : List (View.Piece (Elt F) S2048x512 .bf16) :=
  [piece H G U 1 (by decide), piece H G U 0 (by decide)]

/-- A weight's block, all of it. -/
def wholeRect : Rect S2048x512 := Rect.unit (s := S2048x512) ![0, 0] ![2048, 512] (by decide)

/-- The store of a weight in its scratch. -/
def keptPieces (w : Vec F S1x2048x512 .f32) : List (View.Piece (Elt F) S2048x512 .bf16) :=
  [⟨wholeRect, shapeCast ⟨2, ![2048, 512]⟩ (truncf .bf16 (shapeCast ⟨2, ![2048, 512]⟩ (View.ld w (Rect.unit (s := S1x2048x512) ![0, 0, 0] ![1, 2048, 512] (by decide))) (by decide))) (by decide)⟩]

variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole)
  (x0 : Vec F S2048x2048 .bf16) (x1 x2 : Vec F S1x2048x512 .f32) (xs0 xs1 : Vec F S2048x512 .bf16)

/-- The first point of four stores the gated products over the weights it has just kept. -/
theorem run_A_3 (hc0 : cond0_0 i) :
    (kernelRun0_A c i arg2 harg2 arg3 harg3 arg4 harg4 arg5 harg5 arg6 harg6 arg7 harg7 hc0 x0 x1 x2).1 =
      pieces (arg2.view.read (Elt F) (harg2.unread x0)) (arg6.view.readCov (keptPieces (arg3.view.read (Elt F) (harg3.unread x1))) wholeRect.toLoadRect) (arg7.view.readCov (keptPieces (arg4.view.read (Elt F) (harg4.unread x2))) wholeRect.toLoadRect) := by
  unfold kernelRun0_A
  dsimp only
  sl_unfold_words
  sl_kernel_rfl

/-- It keeps the gate's weight. -/
theorem run_A_0 (hc0 : cond0_0 i) :
    (kernelRun0_A c i arg2 harg2 arg3 harg3 arg4 harg4 arg5 harg5 arg6 harg6 arg7 harg7 hc0 x0 x1 x2).2.1 =
      keptPieces (arg3.view.read (Elt F) (harg3.unread x1)) := by
  unfold kernelRun0_A
  dsimp only
  sl_unfold_words
  sl_kernel_rfl

/-- It keeps the other weight. -/
theorem run_A_1 (hc0 : cond0_0 i) :
    (kernelRun0_A c i arg2 harg2 arg3 harg3 arg4 harg4 arg5 harg5 arg6 harg6 arg7 harg7 hc0 x0 x1 x2).2.2.1 =
      keptPieces (arg4.view.read (Elt F) (harg4.unread x2)) := by
  unfold kernelRun0_A
  dsimp only
  sl_unfold_words
  sl_kernel_rfl

/-- A later point stores the gated products over the weights kept. -/
theorem run_B_3 (hc0 : ¬cond0_0 i) :
    (kernelRun0_B c i arg2 harg2 arg3 harg3 arg4 harg4 arg5 harg5 arg6 harg6 arg7 harg7 hc0 x0 x1 x2 xs0 xs1).1 =
      pieces (arg2.view.read (Elt F) (harg2.unread x0)) (View.ld (arg6.view.read (Elt F) (harg6.unread xs0)) wholeRect) (View.ld (arg7.view.read (Elt F) (harg7.unread xs1)) wholeRect) := by
  unfold kernelRun0_B
  dsimp only
  sl_unfold_words
  sl_kernel_rfl

/-- What the first point leaves. -/
theorem out_A_3 (hc0 : cond0_0 i) :
    out0_A_3 c i arg2 harg2 arg3 harg3 arg4 harg4 arg5 harg5 arg6 harg6 arg7 harg7 hc0 x0 x1 x2 = View.canon (pieces x0 (View.ld (View.canon (keptPieces x1)) wholeRect) (View.ld (View.canon (keptPieces x2)) wholeRect)) := by
  unfold out0_A_3
  rw [View.read_writes_junk_eq_canon, run_A_3, harg2.read_unread, harg3.read_unread, harg4.read_unread]
  simp only [View.readCov_eq_canon']

/-- What a later point leaves. -/
theorem out_B_3 (hc0 : ¬cond0_0 i) :
    out0_B_3 c i arg2 harg2 arg3 harg3 arg4 harg4 arg5 harg5 arg6 harg6 arg7 harg7 hc0 x0 x1 x2 xs0 xs1 = View.canon (pieces x0 (View.ld xs0 wholeRect) (View.ld xs1 wholeRect)) := by
  unfold out0_B_3
  rw [View.read_writes_junk_eq_canon, run_B_3, harg2.read_unread, harg6.read_unread, harg7.read_unread]

/-- The gate's weight after the first point. -/
theorem sout_A_0 (hc0 : cond0_0 i) :
    sout0_A_0 c i arg2 harg2 arg3 harg3 arg4 harg4 arg5 harg5 arg6 harg6 arg7 harg7 hc0 x0 x1 x2 = View.canon (keptPieces x1) := by
  unfold sout0_A_0
  rw [View.read_writes_junk_eq_canon, run_A_0, harg3.read_unread]

/-- The other weight after the first point. -/
theorem sout_A_1 (hc0 : cond0_0 i) :
    sout0_A_1 c i arg2 harg2 arg3 harg3 arg4 harg4 arg5 harg5 arg6 harg6 arg7 harg7 hc0 x0 x1 x2 = View.canon (keptPieces x2) := by
  unfold sout0_A_1
  rw [View.read_writes_junk_eq_canon, run_A_1, harg4.read_unread]

end Cert.Swiglu
end
-- ==== Proof.SwigluValue.lean ====
/-
  What the gated feed-forward call leaves in its output array, at an index.
-/
module

public import proofs.«01_k».proof.Proof.SwigluPieces
public import proofs.«01_k».proof.Proof.Gen.Kernel2Ideal.Value
public import proofs.«01_k».proof.Proof.Entry
public import Idealize.ShloMosaic.Lib.Pipeline.ValueKit.Held

@[expose] public section

set_option maxRecDepth 16384

noncomputable section

namespace Cert.Swiglu

open Cert.Kernel2Ideal Cert.Kernel2Ideal.Gen
open Idealize.ShloMosaic Idealize.ShloMosaic.TcCoe Idealize.ShloMosaic.Tactic Idealize.ShloMosaic.ValueIdx
open scoped BigOperators
open Cert.Stick (at3 at3_eq cell ld_cell cell_at)

/-- A number times its logistic. -/
def act (x : EReal) : EReal := x * Ideal.div 1 (1 + Ideal.exp (-x))

theorem times_apply (h : FVec Ideal ⟨2, ![1024, 2048]⟩ .bf16) (w : FVec Ideal ⟨2, ![2048, 512]⟩ .bf16) (r : Fin 1024) (d : Fin 512) :
    times (F := Ideal) h w (ix2 r d) = ∑ k : Fin 2048, h (ix2 r k) * w (ix2 k d) := by
  show FloatOps.matmul (F := Ideal) (DotDims.plain 1024 2048 512) none _ _ _ (ix2 r d) = _
  rw [Ideal.matmul_plain_apply]
  show Ideal.ofBits .f32 0x00000000#32 + _ = _
  rw [Ideal.ofBits_zero_f32, zero_add]
  exact Finset.sum_congr rfl fun k _ => by rw [shapeCast_apply _ _ (ix2 r k) (ix2 r k) rfl]

theorem gated_apply (g u : FVec Ideal ⟨2, ![1024, 512]⟩ .f32) (y : (⟨2, ![1024, 512]⟩ : Shape).Idx) : gated (F := Ideal) g u y = act (g y) * u y := by
  show g y * Ideal.div (Ideal.ofBits .f32 0x3F800000#32) (Ideal.ofBits .f32 0x3F800000#32 + Ideal.exp (Ideal.ofBits .f32 0x00000000#32 - g y)) * u y = _
  rw [Ideal.ofBits_one_f32, Ideal.ofBits_zero_f32, zero_sub]
  rfl

/-- A block of the gated products at an index. -/
def hid (H : S2048x2048.Idx → EReal) (G U : ℕ → ℕ → EReal) (y : S2048x512.Idx) : EReal :=
  act (∑ k : Fin 2048, H (ix2 (y 0) k) * G k.val (y 1).val) * ∑ k : Fin 2048, H (ix2 (y 0) k) * U k.val (y 1).val

/-- A load of some rows of a block, at an index. -/
theorem ld_rows (H : S2048x2048.Idx → EReal) (n : ℕ) (hn : n ≤ 1) (r : Fin 1024) (R : Fin 2048) (hR : R.val = 1024 * n + r.val) (k : Fin 2048) :
    H ((Rect.unit (s := S2048x2048) ![1024 * n, 0] ![1024, 2048] (inbIn hn)).idx (ix2 r k)) = H (ix2 R k) := by
  refine congrArg H (funext fun a => Fin.ext ?_)
  rw [Rect.idx_unit_val]
  match a with
  | ⟨0, _⟩ => exact hR.symm
  | ⟨1, _⟩ => exact Nat.zero_add _

theorem piece_at (H : S2048x2048.Idx → EReal) (G U : FVec Ideal ⟨2, ![2048, 512]⟩ .bf16) (G' U' : ℕ → ℕ → EReal)
    (hG : ∀ (k : Fin 2048) (d : Fin 512), G (ix2 k d) = G' k.val d.val) (hU : ∀ (k : Fin 2048) (d : Fin 512), U (ix2 k d) = U' k.val d.val)
    (n : ℕ) (hn : n ≤ 1) (x : (piece (F := Ideal) H G U n hn).1.shape.Idx) :
    (piece (F := Ideal) H G U n hn).2 x = hid H G' U' ((piece (F := Ideal) H G U n hn).1.emb x) := by
  have e0 : ∀ a, ((piece (F := Ideal) H G U n hn).1.emb x a).val = ![1024 * n, 0] a + (x a).val := fun a => ValueKit.rect_emb_unit_val _ _ (inbOut hn) x a
  have e1 : ((piece (F := Ideal) H G U n hn).1.emb x 1).val = (x 1).val := (e0 1).trans (Nat.zero_add _)
  have hp : ∀ (W : FVec Ideal ⟨2, ![2048, 512]⟩ .bf16) (W' : ℕ → ℕ → EReal), (∀ (k : Fin 2048) (d : Fin 512), W (ix2 k d) = W' k.val d.val) →
      times (F := Ideal) (View.ld (Val := Elt Ideal) (e' := .bf16) H (Rect.unit ![1024 * n, 0] ![1024, 2048] (inbIn hn))) W (ix2 (x 0) (x 1)) =
        ∑ k : Fin 2048, H (ix2 ((piece (F := Ideal) H G U n hn).1.emb x 0) k) * W' k.val (x 1).val := fun W W' hW => by
    refine (times_apply _ _ (x 0) (x 1)).trans (Finset.sum_congr rfl fun k _ => ?_)
    exact congrArg₂ (· * ·) (ld_rows H n hn (x 0) _ (e0 0) k) (hW k (x 1))
  refine (congrArg _ (eq_ix2 x)).trans ?_
  rw [hid, e1]
  refine (gated_apply _ _ _).trans ?_
  exact congrArg₂ (fun a b => act a * b) (hp G G' hG) (hp U U' hU)

/-- The stores of a point together, at an index. -/
theorem pieces_apply (H : S2048x2048.Idx → EReal) (G U : FVec Ideal ⟨2, ![2048, 512]⟩ .bf16) (G' U' : ℕ → ℕ → EReal)
    (hG : ∀ (k : Fin 2048) (d : Fin 512), G (ix2 k d) = G' k.val d.val) (hU : ∀ (k : Fin 2048) (d : Fin 512), U (ix2 k d) = U' k.val d.val)
    (y : S2048x512.Idx) : View.canon (pieces (F := Ideal) H G U) y = hid H G' U' y := by
  refine View.canon_apply_of_pieces (Val := Elt Ideal) (e := .bf16) (hid H G' U') _ ?_ y (View.cover_of_tiledL _ ![1024, 512] (by sl_kernel_rfl) y)
  simp only [pieces, List.forall_mem_cons]
  exact ⟨piece_at H G U G' U' hG hU 1 _, piece_at H G U G' U' hG hU 0 _, fun _ h => absurd h (List.not_mem_nil)⟩

theorem cast_at (w : S1x2048x512.Idx → EReal) (hw hr) (ht : FTy.bf16.bits < FTy.f32.bits) (h1) (k : Fin 2048) (n : Fin 512) :
    shapeCast ⟨2, ![2048, 512]⟩ (truncf (F := Ideal) .bf16 (shapeCast ⟨2, ![2048, 512]⟩ (View.ld (Val := Elt Ideal) (e' := .f32) w (Rect.unit (s := S1x2048x512) ![0, 0, 0] ![1, 2048, 512] hw)) hr) ht) h1 (ix2 k n) = cell w k.val n.val := by
  rw [shapeCast_apply _ _ (ix2 k n) (ix2 k n) rfl, truncf_apply, shapeCast_1ab_ab_apply]
  exact ld_cell w _ _ _ _ _ _ (Nat.zero_add _) (Nat.zero_add _)

theorem keptPieces_apply (w : S1x2048x512.Idx → EReal) (y : S2048x512.Idx) : View.canon (keptPieces (F := Ideal) w) y = cell w (y 0).val (y 1).val := by
  refine View.canon_apply_of_pieces (Val := Elt Ideal) (e := .bf16) (fun y => cell w (y 0).val (y 1).val) _ ?_ y (View.cover_of_tiledL _ ![2048, 512] (by sl_kernel_rfl) y)
  simp only [keptPieces, List.forall_mem_cons]
  refine ⟨fun x => ?_, fun _ h => absurd h (List.not_mem_nil)⟩
  have e0 : ∀ a, (wholeRect.emb x a).val = ![0, 0] a + (x a).val := fun a => ValueKit.rect_emb_unit_val (s := S2048x512) ![0, 0] ![2048, 512] (by decide) x a
  rw [(e0 0).trans (Nat.zero_add _), (e0 1).trans (Nat.zero_add _)]
  exact (congrArg _ (eq_ix2 x)).trans (cast_at w _ _ _ _ (x 0) (x 1))

/-- A load of all of a kept weight, at an index. -/
theorem ld_whole (W : S2048x512.Idx → EReal) (W' : ℕ → ℕ → EReal) (hW : ∀ y, W y = W' (y 0).val (y 1).val) (k : Fin 2048) (d : Fin 512) :
    View.ld (Val := Elt Ideal) (e' := .bf16) W wholeRect (ix2 k d) = W' k.val d.val := by
  show W ((Rect.unit (s := S2048x512) ![0, 0] ![2048, 512] (by decide)).idx (ix2 k d)) = _
  rw [hW, Rect.idx_unit_val, Rect.idx_unit_val]
  exact congrArg₂ W' (Nat.zero_add _) (Nat.zero_add _)

variable (m : (ℓ : Loc nD τ sig) → Buf (Elt Ideal) ℓ) (c : Dev nD)

/-- The hidden states as given. -/
def hIn : S4x2048x2048.Idx → EReal := m ((c : Thread nD τ).loc main_arg0)
/-- The gate's weight as given. -/
def gIn : S1x2048x5632.Idx → EReal := m ((c : Thread nD τ).loc main_arg1)
/-- The other weight as given. -/
def uIn : S1x2048x5632.Idx → EReal := m ((c : Thread nD τ).loc main_arg2)
/-- The hidden states, row under row. -/
def rowsIn : S8192x2048.Idx → EReal := V m c main_v0

/-- An array's rows, those of the first batch element first. -/
def underRow (X : S4x2048x2048.Idx → EReal) : S8192x2048.Idx → EReal := shapeCast S8192x2048 X (by decide)

/-- Row under row: row `r` is a row of batch element `r / 2048`. -/
theorem underRow_apply (X : S4x2048x2048.Idx → EReal) (y : S8192x2048.Idx) : underRow X y = at3 X ((y 0).val / 2048) ((y 0).val % 2048) (y 1).val := by
  have h0 : (y 0).val < 8192 := (y 0).isLt
  refine (shapeCast_apply X _ y (ix3 (⟨(y 0).val / 2048, by omega⟩ : Fin 4) (⟨(y 0).val % 2048, by omega⟩ : Fin 2048) (y 1)) ?_).trans ?_
  · rw [Shape.rowMajor_val_three, Shape.rowMajor_val_two]
    show ((y 0).val / 2048 * 2048 + (y 0).val % 2048) * 2048 + (y 1).val = (y 0).val * 2048 + (y 1).val
    omega
  · exact (at3_eq X _ _ _ _ rfl rfl rfl).symm

theorem rows_eq : rowsIn m c = underRow (hIn m c) := by
  unfold rowsIn
  simp only [V, List.flatten_cons, List.flatten_nil, List.append_nil, List.cons_append, List.nil_append]
  after_results_simp
  rfl

/-! ## The blocks a point reads: rows `t % 4`, columns `t / 4`. -/

theorem index_0 : ∀ t : Fin cfg0.N, win0_0.index t = ![t.val % 4, 0] := (by decide +kernel : ∀ t : Fin grid0.N, win0_0.index t = ![t.val % 4, 0])
theorem index_1 : ∀ t : Fin cfg0.N, win0_1.index t = ![0, 0, t.val / 4] := (by decide +kernel : ∀ t : Fin grid0.N, win0_1.index t = ![0, 0, t.val / 4])
theorem index_2 : ∀ t : Fin cfg0.N, win0_2.index t = ![0, 0, t.val / 4] := (by decide +kernel : ∀ t : Fin grid0.N, win0_2.index t = ![0, 0, t.val / 4])

/-- The rows' block. -/
def hBlk (t : Fin cfg0.N) : S2048x2048.Idx → EReal := iblk m c 0 t
/-- The gate's weight's block. -/
def gBlk (t : Fin cfg0.N) : S1x2048x512.Idx → EReal := iblk m c 1 t
/-- The other weight's block. -/
def uBlk (t : Fin cfg0.N) : S1x2048x512.Idx → EReal := iblk m c 2 t

/-- The rows' block is a batch element. -/
theorem read_0 (t : Fin cfg0.N) (r k : Fin 2048) : hBlk m c t (ix2 r k) = at3 (hIn m c) (t.val % 4) r.val k.val := by
  refine (congrFun (rows_eq m c) (((cfg0.win 0).blk t).view.emb (ix2 r k))).trans ((underRow_apply _ _).trans ?_)
  have e0 : (((cfg0.win 0).blk t).view.emb (ix2 r k) 0).val = 2048 * (t.val % 4) + r.val := by
    show win0_0.index t 0 * 2048 + 1 * r.val = _
    rw [index_0]; show t.val % 4 * 2048 + 1 * r.val = _; omega
  have e1 : (((cfg0.win 0).blk t).view.emb (ix2 r k) 1).val = k.val := by
    show win0_0.index t 1 * 2048 + 1 * k.val = _
    rw [index_0]; show 0 * 2048 + 1 * k.val = _; omega
  rw [e0, e1, show (2048 * (t.val % 4) + r.val) / 2048 = t.val % 4 by omega, show (2048 * (t.val % 4) + r.val) % 2048 = r.val by omega]

theorem read_1 (t : Fin cfg0.N) (y : S1x2048x512.Idx) : gBlk m c t y = at3 (gIn m c) 0 (y 1).val (512 * (t.val / 4) + (y 2).val) := by
  have h0 : (y 0).val < 1 := (y 0).isLt
  refine (congrFun (V_main_arg1 m c) _).trans (at3_eq (gIn m c) _ _ _ (((cfg0.win 1).blk t).view.emb y) ?_ ?_ ?_).symm
  · show win0_1.index t 0 * 1 + 1 * (y 0).val = _
    rw [index_1]; show 0 * 1 + 1 * (y 0).val = _; omega
  · show win0_1.index t 1 * 2048 + 1 * (y 1).val = _
    rw [index_1]; show 0 * 2048 + 1 * (y 1).val = _; omega
  · show win0_1.index t 2 * 512 + 1 * (y 2).val = _
    rw [index_1]; show t.val / 4 * 512 + 1 * (y 2).val = _; omega

theorem read_2 (t : Fin cfg0.N) (y : S1x2048x512.Idx) : uBlk m c t y = at3 (uIn m c) 0 (y 1).val (512 * (t.val / 4) + (y 2).val) := by
  have h0 : (y 0).val < 1 := (y 0).isLt
  refine (congrFun (V_main_arg2 m c) _).trans (at3_eq (uIn m c) _ _ _ (((cfg0.win 2).blk t).view.emb y) ?_ ?_ ?_).symm
  · show win0_2.index t 0 * 1 + 1 * (y 0).val = _
    rw [index_2]; show 0 * 1 + 1 * (y 0).val = _; omega
  · show win0_2.index t 1 * 2048 + 1 * (y 1).val = _
    rw [index_2]; show 0 * 2048 + 1 * (y 1).val = _; omega
  · show win0_2.index t 2 * 512 + 1 * (y 2).val = _
    rw [index_2]; show t.val / 4 * 512 + 1 * (y 2).val = _; omega

/-- The first point of four keeps a weight. -/
theorem keeps_gate (t : Fin cfg0.N) (h0 : t.val % 4 = 0) : (outsAt0 m c t.val t.isLt).2.1 = View.canon (keptPieces (F := Ideal) (gBlk m c t)) := by
  rw [outsAt0_A m c t h0]
  dsimp only
  exact sout_A_0 (F := Ideal) ..

/-- A later point leaves it. -/
theorem leaves_gate (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]
  rfl

/-- The weight kept after any point. -/
theorem kept_gate (t : Fin cfg0.N) (y : S2048x512.Idx) :
    ((outsAt0 m c t.val t.isLt).2.1 : S2048x512.Idx → EReal) y = at3 (gIn m c) 0 (y 0).val (512 * (t.val / 4) + (y 1).val) := by
  have h := Pipeline.eq_of_write_hold_apply (fun n hn => ((outsAt0 m c n hn).2.1 : S2048x512.Idx → EReal)) 4
    (fun t => (View.canon (keptPieces (F := Ideal) (gBlk m c t)) : S2048x512.Idx → EReal))
    (fun t h0 i => congrFun (keeps_gate m c t h0) i) (fun t h0 i => congrFun (leaves_gate m c t h0) i) t y
  refine h.trans ((keptPieces_apply _ y).trans ((cell_at (gIn m c) (gBlk m c _) _ _ (read_1 m c _) _ _ (y 1).isLt).trans ?_))
  rw [show 4 * (t.val / 4) / 4 = t.val / 4 by omega]

/-- The first point of four keeps a weight. -/
theorem keeps_other (t : Fin cfg0.N) (h0 : t.val % 4 = 0) : (outsAt0 m c t.val t.isLt).2.2 = View.canon (keptPieces (F := Ideal) (uBlk m c t)) := by
  rw [outsAt0_A m c t h0]
  dsimp only
  exact sout_A_1 (F := Ideal) ..

/-- A later point leaves it. -/
theorem leaves_other (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

/-- The weight kept after any point. -/
theorem kept_other (t : Fin cfg0.N) (y : S2048x512.Idx) :
    ((outsAt0 m c t.val t.isLt).2.2 : S2048x512.Idx → EReal) y = at3 (uIn m c) 0 (y 0).val (512 * (t.val / 4) + (y 1).val) := by
  have h := Pipeline.eq_of_write_hold_apply (fun n hn => ((outsAt0 m c n hn).2.2 : S2048x512.Idx → EReal)) 4
    (fun t => (View.canon (keptPieces (F := Ideal) (uBlk m c t)) : S2048x512.Idx → EReal))
    (fun t h0 i => congrFun (keeps_other m c t h0) i) (fun t h0 i => congrFun (leaves_other m c t h0) i) t y
  refine h.trans ((keptPieces_apply _ y).trans ((cell_at (uIn m c) (uBlk m c _) _ _ (read_2 m c _) _ _ (y 1).isLt).trans ?_))
  rw [show 4 * (t.val / 4) / 4 = t.val / 4 by omega]

/-- The gated products at batch element `b`, row `r`, column `d`. -/
def hidden (X : S4x2048x2048.Idx → EReal) (G U : S1x2048x5632.Idx → EReal) (b r d : ℕ) : EReal :=
  act (∑ k : Fin 2048, at3 X b r k.val * at3 G 0 k.val d) * ∑ k : Fin 2048, at3 X b r k.val * at3 U 0 k.val d

/-- What any point leaves. -/
theorem point (t : Fin cfg0.N) (y : S2048x512.Idx) :
    ((outsAt0 m c t.val t.isLt).1 : S2048x512.Idx → EReal) y = hidden (hIn m c) (gIn m c) (uIn m c) (t.val % 4) (y 0).val (512 * (t.val / 4) + (y 1).val) := by
  have hs : hid (hBlk m c t) (fun k n => at3 (gIn m c) 0 k (512 * (t.val / 4) + n)) (fun k n => at3 (uIn m c) 0 k (512 * (t.val / 4) + n)) y =
      hidden (hIn m c) (gIn m c) (uIn m c) (t.val % 4) (y 0).val (512 * (t.val / 4) + (y 1).val) := by
    have hr : ∀ k, hBlk m c t (ix2 (y 0) k) = at3 (hIn m c) (t.val % 4) (y 0).val k.val := fun k => read_0 m c t (y 0) k
    unfold hid hidden
    simp only [hr]
  rw [← hs]
  by_cases h0 : t.val % 4 = 0
  · have e : (outsAt0 m c t.val t.isLt).1 = View.canon (pieces (F := Ideal) (hBlk m c t) (View.ld (outsAt0 m c t.val t.isLt).2.1 wholeRect)
        (View.ld (outsAt0 m c t.val t.isLt).2.2 wholeRect)) := by
      rw [keeps_gate m c t h0, keeps_other m c t h0, outsAt0_A m c t h0]
      dsimp only
      exact out_A_3 (F := Ideal) ..
    rw [e]
    exact pieces_apply _ _ _ _ _ (ld_whole _ _ (kept_gate m c t)) (ld_whole _ _ (kept_other m c t)) y
  · have e : (outsAt0 m c t.val t.isLt).1 = View.canon (pieces (F := Ideal) (hBlk m c t) (View.ld (outsAt0 m c t.val t.isLt).2.1 wholeRect)
        (View.ld (outsAt0 m c t.val t.isLt).2.2 wholeRect)) := by
      rw [leaves_gate m c t h0, leaves_other m c t h0, outsAt0_B m c t h0]
      dsimp only
      exact out_B_3 (F := Ideal) ..
    rw [e]
    exact pieces_apply _ _ _ _ _ (ld_whole _ _ (kept_gate m c t)) (ld_whole _ _ (kept_other m c t)) y

/-- The output array after the run. -/
theorem G3_apply (r : Fin 8192) (d : Fin 5632) :
    (Value.G3 m c : S8192x5632.Idx → EReal) (ix2 r d) = hidden (hIn m c) (gIn m c) (uIn m c) (r.val / 2048) (r.val % 2048) d.val := by
  have hr := r.isLt
  have hd := d.isLt
  have hp : Value.pt3Of (ix2 r d) = r.val / 2048 + 4 * (d.val / 512) := by
    show 1 * (r.val / 2048 - 0) + 4 * (d.val / 512 - 0) = _
    omega
  have hN : Value.pt3Of (ix2 r d) < cfg0.N := by
    rw [hp, show cfg0.N = 44 from N_0]; omega
  unfold Value.G3
  rw [dif_pos hN, ← Value.outsAt0_sweep m c _ hN]
  refine (point m c ⟨_, hN⟩ _).trans ?_
  show hidden (hIn m c) (gIn m c) (uIn m c) (Value.pt3Of (ix2 r d) % 4) (r.val % 2048) (512 * (Value.pt3Of (ix2 r d) / 4) + d.val % 512) = _
  rw [hp, show (r.val / 2048 + 4 * (d.val / 512)) % 4 = r.val / 2048 by omega,
    show 512 * ((r.val / 2048 + 4 * (d.val / 512)) / 4) + d.val % 512 = d.val by omega]

end Cert.Swiglu
end
-- ==== Proof.SwigluClaims.lean ====
/-
  The claims about the gated feed-forward call.
-/
module

public import proofs.«01_k».proof.Defs
public import proofs.«01_k».proof.Proof.Gen.Kernel2.Frame
public import proofs.«01_k».proof.Proof.Gen.Reference2Ideal.Run
public import proofs.«01_k».proof.Proof.Gen.Reference2Ideal.Read
public import proofs.«01_k».proof.Proof.SwigluValue
public import Idealize.ShloMosaic.Adequacy
public import Idealize.ShloMosaic.Init

@[expose] public section

set_option maxRecDepth 16384

noncomputable section

namespace Cert.Swiglu

open Idealize.ShloMosaic Idealize.ShloMosaic.TcCoe Idealize.ShloMosaic.ValueIdx Idealize.SL.Sem
open scoped BigOperators
open Cert.Stick (at3 at3_eq)

/-- The kernel runs to its end on any floats and leaves its arguments. -/
theorem frame_p : Cert.quiescent_Kernel2 := fun m g _ => Cert.Kernel2.Gen.frame (F := Bits) m g

/-- The kernel over the extended reals runs to its end and leaves its arguments. -/
theorem frame_pi : Cert.quiescent_Kernel2Ideal := fun m g _ => Cert.Kernel2Ideal.Gen.frame (F := Ideal) m g

/-- The reference over the extended reals runs to its end and leaves its arguments. -/
theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Nothing is rewritten. -/
theorem preserves : Cert.preserves_Kernel2_Kernel2Ideal := trivial

section Reference
open Cert.Reference2Ideal Cert.Reference2Ideal.Read
variable (X : (⟨3, ![4, 2048, 2048]⟩ : Shape).Idx → EReal) (G U : (⟨3, ![1, 2048, 5632]⟩ : Shape).Idx → EReal)

theorem ref_first (b : Fin 4) (r : Fin 2048) (d : Fin 5632) : val_main_v2 (F := Ideal) X G (ix3 b r d) = ∑ k : Fin 2048, at3 X b.val r.val k.val * at3 G 0 k.val d.val := by
  rw [val_main_v2_apply]
  refine Finset.sum_congr rfl fun k _ => ?_
  have hk := k.isLt
  have hd := d.isLt
  rw [val_main_v1_apply]
  refine congrArg₂ (· * ·) (at3_eq X _ _ _ _ rfl rfl rfl).symm (at3_eq G _ _ _ _ rfl ?_ ?_).symm
  · show (k.val * 5632 + d.val) / 5632 % 2048 = k.val; omega
  · show (k.val * 5632 + d.val) % 5632 = d.val; omega

theorem ref_second (b : Fin 4) (r : Fin 2048) (d : Fin 5632) : val_main_v5 (F := Ideal) X U (ix3 b r d) = ∑ k : Fin 2048, at3 X b.val r.val k.val * at3 U 0 k.val d.val :=
  ref_first X U b r d

/-- The reference's result, at an index. -/
theorem ref_hidden (r : Fin 8192) (d : Fin 5632) : val_main_v8 (F := Ideal) X G U (ix2 r d) = hidden X G U (r.val / 2048) (r.val % 2048) d.val := by
  have hr := r.isLt
  have hd := d.isLt
  have e : idx_main_v8 (ix2 r d) = ix3 (⟨r.val / 2048, by omega⟩ : Fin 4) (⟨r.val % 2048, by omega⟩ : Fin 2048) d := funext fun a => Fin.ext (by
    match a with
    | ⟨0, _⟩ => show (r.val * 5632 + d.val) / 11534336 = r.val / 2048; omega
    | ⟨1, _⟩ => show (r.val * 5632 + d.val) / 5632 % 2048 = r.val % 2048; omega
    | ⟨2, _⟩ => show (r.val * 5632 + d.val) % 5632 = d.val; omega)
  rw [val_main_v8_apply, e, val_main_v7_apply, val_main_v6_apply, val_main_v3_apply, val_main_call0_v5_apply, val_main_call0_v4_apply, val_main_call0_cst_0_apply,
    val_main_call0_v3_apply, val_main_call0_v2_apply, val_main_call0_cst_apply, val_main_call0_v1_apply, val_main_call0_v0_apply, ref_first, ref_second]
  show _ * Ideal.div (Ideal.ofBits .f32 0x3F800000#32) (Ideal.ofBits .f32 0x3F800000#32 + Ideal.exp (-_)) * _ = _
  rw [Ideal.ofBits_one_f32]
  rfl

end Reference

/-- The kernel's result is the reference's. -/
theorem result_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v8 (F := Ideal) (hIn m c) (gIn m c) (uIn m c) = Cert.Kernel2Ideal.Value.G3 m c := funext fun y => by
  have e : y = ix2 (y 0) (y 1) := eq_ix2 y
  rw [e]
  exact (ref_hidden (hIn m c) (gIn m c) (uIn m c) (y 0) (y 1)).trans (G3_apply m c (y 0) (y 1)).symm

/-- Over the extended reals the kernel's result is the reference's. -/
theorem algebraic : Cert.algebraic_Kernel2Ideal_Reference2Ideal := by
  intro m g m' g' _ hagree
  refine ⟨_, Cert.Kernel2Ideal.Value.run (F := Ideal) m g, ?_⟩
  refine (θ_run Cert.Reference2Ideal.defs _ _).mono (fun _ h c => ⟨(h c).1.trans ?_, (h c).2⟩) (Cert.Reference2Ideal.Value.run (F := Ideal) m' g')
  rw [Cert.Reference2Ideal.Read.val_main_v8_eq, (hagree c).1, (hagree c).2.1, (hagree c).2.2]
  exact result_eq m c

end Cert.Swiglu
end
-- ==== Proof.ProjectPieces.lean ====
/-
  What the projection's call stores at a grid point: two blocks of rows by two blocks of columns, and the weights it keeps.
-/
module

public import proofs.«01_k».proof.Proof.Gen.Kernel3Ideal.Frame
public import proofs.«01_k».proof.Proof.SwigluPieces
public import proofs.«01_k».proof.Proof.Pieces

@[expose] public section

set_option maxRecDepth 16384

noncomputable section

namespace Cert.Project

open Cert.Kernel3Ideal Cert.Kernel3Ideal.Gen
open Idealize.ShloMosaic Idealize.ShloMosaic.TcCoe Idealize.ShloMosaic.Tactic Idealize.ShloMosaic.ValueIdx
open scoped BigOperators
open Cert.Swiglu (times inbIn)
open Cert.Stick (keptPieces)

variable {F : FTy → Type} [FloatOps F]

theorem inbOut {n h : ℕ} (hn : n ≤ 1) (hh : h ≤ 1) (a : Fin 2) : (![1024 * n, 512 * h] : Fin 2 → Nat) a + (![1024, 512] : Fin 2 → Nat) a ≤ S2048x1024.size a := by
  match a with
  | ⟨0, _⟩ => show 1024 * n + 1024 ≤ 2048; omega
  | ⟨1, _⟩ => show 512 * h + 512 ≤ 1024; omega

theorem inbHalf {h : ℕ} (hh : h ≤ 1) (a : Fin 2) : (![0, 512 * h] : Fin 2 → Nat) a + (![2048, 512] : Fin 2 → Nat) a ≤ S2048x1024.size a := by
  match a with
  | ⟨0, _⟩ => exact Nat.le_refl 2048
  | ⟨1, _⟩ => show 512 * h + 512 ≤ 1024; omega

section Stores
variable (H : Vec F S2048x2048 .bf16) (W : (r : Rect S2048x1024) → r.shape.Idx → F .bf16)

/-- The store of row block `n`, column block `h`. -/
def piece (n h : ℕ) (hn : n ≤ 1) (hh : h ≤ 1) : View.Piece (Elt F) S2048x1024 .bf16 :=
  ⟨Rect.unit ![1024 * n, 512 * h] ![1024, 512] (inbOut hn hh),
    truncf .bf16 (times (View.ld H (Rect.unit ![1024 * n, 0] ![1024, 2048] (inbIn hn))) (W (Rect.unit ![0, 512 * h] ![2048, 512] (inbHalf hh))))⟩

/-- The stores of a point, the last first. -/
def pieces : List (View.Piece (Elt F) S2048x1024 .bf16) :=
  [piece H W 1 1 (by decide) (by decide), piece H W 1 0 (by decide) (by decide), piece H W 0 1 (by decide) (by decide), piece H W 0 0 (by decide) (by decide)]

end Stores

variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S2048x1024 .bf16) (harg5 : arg5.IsWhole) (arg6 : Memref sig .tc .vmem S2048x1024 .bf16) (harg6 : arg6.IsWhole)
  (x0 : Vec F S2048x2048 .bf16) (x1 x2 : Vec F S1x2048x512 .f32) (xs0 : Vec F S2048x1024 .bf16)

/-- The first point of four stores the products over the weights it has just kept. -/
theorem run_A_3 (hc0 : cond0_0 i) :
    (kernelRun0_A c i arg2 harg2 arg3 harg3 arg4 harg4 arg5 harg5 arg6 harg6 hc0 x0 x1 x2).1 =
      pieces (arg2.view.read (Elt F) (harg2.unread x0)) (fun r => arg6.view.readCov (keptPieces (arg3.view.read (Elt F) (harg3.unread x1)) (arg4.view.read (Elt F) (harg4.unread x2))) r.toLoadRect) := by
  unfold kernelRun0_A
  dsimp only
  sl_unfold_words
  sl_kernel_rfl

/-- It keeps the weights. -/
theorem run_A_0 (hc0 : cond0_0 i) :
    (kernelRun0_A c i arg2 harg2 arg3 harg3 arg4 harg4 arg5 harg5 arg6 harg6 hc0 x0 x1 x2).2.1 =
      (keptPieces (arg3.view.read (Elt F) (harg3.unread x1)) (arg4.view.read (Elt F) (harg4.unread x2))) := by
  unfold kernelRun0_A
  dsimp only
  sl_unfold_words
  sl_kernel_rfl

/-- A later point stores the products over the weights kept. -/
theorem run_B_3 (hc0 : ¬cond0_0 i) :
    (kernelRun0_B c i arg2 harg2 arg3 harg3 arg4 harg4 arg5 harg5 arg6 harg6 hc0 x0 x1 x2 xs0).1 =
      pieces (arg2.view.read (Elt F) (harg2.unread x0)) (fun r => View.ld (arg6.view.read (Elt F) (harg6.unread xs0)) r) := by
  unfold kernelRun0_B
  dsimp only
  sl_unfold_words
  sl_kernel_rfl

/-- What the first point leaves. -/
theorem out_A_3 (hc0 : cond0_0 i) :
    out0_A_3 c i arg2 harg2 arg3 harg3 arg4 harg4 arg5 harg5 arg6 harg6 hc0 x0 x1 x2 = View.canon (pieces x0 (fun r => View.ld (View.canon (keptPieces x1 x2)) r)) := by
  unfold out0_A_3
  rw [View.read_writes_junk_eq_canon, run_A_3, harg2.read_unread, harg3.read_unread, harg4.read_unread]
  simp only [View.readCov_eq_canon']

/-- What a later point leaves. -/
theorem out_B_3 (hc0 : ¬cond0_0 i) :
    out0_B_3 c i arg2 harg2 arg3 harg3 arg4 harg4 arg5 harg5 arg6 harg6 hc0 x0 x1 x2 xs0 = View.canon (pieces x0 (fun r => View.ld xs0 r)) := by
  unfold out0_B_3
  rw [View.read_writes_junk_eq_canon, run_B_3, harg2.read_unread, harg6.read_unread]

/-- The weights after the first point. -/
theorem sout_A_0 (hc0 : cond0_0 i) :
    sout0_A_0 c i arg2 harg2 arg3 harg3 arg4 harg4 arg5 harg5 arg6 harg6 hc0 x0 x1 x2 = View.canon (keptPieces x1 x2) := by
  unfold sout0_A_0
  rw [View.read_writes_junk_eq_canon, run_A_0, harg3.read_unread, harg4.read_unread]

end Cert.Project
end
-- ==== Proof.ProjectValue.lean ====
/-
  What the projection's call leaves in its output array, at an index.
-/
module

public import proofs.«01_k».proof.Proof.ProjectPieces
public import proofs.«01_k».proof.Proof.Gen.Kernel3Ideal.Value
public import proofs.«01_k».proof.Proof.SwigluValue

@[expose] public section

set_option maxRecDepth 16384

noncomputable section

namespace Cert.Project

open Cert.Kernel3Ideal Cert.Kernel3Ideal.Gen
open Idealize.ShloMosaic Idealize.ShloMosaic.TcCoe Idealize.ShloMosaic.Tactic Idealize.ShloMosaic.ValueIdx
open scoped BigOperators
open Cert.Swiglu (times inbIn times_apply ld_rows)
open Cert.Stick (at3 at3_eq cell cell_at kept keptPieces keptPieces_apply)

/-- A block of the products at an index. -/
def prods (H : S2048x2048.Idx → EReal) (W : ℕ → ℕ → EReal) (y : S2048x1024.Idx) : EReal := ∑ k : Fin 2048, H (ix2 (y 0) k) * W k.val (y 1).val

section Stores
variable (H : S2048x2048.Idx → EReal) (W : S2048x1024.Idx → EReal) (W' : ℕ → ℕ → EReal) (hW : ∀ y, W y = W' (y 0).val (y 1).val)
include hW

theorem piece_at (n h : ℕ) (hn : n ≤ 1) (hh : h ≤ 1) (x : (piece (F := Ideal) H (fun r => View.ld (Val := Elt Ideal) (e' := .bf16) W r) n h hn hh).1.shape.Idx) :
    (piece (F := Ideal) H (fun r => View.ld (Val := Elt Ideal) (e' := .bf16) W r) n h hn hh).2 x =
      prods H W' ((piece (F := Ideal) H (fun r => View.ld (Val := Elt Ideal) (e' := .bf16) W r) n h hn hh).1.emb x) := by
  have e0 : ∀ a, ((piece (F := Ideal) H (fun r => View.ld (Val := Elt Ideal) (e' := .bf16) W r) n h hn hh).1.emb x a).val = ![1024 * n, 512 * h] a + (x a).val :=
    fun a => ValueKit.rect_emb_unit_val _ _ (inbOut hn hh) x a
  refine (congrArg _ (eq_ix2 x)).trans ?_
  rw [prods, e0 1]
  refine (times_apply _ _ (x 0) (x 1)).trans (Finset.sum_congr rfl fun k _ => ?_)
  refine congrArg₂ (· * ·) (ld_rows H n hn (x 0) _ (e0 0) k) ?_
  show W ((Rect.unit (s := S2048x1024) ![0, 512 * h] ![2048, 512] (inbHalf hh)).idx (ix2 k (x 1))) = _
  rw [hW, Rect.idx_unit_val, Rect.idx_unit_val]
  exact congrArg₂ W' (Nat.zero_add _) rfl

/-- The stores of a point together, at an index. -/
theorem pieces_apply (y : S2048x1024.Idx) : View.canon (pieces (F := Ideal) H (fun r => View.ld (Val := Elt Ideal) (e' := .bf16) W r)) y = prods H W' y := by
  refine View.canon_apply_of_pieces (Val := Elt Ideal) (e := .bf16) (prods H W') _ ?_ y (View.cover_of_tiledL _ ![1024, 512] (by sl_kernel_rfl) y)
  simp only [pieces, List.forall_mem_cons]
  exact ⟨piece_at H W W' hW 1 1 _ _, piece_at H W W' hW 1 0 _ _, piece_at H W W' hW 0 1 _ _, piece_at H W W' hW 0 0 _ _, fun _ h => absurd h (List.not_mem_nil)⟩

end Stores

variable (m : (ℓ : Loc nD τ sig) → Buf (Elt Ideal) ℓ) (c : Dev nD)

/-- The normed input as given. -/
def hIn : S4x2048x2048.Idx → EReal := m ((c : Thread nD τ).loc main_arg0)
/-- The weights as given. -/
def wIn : S1x2048x11776.Idx → EReal := m ((c : Thread nD τ).loc main_arg1)
/-- The normed input, row under row. -/
def rowsIn : S8192x2048.Idx → EReal := V m c main_v0

/-- Row under row: row `r` is a row of batch element `r / 2048`. -/
theorem rows_eq (c : Dev nD) : rowsIn m c = Cert.Swiglu.underRow (hIn m c) := by
  unfold rowsIn
  simp only [V, List.flatten_cons, List.flatten_nil, List.append_nil, List.cons_append, List.nil_append]
  after_results_simp
  rfl

/-! ## The blocks a point reads: rows `t % 4`, columns `t / 4`. -/

theorem index_0 : ∀ t : Fin cfg0.N, win0_0.index t = ![t.val % 4, 0] := (by decide +kernel : ∀ t : Fin grid0.N, win0_0.index t = ![t.val % 4, 0])
theorem index_1 : ∀ t : Fin cfg0.N, win0_1.index t = ![0, 0, 2 * (t.val / 4)] := (by decide +kernel : ∀ t : Fin grid0.N, win0_1.index t = ![0, 0, 2 * (t.val / 4)])
theorem index_2 : ∀ t : Fin cfg0.N, win0_2.index t = ![0, 0, 2 * (t.val / 4) + 1] := (by decide +kernel : ∀ t : Fin grid0.N, win0_2.index t = ![0, 0, 2 * (t.val / 4) + 1])

/-- The rows' block. -/
def hBlk (t : Fin cfg0.N) : S2048x2048.Idx → EReal := iblk m c 0 t
/-- The weights' two blocks. -/
def w0Blk (t : Fin cfg0.N) : S1x2048x512.Idx → EReal := iblk m c 1 t
def w1Blk (t : Fin cfg0.N) : S1x2048x512.Idx → EReal := iblk m c 2 t

/-- The rows' block is a batch element. -/
theorem read_0 (t : Fin cfg0.N) (r k : Fin 2048) : hBlk m c t (ix2 r k) = at3 (hIn m c) (t.val % 4) r.val k.val := by
  refine (congrFun (rows_eq m c) (((cfg0.win 0).blk t).view.emb (ix2 r k))).trans ((Cert.Swiglu.underRow_apply _ _).trans ?_)
  have e0 : (((cfg0.win 0).blk t).view.emb (ix2 r k) 0).val = 2048 * (t.val % 4) + r.val := by
    show win0_0.index t 0 * 2048 + 1 * r.val = _
    rw [index_0]; show t.val % 4 * 2048 + 1 * r.val = _; omega
  have e1 : (((cfg0.win 0).blk t).view.emb (ix2 r k) 1).val = k.val := by
    show win0_0.index t 1 * 2048 + 1 * k.val = _
    rw [index_0]; show 0 * 2048 + 1 * k.val = _; omega
  rw [e0, e1, show (2048 * (t.val % 4) + r.val) / 2048 = t.val % 4 by omega, show (2048 * (t.val % 4) + r.val) % 2048 = r.val by omega]

theorem read_1 (t : Fin cfg0.N) (y : S1x2048x512.Idx) : w0Blk m c t y = at3 (wIn m c) 0 (y 1).val (1024 * (t.val / 4) + (y 2).val) := by
  have h0 : (y 0).val < 1 := (y 0).isLt
  refine (congrFun (V_main_arg1 m c) _).trans (at3_eq (wIn m c) _ _ _ (((cfg0.win 1).blk t).view.emb y) ?_ ?_ ?_).symm
  · show win0_1.index t 0 * 1 + 1 * (y 0).val = _
    rw [index_1]; show 0 * 1 + 1 * (y 0).val = _; omega
  · show win0_1.index t 1 * 2048 + 1 * (y 1).val = _
    rw [index_1]; show 0 * 2048 + 1 * (y 1).val = _; omega
  · show win0_1.index t 2 * 512 + 1 * (y 2).val = _
    rw [index_1]; show 2 * (t.val / 4) * 512 + 1 * (y 2).val = _; omega

theorem read_2 (t : Fin cfg0.N) (y : S1x2048x512.Idx) : w1Blk m c t y = at3 (wIn m c) 0 (y 1).val (1024 * (t.val / 4) + 512 + (y 2).val) := by
  have h0 : (y 0).val < 1 := (y 0).isLt
  refine (congrFun (V_main_arg1 m c) _).trans (at3_eq (wIn m c) _ _ _ (((cfg0.win 2).blk t).view.emb y) ?_ ?_ ?_).symm
  · show win0_2.index t 0 * 1 + 1 * (y 0).val = _
    rw [index_2]; show 0 * 1 + 1 * (y 0).val = _; omega
  · show win0_2.index t 1 * 2048 + 1 * (y 1).val = _
    rw [index_2]; show 0 * 2048 + 1 * (y 1).val = _; omega
  · show win0_2.index t 2 * 512 + 1 * (y 2).val = _
    rw [index_2]; show (2 * (t.val / 4) + 1) * 512 + 1 * (y 2).val = _; omega

/-- The weights as kept. -/
theorem kept_point (t : Fin cfg0.N) (k n : ℕ) (hn : n < 1024) : kept (w0Blk m c t) (w1Blk m c t) k n = at3 (wIn m c) 0 k (1024 * (t.val / 4) + n) := by
  unfold kept
  by_cases h : n < 512
  · rw [if_pos h, cell_at (wIn m c) (w0Blk m c t) _ _ (read_1 m c t) _ _ h]
  · rw [if_neg h, cell_at (wIn m c) (w1Blk m c t) _ _ (read_2 m c t) _ _ (by omega), show 1024 * (t.val / 4) + 512 + (n - 512) = 1024 * (t.val / 4) + n by omega]

/-- The first point of four keeps the weights. -/
theorem keeps (t : Fin cfg0.N) (h0 : t.val % 4 = 0) : (outsAt0 m c t.val t.isLt).2 = View.canon (keptPieces (F := Ideal) (w0Blk m c t) (w1Blk m c t)) := by
  rw [outsAt0_A m c t h0]
  dsimp only
  exact sout_A_0 (F := Ideal) ..

/-- A later point leaves them. -/
theorem leaves (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- The weights kept after any point. -/
theorem weights_kept (t : Fin cfg0.N) (y : S2048x1024.Idx) :
    ((outsAt0 m c t.val t.isLt).2 : S2048x1024.Idx → EReal) y = at3 (wIn m c) 0 (y 0).val (1024 * (t.val / 4) + (y 1).val) := by
  have h := Pipeline.eq_of_write_hold_apply (fun n hn => ((outsAt0 m c n hn).2 : S2048x1024.Idx → EReal)) 4
    (fun t => (View.canon (keptPieces (F := Ideal) (w0Blk m c t) (w1Blk m c t)) : S2048x1024.Idx → EReal))
    (fun t h0 i => congrFun (keeps m c t h0) i) (fun t h0 i => congrFun (leaves m c t h0) i) t y
  refine h.trans ((keptPieces_apply _ _ y).trans ((kept_point m c _ _ _ (y 1).isLt).trans ?_))
  rw [show 4 * (t.val / 4) / 4 = t.val / 4 by omega]

/-- The projection at batch element `b`, row `r`, column `d`. -/
def projection (X : S4x2048x2048.Idx → EReal) (W : S1x2048x11776.Idx → EReal) (b r d : ℕ) : EReal := ∑ k : Fin 2048, at3 X b r k.val * at3 W 0 k.val d

/-- What any point leaves. -/
theorem point (t : Fin cfg0.N) (y : S2048x1024.Idx) :
    ((outsAt0 m c t.val t.isLt).1 : S2048x1024.Idx → EReal) y = projection (hIn m c) (wIn m c) (t.val % 4) (y 0).val (1024 * (t.val / 4) + (y 1).val) := by
  have e : (outsAt0 m c t.val t.isLt).1 = View.canon (pieces (F := Ideal) (hBlk m c t) (fun r => View.ld (outsAt0 m c t.val t.isLt).2 r)) := by
    by_cases h0 : t.val % 4 = 0
    · rw [keeps m c t h0, outsAt0_A m c t h0]
      dsimp only
      exact out_A_3 (F := Ideal) ..
    · rw [leaves m c t h0, outsAt0_B m c t h0]
      dsimp only
      exact out_B_3 (F := Ideal) ..
  rw [e]
  refine (pieces_apply _ _ (fun k n => at3 (wIn m c) 0 k (1024 * (t.val / 4) + n)) (weights_kept m c t) y).trans ?_
  exact Finset.sum_congr rfl fun k _ => congrArg (· * _) (read_0 m c t (y 0) k)

/-- The output array after the run. -/
theorem G3_apply (r : Fin 8192) (d : Fin 3072) :
    (Value.G3 m c : S8192x3072.Idx → EReal) (ix2 r d) = projection (hIn m c) (wIn m c) (r.val / 2048) (r.val % 2048) d.val := by
  have hr := r.isLt
  have hd := d.isLt
  have hp : Value.pt3Of (ix2 r d) = r.val / 2048 + 4 * (d.val / 1024) := by
    show 1 * (r.val / 2048 - 0) + 4 * (d.val / 1024 - 0) = _
    omega
  have hN : Value.pt3Of (ix2 r d) < cfg0.N := by
    rw [hp, show cfg0.N = 12 from N_0]; omega
  unfold Value.G3
  rw [dif_pos hN, ← Value.outsAt0_sweep m c _ hN]
  refine (point m c ⟨_, hN⟩ _).trans ?_
  show projection (hIn m c) (wIn m c) (Value.pt3Of (ix2 r d) % 4) (r.val % 2048) (1024 * (Value.pt3Of (ix2 r d) / 4) + d.val % 1024) = _
  rw [hp, show (r.val / 2048 + 4 * (d.val / 1024)) % 4 = r.val / 2048 by omega,
    show 1024 * ((r.val / 2048 + 4 * (d.val / 1024)) / 4) + d.val % 1024 = d.val by omega]

end Cert.Project
end
-- ==== Proof.ProjectClaims.lean ====
/-
  The claims about the projection's call.
-/
module

public import proofs.«01_k».proof.Defs
public import proofs.«01_k».proof.Proof.Gen.Kernel3.Frame
public import proofs.«01_k».proof.Proof.Gen.Reference3Ideal.Run
public import proofs.«01_k».proof.Proof.Gen.Reference3Ideal.Read
public import proofs.«01_k».proof.Proof.ProjectValue
public import Idealize.ShloMosaic.Adequacy
public import Idealize.ShloMosaic.Init

@[expose] public section

set_option maxRecDepth 16384

noncomputable section

namespace Cert.Project

open Idealize.ShloMosaic Idealize.ShloMosaic.TcCoe Idealize.ShloMosaic.ValueIdx Idealize.SL.Sem
open scoped BigOperators
open Cert.Stick (at3 at3_eq)

/-- The kernel runs to its end on any floats and leaves its arguments. -/
theorem frame_p : Cert.quiescent_Kernel3 := fun m g _ => Cert.Kernel3.Gen.frame (F := Bits) m g

/-- The kernel over the extended reals runs to its end and leaves its arguments. -/
theorem frame_pi : Cert.quiescent_Kernel3Ideal := fun m g _ => Cert.Kernel3Ideal.Gen.frame (F := Ideal) m g

/-- The reference over the extended reals runs to its end and leaves its arguments. -/
theorem frame_ri : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Nothing is rewritten. -/
theorem preserves : Cert.preserves_Kernel3_Kernel3Ideal := trivial

section Reference
open Cert.Reference3Ideal Cert.Reference3Ideal.Read
variable (X : (⟨3, ![4, 2048, 2048]⟩ : Shape).Idx → EReal) (W : (⟨3, ![1, 2048, 11776]⟩ : Shape).Idx → EReal)

/-- The reference's result, at an index. -/
theorem ref_projection (r : Fin 8192) (d : Fin 3072) : val_main_v5 (F := Ideal) X W (ix2 r d) = projection X W (r.val / 2048) (r.val % 2048) d.val := by
  have hr := r.isLt
  have hd := d.isLt
  have e : idx_main_v5 (ix2 r d) = ix3 (⟨r.val / 2048, by omega⟩ : Fin 4) (⟨r.val % 2048, by omega⟩ : Fin 2048) d := funext fun a => Fin.ext (by
    match a with
    | ⟨0, _⟩ => show (r.val * 3072 + d.val) / 6291456 = r.val / 2048; omega
    | ⟨1, _⟩ => show (r.val * 3072 + d.val) / 3072 % 2048 = r.val % 2048; omega
    | ⟨2, _⟩ => show (r.val * 3072 + d.val) % 3072 = d.val; omega)
  rw [val_main_v5_apply, e, val_main_v4_apply, val_main_v3_apply]
  refine Finset.sum_congr rfl fun k _ => ?_
  have hk := k.isLt
  rw [val_main_v2_apply, val_main_v1_apply]
  refine congrArg₂ (· * ·) (at3_eq X _ _ _ _ rfl rfl rfl).symm (at3_eq W _ _ _ _ rfl ?_ ?_).symm
  · show (k.val * 11776 + d.val) / 11776 % 2048 = k.val; omega
  · show (k.val * 11776 + d.val) % 11776 = d.val; omega

end Reference

/-- The kernel's result is the reference's. -/
theorem result_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v5 (F := Ideal) (hIn m c) (wIn m c) = Cert.Kernel3Ideal.Value.G3 m c := funext fun y => by
  have e : y = ix2 (y 0) (y 1) := eq_ix2 y
  rw [e]
  exact (ref_projection (hIn m c) (wIn m c) (y 0) (y 1)).trans (G3_apply m c (y 0) (y 1)).symm

/-- Over the extended reals the kernel's result is the reference's. -/
theorem algebraic : Cert.algebraic_Kernel3Ideal_Reference3Ideal := by
  intro m g m' g' _ hagree
  refine ⟨_, Cert.Kernel3Ideal.Value.run (F := Ideal) m g, ?_⟩
  refine (θ_run Cert.Reference3Ideal.defs _ _).mono (fun _ h c => ⟨(h c).1.trans ?_, (h c).2⟩) (Cert.Reference3Ideal.Value.run (F := Ideal) m' g')
  rw [Cert.Reference3Ideal.Read.val_main_v5_eq, (hagree c).1, (hagree c).2]
  exact result_eq m c

end Cert.Project
end
-- ==== Proof.DownRing.lean ====
/-
  The last projection keeps its weights in memory of its own: at the first block of rows it brings them in, 128 rows at
  a time, through four staging slots, three transfers under way while a fourth slot is read. This module names the
  blocks of weights, the slots and their counters, says what is held before each step of that loop, and runs one step.
-/
module

public import proofs.«01_k».proof.Proof.Gen.Kernel4Ideal.Frame
public import proofs.«01_k».proof.Proof.Gen.Kernel4Ideal.Loops
public import Idealize.ShloMosaic.Lib.Ring
public import Idealize.ShloMosaic.Lib.Affine
public import Idealize.ShloMosaic.Lib.Exec
public import Idealize.ShloMosaic.Lib.Tactic
public import Idealize.ShloMosaic.Lib.Pipeline.KitQuiescent

@[expose] public section

set_option maxRecDepth 16384

noncomputable section

namespace Cert.Down

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's own resources beside the counters of the kernel's transfers. -/
abbrev UU (nD : Nat) (τ : Topo) : Type := UR sig nD τ × Counters
local notation "𝕄" => MT nD τ sig Unit (Elt F) ℕ (UU nD τ) ℕ
abbrev 𝒱₀ : Variants := Variants.none

/-! ## Names: block `b` of the weights, slot `s`, its counter -/

abbrev wM : Memref sig .tc .hbm S1x5632x2048 .f32 := Memref.whole main_arg1
abbrev wbM : Memref sig .tc .vmem S5632x2048 .bf16 := Memref.whole cc0_scratch0
abbrev bufM : Memref sig .tc .vmem S4x128x2048 .f32 := Memref.whole cc0_scratch1

abbrev rowsOff (b : Fin 44) : Fin 3 → Nat := ![0, 128 * b.val, 0]
abbrev slotOff (s : Fin 4) : Fin 3 → Nat := ![s.val, 0, 0]
abbrev semOff (s : Fin 4) : Fin 1 → Nat := ![s.val]

theorem rowsOff_inb (b : Fin 44) : ∀ a, rowsOff b a + S1x128x2048.size a ≤ S1x5632x2048.size a := by
  have hb := b.isLt
  intro a
  fin_cases a
  · show 0 + 1 ≤ 1; omega
  · show 128 * b.val + 128 ≤ 5632; omega
  · show 0 + 2048 ≤ 2048; omega
theorem slotOff_inb (s : Fin 4) : ∀ a, slotOff s a + S1x128x2048.size a ≤ S4x128x2048.size a := by
  have hs := s.isLt
  intro a
  fin_cases a
  · show s.val + 1 ≤ 4; omega
  · show 0 + 128 ≤ 128; omega
  · show 0 + 2048 ≤ 2048; omega
theorem semOff_inb (s : Fin 4) : ∀ a, semOff s a + S1.size a ≤ S4.size a := by
  have hs := s.isLt
  intro a
  fin_cases a
  show s.val + 1 ≤ 4; omega

def rows (b : Fin 44) : Memref sig .tc .hbm S128x2048 .f32 :=
  (wM.slice (Rect.unit (s := S1x5632x2048) (rowsOff b) S1x128x2048.size (rowsOff_inb b)) (fun _ => rfl)).squeeze S128x2048 squeezes_S1x128x2048_S128x2048
def slot (s : Fin 4) : Memref sig .tc .vmem S128x2048 .f32 :=
  (bufM.slice (Rect.unit (s := S4x128x2048) (slotOff s) S1x128x2048.size (slotOff_inb s)) (fun _ => rfl)).squeeze S128x2048 squeezes_S1x128x2048_S128x2048
def csm (s : Fin 4) : DmaSems sig S_ := (cc0_scratch2.slice (Rect.unit (s := S4) (semOff s) S1.size (semOff_inb s))).squeeze S_ squeezes_S1_S_

instance (s : Fin 4) : ClosedOff (slotOff s) := ⟨slotOff s, rfl⟩
instance (b : Fin 44) : ClosedOff (rowsOff b) := ⟨rowsOff b, rfl⟩

/-! ## The step's offsets in closed form: 44 steps, each evaluated -/

theorem trips_eq : k0_t1_loop.trips = 44 := by decide

theorem off1_eq : ∀ k : Fin k0_t1_loop.trips, k0_off1 k = semOff (Ring.sl 4 (k.val + 3)) := by decide +kernel
theorem off2_eq : ∀ k : Fin k0_t1_loop.trips, k0_off2 k = slotOff (Ring.sl 4 (k.val + 3)) := by decide +kernel
theorem off3_eq : ∀ k : Fin k0_t1_loop.trips, k.val + 3 < 44 → k0_off3 k = rowsOff (Ring.bk 44 (k.val + 3)) := by decide +kernel
theorem off4_eq : ∀ k : Fin k0_t1_loop.trips, k0_off4 k = semOff (Ring.sl 4 k.val) := by decide +kernel
theorem off5_eq : ∀ k : Fin k0_t1_loop.trips, k0_off5 k = slotOff (Ring.sl 4 k.val) := by decide +kernel
theorem off6_eq : ∀ k : Fin k0_t1_loop.trips, k0_off6 k = rowsOff (Ring.bk 44 k.val) := by decide +kernel
theorem off7_eq : ∀ k : Fin k0_t1_loop.trips, k0_off7 k = slotOff (Ring.sl 4 k.val) := by decide +kernel
theorem off8_eq : ∀ k : Fin k0_t1_loop.trips, k0_off8 k = ![128 * k.val, 0] := by decide +kernel
theorem more_iff : ∀ k : Fin k0_t1_loop.trips, k0_cond2 k = 1#1 ↔ k.val + 3 < 44 := by decide +kernel

instance (k : Fin k0_t1_loop.trips) : ClosedOff (k0_off2 k) := ⟨slotOff (Ring.sl 4 (k.val + 3)), off2_eq k⟩
instance (k : Fin k0_t1_loop.trips) : ClosedOff (k0_off5 k) := ⟨slotOff (Ring.sl 4 k.val), off5_eq k⟩
instance (k : Fin k0_t1_loop.trips) : ClosedOff (k0_off7 k) := ⟨slotOff (Ring.sl 4 k.val), off7_eq k⟩
instance (k : Fin k0_t1_loop.trips) : ClosedOff (k0_off8 k) := ⟨![128 * k.val, 0], off8_eq k⟩

/-! ## The printed slices under those names -/

theorem csm_of {off : Fin 1 → Nat} {s : Fin 4} (e : off = semOff s) (hh) :
    (cc0_scratch2.slice (Rect.unit (s := S4) off S1.size hh)).squeeze S_ squeezes_S1_S_ = csm s :=
  congrArg (fun A : DmaSems sig S1 => A.squeeze S_ squeezes_S1_S_) (SemArray.slice_unit_congr _ e _ _)
theorem slot_of {off : Fin 3 → Nat} {s : Fin 4} (e : off = slotOff s) (hh hs) :
    (bufM.slice (Rect.unit (s := S4x128x2048) off S1x128x2048.size hh) hs).squeeze S128x2048 squeezes_S1x128x2048_S128x2048 = slot s :=
  congrArg (fun A : Memref sig .tc .vmem S1x128x2048 .f32 => A.squeeze S128x2048 squeezes_S1x128x2048_S128x2048) (Memref.slice_unit_congr _ e _ _ _ _)
theorem rows_of {off : Fin 3 → Nat} {b : Fin 44} (e : off = rowsOff b) (hh hs) :
    (wM.slice (Rect.unit (s := S1x5632x2048) off S1x128x2048.size hh) hs).squeeze S128x2048 squeezes_S1x128x2048_S128x2048 = rows b :=
  congrArg (fun A : Memref sig .tc .hbm S1x128x2048 .f32 => A.squeeze S128x2048 squeezes_S1x128x2048_S128x2048) (Memref.slice_unit_congr _ e _ _ _ _)

@[sl_canon] theorem csm_lit0 (hh) : (cc0_scratch2.slice (Rect.unit (s := S4) ![0] S1.size hh)).squeeze S_ squeezes_S1_S_ = csm 0 := csm_of (by decide) _
@[sl_canon] theorem csm_lit1 (hh) : (cc0_scratch2.slice (Rect.unit (s := S4) ![1] S1.size hh)).squeeze S_ squeezes_S1_S_ = csm 1 := csm_of (by decide) _
@[sl_canon] theorem csm_lit2 (hh) : (cc0_scratch2.slice (Rect.unit (s := S4) ![2] S1.size hh)).squeeze S_ squeezes_S1_S_ = csm 2 := csm_of (by decide) _
@[sl_canon] theorem slot_lit0 (hh hs) : (bufM.slice (Rect.unit (s := S4x128x2048) ![0, 0, 0] S1x128x2048.size hh) hs).squeeze S128x2048 squeezes_S1x128x2048_S128x2048 = slot 0 := slot_of (by decide) _ _
@[sl_canon] theorem slot_lit1 (hh hs) : (bufM.slice (Rect.unit (s := S4x128x2048) ![1, 0, 0] S1x128x2048.size hh) hs).squeeze S128x2048 squeezes_S1x128x2048_S128x2048 = slot 1 := slot_of (by decide) _ _
@[sl_canon] theorem slot_lit2 (hh hs) : (bufM.slice (Rect.unit (s := S4x128x2048) ![2, 0, 0] S1x128x2048.size hh) hs).squeeze S128x2048 squeezes_S1x128x2048_S128x2048 = slot 2 := slot_of (by decide) _ _
@[sl_canon] theorem rows_lit0 (hh hs) : (wM.slice (Rect.unit (s := S1x5632x2048) ![0, 0, 0] S1x128x2048.size hh) hs).squeeze S128x2048 squeezes_S1x128x2048_S128x2048 = rows 0 := rows_of (by decide) _ _
@[sl_canon] theorem rows_lit1 (hh hs) : (wM.slice (Rect.unit (s := S1x5632x2048) ![0, 128, 0] S1x128x2048.size hh) hs).squeeze S128x2048 squeezes_S1x128x2048_S128x2048 = rows 1 := rows_of (by decide) _ _
@[sl_canon] theorem rows_lit2 (hh hs) : (wM.slice (Rect.unit (s := S1x5632x2048) ![0, 256, 0] S1x128x2048.size hh) hs).squeeze S128x2048 squeezes_S1x128x2048_S128x2048 = rows 2 := rows_of (by decide) _ _

@[sl_canon] theorem csm_next (k : Fin k0_t1_loop.trips) (hh) :
    (cc0_scratch2.slice (Rect.unit (s := S4) (k0_off1 k) S1.size hh)).squeeze S_ squeezes_S1_S_ = csm (Ring.sl 4 (k.val + 3)) := csm_of (off1_eq k) _
@[sl_canon] theorem slot_next (k : Fin k0_t1_loop.trips) (hh hs) :
    (bufM.slice (Rect.unit (s := S4x128x2048) (k0_off2 k) S1x128x2048.size hh) hs).squeeze S128x2048 squeezes_S1x128x2048_S128x2048 = slot (Ring.sl 4 (k.val + 3)) := slot_of (off2_eq k) _ _
@[sl_canon] theorem rows_next (k : Fin k0_t1_loop.trips) (hk : k.val + 3 < 44) (hh hs) :
    (wM.slice (Rect.unit (s := S1x5632x2048) (k0_off3 k) S1x128x2048.size hh) hs).squeeze S128x2048 squeezes_S1x128x2048_S128x2048 = rows (Ring.bk 44 (k.val + 3)) := rows_of (off3_eq k hk) _ _
@[sl_canon] theorem csm_here (k : Fin k0_t1_loop.trips) (hh) :
    (cc0_scratch2.slice (Rect.unit (s := S4) (k0_off4 k) S1.size hh)).squeeze S_ squeezes_S1_S_ = csm (Ring.sl 4 k.val) := csm_of (off4_eq k) _
@[sl_canon] theorem slot_here (k : Fin k0_t1_loop.trips) (hh hs) :
    (bufM.slice (Rect.unit (s := S4x128x2048) (k0_off5 k) S1x128x2048.size hh) hs).squeeze S128x2048 squeezes_S1x128x2048_S128x2048 = slot (Ring.sl 4 k.val) := slot_of (off5_eq k) _ _
@[sl_canon] theorem rows_here (k : Fin k0_t1_loop.trips) (hh hs) :
    (wM.slice (Rect.unit (s := S1x5632x2048) (k0_off6 k) S1x128x2048.size hh) hs).squeeze S128x2048 squeezes_S1x128x2048_S128x2048 = rows (Ring.bk 44 k.val) := rows_of (off6_eq k) _ _

/-! ## What is held: a block at home, a slot free or being filled -/

section Held
variable (c : Dev nD) (XA : Buf (Elt F) (wM.view.loc (c : Thread nD τ)))

abbrev cellP (s : Fin 4) : sProp 𝕄 := semVal ((c : Thread nD τ), SemLoc.dma (csm s).sem) 0
abbrev slotP (s : Fin 4) (f : Buf (Elt F) ((slot s).view.loc (c : Thread nD τ))) : sProp 𝕄 :=
  (slot s).view.loc (c : Thread nD τ) ↦[(slot s).view.set]{fullShare} f
abbrev homeP (b : Fin 44) : sProp 𝕄 := (rows b).view.loc (c : Thread nD τ) ↦[(rows b).view.set]{fullShare} XA
abbrev payload (b : Fin 44) : S128x2048.Idx → Elt F .f32 := ReadAs.same.apply ((rows b).view.read (Elt F) XA)
abbrev landed (s : Fin 4) (b : Fin 44) (f : Buf (Elt F) ((slot s).view.loc (c : Thread nD τ))) : Buf (Elt F) ((slot s).view.loc (c : Thread nD τ)) :=
  (slot s).view.writes (Elt F) f [⟨Rect.whole S128x2048, payload c XA b⟩]
abbrev flightP (s : Fin 4) (b : Fin 44) (f : Buf (Elt F) ((slot s).view.loc (c : Thread nD τ))) : sProp 𝕄 :=
  Transfers.Flight countersEmb (c : Thread nD τ) (SemLoc.dma (csm s).sem) () 32768 iprop(slotP c s (landed c XA s b f) ∗ homeP c XA b)
/-- A slot nobody writes to, and its counter at zero. -/
def freeP (s : Fin 4) : sProp 𝕄 := iprop((∃ f, slotP (F := F) c s f) ∗ cellP c s)
theorem freeP_eq (s : Fin 4) : freeP (F := F) c s = iprop((∃ f, slotP (F := F) c s f) ∗ cellP c s) := rfl
theorem free_open (s : Fin 4) : freeP (F := F) c s ⊢ iprop((∃ f, slotP (F := F) c s f) ∗ cellP c s) := .rfl
/-- What block `p` is to its slot before it is waited for: under way, or, past the last block, the slot free. -/
def roleP (p : ℕ) : sProp 𝕄 :=
  if p < 44 then iprop(∃ f, flightP c XA (Ring.sl 4 p) (Ring.bk 44 p) f) else freeP c (Ring.sl 4 p)

theorem roleP_of_lt {p : ℕ} (h : p < 44) : roleP c XA p = iprop(∃ f, flightP c XA (Ring.sl 4 p) (Ring.bk 44 p) f) := if_pos h
theorem roleP_of_ge {p : ℕ} (h : ¬ p < 44) : roleP c XA p = freeP c (Ring.sl 4 p) := if_neg h

theorem homes_here (k : ℕ) (hk : k + 3 < 44) :
    bigSep (Ring.homeSet 3 k) (homeP c XA) = iprop(homeP c XA (Ring.bk 44 (k + 3)) ∗ bigSep ((Ring.homeSet 3 k).erase (Ring.bk 44 (k + 3))) (homeP c XA)) := by
  conv_lhs => rw [Ring.homeSet_out 3 k hk, bigSep_insert (Ring.bkL_not_mem_erase 3 k)]
  rfl
theorem homes_next (k : ℕ) (hk : k + 3 < 44) :
    bigSep (Ring.homeSet 3 (k + 1)) (homeP c XA) = iprop(homeP c XA (Ring.bk 44 k) ∗ bigSep ((Ring.homeSet 3 k).erase (Ring.bk 44 (k + 3))) (homeP c XA)) := by
  conv_lhs => rw [Ring.homeSet_succ 3 k hk, bigSep_insert (Ring.bk_not_mem_erase 3 k (by omega) (by decide))]
  rfl
theorem homes_tail (k : ℕ) (h : 44 ≤ k + 3) (hk : k < 44) :
    bigSep (Ring.homeSet 3 (k + 1)) (homeP c XA) = iprop(homeP c XA (Ring.bk 44 k) ∗ bigSep (Ring.homeSet 3 k) (homeP c XA)) := by
  conv_lhs => rw [Ring.homeSet_succ_tail 3 k h hk, bigSep_insert (Ring.bk_not_mem_homeSet 3 k hk (by decide))]
  rfl

end Held

theorem sl4_add4 (k : ℕ) : Ring.sl 4 (k + 1 + 3) = Ring.sl 4 k := by rw [show k + 1 + 3 = k + 4 from rfl, Ring.sl_add]

/-! ## One step -/

section Trip
variable (c : Dev nD) (XA : Buf (Elt F) (wM.view.loc (c : Thread nD τ)))
  (i : grid0.Coords) (arg1 : Memref sig .tc .vmem S512x5632 .bf16) (harg1 : arg1.IsWhole)
  (arg3 : Memref sig .tc .vmem S512x2048 .f32) (harg3 : arg3.IsWhole) (arg4 : Memref sig .tc .vmem S1x6x2048 .f32) (harg4 : arg4.IsWhole)
  (arg5 : Memref sig .tc .vmem S1x2048 .f32) (harg5 : arg5.IsWhole) (arg6 : Memref sig .tc .vmem S512x2048 .f32) (harg6 : arg6.IsWhole)
  (h1 : k0_cond1 i = 1#1)

abbrev wbP (f : Buf (Elt F) (wbM.view.loc (c : Thread nD τ))) : sProp 𝕄 := wbM.view.loc (c : Thread nD τ) ↦[wbM.view.set]{fullShare} f

/-- What is held before step `k`, the kept weights at `f`. -/
@[irreducible] def resAt (k : ℕ) (f : Buf (Elt F) (wbM.view.loc (c : Thread nD τ))) : sProp 𝕄 :=
  iprop(wbP c f ∗ (∃ W, owes (c : Thread nD τ) 0 W) ∗ bigSep (Ring.homeSet 3 k) (homeP c XA)
    ∗ roleP c XA k ∗ roleP c XA (k + 1) ∗ roleP c XA (k + 2) ∗ freeP c (Ring.sl 4 (k + 3)))

abbrev tripG (k : Fin k0_t1_loop.trips) : Prog (TpuEff nD τ sig (Elt F) Λ₀ .tc) Unit :=
  k0_t1_body (F := F) i arg1 harg1 wM (Memref.isWhole_whole _) arg3 harg3 arg4 harg4 arg5 harg5 arg6 harg6 wbM (Memref.isWhole_whole _) bufM (Memref.isWhole_whole _) cc0_scratch2 h1 k ()

/-- The rows of the kept weights that step `k` writes. -/
abbrev RW (k : Fin k0_t1_loop.trips) : Rect S5632x2048 := Rect.unit (s := S5632x2048) (k0_off8 k) S128x2048.size (k0_off8_inb i k h1)

/-- Block `k` of the weights as step `k` finds it in its slot, -/
abbrev staged (k : Fin k0_t1_loop.trips) : Vec F S1x128x2048 .f32 :=
  bufM.view.readAt (Elt F) (Rect.unit (s := S4x128x2048) (k0_off7 k) S1x128x2048.size (k0_off7_inb i k h1)).toLoadRect
    (landed c XA (Ring.sl 4 k.val) (Ring.bk 44 k.val) (slot (Ring.sl 4 k.val)).view.junk)
/-- and the kept weights after the step: its rows written over `f`. -/
abbrev kept (k : Fin k0_t1_loop.trips) (f : Buf (Elt F) (wbM.view.loc (c : Thread nD τ))) : Buf (Elt F) (wbM.view.loc (c : Thread nD τ)) :=
  wbM.view.writes (Elt F) f [⟨RW i h1 k, k0_pay2 (staged c XA i h1 k)⟩]

set_option backward.proofsInPublic true in
/-- A step that also sends for block `k + 3`. -/
theorem tripMore (k : Fin k0_t1_loop.trips) (hk : k.val + 3 < 44) (f : Buf (Elt F) (wbM.view.loc (c : Thread nD τ))) :
    resAt c XA k f ⊢ wp frame (wpE (defs₀ (F := F)) 𝒱₀ (c : Thread nD τ) none) Set.univ
        (tripG i arg1 harg1 arg3 harg3 arg4 harg4 arg5 harg5 arg6 harg6 h1 k)
        (fun _ => resAt c XA (k.val + 1) (kept c XA i h1 k f)) := by
  have h2 : k0_cond2 k = 1#1 := (more_iff k).mpr hk
  have hk' : k.val < 44 := by omega
  unfold resAt
  rw [homes_here c XA k.val hk, homes_next c XA k.val hk, roleP_of_lt c XA hk', show k.val + 1 + 2 = k.val + 3 from rfl, roleP_of_lt c XA hk, sl4_add4]
  unfold freeP
  iintro ⟨HO, ⟨%W, HW⟩, ⟨Hg, Hrest⟩, ⟨%f0, HF0⟩, Hr1, Hr2, ⟨⟨%f3, Hs3⟩, Hc3⟩⟩
  dsimp only [tripG]
  sl_unfold [k0_t1_body]
  sl_exec
  sl_step
  isplitl [HO]; · iexact HO
  isplitl [HW]; · iexists _; iexact HW
  isplitl [HF0_src Hrest]
  · isplitl [HF0_src]; · iexact HF0_src
    iexact Hrest
  isplitl [Hr1]; · iexact Hr1
  isplitl [Hr2]; · iexact Hr2
  isplitl [Hc3]; · iexists f3; iexact Hc3
  isplitl [HF0_dst]; · iexists _; iexact HF0_dst
  iexact HF0

set_option backward.proofsInPublic true in
/-- One of the last three steps: there is no further block to send for. -/
theorem tripLast (k : Fin k0_t1_loop.trips) (hk : ¬ k.val + 3 < 44) (f : Buf (Elt F) (wbM.view.loc (c : Thread nD τ))) :
    resAt c XA k f ⊢ wp frame (wpE (defs₀ (F := F)) 𝒱₀ (c : Thread nD τ) none) Set.univ
        (tripG i arg1 harg1 arg3 harg3 arg4 harg4 arg5 harg5 arg6 harg6 h1 k)
        (fun _ => resAt c XA (k.val + 1) (kept c XA i h1 k f)) := by
  have h2 : ¬ k0_cond2 k = 1#1 := fun h => hk ((more_iff k).mp h)
  have hk' : k.val < 44 := Nat.lt_of_lt_of_eq k.isLt trips_eq
  unfold resAt
  rw [homes_tail c XA k.val (by omega) hk', roleP_of_lt c XA hk', show k.val + 1 + 2 = k.val + 3 from rfl, roleP_of_ge c XA hk, sl4_add4]
  iintro ⟨HO, ⟨%W, HW⟩, Hrest, ⟨%f0, HF0⟩, Hr1, Hr2, Hr3⟩
  dsimp only [tripG]
  sl_unfold [k0_t1_body]
  sl_exec
  sl_step
  isplitl [HO]; · iexact HO
  isplitl [HW]; · iexists _; iexact HW
  isplitl [HF0_src Hrest]
  · isplitl [HF0_src]; · iexact HF0_src
    iexact Hrest
  isplitl [Hr1]; · iexact Hr1
  isplitl [Hr2]; · iexact Hr2
  isplitl [Hr3]; · iexact Hr3
  unfold freeP
  isplitl [HF0_dst]; · iexists _; iexact HF0_dst
  iexact HF0

/-- The kept weights before step `k`, from what they were before the loop. -/
def keptAt (f : Buf (Elt F) (wbM.view.loc (c : Thread nD τ))) : ℕ → Buf (Elt F) (wbM.view.loc (c : Thread nD τ))
  | 0 => f
  | k + 1 => if h : k < k0_t1_loop.trips then kept c XA i h1 ⟨k, h⟩ (keptAt f k) else keptAt f k

theorem keptAt_succ (f : Buf (Elt F) (wbM.view.loc (c : Thread nD τ))) (k : Fin k0_t1_loop.trips) :
    keptAt c XA i h1 f (k.val + 1) = kept c XA i h1 k (keptAt c XA i h1 f k.val) := by
  rw [keptAt, dif_pos k.isLt]

set_option warn.classDefReducibility false in
/-- The loop's invariant: what is held before each step. -/
@[sl_loop] def loopInv (f : Buf (Elt F) (wbM.view.loc (c : Thread nD τ))) :
    LoopInvTy_k0_t1 (F := F) Unit ℕ (UU nD τ) ℕ 𝒱₀ c none Set.univ i arg1 harg1 wM (Memref.isWhole_whole _) arg3 harg3 arg4 harg4 arg5 harg5 arg6 harg6
      wbM (Memref.isWhole_whole _) bufM (Memref.isWhole_whole _) cc0_scratch2 h1 where
  inv k _ := resAt c XA k (keptAt c XA i h1 f k)
  step k _ := by
    rw [keptAt_succ]
    by_cases hk : k.val + 3 < 44
    · exact tripMore c XA i arg1 harg1 arg3 harg3 arg4 harg4 arg5 harg5 arg6 harg6 h1 k hk _
    · exact tripLast c XA i arg1 harg1 arg3 harg3 arg4 harg4 arg5 harg5 arg6 harg6 h1 k hk _

end Trip

end Cert.Down

end
-- ==== Proof.DownBody.lean ====
/-
  One block of rows of the last projection: at the first block the weights are brought in and kept; at every block the
  two halves of the output block are computed from the kept weights.
-/
module

public import proofs.«01_k».proof.Proof.DownRing

@[expose] public section

set_option maxRecDepth 16384

noncomputable section

namespace Cert.Down

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XA : Buf (Elt F) (wM.view.loc (c : Thread nD τ)))
  (i : grid0.Coords) (arg1 : Memref sig .tc .vmem S512x5632 .bf16) (harg1 : arg1.IsWhole)
  (arg3 : Memref sig .tc .vmem S512x2048 .f32) (harg3 : arg3.IsWhole) (arg4 : Memref sig .tc .vmem S1x6x2048 .f32) (harg4 : arg4.IsWhole)
  (arg5 : Memref sig .tc .vmem S1x2048 .f32) (harg5 : arg5.IsWhole) (arg6 : Memref sig .tc .vmem S512x2048 .f32) (harg6 : arg6.IsWhole)

/-- The kernel on the given blocks, the weights, the kept weights, the slots and their counters its own. -/
abbrev bodyG : Prog (TpuEff nD τ sig (Elt F) Λ₀ .tc) PUnit :=
  cc0_down i arg1 harg1 wM (Memref.isWhole_whole _) arg3 harg3 arg4 harg4 arg5 harg5 arg6 harg6 wbM (Memref.isWhole_whole _) bufM (Memref.isWhole_whole _) cc0_scratch2

abbrev heldP {sp : Space} {s : Shape} {e : EltTy} (a : Memref sig .tc sp s e) (g : Buf (Elt F) (a.view.loc (c : Thread nD τ))) : sProp 𝕄 :=
  a.view.loc (c : Thread nD τ) ↦[a.view.set]{fullShare} g

section Out
variable (g1 : Buf (Elt F) (arg1.view.loc (c : Thread nD τ))) (g3 : Buf (Elt F) (arg3.view.loc (c : Thread nD τ)))
  (g4 : Buf (Elt F) (arg4.view.loc (c : Thread nD τ))) (g5 : Buf (Elt F) (arg5.view.loc (c : Thread nD τ)))
  (gO : Buf (Elt F) (arg6.view.loc (c : Thread nD τ))) (f : Buf (Elt F) (wbM.view.loc (c : Thread nD τ)))

abbrev gateRow : Vec F S1x1x2048 .f32 := arg4.view.readAt (Elt F) (Rect.unit (s := S1x6x2048) ![0, 5, 0] S1x1x2048.size inb_S1x6x2048_S1x1x2048_0_5_0).toLoadRect g4
abbrev keptW : Vec F S5632x2048 .bf16 := wbM.view.readAt (Elt F) (Rect.unit (s := S5632x2048) ![0, 0] S5632x2048.size inb_S5632x2048_S5632x2048_0_0).toLoadRect f
abbrev normRow : Vec F S1x2048 .f32 := arg5.view.readAt (Elt F) (Rect.unit (s := S1x2048) ![0, 0] S1x2048.size inb_S1x2048_S1x2048_0_0).toLoadRect g5

/-- The upper half of the output block, -/
abbrev upper : FVec F S256x2048 .f32 :=
  k0_pay3 (arg3.view.readAt (Elt F) (Rect.unit (s := S512x2048) ![0, 0] S256x2048.size inb_S512x2048_S256x2048_0_0).toLoadRect g3)
    (gateRow c arg4 g4)
    (arg1.view.readAt (Elt F) (Rect.unit (s := S512x5632) ![0, 0] S256x5632.size inb_S512x5632_S256x5632_0_0).toLoadRect g1)
    (keptW c f) (normRow c arg5 g5)
/-- the lower half, -/
abbrev lower : FVec F S256x2048 .f32 :=
  k0_pay1 (k0_pay4 (arg3.view.readAt (Elt F) (Rect.unit (s := S512x2048) ![256, 0] S256x2048.size inb_S512x2048_S256x2048_256_0).toLoadRect g3))
    (k0_pay5 (gateRow c arg4 g4))
    (arg1.view.readAt (Elt F) (Rect.unit (s := S512x5632) ![256, 0] S256x5632.size inb_S512x5632_S256x5632_256_0).toLoadRect g1)
    (keptW c f) (normRow c arg5 g5)
/-- and the block written over `gO`. -/
abbrev outOf : Buf (Elt F) (arg6.view.loc (c : Thread nD τ)) :=
  arg6.view.writes (Elt F) gO
    [⟨Rect.unit (s := S512x2048) ![256, 0] S256x2048.size inb_S512x2048_S256x2048_256_0, lower c arg1 arg3 arg4 arg5 g1 g3 g4 g5 f⟩,
     ⟨Rect.unit (s := S512x2048) ![0, 0] S256x2048.size inb_S512x2048_S256x2048_0_0, upper c arg1 arg3 arg4 arg5 g1 g3 g4 g5 f⟩]

/-- The blocks and the kept weights, the output block at `gO`. -/
abbrev blocksP : sProp 𝕄 :=
  iprop(heldP c arg1 g1 ∗ heldP c arg3 g3 ∗ heldP c arg4 g4 ∗ heldP c arg5 g5 ∗ heldP c arg6 gO ∗ wbP c f)

set_option backward.proofsInPublic true in
/-- At a later block of rows: the kept weights are only read. -/
theorem laterRun (h1 : ¬ k0_cond1 i = 1#1) (W : Waits sig Unit) (Q : PUnit → sProp 𝕄) :
    iprop((blocksP c arg1 arg3 arg4 arg5 arg6 g1 g3 g4 g5 gO f ∗ owes (c : Thread nD τ) 0 W)
        ∗ ((blocksP c arg1 arg3 arg4 arg5 arg6 g1 g3 g4 g5 (outOf c arg1 arg3 arg4 arg5 arg6 g1 g3 g4 g5 gO f) f ∗ ∃ W, owes (c : Thread nD τ) 0 W) -∗ Q ⟨⟩))
      ⊢ wp frame (wpE (defs₀ (F := F)) 𝒱₀ (c : Thread nD τ) none) Set.univ (bodyG i arg1 harg1 arg3 harg3 arg4 harg4 arg5 harg5 arg6 harg6) Q := by
  iintro ⟨⟨⟨H1, H3, H4, H5, H6, H7⟩, HW⟩, Hk⟩
  sl_exec
  sl_step
  iapply Hk
  isplitr [HW]
  · isplitl [H1]; · iexact H1
    isplitl [H3]; · iexact H3
    isplitl [H4]; · iexact H4
    isplitl [H5]; · iexact H5
    isplitl [H6]; · iexact H6
    iexact H7
  iexists _; iexact HW

/-- The three transfers sent for before the loop are what its first step expects. -/
theorem resAt_start (h1 : k0_cond1 i = 1#1) (f0 f1 f2) (W : Waits sig Unit) :
    iprop(wbP c f ∗ owes (c : Thread nD τ) 0 W ∗ bigSep (Ring.homeSet 3 0) (homeP c XA)
        ∗ flightP c XA 0 0 f0 ∗ flightP c XA 1 1 f1 ∗ flightP c XA 2 2 f2 ∗ freeP c 3)
      ⊢ resAt c XA 0 (keptAt c XA i h1 f 0) := by
  unfold resAt
  rw [roleP_of_lt c XA (p := 0) (by omega), roleP_of_lt c XA (p := 0 + 1) (by omega), roleP_of_lt c XA (p := 0 + 2) (by omega)]
  iintro ⟨H7, HW, Hh, H0, H1, H2, H3⟩
  isplitl [H7]; · iexact H7
  isplitl [HW]; · iexists W; iexact HW
  isplitl [Hh]; · iexact Hh
  isplitl [H0]; · iexists f0; iexact H0
  isplitl [H1]; · iexists f1; iexact H1
  isplitl [H2]; · iexists f2; iexact H2
  iexact H3

/-- After the loop every block is back and every slot is free. -/
theorem resAt_end (g : Buf (Elt F) (wbM.view.loc (c : Thread nD τ))) :
    resAt c XA 44 g ⊢ iprop(wbP c g ∗ (∃ W, owes (c : Thread nD τ) 0 W) ∗ bigSep Finset.univ (homeP c XA)
        ∗ freeP c 0 ∗ freeP c 1 ∗ freeP c 2 ∗ freeP c 3) := by
  unfold resAt
  rw [roleP_of_ge c XA (p := 44) (by omega), roleP_of_ge c XA (p := 44 + 1) (by omega), roleP_of_ge c XA (p := 44 + 2) (by omega),
    Ring.homeSet_last 3 44 (Nat.le_refl _)]
  exact .rfl

set_option backward.proofsInPublic true in
/-- At the first block of rows: the weights are brought in first. -/
theorem firstRun (h1 : k0_cond1 i = 1#1) (W : Waits sig Unit) (Q : PUnit → sProp 𝕄) :
    iprop((blocksP c arg1 arg3 arg4 arg5 arg6 g1 g3 g4 g5 gO f ∗ owes (c : Thread nD τ) 0 W
          ∗ homeP c XA 0 ∗ homeP c XA 1 ∗ homeP c XA 2 ∗ bigSep (Ring.homeSet 3 0) (homeP c XA)
          ∗ freeP c 0 ∗ freeP c 1 ∗ freeP c 2 ∗ freeP c 3)
        ∗ ((blocksP c arg1 arg3 arg4 arg5 arg6 g1 g3 g4 g5 (outOf c arg1 arg3 arg4 arg5 arg6 g1 g3 g4 g5 gO (keptAt c XA i h1 f 44)) (keptAt c XA i h1 f 44)
              ∗ (∃ W, owes (c : Thread nD τ) 0 W) ∗ bigSep Finset.univ (homeP c XA) ∗ freeP c 0 ∗ freeP c 1 ∗ freeP c 2 ∗ freeP c 3) -∗ Q ⟨⟩))
      ⊢ wp frame (wpE (defs₀ (F := F)) 𝒱₀ (c : Thread nD τ) none) Set.univ (bodyG i arg1 harg1 arg3 harg3 arg4 harg4 arg5 harg5 arg6 harg6) Q := by
  rw [freeP_eq c 0, freeP_eq c 1, freeP_eq c 2]
  iintro ⟨⟨⟨H1, H3, H4, H5, H6, H7⟩, HW, Hh0, Hh1, Hh2, Hh, ⟨⟨%f0, Hs0⟩, Hc0⟩, ⟨⟨%f1, Hs1⟩, Hc1⟩, ⟨⟨%f2, Hs2⟩, Hc2⟩, Hf3⟩, Hk⟩
  sl_exec
  ihave HR := (resAt_start c XA i f h1 f0 f1 f2 W) $$ [H7 HW Hh Hc0 Hc1 Hc2 Hf3]
  · isplitl [H7]; · iexact H7
    isplitl [HW]; · iexact HW
    isplitl [Hh]; · iexact Hh
    isplitl [Hc0]; · iexact Hc0
    isplitl [Hc1]; · iexact Hc1
    isplitl [Hc2]; · iexact Hc2
    iexact Hf3
  sl_exec
  rw [show Scf.trips k0_t1_loop.lb k0_t1_loop.ub k0_t1_loop.st = 44 from trips_eq]
  ihave HE := (resAt_end c XA (keptAt c XA i h1 f 44)) $$ HR
  icases HE with ⟨H7, HW, Hh, Hf0, Hf1, Hf2, Hf3⟩
  sl_exec
  sl_step
  iapply Hk
  isplitl [H1 H3 H4 H5 H6 H7]
  · isplitl [H1]; · iexact H1
    isplitl [H3]; · iexact H3
    isplitl [H4]; · iexact H4
    isplitl [H5]; · iexact H5
    isplitl [H6]; · iexact H6
    iexact H7
  isplitl [HW]; · iexact HW
  isplitl [Hh]; · iexact Hh
  isplitl [Hf0]; · iapply (free_open c 0); iexact Hf0
  isplitl [Hf1]; · iapply (free_open c 1); iexact Hf1
  isplitl [Hf2]; · iapply (free_open c 2); iexact Hf2
  iexact Hf3

end Out

end Cert.Down

end
-- ==== Proof.DownKept.lean ====
/-
  What the kept weights hold once all 44 blocks have come in, whatever they held before, and what a block of rows then
  computes from them.
-/
module

public import proofs.«01_k».proof.Proof.DownBody
public import Idealize.ShloMosaic.Lib.Writes
public import Idealize.ShloMosaic.Lib.VecWindow
public import Idealize.ShloMosaic.Lib.ValueIdx
public import Idealize.ShloMosaic.Lib.Pipeline.FrameBody

@[expose] public section

set_option maxRecDepth 16384

noncomputable section

namespace Cert.Down

open Cert.Kernel4Ideal Cert.Kernel4Ideal.Gen
open Idealize.ShloMosaic
open Idealize.ShloMosaic.TcCoe Idealize.ShloMosaic.Tactic Idealize.ShloMosaic.ValueIdx

variable {F : FTy → Type} [FloatOps F]
variable (c : Dev nD) (XA : Buf (Elt F) (wM.view.loc (c : Thread nD τ)))

/-- The first block of rows. -/
abbrev i0 : grid0.Coords := grid0.coords t0_0
theorem first_i0 : k0_cond1 i0 = 1#1 := by decide +kernel
/-- The weights come in at the first block of rows only. -/
theorem first_iff : ∀ t : Fin grid0.N, k0_cond1 (grid0.coords t) = 1#1 ↔ t.val = 0 := by decide +kernel

/-- The step that brings row `n` in. -/
def stepOf (n : Fin 5632) : Fin k0_t1_loop.trips := ⟨n.val / 128, by have := n.isLt; rw [trips_eq]; omega⟩

/-- A block of the weights as kept. -/
def castBlock (k : Fin k0_t1_loop.trips) : S128x2048.Idx → Elt F .bf16 := k0_pay2 (staged c XA i0 first_i0 k)
/-- The weights as kept: row `n` is row `n % 128` of block `n / 128`. -/
def castW : Vec F S5632x2048 .bf16 := fun y =>
  castBlock c XA (stepOf (y 0)) (ix2 (⟨(y 0).val % 128, by omega⟩ : Fin 128) (y 1))

/-- Before step `n` the rows of the first `n` blocks are kept. -/
theorem keptAt_read (i : grid0.Coords) (h1 : k0_cond1 i = 1#1) (f : Buf (Elt F) (wbM.view.loc (c : Thread nD τ))) (n : ℕ) (hn : n ≤ 44)
    (y : S5632x2048.Idx) (hy : (y 0).val < 128 * n) : wbM.view.read (Elt F) (keptAt c XA i h1 f n) y = castW c XA y := by
  induction n with
  | zero => omega
  | succ n ih =>
    have hk : n < k0_t1_loop.trips := by rw [trips_eq]; omega
    have e8 : ∀ a, (RW i h1 ⟨n, hk⟩).off a = ![128 * n, 0] a := fun a => congrFun (off8_eq ⟨n, hk⟩) a
    rw [show keptAt c XA i h1 f (n + 1) = kept c XA i h1 ⟨n, hk⟩ (keptAt c XA i h1 f n) from keptAt_succ c XA i h1 f ⟨n, hk⟩]
    by_cases h : (y 0).val < 128 * n
    · refine (View.read_writes_cons_miss_of_axis _ _ _ _ y 0 (128 * n) 128 (e8 0) rfl rfl (Or.inl h)).trans ?_
      exact ih (by omega) h
    · refine (View.read_writes_cons_hit_of_coords _ _ (RW i h1 ⟨n, hk⟩) _ _ (ix2 (⟨(y 0).val % 128, by omega⟩ : Fin 128) (y 1)) y fun a => ?_).trans ?_
      · rw [e8 a]
        match a with
        | ⟨0, _⟩ => show (y 0).val = 128 * n + 1 * ((y 0).val % 128); omega
        | ⟨1, _⟩ => show (y 1).val = 0 + 1 * (y 1).val; omega
      · show castBlock c XA ⟨n, hk⟩ _ = castBlock c XA (stepOf (y 0)) _
        rw [show stepOf (y 0) = ⟨n, hk⟩ from Fin.ext (by show (y 0).val / 128 = n; omega)]

/-- After the last step all rows are. -/
theorem kept_all (i : grid0.Coords) (h1 : k0_cond1 i = 1#1) (f : Buf (Elt F) (wbM.view.loc (c : Thread nD τ))) :
    wbM.view.read (Elt F) (keptAt c XA i h1 f 44) = castW c XA :=
  funext fun y => keptAt_read c XA i h1 f 44 (Nat.le_refl _) y (y 0).isLt

/-! ## A block of rows, from the blocks' values -/

section Values
variable (x0 : Vec F S512x5632 .bf16) (x1 : Vec F S512x2048 .f32) (x2 : Vec F S1x6x2048 .f32) (x3 : Vec F S1x2048 .f32) (W : Vec F S5632x2048 .bf16)

/-- The two stores, the last first. -/
def outPieces : List (View.Piece (Elt F) S512x2048 .f32) :=
  [⟨Rect.unit (s := S512x2048) ![256, 0] S256x2048.size inb_S512x2048_S256x2048_256_0,
      k0_pay1 (k0_pay4 (View.ld x1 (Rect.unit (s := S512x2048) ![256, 0] S256x2048.size inb_S512x2048_S256x2048_256_0)))
        (k0_pay5 (View.ld x2 (Rect.unit (s := S1x6x2048) ![0, 5, 0] S1x1x2048.size inb_S1x6x2048_S1x1x2048_0_5_0)))
        (View.ld x0 (Rect.unit (s := S512x5632) ![256, 0] S256x5632.size inb_S512x5632_S256x5632_256_0)) W x3⟩,
   ⟨Rect.unit (s := S512x2048) ![0, 0] S256x2048.size inb_S512x2048_S256x2048_0_0,
      k0_pay3 (View.ld x1 (Rect.unit (s := S512x2048) ![0, 0] S256x2048.size inb_S512x2048_S256x2048_0_0))
        (View.ld x2 (Rect.unit (s := S1x6x2048) ![0, 5, 0] S1x1x2048.size inb_S1x6x2048_S1x1x2048_0_5_0))
        (View.ld x0 (Rect.unit (s := S512x5632) ![0, 0] S256x5632.size inb_S512x5632_S256x5632_0_0)) W x3⟩]

theorem outPieces_cover (y : S512x2048.Idx) : ∃ p ∈ outPieces x0 x1 x2 x3 W, y ∈ p.1.set :=
  View.cover_of_tiledL _ ![256, 2048] (by sl_kernel_rfl) y

variable (arg1 : Memref sig .tc .vmem S512x5632 .bf16) (arg3 : Memref sig .tc .vmem S512x2048 .f32) (arg4 : Memref sig .tc .vmem S1x6x2048 .f32)
  (arg5 : Memref sig .tc .vmem S1x2048 .f32) (arg6 : Memref sig .tc .vmem S512x2048 .f32)

/-- What the output block reads afterwards. -/
theorem out_read (gO : Buf (Elt F) (arg6.view.loc (c : Thread nD τ))) (f : Buf (Elt F) (wbM.view.loc (c : Thread nD τ)))
    (hf : wbM.view.read (Elt F) f = W) :
    arg6.view.read (Elt F) (outOf c arg1 arg3 arg4 arg5 arg6 (arg1.view.rep x0) (arg3.view.rep x1) (arg4.view.rep x2) (arg5.view.rep x3) gO f) =
      View.canon (outPieces x0 x1 x2 x3 W) := by
  have e : outOf c arg1 arg3 arg4 arg5 arg6 (arg1.view.rep x0) (arg3.view.rep x1) (arg4.view.rep x2) (arg5.view.rep x3) gO f =
      arg6.view.writes (Elt F) gO (outPieces x0 x1 x2 x3 W) := by
    unfold outPieces
    dsimp only [outOf, upper, lower, gateRow, keptW, normRow]
    rw [View.readAt_full, View.readAt_full, hf, View.read_rep]
    simp only [View.readAt_eq_ld, View.read_rep]
  rw [e]
  exact View.read_writes_eq_canon _ _ _ (outPieces_cover x0 x1 x2 x3 W)

end Values

end Cert.Down

end
-- ==== Proof.DownMath.lean ====
/-
  What a block of rows becomes, at an index: each row, with the gated products added, divided by its root mean square
  and scaled.
-/
module

public import proofs.«01_k».proof.Proof.DownKept
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.KernelVsHost
public import Idealize.ShloMosaic.Lib.Pipeline.ValueKit.Geometry
public import Idealize.ShloMosaic.Lib.Pipeline.ValueKit.Held

@[expose] public section

set_option maxRecDepth 16384

noncomputable section

namespace Cert.Down

open Cert.Kernel4Ideal Cert.Kernel4Ideal.Gen
open Idealize.ShloMosaic Idealize.ShloMosaic.TcCoe Idealize.ShloMosaic.Tactic Idealize.ShloMosaic.ValueIdx
open scoped BigOperators

/-- A row over its root mean square, times `g`, at `d`. -/
def normed (Z : Fin 2048 → EReal) (g : EReal) (d : Fin 2048) : EReal :=
  Z d * Ideal.rsqrt (Ideal.div (∑ k : Fin 2048, Z k * Z k) (Ideal.ofBits .f32 0x45000000#32) + Ideal.ofBits .f32 0x358637BD#32) * g

section Half
variable (x : FVec Ideal S256x2048 .f32) (g : FVec Ideal S1x1x2048 .f32) (h : FVec Ideal S256x5632 .bf16) (W : FVec Ideal S5632x2048 .bf16)
  (q : FVec Ideal S1x2048 .f32)

/-- The products, gated and added. -/
def mixed : FVec Ideal S256x2048 .f32 :=
  addf (shapeCast S256x2048 x shapeCasts_S256x2048_S256x2048)
    (mulf (broadcastTo S256x2048 (shapeCast S1x2048 g shapeCasts_S1x1x2048_S1x2048) broadcasts_S1x2048_S256x2048)
      (matmul dot_S256x5632_S5632x2048_S256x2048_1_0_0_1_n_n none (shapeCast S256x5632 h shapeCasts_S256x5632_S256x5632) W
        (constant S256x2048 .f32 0x00000000#32)))

/-- The factor of each row. -/
def factor (z : FVec Ideal S256x2048 .f32) : FVec Ideal S256x1 .f32 :=
  rsqrt (addf (divf (shapeCast S256x1 (multiReduction .add [1] S256 (mulf z z) 0x00000000#32 reduces_S256x2048_S256 (.inl rfl) rfl) shapeCasts_S256_S256x1)
    (broadcast S256x1 (Scalar.ofBits (F := Ideal) .f32 0x45000000#32))) (broadcast S256x1 (Scalar.ofBits (F := Ideal) .f32 0x358637BD#32)))

theorem pay3_eq : k0_pay3 (F := Ideal) x g h W q =
    mulf (mulf (mixed x g h W) (broadcastTo S256x2048 (factor (mixed x g h W)) broadcasts_S256x1_S256x2048))
      (broadcastTo S256x2048 (shapeCast S1x2048 q shapeCasts_S1x2048_S1x2048) broadcasts_S1x2048_S256x2048) := rfl

/-- The second store's value is computed as the first's is. -/
theorem pay1_eq : k0_pay1 (F := Ideal) (k0_pay4 x) (k0_pay5 g) h W q = k0_pay3 (F := Ideal) x g h W q := rfl

theorem mixed_apply (r : Fin 256) (d : Fin 2048) :
    mixed x g h W (ix2 r d) = x (ix2 r d) + g (ix3 (0 : Fin 1) (0 : Fin 1) d) * ∑ k : Fin 5632, h (ix2 r k) * W (ix2 k d) := by
  refine congrArg₂ (· + ·) (shapeCast_apply _ _ _ _ rfl) (congrArg₂ (· * ·) ?_ ?_)
  · rw [broadcastTo_1b_ab_apply]
    exact shapeCast_1ab_ab_apply _ _ _ _
  · show FloatOps.matmul (F := Ideal) (DotDims.plain 256 5632 2048) none _ _ _ (ix2 r d) = _
    rw [Ideal.matmul_plain_apply]
    show Ideal.ofBits .f32 0x00000000#32 + _ = _
    rw [Ideal.ofBits_zero_f32, zero_add]
    exact Finset.sum_congr rfl fun k _ => by rw [shapeCast_apply _ _ (ix2 r k) (ix2 r k) rfl]

theorem squares_apply (z : FVec Ideal S256x2048 .f32) (r : Fin 256) :
    multiReduction .add [1] S256 (mulf z z) 0x00000000#32 reduces_S256x2048_S256 (.inl rfl) rfl (ix1 r) = ∑ k : Fin 2048, z (ix2 r k) * z (ix2 r k) := by
  refine (Ideal.multiReduction_add_single _ _ _ _ _ _).trans (Finset.sum_congr rfl fun k _ => ?_)
  have e : reduces_S256x2048_S256.lift (ix1 r) k = ix2 r k := funext fun a => Fin.ext (by match a with | ⟨0, _⟩ => rfl | ⟨1, _⟩ => rfl)
  rw [e]
  rfl

theorem factor_apply (z : FVec Ideal S256x2048 .f32) (r : Fin 256) : factor z (ix2 r (0 : Fin 1)) =
    Ideal.rsqrt (Ideal.div (∑ k : Fin 2048, z (ix2 r k) * z (ix2 r k)) (Ideal.ofBits .f32 0x45000000#32) + Ideal.ofBits .f32 0x358637BD#32) := by
  show Ideal.rsqrt (Ideal.div (shapeCast S256x1 _ shapeCasts_S256_S256x1 (ix2 r (0 : Fin 1))) _ + _) = _
  rw [shapeCast_apply _ _ (ix2 r (0 : Fin 1)) (ix1 r) (by rw [Shape.rowMajor_val_two, Shape.rowMajor_val_one]; show r.val = r.val * 1 + 0; omega),
    squares_apply]
  rfl

/-- A half block at an index. -/
theorem pay3_apply (Z : Fin 2048 → EReal) (r : Fin 256) (d : Fin 2048)
    (hZ : ∀ d, x (ix2 r d) + g (ix3 (0 : Fin 1) (0 : Fin 1) d) * ∑ k : Fin 5632, h (ix2 r k) * W (ix2 k d) = Z d) :
    k0_pay3 (F := Ideal) x g h W q (ix2 r d) = normed Z (q (ix2 (0 : Fin 1) d)) d := by
  have hm : ∀ d, mixed x g h W (ix2 r d) = Z d := fun d => (mixed_apply x g h W r d).trans (hZ d)
  rw [pay3_eq]
  refine congrArg₂ (· * ·) (congrArg₂ (· * ·) (hm d) ?_) ?_
  · refine (broadcastTo_apply _ _ (ix2 r d) (ix2 r (0 : Fin 1)) fun a => ?_).trans ((factor_apply _ r).trans ?_)
    · match a with
      | ⟨0, _⟩ => rfl
      | ⟨1, _⟩ => rfl
    · simp only [hm]
  · rw [broadcastTo_1b_ab_apply]
    exact shapeCast_apply _ _ _ _ rfl

end Half

/-! ## A whole block -/

section Block
variable (x0 : FVec Ideal S512x5632 .bf16) (x1 : FVec Ideal S512x2048 .f32) (x2 : FVec Ideal S1x6x2048 .f32) (x3 : FVec Ideal S1x2048 .f32)
  (W : FVec Ideal S5632x2048 .bf16)

/-- A row with its gated products added. -/
def rowSum (r : Fin 512) (d : Fin 2048) : EReal :=
  x1 (ix2 r d) + x2 (ix3 (0 : Fin 1) (5 : Fin 6) d) * ∑ k : Fin 5632, x0 (ix2 r k) * W (ix2 k d)

/-- The rows from `o` on, loaded, at an index. -/
theorem ld_rows {n : ℕ} {e : EltTy} (X : (⟨2, ![512, n]⟩ : Shape).Idx → Elt Ideal e) (o : ℕ) (inb) (r : Fin 256) (R : Fin 512) (hR : R.val = o + r.val)
    (k : Fin n) : View.ld (Val := Elt Ideal) X (Rect.unit (s := ⟨2, ![512, n]⟩) ![o, 0] ![256, n] inb) (ix2 r k) = X (ix2 R k) := by
  refine congrArg X (funext fun a => Fin.ext ?_)
  rw [Rect.idx_unit_val]
  match a with
  | ⟨0, _⟩ => exact hR.symm
  | ⟨1, _⟩ => exact Nat.zero_add _

theorem ld_gate (d : Fin 2048) :
    View.ld (Val := Elt Ideal) (e' := .f32) x2 (Rect.unit (s := S1x6x2048) ![0, 5, 0] S1x1x2048.size inb_S1x6x2048_S1x1x2048_0_5_0) (ix3 (0 : Fin 1) (0 : Fin 1) d) =
      x2 (ix3 (0 : Fin 1) (5 : Fin 6) d) := by
  refine congrArg x2 (funext fun a => Fin.ext ?_)
  rw [Rect.idx_unit_val]
  match a with
  | ⟨0, _⟩ => rfl
  | ⟨1, _⟩ => rfl
  | ⟨2, _⟩ => exact Nat.zero_add _

theorem half_at (o : ℕ) (i1 i0) (r : Fin 256) (R : Fin 512) (hR : R.val = o + r.val) (d : Fin 2048) :
    k0_pay3 (F := Ideal) (View.ld (Val := Elt Ideal) (e' := .f32) x1 (Rect.unit (s := S512x2048) ![o, 0] S256x2048.size i1))
      (View.ld (Val := Elt Ideal) (e' := .f32) x2 (Rect.unit (s := S1x6x2048) ![0, 5, 0] S1x1x2048.size inb_S1x6x2048_S1x1x2048_0_5_0))
      (View.ld (Val := Elt Ideal) (e' := .bf16) x0 (Rect.unit (s := S512x5632) ![o, 0] S256x5632.size i0)) W x3 (ix2 r d) =
      normed (rowSum x0 x1 x2 W R) (x3 (ix2 (0 : Fin 1) d)) d := by
  refine pay3_apply _ _ _ _ _ (rowSum x0 x1 x2 W R) r d fun d => ?_
  refine congrArg₂ (· + ·) (ld_rows (e := .f32) x1 o i1 r R hR d) (congrArg₂ (· * ·) (ld_gate x2 d) (Finset.sum_congr rfl fun k _ => ?_))
  exact congrArg (· * W (ix2 k d)) (ld_rows (e := .bf16) x0 o i0 r R hR k)

/-- A block at an index. -/
theorem out_apply (y : S512x2048.Idx) :
    View.canon (outPieces (F := Ideal) x0 x1 x2 x3 W) y = normed (rowSum x0 x1 x2 W (y 0)) (x3 (ix2 (0 : Fin 1) (y 1))) (y 1) := by
  refine View.canon_apply_of_pieces (Val := Elt Ideal) (e := .f32) (fun y : S512x2048.Idx => normed (rowSum x0 x1 x2 W (y 0)) (x3 (ix2 (0 : Fin 1) (y 1))) (y 1))
    _ ?_ y (outPieces_cover (F := Ideal) x0 x1 x2 x3 W y)
  have key : ∀ (o : ℕ) (i1 i0) (x : (Rect.unit (s := S512x2048) ![o, 0] S256x2048.size i1).shape.Idx),
      k0_pay3 (F := Ideal) (View.ld (Val := Elt Ideal) (e' := .f32) x1 (Rect.unit (s := S512x2048) ![o, 0] S256x2048.size i1))
        (View.ld (Val := Elt Ideal) (e' := .f32) x2 (Rect.unit (s := S1x6x2048) ![0, 5, 0] S1x1x2048.size inb_S1x6x2048_S1x1x2048_0_5_0))
        (View.ld (Val := Elt Ideal) (e' := .bf16) x0 (Rect.unit (s := S512x5632) ![o, 0] S256x5632.size i0)) W x3 x =
      normed (rowSum x0 x1 x2 W ((Rect.unit (s := S512x2048) ![o, 0] S256x2048.size i1).emb x 0))
        (x3 (ix2 (0 : Fin 1) ((Rect.unit (s := S512x2048) ![o, 0] S256x2048.size i1).emb x 1))) ((Rect.unit (s := S512x2048) ![o, 0] S256x2048.size i1).emb x 1) := by
    intro o i1 i0 x
    have e0 := fun a => ValueKit.rect_emb_unit_val (s := S512x2048) ![o, 0] S256x2048.size i1 x a
    have e1 : (Rect.unit (s := S512x2048) ![o, 0] S256x2048.size i1).emb x 1 = x 1 := Fin.ext ((e0 1).trans (Nat.zero_add _))
    rw [e1]
    exact (congrArg _ (eq_ix2 x)).trans (half_at x0 x1 x2 x3 W o i1 i0 (x 0) _ (e0 0) (x 1))
  simp only [outPieces, List.forall_mem_cons]
  exact ⟨key 256 _ _, key 0 _ _, fun _ h => absurd h (List.not_mem_nil)⟩

end Block

/-! ## The kept weights -/

theorem pay2_apply (v : FVec Ideal S1x128x2048 .f32) (a : Fin 128) (b : Fin 2048) : k0_pay2 (F := Ideal) v (ix2 a b) = v (ix3 (0 : Fin 1) a b) := by
  show shapeCast S128x2048 (truncf (F := Ideal) .bf16 (shapeCast S128x2048 v shapeCasts_S1x128x2048_S128x2048) bitsLt_bf16_f32) shapeCasts_S128x2048_S128x2048 (ix2 a b) = _
  rw [shapeCast_apply _ _ (ix2 a b) (ix2 a b) rfl, truncf_apply]
  exact shapeCast_1ab_ab_apply _ _ _ _

variable (c : Dev nD) (XA : Buf (Elt Ideal) (wM.view.loc (c : Thread nD τ)))

/-- What a block of the weights reads. -/
theorem payload_apply (b : Fin 44) (a : Fin 128) (d : Fin 2048) (k : Fin 5632) (hk : k.val = 128 * b.val + a.val) :
    payload c XA b (ix2 a d) = (XA : S1x5632x2048.Idx → EReal) (ix3 (0 : Fin 1) k d) := by
  show (XA : S1x5632x2048.Idx → EReal) ((Rect.unit (s := S1x5632x2048) (rowsOff b) S1x128x2048.size (rowsOff_inb b)).emb
    (Shape.reshapeEquiv squeezes_S1x128x2048_S128x2048.numel_eq (ix2 a d))) = _
  rw [reshapeEquiv_ix2_1ab]
  refine congrArg (XA : S1x5632x2048.Idx → EReal) (funext fun x => Fin.ext ?_)
  rw [ValueKit.rect_emb_unit_val]
  match x with
  | ⟨0, _⟩ => rfl
  | ⟨1, _⟩ => exact hk.symm
  | ⟨2, _⟩ => exact Nat.zero_add _

/-- A slot read through the whole of the four. -/
theorem slot_read {off : Fin 3 → ℕ} (s : Fin 4) (e : off = slotOff s) (inb) (f : Buf (Elt Ideal) ((slot s).view.loc (c : Thread nD τ))) (a : Fin 128) (d : Fin 2048) :
    bufM.view.readAt (Elt Ideal) (Rect.unit (s := S4x128x2048) off S1x128x2048.size inb).toLoadRect f (ix3 (0 : Fin 1) a d) =
      (slot s).view.read (Elt Ideal) f (ix2 a d) := by
  subst e
  show _ = bufM.view.read (Elt Ideal) f ((Rect.unit (s := S4x128x2048) (slotOff s) S1x128x2048.size (slotOff_inb s)).emb
    (Shape.reshapeEquiv squeezes_S1x128x2048_S128x2048.numel_eq (ix2 a d)))
  rw [reshapeEquiv_ix2_1ab]
  rfl

theorem landed_read (s : Fin 4) (b : Fin 44) (f : Buf (Elt Ideal) ((slot s).view.loc (c : Thread nD τ))) :
    (slot s).view.read (Elt Ideal) (landed c XA s b f) = payload c XA b :=
  View.read_writes_whole _ _ _

/-- The weights as kept, at an index. -/
theorem castW_apply (k : Fin 5632) (d : Fin 2048) : castW (F := Ideal) c XA (ix2 k d) = (XA : S1x5632x2048.Idx → EReal) (ix3 (0 : Fin 1) k d) := by
  have hk := k.isLt
  unfold castW castBlock
  refine (pay2_apply _ _ _).trans ?_
  refine (slot_read c _ (off7_eq _) _ _ _ _).trans ?_
  rw [landed_read]
  refine payload_apply c XA _ _ _ k ?_
  show k.val = 128 * (k.val / 128 % 44) + k.val % 128
  omega

end Cert.Down
end
-- ==== Proof.DownRun.lean ====
/-
  The launch of the last projection: the pipeline stages five windows; the weights stay where they are and reach the
  kernel split into their 44 blocks; the kept weights, the four staging slots and their counters are the kernel's own.
-/
module

public import proofs.«01_k».proof.Proof.DownKept

@[expose] public section

set_option maxRecDepth 16384

noncomputable section

namespace Cert.Down

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The pipeline's share of the resources. -/
abbrev EP : Emb (UR sig nD τ) (MT nD τ sig Unit (Elt F) ℕ (UU nD τ) ℕ) := embL

/-- The weights as launched. -/
abbrev XA (c : Dev nD) : Buf (Elt F) (wM.view.loc (c : Thread nD τ)) := m ((c : Thread nD τ).loc main_arg1)

theorem ent_of_eq {P Q : sProp 𝕄} (h : P = Q) : P ⊢ Q := by rw [h]

/-! ## The counters, the weights' blocks, the slots -/

abbrev osem : Fin 4 → SemLoc sig := fun s => .dma (csm s).sem
theorem ownSemFacts : Pipeline.OwnSemFacts spec0 osem := by decide

abbrev rowsSet (b : Fin 44) : Finset S1x5632x2048.Idx := (Rect.unit (s := S1x5632x2048) (rowsOff b) S1x128x2048.size (rowsOff_inb b)).set
abbrev slotSet (s : Fin 4) : Finset S4x128x2048.Idx := (Rect.unit (s := S4x128x2048) (slotOff s) S1x128x2048.size (slotOff_inb s)).set

theorem rows_set (b : Fin 44) : (rows b).view.set = rowsSet b := (View.set_reshape _ _).trans (View.set_slice_whole _ _)
theorem slot_set (s : Fin 4) : (slot s).view.set = slotSet s := (View.set_reshape _ _).trans (View.set_slice_whole _ _)

theorem mem_rowsSet (b : Fin 44) (y : S1x5632x2048.Idx) : y ∈ rowsSet b ↔ (y 1).val / 128 = b.val := by
  rw [Rect.mem_set_unit]
  have h0 : (y 0).val < 1 := (y 0).isLt
  have h2 : (y 2).val < 2048 := (y 2).isLt
  constructor
  · intro H; have a1 : 128 * b.val ≤ (y 1).val ∧ (y 1).val < 128 * b.val + 128 := H 1; omega
  · intro H a; fin_cases a
    · show 0 ≤ (y 0).val ∧ (y 0).val < 0 + 1; omega
    · show 128 * b.val ≤ (y 1).val ∧ (y 1).val < 128 * b.val + 128; omega
    · show 0 ≤ (y 2).val ∧ (y 2).val < 0 + 2048; omega
theorem mem_slotSet (s : Fin 4) (y : S4x128x2048.Idx) : y ∈ slotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 128; omega
    · show 0 ≤ (y 2).val ∧ (y 2).val < 0 + 2048; omega
theorem rowsSet_disjoint : ∀ b b' : Fin 44, b ≠ b' → Disjoint (rowsSet b) (rowsSet b') := fun b b' hne =>
  Finset.disjoint_left.mpr fun y hy hy' => hne (Fin.ext (((mem_rowsSet b y).mp hy).symm.trans ((mem_rowsSet b' y).mp hy')))
theorem rowsSet_cover : (Finset.univ : Finset (Fin 44)).biUnion rowsSet = Finset.univ :=
  Finset.eq_univ_iff_forall.mpr fun y => Finset.mem_biUnion.mpr
    ⟨⟨(y 1).val / 128, by have h : (y 1).val < 5632 := (y 1).isLt; omega⟩, Finset.mem_univ _, (mem_rowsSet _ y).mpr rfl⟩
theorem slotSet_disjoint : ∀ s s' : Fin 4, s ≠ s' → Disjoint (slotSet s) (slotSet s') := fun s s' hne =>
  Finset.disjoint_left.mpr fun y hy hy' => hne (Fin.ext (((mem_slotSet s y).mp hy).symm.trans ((mem_slotSet s' y).mp hy')))
theorem slotSet_cover : (Finset.univ : Finset (Fin 4)).biUnion slotSet = Finset.univ :=
  Finset.eq_univ_iff_forall.mpr fun y => Finset.mem_biUnion.mpr ⟨y 0, Finset.mem_univ _, (mem_slotSet _ y).mpr rfl⟩

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The weights whole are their 44 blocks; -/
theorem weights_eq (c : Dev nD) :
    (((c : Thread nD τ).loc main_arg1) ↦{fullShare} m ((c : Thread nD τ).loc main_arg1) : sProp 𝕄) = bigSep Finset.univ (homeP c (XA m c)) := by
  rw [Ring.pointsTo_blocks (ℓ := (c : Thread nD τ).loc main_arg1) rowsSet rowsSet_disjoint rowsSet_cover]
  exact bigSep_congr fun b _ => by rw [← rows_set]; rfl
/-- at the body's entry the first three apart from the rest. -/
theorem homes_zero (c : Dev nD) (X : Buf (Elt F) (wM.view.loc (c : Thread nD τ))) :
    bigSep Finset.univ (homeP c X) = iprop(homeP c X 0 ∗ homeP c X 1 ∗ homeP c X 2 ∗ bigSep (Ring.homeSet 3 0) (homeP c X)) := by
  have e : (Finset.univ : Finset (Fin 44)) = insert 0 (insert 1 (insert 2 (Ring.homeSet (NB := 44) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]
  rfl

theorem slotP_eq (c : Dev nD) (s : Fin 4) (f) : slotP c s f = (((c : Thread nD τ).loc cc0_scratch1) ↦[slotSet s]{fullShare} f : sProp 𝕄) :=
  congrArg (fun S => (_ ↦[S]{fullShare} f : sProp 𝕄)) (slot_set s)
/-- Slots at one contents are slots at some contents. -/
theorem slots_any (c : Dev nD) (f : Buf (Elt F) ((c : Thread nD τ).loc cc0_scratch1)) :
    (bigSep Finset.univ (fun s => ((c : Thread nD τ).loc cc0_scratch1) ↦[slotSet s]{fullShare} f) : sProp 𝕄) ⊢ bigSep Finset.univ (fun s => iprop(∃ f, slotP c s f)) := by
  refine bigSep_mono fun s _ => show ((((c : Thread nD τ).loc cc0_scratch1) ↦[slotSet s]{fullShare} f : sProp 𝕄)) ⊢ iprop(∃ f, slotP c s f) from ?_
  iintro H; iexists f; iapply (ent_of_eq (slotP_eq c s f).symm); iexact H
/-- The staging buffer whole is its four slots, -/
theorem stage_split (c : Dev nD) :
    iprop(∃ f : Buf (Elt F) ((c : Thread nD τ).loc cc0_scratch1), ((c : Thread nD τ).loc cc0_scratch1) ↦{fullShare} f)
      ⊢ (bigSep Finset.univ (fun s => iprop(∃ f, slotP c s f)) : sProp 𝕄) := by
  iintro ⟨%f, H⟩
  ihave H2 := (ent_of_eq (Ring.pointsTo_blocks (Ix := Unit) (Name := ℕ) (U := UU nD τ) (Lvl := ℕ) (q := fullShare) (ℓ := (c : Thread nD τ).loc cc0_scratch1) slotSet slotSet_disjoint slotSet_cover f)) $$ H
  iapply (slots_any c f)
  iexact H2
/-- and back. -/
theorem stage_join (c : Dev nD) :
    (bigSep Finset.univ (fun s => iprop(∃ f, slotP c s f)) : sProp 𝕄)
      ⊢ iprop(∃ f : Buf (Elt F) ((c : Thread nD τ).loc cc0_scratch1), ((c : Thread nD τ).loc cc0_scratch1) ↦{fullShare} f) := by
  refine BI.Entails.trans (bigSep_mono fun s _ => show iprop(∃ f, slotP c s f) ⊢ (iprop(∃ f, ((c : Thread nD τ).loc cc0_scratch1) ↦[slotSet s]{fullShare} f) : sProp 𝕄) from by
    iintro ⟨%f, H⟩; iexists f; iapply (ent_of_eq (slotP_eq c s f)); iexact H) ?_
  exact Ring.pointsTo_blocks_join_exists (ℓ := (c : Thread nD τ).loc cc0_scratch1) slotSet slotSet_disjoint slotSet_cover (fun _ => Classical.arbitrary _)

/-- The four slots free: the slots at anything, the counters at zero. -/
theorem free_all (c : Dev nD) :
    iprop(bigSep Finset.univ (fun s => iprop(∃ f, slotP c s f)) ∗ Pipeline.ownSems0 (Ix := Unit) (Name := ℕ) (U := UU nD τ) (Lvl := ℕ) (Val := Elt F) (τ := τ) osem c)
      ⊣⊢ (iprop(freeP c 0 ∗ freeP c 1 ∗ freeP c 2 ∗ freeP c 3) : sProp 𝕄) := by
  unfold Pipeline.ownSems0 freeP
  rw [bigSep_fin4, bigSep_fin4]
  constructor
  · iintro ⟨⟨S0, S1, S2, S3⟩, C0, C1, C2, C3⟩
    isplitl [S0 C0]
    · isplitl [S0] <;> iassumption
    isplitl [S1 C1]
    · isplitl [S1] <;> iassumption
    isplitl [S2 C2]
    · isplitl [S2] <;> iassumption
    isplitl [S3] <;> iassumption
  · iintro ⟨⟨S0, C0⟩, ⟨S1, C1⟩, ⟨S2, C2⟩, S3, C3⟩
    isplitl [S0 S1 S2 S3]
    · isplitl [S0]; · iassumption
      isplitl [S1]; · iassumption
      isplitl [S2] <;> iassumption
    isplitl [C0]; · iassumption
    isplitl [C1]; · iassumption
    isplitl [C2] <;> iassumption

/-! ## The pipeline's proof data -/

/-- The kept weights between blocks of rows: anything before the first, the weights cast afterwards. -/
def keptBetween (c : Dev nD) (n : ℕ) : sProp 𝕄 :=
  if n = 0 then iprop(∃ f, wbP c f) else wbP c (wbM.view.rep (castW c (XA m c)))
/-- What the kernel holds of its own between blocks of rows. -/
def Φ (c : Dev nD) (n : ℕ) : sProp 𝕄 :=
  iprop(bigSep Finset.univ (homeP c (XA m c)) ∗ (freeP c 0 ∗ freeP c 1 ∗ freeP c 2 ∗ freeP c 3) ∗ keptBetween m c n)

/-- What the body leaves in the output block at point `t`. -/
def outAt (c : Dev nD) (t : Fin cfg0.N) : S512x2048.Idx → Elt F .f32 :=
  View.canon (outPieces (iblk m c 0 t : Vec F S512x5632 .bf16) (iblk m c 1 t : Vec F S512x2048 .f32) (iblk m c 2 t : Vec F S1x6x2048 .f32)
    (iblk m c 3 t : Vec F S1x2048 .f32) (castW c (XA m c)))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Φ m c t.val
  q _ := fullShare
  owed _ := 0

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
theorem after_4 (c : Dev nD) (t : Fin cfg0.N) : (dats m 0 c).after 4 t = outAt m c t := by dsimp only [dats]

/-! ## The body at a point -/

abbrev st0 (t : Fin cfg0.N) : Memref sig .tc .vmem S512x5632 .bf16 := win0_0.stage (cfg0.slots t 0)
abbrev st1 (t : Fin cfg0.N) : Memref sig .tc .vmem S512x2048 .f32 := win0_1.stage (cfg0.slots t 1)
abbrev st2 (t : Fin cfg0.N) : Memref sig .tc .vmem S1x6x2048 .f32 := win0_2.stage (cfg0.slots t 2)
abbrev st3 (t : Fin cfg0.N) : Memref sig .tc .vmem S1x2048 .f32 := win0_3.stage (cfg0.slots t 3)
abbrev st4 (t : Fin cfg0.N) : Memref sig .tc .vmem S512x2048 .f32 := win0_4.stage (cfg0.slots t 4)

/-- The kernel at point `t`. -/
abbrev bodyT (t : Fin cfg0.N) : Prog (TpuEff nD τ sig (Elt F) Λ₀ .tc) PUnit :=
  bodyG (grid0.coords t) (st0 t) (hstage0_0 ((cfg0.slots t 0).cast nbuf0_0)) (st1 t) (hstage0_1 ((cfg0.slots t 1).cast nbuf0_1))
    (st2 t) (hstage0_2 ((cfg0.slots t 2).cast nbuf0_2)) (st3 t) (hstage0_3 ((cfg0.slots t 3).cast nbuf0_3)) (st4 t) (hstage0_4 ((cfg0.slots t 4).cast nbuf0_4))

/-- The staged blocks at point `t`, the output block at `gO`, the kept weights at `f`. -/
abbrev blocksT (c : Dev nD) (t : Fin cfg0.N) (gO : Buf (Elt F) ((st4 t).view.loc (c : Thread nD τ))) (f : Buf (Elt F) (wbM.view.loc (c : Thread nD τ))) : sProp 𝕄 :=
  blocksP c (st0 t) (st1 t) (st2 t) (st3 t) (st4 t) ((st0 t).view.rep (iblk m c 0 t)) ((st1 t).view.rep (iblk m c 1 t)) ((st2 t).view.rep (iblk m c 2 t)) ((st3 t).view.rep (iblk m c 3 t)) gO f

/-- A block of rows, first or later. -/
theorem pointRun (c : Dev nD) (t : Fin cfg0.N) (gO : Buf (Elt F) ((st4 t).view.loc (c : Thread nD τ))) (W : Waits sig Unit) (Q : PUnit → sProp 𝕄) :
    iprop((heldP c (st0 t) ((st0 t).view.rep (iblk m c 0 t)) ∗ heldP c (st1 t) ((st1 t).view.rep (iblk m c 1 t)) ∗ heldP c (st2 t) ((st2 t).view.rep (iblk m c 2 t))
          ∗ heldP c (st3 t) ((st3 t).view.rep (iblk m c 3 t)) ∗ heldP c (st4 t) gO ∗ owes (c : Thread nD τ) 0 W ∗ Φ m c t.val)
        ∗ ((heldP c (st0 t) ((st0 t).view.rep (iblk m c 0 t)) ∗ heldP c (st1 t) ((st1 t).view.rep (iblk m c 1 t)) ∗ heldP c (st2 t) ((st2 t).view.rep (iblk m c 2 t))
          ∗ heldP c (st3 t) ((st3 t).view.rep (iblk m c 3 t)) ∗ (∃ g, ⌜(st4 t).view.read (Elt F) g = outAt m c t⌝ ∗ heldP c (st4 t) g)
          ∗ (∃ W, owes (c : Thread nD τ) 0 W) ∗ Φ m c (t.val + 1)) -∗ Q ⟨⟩))
      ⊢ wp frame (wpE (defs₀ (F := F)) 𝒱₀ (c : Thread nD τ) none) Set.univ (bodyT t) Q := by
  unfold Φ
  rw [show keptBetween m c (t.val + 1) = wbP c (wbM.view.rep (castW c (XA m c))) from if_neg (Nat.succ_ne_zero _)]
  by_cases h0 : t.val = 0
  · rw [show keptBetween m c t.val = iprop(∃ f, wbP c f) from if_pos h0]
    have h1 := (first_iff t).mpr h0
    iintro ⟨⟨H0, H1, H2, H3, H4, HW, Hh, ⟨Hf0, Hf1, Hf2, Hf3⟩, ⟨%f, Hw⟩⟩, Hk⟩
    ihave Hh' := (ent_of_eq (homes_zero c (XA m c))) $$ Hh
    icases Hh' with ⟨Hh0, Hh1, Hh2, Hh⟩
    iapply (firstRun c (XA m c) (grid0.coords t) (st0 t) _ (st1 t) _ (st2 t) _ (st3 t) _ (st4 t) _ _ _ _ _ gO f h1 W)
    isplitr [Hk]
    · isplitl [H0 H1 H2 H3 H4 Hw]
      · isplitl [H0]; · iexact H0
        isplitl [H1]; · iexact H1
        isplitl [H2]; · iexact H2
        isplitl [H3]; · iexact H3
        isplitl [H4]; · iexact H4
        iexact Hw
      isplitl [HW]; · iexact HW
      isplitl [Hh0]; · iexact Hh0
      isplitl [Hh1]; · iexact Hh1
      isplitl [Hh2]; · iexact Hh2
      isplitl [Hh]; · iexact Hh
      isplitl [Hf0]; · iexact Hf0
      isplitl [Hf1]; · iexact Hf1
      isplitl [Hf2]; · iexact Hf2
      iexact Hf3
    · iintro ⟨⟨H0, H1, H2, H3, H4, Hw⟩, HW, Hh, Hf0, Hf1, Hf2, Hf3⟩
      ihave Hw' := (pointsTo_rep_entails (c : Thread nD τ) wbM _ fullShare) $$ Hw
      rw [kept_all c (XA m c) (grid0.coords t) h1 f]
      iapply Hk
      isplitl [H0]; · iexact H0
      isplitl [H1]; · iexact H1
      isplitl [H2]; · iexact H2
      isplitl [H3]; · iexact H3
      isplitl [H4]
      · iexists _
        isplitr; · ipureintro; exact out_read c _ _ _ _ _ (st0 t) (st1 t) (st2 t) (st3 t) (st4 t) gO _ (kept_all c (XA m c) (grid0.coords t) h1 f)
        iexact H4
      isplitl [HW]; · iexact HW
      isplitl [Hh]; · iexact Hh
      isplitr [Hw']
      · isplitl [Hf0]; · iexact Hf0
        isplitl [Hf1]; · iexact Hf1
        isplitl [Hf2]; · iexact Hf2
        iexact Hf3
      iexact Hw'
  · rw [show keptBetween m c t.val = wbP c (wbM.view.rep (castW c (XA m c))) from if_neg h0]
    have h1 : ¬ k0_cond1 (grid0.coords t) = 1#1 := fun h => h0 ((first_iff t).mp h)
    iintro ⟨⟨H0, H1, H2, H3, H4, HW, Hh, Hf, Hw⟩, Hk⟩
    iapply (laterRun c (grid0.coords t) (st0 t) _ (st1 t) _ (st2 t) _ (st3 t) _ (st4 t) _ _ _ _ _ gO (wbM.view.rep (castW c (XA m c))) h1 W)
    isplitl [H0 H1 H2 H3 H4 Hw HW]
    · isplitr [HW]
      · isplitl [H0]; · iexact H0
        isplitl [H1]; · iexact H1
        isplitl [H2]; · iexact H2
        isplitl [H3]; · iexact H3
        isplitl [H4]; · iexact H4
        iexact Hw
      iexact HW
    · iintro ⟨⟨H0, H1, H2, H3, H4, Hw⟩, HW⟩
      iapply Hk
      isplitl [H0]; · iexact H0
      isplitl [H1]; · iexact H1
      isplitl [H2]; · iexact H2
      isplitl [H3]; · iexact H3
      isplitl [H4]
      · iexists _
        isplitr; · ipureintro; exact out_read c _ _ _ _ _ (st0 t) (st1 t) (st2 t) (st3 t) (st4 t) gO _ (View.read_rep _ _)
        iexact H4
      isplitl [HW]; · iexact HW
      isplitl [Hh]; · iexact Hh
      isplitl [Hf]; · iexact Hf
      iexact Hw

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) := rfl
theorem prog_eq (t : Fin cfg0.N) : (defs₀ (F := F)) .tc cfg0.body (cfg0.bodyArgs t (cfg0.slots t)) = bodyT t := (congrFun defs_tc _).trans rfl

set_option backward.isDefEq.respectTransparency.types false in
/-- The body keeps the windows' blocks and what the kernel holds. -/
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3, after_4]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %e0, H0⟩, ⟨%d1, %g1, %e1, H1⟩, ⟨%d2, %g2, %e2, H2⟩, ⟨%d3, %g3, %e3, H3⟩, ⟨%d4, %gO, -, H4⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [e0, e1, e2, e3]
  sl_rw [prog_eq t]
  iapply (pointRun m c t gO W)
  isplitl [H0' H1' H2' H3' H4 HW HΦ]
  · isplitl [H0']; · iexact H0'
    isplitl [H1']; · iexact H1'
    isplitl [H2']; · iexact H2'
    isplitl [H3']; · iexact H3'
    isplitl [H4]; · iexact H4
    isplitl [HW]; · iexact HW
    iexact HΦ
  · iintro ⟨H0, H1, H2, H3, ⟨%g, %eg, H4⟩, ⟨%W', HW⟩, HΦ⟩
    isplitl [HΦ]; · iexact HΦ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists g; isplitr; · ipureintro; exact eg
    iexact H4

/-! ## The run -/

/-- The arguments that nothing of the call touches, as the call finds them. -/
def asideP (c : Dev nD) : sProp 𝕄 :=
  iprop((((c : Thread nD τ).loc main_arg0) ↦{fullShare} m ((c : Thread nD τ).loc main_arg0)) ∗ (((c : Thread nD τ).loc main_arg2) ↦{fullShare} m ((c : Thread nD τ).loc main_arg2))
    ∗ (((c : Thread nD τ).loc main_arg3) ↦{fullShare} m ((c : Thread nD τ).loc main_arg3)) ∗ (((c : Thread nD τ).loc main_arg4) ↦{fullShare} m ((c : Thread nD τ).loc main_arg4)))
def intoP (c : Dev nD) : sProp 𝕄 := iprop(bigSep Finset.univ (homeP c (XA m c)) ∗ Pipeline.ownSems0 osem c)
def backP (c : Dev nD) : sProp 𝕄 := ((c : Thread nD τ).loc main_arg1) ↦{fullShare} m ((c : Thread nD τ).loc main_arg1)
def u₀ : UU nD τ := (initOf (Pipeline.cells cfgs cellOf_inj) (Pipeline.launchToks cfgs cellOf_inj), 1)
/-- The output array after the run. -/
def G4 (c : Dev nD) : Buf (Elt F) ((cfg0.win 4).arr.view.loc (c : Thread nD τ)) := (dats m 0 c).arrAt 4 cfg0.N

/-- The arguments end as launched. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem hmain : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The kernel's own memory and counters at launch. -/
theorem enter (c : Dev nD) : iprop(intoP m c ∗ Pipeline.scopedRest spec0 c) ⊢ Φ m c 0 := by
  rw [scopedRest0_eq]
  unfold intoP Φ
  rw [show keptBetween m c 0 = iprop(∃ f, wbP c f) from if_pos rfl]
  iintro ⟨⟨Hh, Hc⟩, ⟨%f, Hw⟩, Hs⟩
  isplitl [Hh]; · iexact Hh
  isplitl [Hc Hs]
  · iapply (free_all (F := F) c).1
    isplitl [Hs]; · iapply (stage_split c); iexact Hs
    iexact Hc
  iexists f
  iapply (ent_of_eq (congrArg (fun S => (((c : Thread nD τ).loc cc0_scratch0) ↦[S]{fullShare} f : sProp 𝕄)) (View.set_whole cc0_scratch0).symm))
  iexact Hw
/-- They are given back at the end. -/
theorem leave (c : Dev nD) (n : ℕ) (hn : n ≠ 0) : Φ m c n ⊢ iprop(backP m c ∗ Pipeline.ownSems0 osem c ∗ Pipeline.scopedRest spec0 c) := by
  rw [scopedRest0_eq]
  unfold backP Φ
  rw [show keptBetween m c n = wbP c (wbM.view.rep (castW c (XA m c))) from if_neg hn, weights_eq m c]
  iintro ⟨Hh, Hf, Hw⟩
  isplitl [Hh]; · iexact Hh
  ihave H := (free_all (F := F) c).2 $$ Hf
  icases H with ⟨Hs, Hc⟩
  isplitl [Hc]; · iexact Hc
  isplitl [Hw]
  · iexists _
    iapply (ent_of_eq (congrArg (fun S => (((c : Thread nD τ).loc cc0_scratch0) ↦[S]{fullShare} _ : sProp 𝕄)) (View.set_whole cc0_scratch0)))
    iexact Hw
  iapply (stage_join c); iexact Hs

set_option backward.isDefEq.respectTransparency.types false in
/-- From any memory with zero counters the program runs to its end; the output array is then `G4`, the arguments are as
    launched, every counter is zero. -/
theorem run_main : θ_run defs (onTc (τ := τ) (main (F := F))) (s₀ m ρ)
    (fun r => (∀ c : Dev nD, r.2.mem ((cfg0.win 4).arr.view.loc (c : Thread nD τ)) = G4 m c ∧ QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m)
    (hA := fun _ _ => rfl)
    (X := intoP m) (Y := backP m) (Z := asideP m)
    (hX := fun c => by
      rw [unscopedRest0_eq, V_main_arg0, V_main_arg1, V_main_arg2, V_main_arg3, V_main_arg4, weights_eq m c]
      unfold intoP asideP
      iintro ⟨⟨H0, H1, H2, H3, H4, -⟩, HS, -⟩; imodintro
      isplitl [H1 HS]
      · isplitl [H1]; · iexact H1
        iexact HS
      isplitl [H0]; · iexact H0
      isplitl [H2]; · iexact H2
      isplitl [H3]; · iexact H3
      iexact H4)
    (hin := fun c => enter m c)
    (hout := fun c => leave m c cfg0.N (by rw [show cfg0.N = 16 from N_0]; decide))
    (QY := QY m)
    (hY := fun c s' => by
      unfold backP asideP
      iintro ⟨H1, ⟨H0, H2, H3, H4⟩, HSI⟩
      icombine HSI H0 gives %h0
      icombine HSI H1 gives %h1
      icombine HSI H2 gives %h2
      icombine HSI H3 gives %h3
      icombine HSI H4 gives %h4
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4⟩
      iexact HSI)
    (hQ := fun _ hh hz => ⟨fun c => ⟨(hh c).1 4, (hh c).2⟩, hz⟩)

end Cert.Down

end
-- ==== Proof.DownValue.lean ====
/-
  What the down projection's call leaves in its output array, at an index.
-/
module

public import proofs.«01_k».proof.Proof.DownMath
public import proofs.«01_k».proof.Proof.DownRun

@[expose] public section

set_option maxRecDepth 16384

noncomputable section

namespace Cert.Down

open Cert.Kernel4Ideal Cert.Kernel4Ideal.Gen
open Idealize.ShloMosaic Idealize.ShloMosaic.TcCoe Idealize.ShloMosaic.Tactic Idealize.ShloMosaic.ValueIdx
open Idealize.ShloMosaic.Pipeline
open scoped BigOperators

/-! ## The result, written out -/

section Result
variable (H : S4x2048x5632.Idx → EReal) (W : S1x5632x2048.Idx → EReal) (X : S4x2048x2048.Idx → EReal) (M : S4x12288.Idx → EReal) (g : S2048.Idx → EReal)

/-- The residual stream with the gated products added. -/
def stream (b : Fin 4) (r d : Fin 2048) : EReal :=
  X (ix3 b r d) + M (ix2 b (⟨10240 + d.val, by have := d.isLt; omega⟩ : Fin 12288)) * ∑ k : Fin 5632, H (ix3 b r k) * W (ix3 (0 : Fin 1) k d)

/-- The result at batch element `b`, row `r`, column `d`. -/
def result (b : Fin 4) (r d : Fin 2048) : EReal := normed (stream H W X M b r) (g (ix1 d)) d

/-- The result, row under row. -/
def resultRows : S8192x2048.Idx → EReal := fun i =>
  result H W X M g (⟨(i 0).val / 2048, by have h : (i 0).val < 8192 := (i 0).isLt; omega⟩ : Fin 4) (⟨(i 0).val % 2048, by omega⟩ : Fin 2048) (i 1)

end Result

/-- Row under row, at an index. -/
theorem under_apply {n : ℕ} (X : (⟨3, ![4, 2048, n]⟩ : Shape).Idx → EReal) (h : (⟨3, ![4, 2048, n]⟩ : Shape).ShapeCasts ⟨2, ![8192, n]⟩)
    (y : (⟨2, ![8192, n]⟩ : Shape).Idx) (b : Fin 4) (r : Fin 2048) (d : Fin n) (h0 : (y 0).val = 2048 * b.val + r.val) (h1 : (y 1).val = d.val) :
    shapeCast ⟨2, ![8192, n]⟩ X h y = X (ix3 b r d) := by
  refine shapeCast_apply X h y (ix3 b r d) ?_
  rw [Shape.rowMajor_val_three, Shape.rowMajor_val_two]
  show (b.val * 2048 + r.val) * n + d.val = (y 0).val * n + (y 1).val
  rw [h0, h1, Nat.mul_comm 2048]

variable (m : (ℓ : Loc nD τ sig) → Buf (Elt Ideal) ℓ) (c : Dev nD)

/-- The hidden activations as given. -/
def hIn : S4x2048x5632.Idx → EReal := m ((c : Thread nD τ).loc main_arg0)
/-- The weight as given. -/
def wIn : S1x5632x2048.Idx → EReal := m ((c : Thread nD τ).loc main_arg1)
/-- The residual stream as given. -/
def xIn : S4x2048x2048.Idx → EReal := m ((c : Thread nD τ).loc main_arg2)
/-- The conditioning as given. -/
def mIn : S4x12288.Idx → EReal := m ((c : Thread nD τ).loc main_arg3)
/-- The last scale as given. -/
def gIn : S2048.Idx → EReal := m ((c : Thread nD τ).loc main_arg4)

/-- The hidden activations, row under row. -/
def hRows : S8192x5632.Idx → EReal := V m c main_v2
/-- The residual stream, row under row. -/
def xRows : S8192x2048.Idx → EReal := V m c main_v3
/-- The conditioning, padded, six rows to a batch element. -/
def mRows : S8x6x2048.Idx → EReal := V m c main_v1
/-- The scale, as one row. -/
def gRow : S1x2048.Idx → EReal := V m c main_v4

theorem hRows_eq : hRows m c = shapeCast S8192x5632 (hIn m c) shapeCasts_S4x2048x5632_S8192x5632 := by
  unfold hRows
  simp only [V, List.flatten_cons, List.flatten_nil, List.append_nil, List.cons_append, List.nil_append]
  after_results_simp
  rfl

theorem xRows_eq : xRows m c = shapeCast S8192x2048 (xIn m c) shapeCasts_S4x2048x2048_S8192x2048 := by
  unfold xRows
  simp only [V, List.flatten_cons, List.flatten_nil, List.append_nil, List.cons_append, List.nil_append]
  after_results_simp
  rfl

theorem gRow_eq : gRow m c = broadcastInDim S1x2048 ![1] bcast_S2048_S1x2048_1 (gIn m c) := by
  unfold gRow
  simp only [V, List.flatten_cons, List.flatten_nil, List.append_nil, List.cons_append, List.nil_append]
  after_results_simp
  rfl

theorem mRows_eq : ∃ z : S_.Idx → EReal, mRows m c =
    shapeCast S8x6x2048 (pad S8x12288 ![0, 0] ![4, 0] ![0, 0] (mIn m c) z pads_S4x12288_S8x12288_040_000 h_S_) shapeCasts_S8x12288_S8x6x2048 := by
  unfold mRows
  simp only [V, List.flatten_cons, List.flatten_nil, List.append_nil, List.cons_append, List.nil_append]
  after_results_simp
  exact ⟨_, rfl⟩

theorem gRow_apply (y : S1x2048.Idx) : gRow m c y = gIn m c (ix1 (y 1)) := by
  rw [gRow_eq]
  refine broadcastInDim_apply _ _ _ y (ix1 (y 1)) fun a => ?_
  match a with
  | ⟨0, _⟩ => rfl

/-- The last of a batch element's six rows is its gate. -/
theorem mRows_apply (y : S8x6x2048.Idx) (b : Fin 4) (d : Fin 2048) (h0 : (y 0).val = b.val) (h1 : (y 1).val = 5) (h2 : (y 2).val = d.val) :
    mRows m c y = mIn m c (ix2 b (⟨10240 + d.val, by have := d.isLt; omega⟩ : Fin 12288)) := by
  have hb := b.isLt
  have hd := d.isLt
  obtain ⟨z, e⟩ := mRows_eq m c
  rw [e]
  refine (shapeCast_apply _ _ y (ix2 (⟨b.val, by omega⟩ : Fin 8) (⟨10240 + d.val, by omega⟩ : Fin 12288)) ?_).trans ?_
  · rw [Shape.rowMajor_val_three, Shape.rowMajor_val_two]
    show b.val * 12288 + (10240 + d.val) = ((y 0).val * 6 + (y 1).val) * 2048 + (y 2).val
    omega
  · refine pad_apply_of_inside _ _ _ _ _ _ _ _ (ix2 b (⟨10240 + d.val, by omega⟩ : Fin 12288)) fun a => ?_
    match a with
    | ⟨0, _⟩ => show b.val = 0 + b.val * 1; omega
    | ⟨1, _⟩ => show 10240 + d.val = 0 + (10240 + d.val) * 1; omega

/-! ## The blocks a point reads: rows `512 t` on, those of batch element `t / 4`. -/

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val / 4, 0, 0] := (by decide +kernel : ∀ t : Fin grid0.N, win0_2.index t = ![t.val / 4, 0, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0] := (by decide +kernel : ∀ t : Fin grid0.N, win0_4.index t = ![t.val, 0])
theorem flushes : ∀ t : Fin cfg0.N, (cfg0.win 4).flush t = true := (by decide +kernel : ∀ t : Fin grid0.N, win0_4.flush t = true)

/-- A point's batch element. -/
def batch (t : Fin cfg0.N) : Fin 4 := ⟨t.val / 4, by have h : t.val < 16 := lt_of_lt_of_eq t.isLt N_0; omega⟩
/-- A row of a point's block, within its batch element. -/
def within (t : Fin cfg0.N) (r : Fin 512) : Fin 2048 := ⟨512 * (t.val % 4) + r.val, by have := r.isLt; omega⟩

/-- The hidden activations' block. -/
def hBlk (t : Fin cfg0.N) : S512x5632.Idx → EReal := iblk m c 0 t
/-- The residual stream's block. -/
def xBlk (t : Fin cfg0.N) : S512x2048.Idx → EReal := iblk m c 1 t
/-- The conditioning's block. -/
def mBlk (t : Fin cfg0.N) : S1x6x2048.Idx → EReal := iblk m c 2 t
/-- The scale's block. -/
def gBlk (t : Fin cfg0.N) : S1x2048.Idx → EReal := iblk m c 3 t

theorem read_0 (t : Fin cfg0.N) (r : Fin 512) (k : Fin 5632) : hBlk m c t (ix2 r k) = hIn m c (ix3 (batch t) (within t r) k) := by
  refine (congrFun (hRows_eq m c) (((cfg0.win 0).blk t).view.emb (ix2 r k))).trans (under_apply _ _ _ _ _ _ ?_ ?_)
  · show win0_0.index t 0 * 512 + 1 * r.val = 2048 * (t.val / 4) + (512 * (t.val % 4) + r.val)
    rw [index_0]; show t.val * 512 + 1 * r.val = _; omega
  · show win0_0.index t 1 * 5632 + 1 * k.val = _
    rw [index_0]; show 0 * 5632 + 1 * k.val = _; omega

theorem read_1 (t : Fin cfg0.N) (r : Fin 512) (d : Fin 2048) : xBlk m c t (ix2 r d) = xIn m c (ix3 (batch t) (within t r) d) := by
  refine (congrFun (xRows_eq m c) (((cfg0.win 1).blk t).view.emb (ix2 r d))).trans (under_apply _ _ _ _ _ _ ?_ ?_)
  · show win0_1.index t 0 * 512 + 1 * r.val = 2048 * (t.val / 4) + (512 * (t.val % 4) + r.val)
    rw [index_1]; show t.val * 512 + 1 * r.val = _; omega
  · show win0_1.index t 1 * 2048 + 1 * d.val = _
    rw [index_1]; show 0 * 2048 + 1 * d.val = _; omega

theorem read_2 (t : Fin cfg0.N) (d : Fin 2048) :
    mBlk m c t (ix3 (0 : Fin 1) (5 : Fin 6) d) = mIn m c (ix2 (batch t) (⟨10240 + d.val, by have := d.isLt; omega⟩ : Fin 12288)) := by
  refine mRows_apply m c (((cfg0.win 2).blk t).view.emb (ix3 (0 : Fin 1) (5 : Fin 6) d)) (batch t) d ?_ ?_ ?_
  · show win0_2.index t 0 * 1 + 1 * 0 = t.val / 4
    rw [index_2]; show t.val / 4 * 1 + 1 * 0 = _; omega
  · show win0_2.index t 1 * 6 + 1 * 5 = 5
    rw [index_2]; rfl
  · show win0_2.index t 2 * 2048 + 1 * d.val = _
    rw [index_2]; show 0 * 2048 + 1 * d.val = _; omega

theorem read_3 (t : Fin cfg0.N) (d : Fin 2048) : gBlk m c t (ix2 (0 : Fin 1) d) = gIn m c (ix1 d) := by
  refine (gRow_apply m c (((cfg0.win 3).blk t).view.emb (ix2 (0 : Fin 1) d))).trans (congrArg (fun e : Fin 2048 => gIn m c (ix1 e)) (Fin.ext ?_))
  show win0_3.index t 1 * 2048 + 1 * d.val = _
  rw [index_3]; show 0 * 2048 + 1 * d.val = _; omega

/-- What a point leaves. -/
theorem point (t : Fin cfg0.N) (y : S512x2048.Idx) :
    outAt m c t y = result (hIn m c) (wIn m c) (xIn m c) (mIn m c) (gIn m c) (batch t) (within t (y 0)) (y 1) := by
  refine (out_apply (hBlk m c t) (xBlk m c t) (mBlk m c t) (gBlk m c t) (castW c (XA m c)) y).trans ?_
  have e : rowSum (hBlk m c t) (xBlk m c t) (mBlk m c t) (castW c (XA m c)) (y 0) =
      stream (hIn m c) (wIn m c) (xIn m c) (mIn m c) (batch t) (within t (y 0)) := funext fun d => by
    refine congrArg₂ (· + ·) (read_1 m c t (y 0) d) (congrArg₂ (· * ·) (read_2 m c t d) (Finset.sum_congr rfl fun k _ => ?_))
    exact congrArg₂ (· * ·) (read_0 m c t (y 0) k) (castW_apply c (XA m c) k d)
  rw [e]
  exact congrArg (fun q => normed (stream (hIn m c) (wIn m c) (xIn m c) (mIn m c) (batch t) (within t (y 0))) q (y 1)) (read_3 m c t (y 1))

/-- A point writes back its rows of the result. -/
theorem flushed_eq (t : Fin cfg0.N) :
    (dats m 0 c).flushed 4 t = ((cfg0.win 4).blk t).view.read (Elt Ideal) (resultRows (hIn m c) (wIn m c) (xIn m c) (mIn m c) (gIn m c)) := by
  show (cfg0.win 4).cut (grid0.coords t) ((dats m 0 c).after 4 t) = _
  rw [after_4]
  funext y
  have h0 : (y 0).val < 512 := (y 0).isLt
  have e0 : (((cfg0.win 4).blk t).view.emb y 0).val = 512 * t.val + (y 0).val := by
    show win0_4.index t 0 * 512 + 1 * (y 0).val = _
    rw [index_4]; show t.val * 512 + 1 * (y 0).val = _; omega
  have e1 : ((cfg0.win 4).blk t).view.emb y 1 = y 1 := Fin.ext (by
    show win0_4.index t 1 * 2048 + 1 * (y 1).val = _
    rw [index_4]; show 0 * 2048 + 1 * (y 1).val = _; omega)
  refine (point m c t y).trans ?_
  show _ = result _ _ _ _ _ _ _ (((cfg0.win 4).blk t).view.emb y 1)
  rw [e1]
  refine congrArg₂ (fun b r => result (hIn m c) (wIn m c) (xIn m c) (mIn m c) (gIn m c) b r (y 1)) (Fin.ext ?_) (Fin.ext ?_)
  · show t.val / 4 = (((cfg0.win 4).blk t).view.emb y 0).val / 2048
    rw [e0]; omega
  · show 512 * (t.val % 4) + (y 0).val = (((cfg0.win 4).blk t).view.emb y 0).val % 2048
    rw [e0]; omega

theorem mem_blk (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v5).slice (win0_4.rect t)).set ↔ _
  rw [View.set_slice_whole, Rect.mem_set_unit]
  exact Iff.rfl

/-- The output array after the run. -/
theorem G4_eq : G4 m c = resultRows (hIn m c) (wIn m c) (xIn m c) (mIn m c) (gIn m c) := by
  refine (dats m 0 c).arrAt_eq_of_cover 4 (resultRows (hIn m c) (wIn m c) (xIn m c) (mIn m c) (gIn m c)) (fun t _ => flushed_eq m c t) fun (i : S8192x2048.Idx) => ?_
  have h0 : (i 0).val < 8192 := (i 0).isLt
  have h1 : (i 1).val < 2048 := (i 1).isLt
  refine ⟨⟨(i 0).val / 512, by rw [show cfg0.N = 16 from N_0]; omega⟩, flushes _, (mem_blk _ i).2 fun a => ?_⟩
  rw [index_4]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

end Cert.Down
end
-- ==== Proof.DownClaims.lean ====
/-
  The claims about the down projection's call.
-/
module

public import proofs.«01_k».proof.Defs
public import proofs.«01_k».proof.Proof.Gen.Kernel4
public import proofs.«01_k».proof.Proof.Gen.Reference4Ideal.Run
public import proofs.«01_k».proof.Proof.Gen.Reference4Ideal.Read
public import proofs.«01_k».proof.Proof.DownValue
public import Idealize.ShloMosaic.Adequacy
public import Idealize.ShloMosaic.Init

@[expose] public section

set_option maxRecDepth 16384

noncomputable section

namespace Cert.Down

open Idealize.ShloMosaic Idealize.ShloMosaic.TcCoe Idealize.ShloMosaic.ValueIdx Idealize.SL.Sem
open scoped BigOperators

/-- On any floats the kernel runs to its end and leaves its arguments. -/
theorem frame_any {F : FTy → Type} [FloatOps F] (m : (ℓ : Loc Cert.Kernel4Ideal.nD Cert.Kernel4Ideal.τ Cert.Kernel4Ideal.sig) → Buf (Elt F) ℓ)
    (g : Dev Cert.Kernel4Ideal.nD → PrngReg) :
    θ_run Cert.Kernel4Ideal.defs (onTc (τ := Cert.Kernel4Ideal.τ) (Cert.Kernel4Ideal.main (F := F))) ⟨m, fun _ => 0, g⟩
      (fun r => (∀ c : Dev Cert.Kernel4Ideal.nD, QY m c r.2) ∧ r.2.sem = fun _ => 0) :=
  (θ_run Cert.Kernel4Ideal.defs _ _).mono (fun _ h => ⟨fun c => (h.1 c).2, h.2⟩) (run_main (F := F) m g)

/-- The two programs' bodies are the same, label by label. -/
theorem bodies_eq : Cert.Kernel4.defs₀ (F := Bits) = Cert.Kernel4Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel4.defs (F := Bits) = Cert.Kernel4Ideal.defs (F := Bits) :=
  congrArg (Pipeline.defs (Cert.Kernel4Ideal.pcfgs (F := Bits))) bodies_eq

/-- The kernel runs to its end on any floats and leaves its arguments: the one run, at bits. -/
theorem frame_p : Cert.quiescent_Kernel4 := fun m g _ => by
  rw [defs_eq]
  exact frame_any (F := Bits) m g

/-- The kernel over the extended reals runs to its end and leaves its arguments. -/
theorem frame_pi : Cert.quiescent_Kernel4Ideal := fun m g _ => frame_any (F := Ideal) m g

/-- The reference over the extended reals runs to its end and leaves its arguments. -/
theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Nothing is rewritten. -/
theorem preserves : Cert.preserves_Kernel4_Kernel4Ideal := trivial

section Reference
open Cert.Reference4Ideal Cert.Reference4Ideal.Read
variable (H : (⟨3, ![4, 2048, 5632]⟩ : Shape).Idx → EReal) (W : (⟨3, ![1, 5632, 2048]⟩ : Shape).Idx → EReal) (X : (⟨3, ![4, 2048, 2048]⟩ : Shape).Idx → EReal)
  (M : (⟨2, ![4, 12288]⟩ : Shape).Idx → EReal) (g : (⟨1, ![2048]⟩ : Shape).Idx → EReal)

theorem ref_product (b : Fin 4) (r d : Fin 2048) :
    val_main_v9 (F := Ideal) H W (ix3 b r d) = ∑ k : Fin 5632, H (ix3 b r k) * W (ix3 (0 : Fin 1) k d) := by
  rw [val_main_v9_apply]
  refine Finset.sum_congr rfl fun k _ => ?_
  have hk := k.isLt
  have hd := d.isLt
  rw [val_main_v8_apply]
  refine congrArg₂ (· * ·) (congrArg H (funext fun a => ?_)) (congrArg W (funext fun a => Fin.ext ?_))
  · match a with
    | ⟨0, _⟩ => rfl
    | ⟨1, _⟩ => rfl
    | ⟨2, _⟩ => rfl
  · match a with
    | ⟨0, _⟩ => rfl
    | ⟨1, _⟩ => show (k.val * 2048 + d.val) / 2048 % 5632 = k.val; omega
    | ⟨2, _⟩ => show (k.val * 2048 + d.val) % 2048 = d.val; omega

theorem ref_stream (b : Fin 4) (r d : Fin 2048) : val_main_v12 (F := Ideal) H W X M (ix3 b r d) = stream H W X M b r d := by
  rw [val_main_v12_apply, val_main_v11_apply, val_main_v10_apply, val_main_v6_apply, val_main_v5_apply, ref_product]
  refine congrArg (fun z => X (ix3 b r d) + M z * _) (funext fun a => ?_)
  match a with
  | ⟨0, _⟩ => rfl
  | ⟨1, _⟩ => rfl

theorem ref_squares (b : Fin 4) (r : Fin 2048) :
    val_main_v14 (F := Ideal) H W X M (ix2 b r) = ∑ k : Fin 2048, stream H W X M b r k * stream H W X M b r k := by
  rw [val_main_v14_apply, val_main_cst_apply]
  show Ideal.ofBits .f32 0x00000000#32 + _ = _
  rw [Ideal.ofBits_zero_f32, zero_add]
  refine Finset.sum_congr rfl fun k _ => ?_
  have e : idx_main_v14 (ix2 b r) k = ix3 b r k := funext fun a => by
    match a with
    | ⟨0, _⟩ => rfl
    | ⟨1, _⟩ => rfl
    | ⟨2, _⟩ => rfl
  rw [e, val_main_v13_apply, ref_stream]
  rfl

theorem ref_normed (b : Fin 4) (r d : Fin 2048) : val_main_v25 (F := Ideal) H W X M g (ix3 b r d) = result H W X M g b r d := by
  have e : idx_main_v15 (idx_main_v21 (ix3 b r d)) = ix2 b r := funext fun a => by
    match a with
    | ⟨0, _⟩ => rfl
    | ⟨1, _⟩ => rfl
  have eg : idx_main_v23 (idx_main_v24 (ix3 b r d)) = ix1 d := funext fun a => by
    match a with
    | ⟨0, _⟩ => rfl
  rw [val_main_v25_apply, val_main_v22_apply, ref_stream, val_main_v21_apply, val_main_v20_apply, val_main_v19_apply, val_main_v17_apply, val_main_v15_apply, e, ref_squares,
    val_main_v16_apply, val_main_cst_0_apply, val_main_v18_apply, val_main_cst_1_apply, val_main_v24_apply, val_main_v23_apply, eg]
  rfl

/-- The reference's result. -/
theorem ref_result : val_main_v26 (F := Ideal) H W X M g = resultRows H W X M g := funext fun y => by
  have h0 : (y 0).val < 8192 := (y 0).isLt
  have h1 : (y 1).val < 2048 := (y 1).isLt
  have e : idx_main_v26 y = ix3 (⟨(y 0).val / 2048, by omega⟩ : Fin 4) (⟨(y 0).val % 2048, by omega⟩ : Fin 2048) (y 1) := funext fun a => Fin.ext (by
    match a with
    | ⟨0, _⟩ => show ((y 0).val * 2048 + (y 1).val) / 4194304 = (y 0).val / 2048; omega
    | ⟨1, _⟩ => show ((y 0).val * 2048 + (y 1).val) / 2048 % 2048 = (y 0).val % 2048; omega
    | ⟨2, _⟩ => show ((y 0).val * 2048 + (y 1).val) % 2048 = (y 1).val; omega)
  rw [val_main_v26_apply, e]
  exact ref_normed H W X M g _ _ _

end Reference

/-- Over the extended reals the kernel's result is the reference's. -/
theorem algebraic : Cert.algebraic_Kernel4Ideal_Reference4Ideal := by
  intro m g m' g' _ hagree
  refine ⟨_, (θ_run Cert.Kernel4Ideal.defs _ _).mono (fun _ h c => h.1 c) (run_main (F := Ideal) m g), ?_⟩
  refine (θ_run Cert.Reference4Ideal.defs _ _).mono (fun _ h c => ⟨(h c).1.trans ?_, (h c).2⟩) (Cert.Reference4Ideal.Value.run (F := Ideal) m' g')
  rw [Cert.Reference4Ideal.Read.val_main_v26_eq, (hagree c).1, (hagree c).2.1, (hagree c).2.2.1, (hagree c).2.2.2.1, (hagree c).2.2.2.2]
  exact (ref_result (hIn m c) (wIn m c) (xIn m c) (mIn m c) (gIn m c)).trans (G4_eq m c).symm

end Cert.Down
end
-- ==== Proof.Dilated.lean ====
/-
  The projection for a group of the dilated heads: what a point stores, and what it is, for any of the groups.
-/
module

public import proofs.«01_k».proof.Kernel5Ideal
public import proofs.«01_k».proof.Proof.Gen.Reference5Ideal.Read
public import proofs.«01_k».proof.Proof.SwigluValue
public import proofs.«01_k».proof.Proof.Attn

@[expose] public section

set_option maxRecDepth 16384

noncomputable section

namespace Cert.Dilated

open Cert.Kernel5Ideal
open Idealize.ShloMosaic Idealize.ShloMosaic.TcCoe Idealize.ShloMosaic.Tactic Idealize.ShloMosaic.ValueIdx
open scoped BigOperators
open Cert.Swiglu (times inbIn times_apply ld_rows)
open Cert.Stick (at3 at3_eq cell cell_at half half_apply)

/-! ## The stores, on any floats -/

section Stores
variable {F : FTy → Type} [FloatOps F]

theorem inbOut {n h : ℕ} (hn : n ≤ 1) (hh : h ≤ 2) (a : Fin 2) : (![1024 * n, 512 * h] : Fin 2 → Nat) a + (![1024, 512] : Fin 2 → Nat) a ≤ S2048x1536.size a := by
  match a with
  | ⟨0, _⟩ => show 1024 * n + 1024 ≤ 2048; omega
  | ⟨1, _⟩ => show 512 * h + 512 ≤ 1536; omega

theorem inbPart {h : ℕ} (hh : h ≤ 2) (a : Fin 2) : (![0, 512 * h] : Fin 2 → Nat) a + (![2048, 512] : Fin 2 → Nat) a ≤ S2048x1536.size a := by
  match a with
  | ⟨0, _⟩ => exact Nat.le_refl 2048
  | ⟨1, _⟩ => show 512 * h + 512 ≤ 1536; omega

variable (H : Vec F S2048x2048 .bf16) (W : (r : Rect S2048x1536) → r.shape.Idx → F .bf16)

/-- The store of row block `n` of the queries, keys or values. -/
def piece (n h : ℕ) (hn : n ≤ 1) (hh : h ≤ 2) : View.Piece (Elt F) S2048x1536 .bf16 :=
  ⟨Rect.unit ![1024 * n, 512 * h] ![1024, 512] (inbOut hn hh),
    truncf .bf16 (times (View.ld H (Rect.unit ![1024 * n, 0] ![1024, 2048] (inbIn hn))) (W (Rect.unit ![0, 512 * h] ![2048, 512] (inbPart hh))))⟩

/-- The stores of row block `n`, the last first. -/
def rowPieces (n : ℕ) (hn : n ≤ 1) : List (View.Piece (Elt F) S2048x1536 .bf16) :=
  [piece H W n 2 hn (by decide), piece H W n 1 hn (by decide), piece H W n 0 hn (by decide)]

/-- The stores of a point, the last first. -/
def pieces : List (View.Piece (Elt F) S2048x1536 .bf16) := rowPieces H W 1 (by decide) ++ rowPieces H W 0 (by decide)

/-- The store of one part of the weights in the scratch. -/
def keptPiece (w : Vec F S1x2048x512 .f32) (h : ℕ) (hh : h ≤ 2) : View.Piece (Elt F) S2048x1536 .bf16 :=
  ⟨Rect.unit ![0, 512 * h] ![2048, 512] (inbPart hh), half w⟩

/-- The stores of the weights in the scratch, the last first. -/
def keptPieces (w0 w1 w2 : Vec F S1x2048x512 .f32) : List (View.Piece (Elt F) S2048x1536 .bf16) :=
  [keptPiece w2 2 (by decide), keptPiece w1 1 (by decide), keptPiece w0 0 (by decide)]

end Stores

/-! ## Over the extended reals -/

/-- Where column `n` of group `g` lies among the columns of the weights. -/
def col (g n : ℕ) : ℕ := 512 * (6 + 3 * (n / 512) + g) + n % 512

/-- Group `g` of the projection at batch element `b`, row `r`, column `n`. -/
def group (g : ℕ) (X : S4x2048x2048.Idx → EReal) (W : S1x2048x11776.Idx → EReal) (b r n : ℕ) : EReal := ∑ k : Fin 2048, at3 X b r k.val * at3 W 0 k.val (col g n)

/-- A block of the products at an index. -/
def prods (H : S2048x2048.Idx → EReal) (W : ℕ → ℕ → EReal) (y : S2048x1536.Idx) : EReal := ∑ k : Fin 2048, H (ix2 (y 0) k) * W k.val (y 1).val

section Products
variable (H : S2048x2048.Idx → EReal) (W : S2048x1536.Idx → EReal) (W' : ℕ → ℕ → EReal) (hW : ∀ y, W y = W' (y 0).val (y 1).val)
include hW

theorem piece_at (n h : ℕ) (hn : n ≤ 1) (hh : h ≤ 2) (x : (piece (F := Ideal) H (fun r => View.ld (Val := Elt Ideal) (e' := .bf16) W r) n h hn hh).1.shape.Idx) :
    (piece (F := Ideal) H (fun r => View.ld (Val := Elt Ideal) (e' := .bf16) W r) n h hn hh).2 x =
      prods H W' ((piece (F := Ideal) H (fun r => View.ld (Val := Elt Ideal) (e' := .bf16) W r) n h hn hh).1.emb x) := by
  have e0 : ∀ a, ((piece (F := Ideal) H (fun r => View.ld (Val := Elt Ideal) (e' := .bf16) W r) n h hn hh).1.emb x a).val = ![1024 * n, 512 * h] a + (x a).val :=
    fun a => ValueKit.rect_emb_unit_val _ _ (inbOut hn hh) x a
  refine (congrArg _ (eq_ix2 x)).trans ?_
  rw [prods, e0 1]
  refine (times_apply _ _ (x 0) (x 1)).trans (Finset.sum_congr rfl fun k _ => ?_)
  refine congrArg₂ (· * ·) (ld_rows H n hn (x 0) _ (e0 0) k) ?_
  show W ((Rect.unit (s := S2048x1536) ![0, 512 * h] ![2048, 512] (inbPart hh)).idx (ix2 k (x 1))) = _
  rw [hW, Rect.idx_unit_val, Rect.idx_unit_val]
  exact congrArg₂ W' (Nat.zero_add _) rfl

/-- The stores of a point together, at an index. -/
theorem pieces_apply (y : S2048x1536.Idx) : View.canon (pieces (F := Ideal) H (fun r => View.ld (Val := Elt Ideal) (e' := .bf16) W r)) y = prods H W' y := by
  refine View.canon_apply_of_pieces (Val := Elt Ideal) (e := .bf16) (prods H W') _ ?_ y (View.cover_of_tiledL _ ![1024, 512] (by sl_kernel_rfl) y)
  have hr : ∀ n hn, ∀ p ∈ rowPieces (F := Ideal) H (fun r => View.ld (Val := Elt Ideal) (e' := .bf16) W r) n hn, ∀ x, p.2 x = prods H W' (p.1.emb x) := fun n hn => by
    simp only [rowPieces, List.forall_mem_cons]
    exact ⟨piece_at H W W' hW n 2 _ _, piece_at H W W' hW n 1 _ _, piece_at H W W' hW n 0 _ _, fun _ h => absurd h (List.not_mem_nil)⟩
  intro p hp
  exact (List.mem_append.1 hp).elim (hr 1 _ p) (hr 0 _ p)

end Products

section Kept
variable (W : S1x2048x11776.Idx → EReal) (g : ℕ)

/-- A block of the weights' columns, read. -/
theorem block_read (q : ℕ) (y : S1x2048x512.Idx) (ix : Fin 3 → ℕ) (hix : ix = ![0, 0, q]) (e : S1x2048x11776.Idx)
    (he : ∀ a, (e a).val = ix a * S1x2048x512.size a + 1 * (y a).val) : W e = at3 W 0 (y 1).val (512 * q + (y 2).val) := by
  subst hix
  have h0 : (y 0).val < 1 := (y 0).isLt
  refine (at3_eq W _ _ _ e ((he 0).trans ?_) ((he 1).trans ?_) ((he 2).trans ?_)).symm
  · show 0 * 1 + 1 * (y 0).val = _; omega
  · show 0 * 2048 + 1 * (y 1).val = _; omega
  · show q * 512 + 1 * (y 2).val = _; omega

/-- A block of rows of the arrays one under the other, read. -/
theorem batch_read (X : S4x2048x2048.Idx → EReal) (q : ℕ) (r k : Fin 2048) (ix : Fin 2 → ℕ) (hix : ix = ![q, 0]) (e : (⟨2, ![8192, 2048]⟩ : Shape).Idx)
    (he : ∀ a, (e a).val = ix a * S2048x2048.size a + 1 * (ix2 r k a).val) : Cert.Swiglu.underRow X e = at3 X q r.val k.val := by
  subst hix
  have e0 : (e 0).val = 2048 * q + r.val := (he 0).trans (by show q * 2048 + 1 * r.val = _; omega)
  have e1 : (e 1).val = k.val := (he 1).trans (by show 0 * 2048 + 1 * k.val = _; omega)
  refine (Cert.Swiglu.underRow_apply _ _).trans ?_
  rw [e0, e1, show (2048 * q + r.val) / 2048 = q by omega, show (2048 * q + r.val) % 2048 = r.val by omega]

theorem keptPiece_at (w : S1x2048x512.Idx → EReal) (h : ℕ) (hh : h ≤ 2) (hw : ∀ y, w y = at3 W 0 (y 1).val (512 * (6 + 3 * h + g) + (y 2).val))
    (x : (keptPiece (F := Ideal) w h hh).1.shape.Idx) :
    (keptPiece (F := Ideal) w h hh).2 x = at3 W 0 ((keptPiece (F := Ideal) w h hh).1.emb x 0).val (col g ((keptPiece (F := Ideal) w h hh).1.emb x 1).val) := by
  have e0 : ∀ a, ((keptPiece (F := Ideal) w h hh).1.emb x a).val = ![0, 512 * h] a + (x a).val := fun a => ValueKit.rect_emb_unit_val _ _ (inbPart hh) x a
  have h1 : (x 1).val < 512 := (x 1).isLt
  rw [e0 0, e0 1]
  show half (F := Ideal) w x = at3 W 0 (0 + (x 0).val) (col g (512 * h + (x 1).val))
  rw [Nat.zero_add, col, show (512 * h + (x 1).val) / 512 = h by omega, show (512 * h + (x 1).val) % 512 = (x 1).val by omega]
  exact (congrArg _ (eq_ix2 x)).trans ((half_apply w _ _).trans (cell_at W w 0 _ hw _ _ h1))

variable (w0 w1 w2 : S1x2048x512.Idx → EReal) (h0 : ∀ y, w0 y = at3 W 0 (y 1).val (512 * (6 + g) + (y 2).val))
  (h1 : ∀ y, w1 y = at3 W 0 (y 1).val (512 * (9 + g) + (y 2).val)) (h2 : ∀ y, w2 y = at3 W 0 (y 1).val (512 * (12 + g) + (y 2).val))
include h0 h1 h2

/-- The weights as kept, at an index. -/
theorem keptPieces_apply (y : S2048x1536.Idx) : View.canon (keptPieces (F := Ideal) w0 w1 w2) y = at3 W 0 (y 0).val (col g (y 1).val) := by
  refine View.canon_apply_of_pieces (Val := Elt Ideal) (e := .bf16) (fun y => at3 W 0 (y 0).val (col g (y 1).val)) _ ?_ y (View.cover_of_tiledL _ ![2048, 512] (by sl_kernel_rfl) y)
  simp only [keptPieces, List.forall_mem_cons]
  exact ⟨keptPiece_at W g w2 2 _ h2, keptPiece_at W g w1 1 _ h1, keptPiece_at W g w0 0 _ h0, fun _ h => absurd h (List.not_mem_nil)⟩

end Kept

section Points
variable {N : ℕ} (X : S4x2048x2048.Idx → EReal) (W : S1x2048x11776.Idx → EReal) (g : ℕ) (O K : (n : ℕ) → n < N → S2048x1536.Idx → EReal)
  (hb : Fin N → S2048x2048.Idx → EReal) (w0 w1 w2 : Fin N → S1x2048x512.Idx → EReal)

/-- What a point leaves, from what it reads, when the first keeps the weights and the later ones leave them. -/
theorem point_of (keeps : ∀ t : Fin N, t.val % 4 = 0 → K t.val t.isLt = View.canon (keptPieces (F := Ideal) (w0 t) (w1 t) (w2 t)))
    (leaves : ∀ t : Fin N, ¬t.val % 4 = 0 → K t.val t.isLt = K (t.val - 1) (Nat.lt_of_le_of_lt (Nat.sub_le _ _) t.isLt))
    (stores : ∀ t : Fin N, O t.val t.isLt = View.canon (pieces (F := Ideal) (hb t) (fun r => View.ld (Val := Elt Ideal) (e' := .bf16) (K t.val t.isLt) r)))
    (rh : ∀ (t : Fin N) (r k : Fin 2048), hb t (ix2 r k) = at3 X (t.val % 4) r.val k.val)
    (r0 : ∀ t y, w0 t y = at3 W 0 (y 1).val (512 * (6 + g) + (y 2).val)) (r1 : ∀ t y, w1 t y = at3 W 0 (y 1).val (512 * (9 + g) + (y 2).val))
    (r2 : ∀ t y, w2 t y = at3 W 0 (y 1).val (512 * (12 + g) + (y 2).val)) (t : Fin N) (y : S2048x1536.Idx) :
    O t.val t.isLt y = group g X W (t.val % 4) (y 0).val (y 1).val := by
  have hK : ∀ (t : Fin N) y, K t.val t.isLt y = at3 W 0 (y 0).val (col g (y 1).val) := fun t y =>
    (Pipeline.eq_of_write_hold_apply K 4 (fun t => View.canon (keptPieces (F := Ideal) (w0 t) (w1 t) (w2 t)))
      (fun t h0 i => congrFun (keeps t h0) i) (fun t h0 i => congrFun (leaves t h0) i) t y).trans (keptPieces_apply W g _ _ _ (r0 _) (r1 _) (r2 _) y)
  rw [stores t]
  refine (pieces_apply _ _ (fun k n => at3 W 0 k (col g n)) (hK t) y).trans ?_
  exact Finset.sum_congr rfl fun k _ => congrArg (· * _) (rh t (y 0) k)

end Points

/-! ## The reference -/

section Reference
open Cert.Reference5Ideal.Read
variable (X : S4x2048x2048.Idx → EReal) (W : S1x2048x11776.Idx → EReal)

/-- The place of row `r`, column `d`, counted through the result, as the reshapes count it. -/
def place (r d : ℕ) : ℕ :=
  (((r * 1536 + d) / 3145728 * 2048 + (r * 1536 + d) / 1536 % 2048) * 3 + (r * 1536 + d) / 512 % 3) * 512 + (r * 1536 + d) % 512

theorem place_eq {r d : ℕ} (hr : r < 8192) : place r d = r * 1536 + d := by
  unfold place; omega

/-- The reference's projection, read where a group's row `r`, column `d` comes from. -/
theorem ref_row (g : ℕ) (r : Fin 8192) (d : Fin 1536) (i : (⟨5, ![4, 2048, 3, 3, 512]⟩ : Shape).Idx) (h0 : (i 0).val = place r.val d.val / 3145728)
    (h1 : (i 1).val = place r.val d.val / 1536 % 2048) (h2 : (i 2).val = place r.val d.val / 512 % 3) (h3 : (i 3).val = g + 0) (h4 : (i 4).val = place r.val d.val % 512) :
    val_main_v4 (F := Ideal) X W i = group g X W (r.val / 2048) (r.val % 2048) d.val := by
  have hr := r.isLt
  have hd := d.isLt
  have hg : (i 3).val < 3 := (i 3).isLt
  rw [place_eq hr] at h0 h1 h2 h4
  have e : (((((i 0).val * 2048 + (i 1).val) * 3 + (i 2).val) * 3 + (i 3).val) * 512 + (i 4).val) = r.val * 4608 + ((d.val / 512) * 1536 + g * 512 + d.val % 512) := by
    rw [h0, h1, h2, h3, h4, show (r.val * 1536 + d.val) / 3145728 = r.val / 2048 by omega, show (r.val * 1536 + d.val) / 1536 = r.val by omega,
      show (r.val * 1536 + d.val) / 512 % 3 = d.val / 512 by omega, show (r.val * 1536 + d.val) % 512 = d.val % 512 by omega]
    omega
  have hg : g < 3 := lt_of_eq_of_lt h3.symm hg
  clear h0 h1 h2 h3 h4
  have e3 : (r.val * 4608 + ((d.val / 512) * 1536 + g * 512 + d.val % 512)) / 4608 = r.val := by omega
  rw [val_main_v4_apply, val_main_v3_apply, val_main_v2_apply]
  refine Finset.sum_congr rfl fun k _ => ?_
  have hk := k.isLt
  rw [val_main_v0_apply, val_main_v1_apply]
  refine congrArg₂ (· * ·) (at3_eq X _ _ _ _ ?_ ?_ rfl).symm (at3_eq W _ _ _ _ rfl ?_ ?_).symm
  · show (((((i 0).val * 2048 + (i 1).val) * 3 + (i 2).val) * 3 + (i 3).val) * 512 + (i 4).val) / 9437184 = r.val / 2048
    rw [e]; omega
  · show (((((i 0).val * 2048 + (i 1).val) * 3 + (i 2).val) * 3 + (i 3).val) * 512 + (i 4).val) / 4608 % 2048 = r.val % 2048
    rw [e, e3]
  · show (k.val * 11776 + (3072 + (((((i 0).val * 2048 + (i 1).val) * 3 + (i 2).val) * 3 + (i 3).val) * 512 + (i 4).val) % 4608)) / 11776 % 2048 = k.val
    rw [e]; omega
  · show (k.val * 11776 + (3072 + (((((i 0).val * 2048 + (i 1).val) * 3 + (i 2).val) * 3 + (i 3).val) * 512 + (i 4).val) % 4608)) % 11776 = col g d.val
    rw [e, col]; omega

end Reference

end Cert.Dilated
end
-- ==== Proof.DilFirst.lean ====
/-
  The projection for the first group of the dilated heads.
-/
module

public import proofs.«01_k».proof.Defs
public import proofs.«01_k».proof.Proof.Gen.Kernel5.Frame
public import proofs.«01_k».proof.Proof.Gen.Kernel5Ideal.Value
public import proofs.«01_k».proof.Proof.Dilated
public import Idealize.ShloMosaic.Adequacy
public import Idealize.ShloMosaic.Init

@[expose] public section

set_option maxRecDepth 16384

noncomputable section

namespace Cert.Dilated.First

open Idealize.ShloMosaic Idealize.ShloMosaic.TcCoe Idealize.ShloMosaic.Tactic Idealize.ShloMosaic.ValueIdx Idealize.SL.Sem
open Cert.Stick (at3)

/-- The kernel runs to its end on any floats and leaves its arguments. -/
theorem frame_p : Cert.quiescent_Kernel5 := fun m g _ => Cert.Kernel5.Gen.frame (F := Bits) m g

/-- The kernel over the extended reals runs to its end and leaves its arguments. -/
theorem frame_pi : Cert.quiescent_Kernel5Ideal := fun m g _ => Cert.Kernel5Ideal.Gen.frame (F := Ideal) m g

/-- The reference over the extended reals runs to its end and leaves its arguments. -/
theorem frame_ri : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Nothing is rewritten. -/
theorem preserves : Cert.preserves_Kernel5_Kernel5Ideal := trivial

section Value
open Cert.Kernel5Ideal Cert.Kernel5Ideal.Gen

section Runs
variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S2048x1536 .bf16) (harg6 : arg6.IsWhole) (arg7 : Memref sig .tc .vmem S2048x1536 .bf16) (harg7 : arg7.IsWhole)
  (x0 : Vec Ideal S2048x2048 .bf16) (x1 x2 x3 : Vec Ideal S1x2048x512 .f32) (xs0 : Vec Ideal S2048x1536 .bf16)

/-- What the first point leaves. -/
theorem out_A (hc0 : cond0_0 i) : out0_A_4 c i arg2 harg2 arg3 harg3 arg4 harg4 arg5 harg5 arg6 harg6 arg7 harg7 hc0 x0 x1 x2 x3 =
    View.canon (pieces x0 (fun r => View.ld (View.canon (keptPieces x1 x2 x3)) r)) := by
  have h : (kernelRun0_A c i arg2 harg2 arg3 harg3 arg4 harg4 arg5 harg5 arg6 harg6 arg7 harg7 hc0 x0 x1 x2 x3).1 =
      pieces (arg2.view.read (Elt Ideal) (harg2.unread x0)) (fun r => arg7.view.readCov (keptPieces (arg3.view.read (Elt Ideal) (harg3.unread x1)) (arg4.view.read (Elt Ideal) (harg4.unread x2)) (arg5.view.read (Elt Ideal) (harg5.unread x3))) r.toLoadRect) := by
    unfold kernelRun0_A
    dsimp only
    sl_unfold_words
    sl_kernel_rfl
  unfold out0_A_4
  rw [View.read_writes_junk_eq_canon, h, harg2.read_unread, harg3.read_unread, harg4.read_unread, harg5.read_unread]
  simp only [View.readCov_eq_canon']

/-- The weights after the first point. -/
theorem sout_A (hc0 : cond0_0 i) : sout0_A_0 c i arg2 harg2 arg3 harg3 arg4 harg4 arg5 harg5 arg6 harg6 arg7 harg7 hc0 x0 x1 x2 x3 = View.canon (keptPieces x1 x2 x3) := by
  have h : (kernelRun0_A c i arg2 harg2 arg3 harg3 arg4 harg4 arg5 harg5 arg6 harg6 arg7 harg7 hc0 x0 x1 x2 x3).2.1 =
      keptPieces (arg3.view.read (Elt Ideal) (harg3.unread x1)) (arg4.view.read (Elt Ideal) (harg4.unread x2)) (arg5.view.read (Elt Ideal) (harg5.unread x3)) := by
    unfold kernelRun0_A
    dsimp only
    sl_unfold_words
    sl_kernel_rfl
  unfold sout0_A_0
  rw [View.read_writes_junk_eq_canon, h, harg3.read_unread, harg4.read_unread, harg5.read_unread]

/-- What a later point leaves. -/
theorem out_B (hc0 : ¬cond0_0 i) : out0_B_4 c i arg2 harg2 arg3 harg3 arg4 harg4 arg5 harg5 arg6 harg6 arg7 harg7 hc0 x0 x1 x2 x3 xs0 =
    View.canon (pieces x0 (fun r => View.ld xs0 r)) := by
  have h : (kernelRun0_B c i arg2 harg2 arg3 harg3 arg4 harg4 arg5 harg5 arg6 harg6 arg7 harg7 hc0 x0 x1 x2 x3 xs0).1 =
      pieces (arg2.view.read (Elt Ideal) (harg2.unread x0)) (fun r => View.ld (arg7.view.read (Elt Ideal) (harg7.unread xs0)) r) := by
    unfold kernelRun0_B
    dsimp only
    sl_unfold_words
    sl_kernel_rfl
  unfold out0_B_4
  rw [View.read_writes_junk_eq_canon, h, harg2.read_unread, harg7.read_unread]

end Runs

variable (m : (ℓ : Loc nD τ sig) → Buf (Elt Ideal) ℓ) (c : Dev nD)

/-- The normed input as given. -/
def hIn : S4x2048x2048.Idx → EReal := m ((c : Thread nD τ).loc main_arg0)
/-- The weights as given. -/
def wIn : S1x2048x11776.Idx → EReal := m ((c : Thread nD τ).loc main_arg1)
/-- The normed input, row under row. -/
def rowsIn : S8192x2048.Idx → EReal := V m c main_v0
/-- The rows' block. -/
def hBlk (t : Fin cfg0.N) : S2048x2048.Idx → EReal := iblk m c 0 t
/-- The blocks of the weights for the queries, the keys and the values. -/
def qBlk (t : Fin cfg0.N) : S1x2048x512.Idx → EReal := iblk m c 1 t
def kBlk (t : Fin cfg0.N) : S1x2048x512.Idx → EReal := iblk m c 2 t
def vBlk (t : Fin cfg0.N) : S1x2048x512.Idx → EReal := iblk m c 3 t

/-- Row under row: row `r` is a row of batch element `r / 2048`. -/
theorem rows_eq : rowsIn m c = Cert.Swiglu.underRow (hIn m c) := by
  unfold rowsIn
  simp only [V, List.flatten_cons, List.flatten_nil, List.append_nil, List.cons_append, List.nil_append]
  after_results_simp
  rfl

theorem index_0 : ∀ t : Fin cfg0.N, win0_0.index t = ![t.val % 4, 0] := (by decide +kernel : ∀ t : Fin grid0.N, win0_0.index t = ![t.val % 4, 0])

/-- The rows' block is a batch element. -/
theorem read_rows (t : Fin cfg0.N) (r k : Fin 2048) : hBlk m c t (ix2 r k) = at3 (hIn m c) (t.val % 4) r.val k.val :=
  (congrFun (rows_eq m c) (((cfg0.win 0).blk t).view.emb (ix2 r k))).trans (batch_read _ _ r k _ (index_0 t) _ (fun _ => rfl))

/-- What any point leaves. -/
theorem point (t : Fin cfg0.N) (y : S2048x1536.Idx) : ((outsAt0 m c t.val t.isLt).1 : S2048x1536.Idx → EReal) y = group 0 (hIn m c) (wIn m c) (t.val % 4) (y 0).val (y 1).val := by
  have keeps : ∀ t : Fin cfg0.N, t.val % 4 = 0 → (outsAt0 m c t.val t.isLt).2 = View.canon (keptPieces (F := Ideal) (qBlk m c t) (kBlk m c t) (vBlk m c t)) := fun t h0 => by
    rw [outsAt0_A m c t h0]
    dsimp only
    exact sout_A ..
  have leaves : ∀ t : Fin cfg0.N, ¬t.val % 4 = 0 → (outsAt0 m c t.val t.isLt).2 = (outsAt0 m c (t.val - 1) (Nat.lt_of_le_of_lt (Nat.sub_le _ _) t.isLt)).2 := fun t h0 => by
    rw [outsAt0_B m c t h0]
    rfl
  refine point_of (hIn m c) (wIn m c) 0 (fun n hn => (outsAt0 m c n hn).1) (fun n hn => (outsAt0 m c n hn).2) (hBlk m c) (qBlk m c) (kBlk m c) (vBlk m c)
    keeps leaves (fun t => ?_) (read_rows m c)
    (fun t y => (congrFun (V_main_arg1 m c) _).trans (block_read (wIn m c) 6 y _ ((by decide +kernel : ∀ t : Fin grid0.N, win0_1.index t = ![0, 0, 6]) t) (((cfg0.win 1).blk t).view.emb y) (fun _ => rfl)))
    (fun t y => (congrFun (V_main_arg1 m c) _).trans (block_read (wIn m c) 9 y _ ((by decide +kernel : ∀ t : Fin grid0.N, win0_2.index t = ![0, 0, 9]) t) (((cfg0.win 2).blk t).view.emb y) (fun _ => rfl)))
    (fun t y => (congrFun (V_main_arg1 m c) _).trans (block_read (wIn m c) 12 y _ ((by decide +kernel : ∀ t : Fin grid0.N, win0_3.index t = ![0, 0, 12]) t) (((cfg0.win 3).blk t).view.emb y) (fun _ => rfl))) t y
  by_cases h0 : t.val % 4 = 0
  · show (outsAt0 m c t.val t.isLt).1 = View.canon (pieces (F := Ideal) (hBlk m c t) (fun r => View.ld (outsAt0 m c t.val t.isLt).2 r))
    rw [keeps t h0, outsAt0_A m c t h0]
    dsimp only
    exact out_A ..
  · show (outsAt0 m c t.val t.isLt).1 = View.canon (pieces (F := Ideal) (hBlk m c t) (fun r => View.ld (outsAt0 m c t.val t.isLt).2 r))
    rw [leaves t h0, outsAt0_B m c t h0]
    dsimp only
    exact out_B ..

/-- The output array after the run. -/
theorem G4_apply (r : Fin 8192) (d : Fin 1536) : (Value.G4 m c : S8192x1536.Idx → EReal) (ix2 r d) = group 0 (hIn m c) (wIn m c) (r.val / 2048) (r.val % 2048) d.val := by
  have hr := r.isLt
  have hd := d.isLt
  have hp : Value.pt4Of (ix2 r d) = r.val / 2048 := by
    show 1 * (r.val / 2048 - 0) + 1 * (d.val / 1536 - 0) = _
    omega
  have hN : Value.pt4Of (ix2 r d) < cfg0.N := by
    rw [hp, show cfg0.N = 4 from N_0]; omega
  unfold Value.G4
  rw [dif_pos hN, ← Value.outsAt0_sweep m c _ hN]
  refine (point m c ⟨_, hN⟩ _).trans ?_
  show group 0 (hIn m c) (wIn m c) (Value.pt4Of (ix2 r d) % 4) (r.val % 2048) (d.val % 1536) = _
  rw [hp, show r.val / 2048 % 4 = r.val / 2048 by omega, show d.val % 1536 = d.val by omega]

end Value

open Cert.Reference5Ideal.Read in
/-- The kernel's result is the reference's. -/
theorem result_eq (m : (ℓ : Loc Cert.Kernel5Ideal.nD Cert.Kernel5Ideal.τ Cert.Kernel5Ideal.sig) → Buf (Elt Ideal) ℓ) (c : Dev Cert.Kernel5Ideal.nD) :
    val_main_v8 (F := Ideal) (hIn m c) (wIn m c) = Cert.Kernel5Ideal.Value.G4 m c := funext fun y => by
  refine Eq.trans ?_ ((G4_apply m c (y 0) (y 1)).symm.trans (congrArg (Cert.Kernel5Ideal.Value.G4 m c) (eq_ix2 y).symm))
  rw [val_main_v8_apply, val_main_v7_apply, val_main_v6_apply, val_main_v5_apply]
  exact ref_row (hIn m c) (wIn m c) 0 (y 0) (y 1) _ rfl rfl rfl rfl rfl

/-- Over the extended reals the kernel's result is the reference's. -/
theorem algebraic : Cert.algebraic_Kernel5Ideal_Reference5Ideal := by
  intro m g m' g' _ hagree
  refine ⟨_, Cert.Kernel5Ideal.Value.run (F := Ideal) m g, ?_⟩
  refine (θ_run Cert.Reference5Ideal.defs _ _).mono (fun _ h c => ⟨(h c).1.trans ?_, (h c).2⟩) (Cert.Reference5Ideal.Value.run (F := Ideal) m' g')
  rw [Cert.Reference5Ideal.Read.val_main_v8_eq, (hagree c).1, (hagree c).2]
  exact result_eq m c

end Cert.Dilated.First
end
-- ==== Proof.DilSecond.lean ====
/-
  The projection for the second group of the dilated heads.
-/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import proofs.«01_k».proof.Proof.DilFirst
public import Idealize.ShloMosaic.Adequacy
public import Idealize.ShloMosaic.Init

@[expose] public section

set_option maxRecDepth 16384

noncomputable section

namespace Cert.Dilated.Second

open Idealize.ShloMosaic Idealize.ShloMosaic.TcCoe Idealize.ShloMosaic.Tactic Idealize.ShloMosaic.ValueIdx Idealize.SL.Sem
open Cert.Stick (at3)

/-- The kernel runs to its end on any floats and leaves its arguments. -/
theorem frame_p : Cert.quiescent_Kernel6 := fun m g _ => Cert.Kernel6.Gen.frame (F := Bits) m g

/-- The kernel over the extended reals runs to its end and leaves its arguments. -/
theorem frame_pi : Cert.quiescent_Kernel6Ideal := fun m g _ => Cert.Kernel6Ideal.Gen.frame (F := Ideal) m g

/-- The reference over the extended reals runs to its end and leaves its arguments. -/
theorem frame_ri : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Nothing is rewritten. -/
theorem preserves : Cert.preserves_Kernel6_Kernel6Ideal := trivial

section Value
open Cert.Kernel6Ideal Cert.Kernel6Ideal.Gen

section Runs
variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S2048x1536 .bf16) (harg6 : arg6.IsWhole) (arg7 : Memref sig .tc .vmem S2048x1536 .bf16) (harg7 : arg7.IsWhole)
  (x0 : Vec Ideal S2048x2048 .bf16) (x1 x2 x3 : Vec Ideal S1x2048x512 .f32) (xs0 : Vec Ideal S2048x1536 .bf16)

/-- What the first point leaves. -/
theorem out_A (hc0 : cond0_0 i) : out0_A_4 c i arg2 harg2 arg3 harg3 arg4 harg4 arg5 harg5 arg6 harg6 arg7 harg7 hc0 x0 x1 x2 x3 =
    View.canon (pieces x0 (fun r => View.ld (View.canon (keptPieces x1 x2 x3)) r)) :=
  First.out_A c i arg2 harg2 arg3 harg3 arg4 harg4 arg5 harg5 arg6 harg6 arg7 harg7 x0 x1 x2 x3 hc0

/-- The weights after the first point. -/
theorem sout_A (hc0 : cond0_0 i) : sout0_A_0 c i arg2 harg2 arg3 harg3 arg4 harg4 arg5 harg5 arg6 harg6 arg7 harg7 hc0 x0 x1 x2 x3 = View.canon (keptPieces x1 x2 x3) :=
  First.sout_A c i arg2 harg2 arg3 harg3 arg4 harg4 arg5 harg5 arg6 harg6 arg7 harg7 x0 x1 x2 x3 hc0

/-- What a later point leaves. -/
theorem out_B (hc0 : ¬cond0_0 i) : out0_B_4 c i arg2 harg2 arg3 harg3 arg4 harg4 arg5 harg5 arg6 harg6 arg7 harg7 hc0 x0 x1 x2 x3 xs0 =
    View.canon (pieces x0 (fun r => View.ld xs0 r)) :=
  First.out_B c i arg2 harg2 arg3 harg3 arg4 harg4 arg5 harg5 arg6 harg6 arg7 harg7 x0 x1 x2 x3 xs0 hc0

end Runs

variable (m : (ℓ : Loc nD τ sig) → Buf (Elt Ideal) ℓ) (c : Dev nD)

/-- The normed input as given. -/
def hIn : S4x2048x2048.Idx → EReal := m ((c : Thread nD τ).loc main_arg0)
/-- The weights as given. -/
def wIn : S1x2048x11776.Idx → EReal := m ((c : Thread nD τ).loc main_arg1)
/-- The normed input, row under row. -/
def rowsIn : S8192x2048.Idx → EReal := V m c main_v0
/-- The rows' block. -/
def hBlk (t : Fin cfg0.N) : S2048x2048.Idx → EReal := iblk m c 0 t
/-- The blocks of the weights for the queries, the keys and the values. -/
def qBlk (t : Fin cfg0.N) : S1x2048x512.Idx → EReal := iblk m c 1 t
def kBlk (t : Fin cfg0.N) : S1x2048x512.Idx → EReal := iblk m c 2 t
def vBlk (t : Fin cfg0.N) : S1x2048x512.Idx → EReal := iblk m c 3 t

/-- Row under row: row `r` is a row of batch element `r / 2048`. -/
theorem rows_eq : rowsIn m c = Cert.Swiglu.underRow (hIn m c) := First.rows_eq m c

theorem index_0 : ∀ t : Fin cfg0.N, win0_0.index t = ![t.val % 4, 0] := (by decide +kernel : ∀ t : Fin grid0.N, win0_0.index t = ![t.val % 4, 0])

/-- The rows' block is a batch element. -/
theorem read_rows (t : Fin cfg0.N) (r k : Fin 2048) : hBlk m c t (ix2 r k) = at3 (hIn m c) (t.val % 4) r.val k.val :=
  (congrFun (rows_eq m c) (((cfg0.win 0).blk t).view.emb (ix2 r k))).trans (batch_read _ _ r k _ (index_0 t) _ (fun _ => rfl))

/-- What any point leaves. -/
theorem point (t : Fin cfg0.N) (y : S2048x1536.Idx) : ((outsAt0 m c t.val t.isLt).1 : S2048x1536.Idx → EReal) y = group 1 (hIn m c) (wIn m c) (t.val % 4) (y 0).val (y 1).val := by
  have keeps : ∀ t : Fin cfg0.N, t.val % 4 = 0 → (outsAt0 m c t.val t.isLt).2 = View.canon (keptPieces (F := Ideal) (qBlk m c t) (kBlk m c t) (vBlk m c t)) := fun t h0 => by
    rw [outsAt0_A m c t h0]
    dsimp only
    exact sout_A ..
  have leaves : ∀ t : Fin cfg0.N, ¬t.val % 4 = 0 → (outsAt0 m c t.val t.isLt).2 = (outsAt0 m c (t.val - 1) (Nat.lt_of_le_of_lt (Nat.sub_le _ _) t.isLt)).2 := fun t h0 => by
    rw [outsAt0_B m c t h0]
    rfl
  refine point_of (hIn m c) (wIn m c) 1 (fun n hn => (outsAt0 m c n hn).1) (fun n hn => (outsAt0 m c n hn).2) (hBlk m c) (qBlk m c) (kBlk m c) (vBlk m c)
    keeps leaves (fun t => ?_) (read_rows m c)
    (fun t y => (congrFun (V_main_arg1 m c) _).trans (block_read (wIn m c) 7 y _ ((by decide +kernel : ∀ t : Fin grid0.N, win0_1.index t = ![0, 0, 7]) t) (((cfg0.win 1).blk t).view.emb y) (fun _ => rfl)))
    (fun t y => (congrFun (V_main_arg1 m c) _).trans (block_read (wIn m c) 10 y _ ((by decide +kernel : ∀ t : Fin grid0.N, win0_2.index t = ![0, 0, 10]) t) (((cfg0.win 2).blk t).view.emb y) (fun _ => rfl)))
    (fun t y => (congrFun (V_main_arg1 m c) _).trans (block_read (wIn m c) 13 y _ ((by decide +kernel : ∀ t : Fin grid0.N, win0_3.index t = ![0, 0, 13]) t) (((cfg0.win 3).blk t).view.emb y) (fun _ => rfl))) t y
  by_cases h0 : t.val % 4 = 0
  · show (outsAt0 m c t.val t.isLt).1 = View.canon (pieces (F := Ideal) (hBlk m c t) (fun r => View.ld (outsAt0 m c t.val t.isLt).2 r))
    rw [keeps t h0, outsAt0_A m c t h0]
    dsimp only
    exact out_A ..
  · show (outsAt0 m c t.val t.isLt).1 = View.canon (pieces (F := Ideal) (hBlk m c t) (fun r => View.ld (outsAt0 m c t.val t.isLt).2 r))
    rw [leaves t h0, outsAt0_B m c t h0]
    dsimp only
    exact out_B ..

/-- The output array after the run. -/
theorem G4_apply (r : Fin 8192) (d : Fin 1536) : (Value.G4 m c : S8192x1536.Idx → EReal) (ix2 r d) = group 1 (hIn m c) (wIn m c) (r.val / 2048) (r.val % 2048) d.val := by
  have hr := r.isLt
  have hd := d.isLt
  have hp : Value.pt4Of (ix2 r d) = r.val / 2048 := by
    show 1 * (r.val / 2048 - 0) + 1 * (d.val / 1536 - 0) = _
    omega
  have hN : Value.pt4Of (ix2 r d) < cfg0.N := by
    rw [hp, show cfg0.N = 4 from N_0]; omega
  unfold Value.G4
  rw [dif_pos hN, ← Value.outsAt0_sweep m c _ hN]
  refine (point m c ⟨_, hN⟩ _).trans ?_
  show group 1 (hIn m c) (wIn m c) (Value.pt4Of (ix2 r d) % 4) (r.val % 2048) (d.val % 1536) = _
  rw [hp, show r.val / 2048 % 4 = r.val / 2048 by omega, show d.val % 1536 = d.val by omega]

end Value

open Cert.Reference6Ideal.Read in
/-- The kernel's result is the reference's. -/
theorem result_eq (m : (ℓ : Loc Cert.Kernel6Ideal.nD Cert.Kernel6Ideal.τ Cert.Kernel6Ideal.sig) → Buf (Elt Ideal) ℓ) (c : Dev Cert.Kernel6Ideal.nD) :
    val_main_v8 (F := Ideal) (hIn m c) (wIn m c) = Cert.Kernel6Ideal.Value.G4 m c := funext fun y => by
  refine Eq.trans ?_ ((G4_apply m c (y 0) (y 1)).symm.trans (congrArg (Cert.Kernel6Ideal.Value.G4 m c) (eq_ix2 y).symm))
  rw [val_main_v8_apply, val_main_v7_apply, val_main_v6_apply, val_main_v5_apply]
  exact ref_row (hIn m c) (wIn m c) 1 (y 0) (y 1) _ rfl rfl rfl rfl rfl

/-- Over the extended reals the kernel's result is the reference's. -/
theorem algebraic : Cert.algebraic_Kernel6Ideal_Reference6Ideal := by
  intro m g m' g' _ hagree
  refine ⟨_, Cert.Kernel6Ideal.Value.run (F := Ideal) m g, ?_⟩
  refine (θ_run Cert.Reference6Ideal.defs _ _).mono (fun _ h c => ⟨(h c).1.trans ?_, (h c).2⟩) (Cert.Reference6Ideal.Value.run (F := Ideal) m' g')
  rw [Cert.Reference6Ideal.Read.val_main_v8_eq, (hagree c).1, (hagree c).2]
  exact result_eq m c

end Cert.Dilated.Second
end
-- ==== Proof.DilThird.lean ====
/-
  The projection for the third group of the dilated heads.
-/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import proofs.«01_k».proof.Proof.DilFirst
public import Idealize.ShloMosaic.Adequacy
public import Idealize.ShloMosaic.Init

@[expose] public section

set_option maxRecDepth 16384

noncomputable section

namespace Cert.Dilated.Third

open Idealize.ShloMosaic Idealize.ShloMosaic.TcCoe Idealize.ShloMosaic.Tactic Idealize.ShloMosaic.ValueIdx Idealize.SL.Sem
open Cert.Stick (at3)

/-- The kernel runs to its end on any floats and leaves its arguments. -/
theorem frame_p : Cert.quiescent_Kernel7 := fun m g _ => Cert.Kernel7.Gen.frame (F := Bits) m g

/-- The kernel over the extended reals runs to its end and leaves its arguments. -/
theorem frame_pi : Cert.quiescent_Kernel7Ideal := fun m g _ => Cert.Kernel7Ideal.Gen.frame (F := Ideal) m g

/-- The reference over the extended reals runs to its end and leaves its arguments. -/
theorem frame_ri : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Nothing is rewritten. -/
theorem preserves : Cert.preserves_Kernel7_Kernel7Ideal := trivial

section Value
open Cert.Kernel7Ideal Cert.Kernel7Ideal.Gen

section Runs
variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S2048x1536 .bf16) (harg6 : arg6.IsWhole) (arg7 : Memref sig .tc .vmem S2048x1536 .bf16) (harg7 : arg7.IsWhole)
  (x0 : Vec Ideal S2048x2048 .bf16) (x1 x2 x3 : Vec Ideal S1x2048x512 .f32) (xs0 : Vec Ideal S2048x1536 .bf16)

/-- What the first point leaves. -/
theorem out_A (hc0 : cond0_0 i) : out0_A_4 c i arg2 harg2 arg3 harg3 arg4 harg4 arg5 harg5 arg6 harg6 arg7 harg7 hc0 x0 x1 x2 x3 =
    View.canon (pieces x0 (fun r => View.ld (View.canon (keptPieces x1 x2 x3)) r)) :=
  First.out_A c i arg2 harg2 arg3 harg3 arg4 harg4 arg5 harg5 arg6 harg6 arg7 harg7 x0 x1 x2 x3 hc0

/-- The weights after the first point. -/
theorem sout_A (hc0 : cond0_0 i) : sout0_A_0 c i arg2 harg2 arg3 harg3 arg4 harg4 arg5 harg5 arg6 harg6 arg7 harg7 hc0 x0 x1 x2 x3 = View.canon (keptPieces x1 x2 x3) :=
  First.sout_A c i arg2 harg2 arg3 harg3 arg4 harg4 arg5 harg5 arg6 harg6 arg7 harg7 x0 x1 x2 x3 hc0

/-- What a later point leaves. -/
theorem out_B (hc0 : ¬cond0_0 i) : out0_B_4 c i arg2 harg2 arg3 harg3 arg4 harg4 arg5 harg5 arg6 harg6 arg7 harg7 hc0 x0 x1 x2 x3 xs0 =
    View.canon (pieces x0 (fun r => View.ld xs0 r)) :=
  First.out_B c i arg2 harg2 arg3 harg3 arg4 harg4 arg5 harg5 arg6 harg6 arg7 harg7 x0 x1 x2 x3 xs0 hc0

end Runs

variable (m : (ℓ : Loc nD τ sig) → Buf (Elt Ideal) ℓ) (c : Dev nD)

/-- The normed input as given. -/
def hIn : S4x2048x2048.Idx → EReal := m ((c : Thread nD τ).loc main_arg0)
/-- The weights as given. -/
def wIn : S1x2048x11776.Idx → EReal := m ((c : Thread nD τ).loc main_arg1)
/-- The normed input, row under row. -/
def rowsIn : S8192x2048.Idx → EReal := V m c main_v0
/-- The rows' block. -/
def hBlk (t : Fin cfg0.N) : S2048x2048.Idx → EReal := iblk m c 0 t
/-- The blocks of the weights for the queries, the keys and the values. -/
def qBlk (t : Fin cfg0.N) : S1x2048x512.Idx → EReal := iblk m c 1 t
def kBlk (t : Fin cfg0.N) : S1x2048x512.Idx → EReal := iblk m c 2 t
def vBlk (t : Fin cfg0.N) : S1x2048x512.Idx → EReal := iblk m c 3 t

/-- Row under row: row `r` is a row of batch element `r / 2048`. -/
theorem rows_eq : rowsIn m c = Cert.Swiglu.underRow (hIn m c) := First.rows_eq m c

theorem index_0 : ∀ t : Fin cfg0.N, win0_0.index t = ![t.val % 4, 0] := (by decide +kernel : ∀ t : Fin grid0.N, win0_0.index t = ![t.val % 4, 0])

/-- The rows' block is a batch element. -/
theorem read_rows (t : Fin cfg0.N) (r k : Fin 2048) : hBlk m c t (ix2 r k) = at3 (hIn m c) (t.val % 4) r.val k.val :=
  (congrFun (rows_eq m c) (((cfg0.win 0).blk t).view.emb (ix2 r k))).trans (batch_read _ _ r k _ (index_0 t) _ (fun _ => rfl))

/-- What any point leaves. -/
theorem point (t : Fin cfg0.N) (y : S2048x1536.Idx) : ((outsAt0 m c t.val t.isLt).1 : S2048x1536.Idx → EReal) y = group 2 (hIn m c) (wIn m c) (t.val % 4) (y 0).val (y 1).val := by
  have keeps : ∀ t : Fin cfg0.N, t.val % 4 = 0 → (outsAt0 m c t.val t.isLt).2 = View.canon (keptPieces (F := Ideal) (qBlk m c t) (kBlk m c t) (vBlk m c t)) := fun t h0 => by
    rw [outsAt0_A m c t h0]
    dsimp only
    exact sout_A ..
  have leaves : ∀ t : Fin cfg0.N, ¬t.val % 4 = 0 → (outsAt0 m c t.val t.isLt).2 = (outsAt0 m c (t.val - 1) (Nat.lt_of_le_of_lt (Nat.sub_le _ _) t.isLt)).2 := fun t h0 => by
    rw [outsAt0_B m c t h0]
    rfl
  refine point_of (hIn m c) (wIn m c) 2 (fun n hn => (outsAt0 m c n hn).1) (fun n hn => (outsAt0 m c n hn).2) (hBlk m c) (qBlk m c) (kBlk m c) (vBlk m c)
    keeps leaves (fun t => ?_) (read_rows m c)
    (fun t y => (congrFun (V_main_arg1 m c) _).trans (block_read (wIn m c) 8 y _ ((by decide +kernel : ∀ t : Fin grid0.N, win0_1.index t = ![0, 0, 8]) t) (((cfg0.win 1).blk t).view.emb y) (fun _ => rfl)))
    (fun t y => (congrFun (V_main_arg1 m c) _).trans (block_read (wIn m c) 11 y _ ((by decide +kernel : ∀ t : Fin grid0.N, win0_2.index t = ![0, 0, 11]) t) (((cfg0.win 2).blk t).view.emb y) (fun _ => rfl)))
    (fun t y => (congrFun (V_main_arg1 m c) _).trans (block_read (wIn m c) 14 y _ ((by decide +kernel : ∀ t : Fin grid0.N, win0_3.index t = ![0, 0, 14]) t) (((cfg0.win 3).blk t).view.emb y) (fun _ => rfl))) t y
  by_cases h0 : t.val % 4 = 0
  · show (outsAt0 m c t.val t.isLt).1 = View.canon (pieces (F := Ideal) (hBlk m c t) (fun r => View.ld (outsAt0 m c t.val t.isLt).2 r))
    rw [keeps t h0, outsAt0_A m c t h0]
    dsimp only
    exact out_A ..
  · show (outsAt0 m c t.val t.isLt).1 = View.canon (pieces (F := Ideal) (hBlk m c t) (fun r => View.ld (outsAt0 m c t.val t.isLt).2 r))
    rw [leaves t h0, outsAt0_B m c t h0]
    dsimp only
    exact out_B ..

/-- The output array after the run. -/
theorem G4_apply (r : Fin 8192) (d : Fin 1536) : (Value.G4 m c : S8192x1536.Idx → EReal) (ix2 r d) = group 2 (hIn m c) (wIn m c) (r.val / 2048) (r.val % 2048) d.val := by
  have hr := r.isLt
  have hd := d.isLt
  have hp : Value.pt4Of (ix2 r d) = r.val / 2048 := by
    show 1 * (r.val / 2048 - 0) + 1 * (d.val / 1536 - 0) = _
    omega
  have hN : Value.pt4Of (ix2 r d) < cfg0.N := by
    rw [hp, show cfg0.N = 4 from N_0]; omega
  unfold Value.G4
  rw [dif_pos hN, ← Value.outsAt0_sweep m c _ hN]
  refine (point m c ⟨_, hN⟩ _).trans ?_
  show group 2 (hIn m c) (wIn m c) (Value.pt4Of (ix2 r d) % 4) (r.val % 2048) (d.val % 1536) = _
  rw [hp, show r.val / 2048 % 4 = r.val / 2048 by omega, show d.val % 1536 = d.val by omega]

end Value

open Cert.Reference7Ideal.Read in
/-- The kernel's result is the reference's. -/
theorem result_eq (m : (ℓ : Loc Cert.Kernel7Ideal.nD Cert.Kernel7Ideal.τ Cert.Kernel7Ideal.sig) → Buf (Elt Ideal) ℓ) (c : Dev Cert.Kernel7Ideal.nD) :
    val_main_v8 (F := Ideal) (hIn m c) (wIn m c) = Cert.Kernel7Ideal.Value.G4 m c := funext fun y => by
  refine Eq.trans ?_ ((G4_apply m c (y 0) (y 1)).symm.trans (congrArg (Cert.Kernel7Ideal.Value.G4 m c) (eq_ix2 y).symm))
  rw [val_main_v8_apply, val_main_v7_apply, val_main_v6_apply, val_main_v5_apply]
  exact ref_row (hIn m c) (wIn m c) 2 (y 0) (y 1) _ rfl rfl rfl rfl rfl

/-- Over the extended reals the kernel's result is the reference's. -/
theorem algebraic : Cert.algebraic_Kernel7Ideal_Reference7Ideal := by
  intro m g m' g' _ hagree
  refine ⟨_, Cert.Kernel7Ideal.Value.run (F := Ideal) m g, ?_⟩
  refine (θ_run Cert.Reference7Ideal.defs _ _).mono (fun _ h c => ⟨(h c).1.trans ?_, (h c).2⟩) (Cert.Reference7Ideal.Value.run (F := Ideal) m' g')
  rw [Cert.Reference7Ideal.Read.val_main_v8_eq, (hagree c).1, (hagree c).2]
  exact result_eq m c

end Cert.Dilated.Third
end
-- ==== Proof.PostRing.lean ====
/-
  The mix of the two attentions keeps three weights in memory of its own: at the first block of rows it brings them in
  one after the other, 128 rows at a time, through the same four staging slots, three transfers under way while a fourth
  slot is read. This module names the blocks of a weight of any height, the slots and their counters, says what is held
  before each step of such a loop, and runs one step for all three weights.
-/
module

public import proofs.«01_k».proof.Proof.Gen.Kernel8Ideal.Frame
public import proofs.«01_k».proof.Proof.Gen.Kernel8Ideal.Loops
public import Idealize.ShloMosaic.Lib.Ring
public import Idealize.ShloMosaic.Lib.Affine
public import Idealize.ShloMosaic.Lib.Exec
public import Idealize.ShloMosaic.Lib.Tactic
public import Idealize.ShloMosaic.Lib.Pipeline.KitQuiescent

@[expose] public section

set_option maxRecDepth 16384

noncomputable section

namespace Cert.Post

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's own resources beside the counters of the kernel's transfers. -/
abbrev UU (nD : Nat) (τ : Topo) : Type := UR sig nD τ × Counters
local notation "𝕄" => MT nD τ sig Unit (Elt F) ℕ (UU nD τ) ℕ
abbrev 𝒱₀ : Variants := Variants.none

/-! ## Names: block `b` of a weight of `R` rows, slot `s`, its counter -/

/-- A weight of `R` rows as it lies in the main memory, -/
abbrev W3 (R : ℕ) : Shape := ⟨3, ![1, R, 2048]⟩
/-- and as it is kept. -/
abbrev W2 (R : ℕ) : Shape := ⟨2, ![R, 2048]⟩

abbrev wA : Memref sig .tc .hbm S1x1024x2048 .f32 := Memref.whole main_arg7
abbrev wB : Memref sig .tc .hbm S1x512x2048 .f32 := Memref.whole main_arg8
abbrev wC : Memref sig .tc .hbm S1x2048x2048 .f32 := Memref.whole main_arg9
abbrev kA : Memref sig .tc .vmem S1024x2048 .bf16 := Memref.whole cc0_scratch0
abbrev kB : Memref sig .tc .vmem S512x2048 .bf16 := Memref.whole cc0_scratch1
abbrev kC : Memref sig .tc .vmem S2048x2048 .bf16 := Memref.whole cc0_scratch2
abbrev bufM : Memref sig .tc .vmem S4x128x2048 .f32 := Memref.whole cc0_scratch3

abbrev rowsOff (b : ℕ) : Fin 3 → Nat := ![0, 128 * b, 0]
abbrev slotOff (s : Fin 4) : Fin 3 → Nat := ![s.val, 0, 0]
abbrev semOff (s : Fin 4) : Fin 1 → Nat := ![s.val]

theorem rowsOff_inb {n R : ℕ} (hR : 128 * n = R) (b : Fin n) : ∀ a, rowsOff b.val a + S1x128x2048.size a ≤ (W3 R).size a := by
  have hb := b.isLt
  intro a
  fin_cases a
  · show 0 + 1 ≤ 1; omega
  · show 128 * b.val + 128 ≤ R; omega
  · show 0 + 2048 ≤ 2048; omega
theorem slotOff_inb (s : Fin 4) : ∀ a, slotOff s a + S1x128x2048.size a ≤ S4x128x2048.size a := by
  have hs := s.isLt
  intro a
  fin_cases a
  · show s.val + 1 ≤ 4; omega
  · show 0 + 128 ≤ 128; omega
  · show 0 + 2048 ≤ 2048; omega
theorem semOff_inb (s : Fin 4) : ∀ a, semOff s a + S1.size a ≤ S4.size a := by
  have hs := s.isLt
  intro a
  fin_cases a
  show s.val + 1 ≤ 4; omega
theorem keptOff_inb {n R : ℕ} (hR : 128 * n = R) (k : ℕ) (hk : k < n) : ∀ a, (![128 * k, 0] : Fin 2 → ℕ) a + S128x2048.size a ≤ (W2 R).size a := by
  intro a
  fin_cases a
  · show 128 * k + 128 ≤ R; omega
  · show 0 + 2048 ≤ 2048; omega

def rows {n R : ℕ} (hR : 128 * n = R) (wM : Memref sig .tc .hbm (W3 R) .f32) (b : Fin n) : Memref sig .tc .hbm S128x2048 .f32 :=
  (wM.slice (Rect.unit (s := W3 R) (rowsOff b.val) S1x128x2048.size (rowsOff_inb hR b)) (fun _ => rfl)).squeeze S128x2048 squeezes_S1x128x2048_S128x2048
def slot (s : Fin 4) : Memref sig .tc .vmem S128x2048 .f32 :=
  (bufM.slice (Rect.unit (s := S4x128x2048) (slotOff s) S1x128x2048.size (slotOff_inb s)) (fun _ => rfl)).squeeze S128x2048 squeezes_S1x128x2048_S128x2048
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩

/-! ## The printed slices under those names -/

theorem csm_of {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
theorem slot_of {off : Fin 3 → Nat} {s : Fin 4} (e : off = slotOff s) (hh hs) :
    (bufM.slice (Rect.unit (s := S4x128x2048) off S1x128x2048.size hh) hs).squeeze S128x2048 squeezes_S1x128x2048_S128x2048 = slot s :=
  congrArg (fun A : Memref sig .tc .vmem S1x128x2048 .f32 => A.squeeze S128x2048 squeezes_S1x128x2048_S128x2048) (Memref.slice_unit_congr _ e _ _ _ _)
theorem rows_of {n R : ℕ} (hR : 128 * n = R) (wM : Memref sig .tc .hbm (W3 R) .f32) {off : Fin 3 → Nat} {b : Fin n} (e : off = rowsOff b.val) (hh hs) :
    (wM.slice (Rect.unit (s := W3 R) off S1x128x2048.size hh) hs).squeeze S128x2048 squeezes_S1x128x2048_S128x2048 = rows hR wM b :=
  congrArg (fun A : Memref sig .tc .hbm S1x128x2048 .f32 => A.squeeze S128x2048 squeezes_S1x128x2048_S128x2048) (Memref.slice_unit_congr _ e _ _ _ _)

@[sl_canon] theorem csm_lit0 (hh) : (cc0_scratch4.slice (Rect.unit (s := S4) ![0] S1.size hh)).squeeze S_ squeezes_S1_S_ = csm 0 := csm_of (by decide) _
@[sl_canon] theorem csm_lit1 (hh) : (cc0_scratch4.slice (Rect.unit (s := S4) ![1] S1.size hh)).squeeze S_ squeezes_S1_S_ = csm 1 := csm_of (by decide) _
@[sl_canon] theorem csm_lit2 (hh) : (cc0_scratch4.slice (Rect.unit (s := S4) ![2] S1.size hh)).squeeze S_ squeezes_S1_S_ = csm 2 := csm_of (by decide) _
@[sl_canon] theorem slot_lit0 (hh hs) : (bufM.slice (Rect.unit (s := S4x128x2048) ![0, 0, 0] S1x128x2048.size hh) hs).squeeze S128x2048 squeezes_S1x128x2048_S128x2048 = slot 0 := slot_of (by decide) _ _
@[sl_canon] theorem slot_lit1 (hh hs) : (bufM.slice (Rect.unit (s := S4x128x2048) ![1, 0, 0] S1x128x2048.size hh) hs).squeeze S128x2048 squeezes_S1x128x2048_S128x2048 = slot 1 := slot_of (by decide) _ _
@[sl_canon] theorem slot_lit2 (hh hs) : (bufM.slice (Rect.unit (s := S4x128x2048) ![2, 0, 0] S1x128x2048.size hh) hs).squeeze S128x2048 squeezes_S1x128x2048_S128x2048 = slot 2 := slot_of (by decide) _ _

/-- The three weights are 8, 4 and 16 blocks. -/
theorem hA : 128 * 8 = 1024 := rfl
theorem hB : 128 * 4 = 512 := rfl
theorem hC : 128 * 16 = 2048 := rfl

@[sl_canon] theorem rowsA_lit0 (hh hs) : (wA.slice (Rect.unit (s := S1x1024x2048) ![0, 0, 0] S1x128x2048.size hh) hs).squeeze S128x2048 squeezes_S1x128x2048_S128x2048 = rows hA wA 0 := rows_of hA wA (by decide) _ _
@[sl_canon] theorem rowsA_lit1 (hh hs) : (wA.slice (Rect.unit (s := S1x1024x2048) ![0, 128, 0] S1x128x2048.size hh) hs).squeeze S128x2048 squeezes_S1x128x2048_S128x2048 = rows hA wA 1 := rows_of hA wA (by decide) _ _
@[sl_canon] theorem rowsA_lit2 (hh hs) : (wA.slice (Rect.unit (s := S1x1024x2048) ![0, 256, 0] S1x128x2048.size hh) hs).squeeze S128x2048 squeezes_S1x128x2048_S128x2048 = rows hA wA 2 := rows_of hA wA (by decide) _ _
@[sl_canon] theorem rowsB_lit0 (hh hs) : (wB.slice (Rect.unit (s := S1x512x2048) ![0, 0, 0] S1x128x2048.size hh) hs).squeeze S128x2048 squeezes_S1x128x2048_S128x2048 = rows hB wB 0 := rows_of hB wB (by decide) _ _
@[sl_canon] theorem rowsB_lit1 (hh hs) : (wB.slice (Rect.unit (s := S1x512x2048) ![0, 128, 0] S1x128x2048.size hh) hs).squeeze S128x2048 squeezes_S1x128x2048_S128x2048 = rows hB wB 1 := rows_of hB wB (by decide) _ _
@[sl_canon] theorem rowsB_lit2 (hh hs) : (wB.slice (Rect.unit (s := S1x512x2048) ![0, 256, 0] S1x128x2048.size hh) hs).squeeze S128x2048 squeezes_S1x128x2048_S128x2048 = rows hB wB 2 := rows_of hB wB (by decide) _ _
@[sl_canon] theorem rowsC_lit0 (hh hs) : (wC.slice (Rect.unit (s := S1x2048x2048) ![0, 0, 0] S1x128x2048.size hh) hs).squeeze S128x2048 squeezes_S1x128x2048_S128x2048 = rows hC wC 0 := rows_of hC wC (by decide) _ _
@[sl_canon] theorem rowsC_lit1 (hh hs) : (wC.slice (Rect.unit (s := S1x2048x2048) ![0, 128, 0] S1x128x2048.size hh) hs).squeeze S128x2048 squeezes_S1x128x2048_S128x2048 = rows hC wC 1 := rows_of hC wC (by decide) _ _
@[sl_canon] theorem rowsC_lit2 (hh hs) : (wC.slice (Rect.unit (s := S1x2048x2048) ![0, 256, 0] S1x128x2048.size hh) hs).squeeze S128x2048 squeezes_S1x128x2048_S128x2048 = rows hC wC 2 := rows_of hC wC (by decide) _ _

@[sl_canon] theorem csm_at (s : Fin 4) (hh) : (cc0_scratch4.slice (Rect.unit (s := S4) (semOff s) S1.size hh)).squeeze S_ squeezes_S1_S_ = csm s := rfl
@[sl_canon] theorem slot_at (s : Fin 4) (hh hs) :
    (bufM.slice (Rect.unit (s := S4x128x2048) (slotOff s) S1x128x2048.size hh) hs).squeeze S128x2048 squeezes_S1x128x2048_S128x2048 = slot s := rfl
@[sl_canon] theorem rows_at {n R : ℕ} (hR : 128 * n = R) (wM : Memref sig .tc .hbm (W3 R) .f32) (b : Fin n) (hh hs) :
    (wM.slice (Rect.unit (s := W3 R) (rowsOff b.val) S1x128x2048.size hh) hs).squeeze S128x2048 squeezes_S1x128x2048_S128x2048 = rows hR wM b := rfl

/-! ## What is held: a block at home, a slot free or being filled -/

section Held
variable (c : Dev nD)

abbrev cellP (s : Fin 4) : sProp 𝕄 := semVal ((c : Thread nD τ), SemLoc.dma (csm s).sem) 0
abbrev slotP (s : Fin 4) (f : Buf (Elt F) ((slot s).view.loc (c : Thread nD τ))) : sProp 𝕄 :=
  (slot s).view.loc (c : Thread nD τ) ↦[(slot s).view.set]{fullShare} f
/-- A slot nobody writes to, and its counter at zero. -/
def freeP (s : Fin 4) : sProp 𝕄 := iprop((∃ f, slotP (F := F) c s f) ∗ cellP c s)
theorem freeP_eq (s : Fin 4) : freeP (F := F) c s = iprop((∃ f, slotP (F := F) c s f) ∗ cellP c s) := rfl
theorem free_open (s : Fin 4) : freeP (F := F) c s ⊢ iprop((∃ f, slotP (F := F) c s f) ∗ cellP c s) := .rfl
abbrev heldP {sp : Space} {s : Shape} {e : EltTy} (a : Memref sig .tc sp s e) (g : Buf (Elt F) (a.view.loc (c : Thread nD τ))) : sProp 𝕄 :=
  a.view.loc (c : Thread nD τ) ↦[a.view.set]{fullShare} g

variable {n R : ℕ} [NeZero n] (hR : 128 * n = R) (wM : Memref sig .tc .hbm (W3 R) .f32) (X : Buf (Elt F) (wM.view.loc (c : Thread nD τ)))

abbrev homeP (b : Fin n) : sProp 𝕄 := (rows hR wM b).view.loc (c : Thread nD τ) ↦[(rows hR wM b).view.set]{fullShare} X
abbrev payload (b : Fin n) : S128x2048.Idx → Elt F .f32 := ReadAs.same.apply ((rows hR wM b).view.read (Elt F) X)
abbrev landed (s : Fin 4) (b : Fin n) (f : Buf (Elt F) ((slot s).view.loc (c : Thread nD τ))) : Buf (Elt F) ((slot s).view.loc (c : Thread nD τ)) :=
  (slot s).view.writes (Elt F) f [⟨Rect.whole S128x2048, payload c hR wM X b⟩]
abbrev flightP (s : Fin 4) (b : Fin n) (f : Buf (Elt F) ((slot s).view.loc (c : Thread nD τ))) : sProp 𝕄 :=
  Transfers.Flight countersEmb (c : Thread nD τ) (SemLoc.dma (csm s).sem) () 32768 iprop(slotP c s (landed c hR wM X s b f) ∗ homeP c hR wM X b)
/-- What block `p` is to its slot before it is waited for: under way, or, past the last block, the slot free. -/
def roleP (p : ℕ) : sProp 𝕄 :=
  if p < n then iprop(∃ f, flightP c hR wM X (Ring.sl 4 p) (Ring.bk n p) f) else freeP c (Ring.sl 4 p)

theorem roleP_of_lt {p : ℕ} (h : p < n) : roleP c hR wM X p = iprop(∃ f, flightP c hR wM X (Ring.sl 4 p) (Ring.bk n p) f) := if_pos h
theorem roleP_of_ge {p : ℕ} (h : ¬ p < n) : roleP c hR wM X p = freeP c (Ring.sl 4 p) := if_neg h

theorem homes_here (k : ℕ) (hk : k + 3 < n) :
    bigSep (Ring.homeSet 3 k) (homeP c hR wM X) = iprop(homeP c hR wM X (Ring.bk n (k + 3)) ∗ bigSep ((Ring.homeSet 3 k).erase (Ring.bk n (k + 3))) (homeP c hR wM X)) := by
  conv_lhs => rw [Ring.homeSet_out 3 k hk, bigSep_insert (Ring.bkL_not_mem_erase 3 k)]
  rfl
theorem homes_next (k : ℕ) (hk : k + 3 < n) :
    bigSep (Ring.homeSet 3 (k + 1)) (homeP c hR wM X) = iprop(homeP c hR wM X (Ring.bk n k) ∗ bigSep ((Ring.homeSet 3 k).erase (Ring.bk n (k + 3))) (homeP c hR wM X)) := by
  conv_lhs => rw [Ring.homeSet_succ 3 k hk, bigSep_insert (Ring.bk_not_mem_erase 3 k (by omega) (by decide))]
  rfl
theorem homes_tail (k : ℕ) (h : n ≤ k + 3) (hk : k < n) :
    bigSep (Ring.homeSet 3 (k + 1)) (homeP c hR wM X) = iprop(homeP c hR wM X (Ring.bk n k) ∗ bigSep (Ring.homeSet 3 k) (homeP c hR wM X)) := by
  conv_lhs => rw [Ring.homeSet_succ_tail 3 k h hk, bigSep_insert (Ring.bk_not_mem_homeSet 3 k hk (by decide))]
  rfl

end Held

theorem sl4_add4 (k : ℕ) : Ring.sl 4 (k + 1 + 3) = Ring.sl 4 k := by rw [show k + 1 + 3 = k + 4 from rfl, Ring.sl_add]

/-! ## One step, for a weight of any height -/

section Trip
variable (c : Dev nD) {n R : ℕ} [NeZero n] (hR : 128 * n = R) (wM : Memref sig .tc .hbm (W3 R) .f32) (X : Buf (Elt F) (wM.view.loc (c : Thread nD τ)))
  (kM : Memref sig .tc .vmem (W2 R) .bf16) (hkM : kM.IsWhole)

/-- What is held before step `k`, the kept weight at `f`. -/
@[irreducible] def resAt (k : ℕ) (f : Buf (Elt F) (kM.view.loc (c : Thread nD τ))) : sProp 𝕄 :=
  iprop(heldP c kM f ∗ (∃ W, owes (c : Thread nD τ) 0 W) ∗ bigSep (Ring.homeSet 3 k) (homeP c hR wM X)
    ∗ roleP c hR wM X k ∗ roleP c hR wM X (k + 1) ∗ roleP c hR wM X (k + 2) ∗ freeP c (Ring.sl 4 (k + 3)))

/-- Block `k` of the weight as step `k` finds it in its slot, -/
abbrev staged (k : ℕ) : Vec F S1x128x2048 .f32 :=
  bufM.view.readAt (Elt F) (Rect.unit (s := S4x128x2048) (slotOff (Ring.sl 4 k)) S1x128x2048.size (slotOff_inb _)).toLoadRect
    (landed c hR wM X (Ring.sl 4 k) (Ring.bk n k) (slot (Ring.sl 4 k)).view.junk)
/-- and the kept weight after the step: its rows written over `f`. -/
abbrev kept (k : ℕ) (hk : k < n) (f : Buf (Elt F) (kM.view.loc (c : Thread nD τ))) : Buf (Elt F) (kM.view.loc (c : Thread nD τ)) :=
  kM.view.writes (Elt F) f [⟨Rect.unit (s := W2 R) ![128 * k, 0] S128x2048.size (keptOff_inb hR k hk), k0_pay2 (staged c hR wM X k)⟩]

/-- One step as the program has it: the condition and the eight offsets are the step's. -/
def tripG (b : BitVec 1) (o1 : Fin 1 → ℕ) (o2 o3 : Fin 3 → ℕ) (o4 : Fin 1 → ℕ) (o5 o6 o7 : Fin 3 → ℕ) (o8 : Fin 2 → ℕ)
    (h1 : b = 1#1 → ∀ a, o1 a + S1.size a ≤ S4.size a) (h2 : b = 1#1 → ∀ a, o2 a + S1x128x2048.size a ≤ S4x128x2048.size a)
    (h3 : b = 1#1 → ∀ a, o3 a + S1x128x2048.size a ≤ (W3 R).size a) (h4 : ∀ a, o4 a + S1.size a ≤ S4.size a)
    (h5 : ∀ a, o5 a + S1x128x2048.size a ≤ S4x128x2048.size a) (h6 : ∀ a, o6 a + S1x128x2048.size a ≤ (W3 R).size a)
    (h7 : ∀ a, o7 a + S1x128x2048.size a ≤ S4x128x2048.size a) (h8 : ∀ a, o8 a + S128x2048.size a ≤ (W2 R).size a)
    (hp : (Rect.unit (s := W2 R) o8 S128x2048.size h8).PackedRows (EltTy.packing .bf16)) : Prog (TpuEff nD τ sig (Elt F) Λ₀ .tc) Unit := do
  if h : b = 1#1 then do
    Prog.lift (.enqueueDma ((wM.slice (Rect.unit (s := W3 R) o3 S1x128x2048.size (h3 h)) (fun _ => rfl)).squeeze S128x2048 squeezes_S1x128x2048_S128x2048)
      (.here ((bufM.slice (Rect.unit (s := S4x128x2048) o2 S1x128x2048.size (h2 h)) (fun _ => rfl)).squeeze S128x2048 squeezes_S1x128x2048_S128x2048))
      (.dma ((cc0_scratch4.slice (Rect.unit (s := S4) o1 S1.size (h1 h))).squeeze S_ squeezes_S1_S_).sem)
      ((View.wordExact_bits rfl).reshape _ _) ((View.wordExact_bits rfl).reshape _ _) ⟨Or.inl rfl, trivial⟩)
    pure ⟨⟩
  else do
    pure ⟨⟩
  Prog.lift (.waitDma2 ((cc0_scratch4.slice (Rect.unit (s := S4) o4 S1.size h4)).squeeze S_ squeezes_S1_S_).sem
    ((wM.slice (Rect.unit (s := W3 R) o6 S1x128x2048.size h6) (fun _ => rfl)).squeeze S128x2048 squeezes_S1x128x2048_S128x2048)
    ((bufM.slice (Rect.unit (s := S4x128x2048) o5 S1x128x2048.size h5) (fun _ => rfl)).squeeze S128x2048 squeezes_S1x128x2048_S128x2048)
    ((View.wordExact_bits rfl).reshape _ _) ((View.wordExact_bits rfl).reshape _ _))
  let v : Vec F S1x128x2048 .f32 ← Prog.lift (.load bufM (Rect.unit (s := S4x128x2048) o7 S1x128x2048.size h7).toLoadRect (View.loadsAt_vmem h_S1x128x2048))
  let _ : Vec F S128x2048 .bf16 ← Prog.lift (.load kM (Rect.unit (s := W2 R) o8 S128x2048.size h8).toLoadRect (View.loadsAt_vmem h_S128x2048))
  Prog.lift (.store kM (Rect.unit (s := W2 R) o8 S128x2048.size h8) (k0_pay2 v) Finset.univ
    (View.stores_vmem h_S128x2048 (hkM.storeExact_slice rfl _ hp) (fun _ => rfl)) (.inl rfl))
  pure ⟨⟩

variable (b : BitVec 1) (o1 : Fin 1 → ℕ) (o2 o3 : Fin 3 → ℕ) (o4 : Fin 1 → ℕ) (o5 o6 o7 : Fin 3 → ℕ) (o8 : Fin 2 → ℕ)
  (h1 : b = 1#1 → ∀ a, o1 a + S1.size a ≤ S4.size a) (h2 : b = 1#1 → ∀ a, o2 a + S1x128x2048.size a ≤ S4x128x2048.size a)
  (h3 : b = 1#1 → ∀ a, o3 a + S1x128x2048.size a ≤ (W3 R).size a) (h4 : ∀ a, o4 a + S1.size a ≤ S4.size a)
  (h5 : ∀ a, o5 a + S1x128x2048.size a ≤ S4x128x2048.size a) (h6 : ∀ a, o6 a + S1x128x2048.size a ≤ (W3 R).size a)
  (h7 : ∀ a, o7 a + S1x128x2048.size a ≤ S4x128x2048.size a) (h8 : ∀ a, o8 a + S128x2048.size a ≤ (W2 R).size a)
  (hp : (Rect.unit (s := W2 R) o8 S128x2048.size h8).PackedRows (EltTy.packing .bf16))

/-- The condition and the offsets are those of step `k`. -/
def StepAt (n k : ℕ) [NeZero n] : Prop :=
  (b = 1#1 ↔ k + 3 < n) ∧ o1 = semOff (Ring.sl 4 (k + 3)) ∧ o2 = slotOff (Ring.sl 4 (k + 3)) ∧ (k + 3 < n → o3 = rowsOff (Ring.bk n (k + 3)).val)
    ∧ o4 = semOff (Ring.sl 4 k) ∧ o5 = slotOff (Ring.sl 4 k) ∧ o6 = rowsOff (Ring.bk n k).val ∧ o7 = slotOff (Ring.sl 4 k) ∧ o8 = ![128 * k, 0]

set_option backward.proofsInPublic true in
theorem trip (k : ℕ) (hk : k < n) (e : StepAt b o1 o2 o3 o4 o5 o6 o7 o8 n k) (f : Buf (Elt F) (kM.view.loc (c : Thread nD τ))) :
    resAt c hR wM X kM k f ⊢ wp frame (wpE (defs₀ (F := F)) 𝒱₀ (c : Thread nD τ) none) Set.univ
        (tripG wM kM hkM b o1 o2 o3 o4 o5 o6 o7 o8 h1 h2 h3 h4 h5 h6 h7 h8 hp)
        (fun _ => resAt c hR wM X kM (k + 1) (kept c hR wM X kM k hk f)) := by
  obtain ⟨eb, e1, e2, e3, e4, e5, e6, e7, e8⟩ := e
  unfold resAt
  by_cases hk3 : k + 3 < n
  · have hb : b = 1#1 := eb.mpr hk3
    rw [homes_here c hR wM X k hk3, homes_next c hR wM X k hk3, roleP_of_lt c hR wM X hk, show k + 1 + 2 = k + 3 from rfl, roleP_of_lt c hR wM X hk3, sl4_add4]
    subst e1 e2 e4 e5 e6 e7 e8
    obtain rfl := e3 hk3
    unfold freeP
    iintro ⟨HO, ⟨%W, HW⟩, ⟨Hg, Hrest⟩, ⟨%f0, HF0⟩, Hr1, Hr2, ⟨⟨%f3, Hs3⟩, Hc3⟩⟩
    sl_unfold [tripG]
    sl_exec
    sl_step
    isplitl [HO]; · iexact HO
    isplitl [HW]; · iexists _; iexact HW
    isplitl [HF0_src Hrest]
    · isplitl [HF0_src]; · iexact HF0_src
      iexact Hrest
    isplitl [Hr1]; · iexact Hr1
    isplitl [Hr2]; · iexact Hr2
    isplitl [Hc3]; · iexists f3; iexact Hc3
    isplitl [HF0_dst]; · iexists _; iexact HF0_dst
    iexact HF0
  · have hb : ¬ b = 1#1 := fun h => hk3 (eb.mp h)
    rw [homes_tail c hR wM X k (by omega) hk, roleP_of_lt c hR wM X hk, show k + 1 + 2 = k + 3 from rfl, roleP_of_ge c hR wM X hk3, sl4_add4]
    subst e1 e2 e4 e5 e6 e7 e8
    iintro ⟨HO, ⟨%W, HW⟩, Hrest, ⟨%f0, HF0⟩, Hr1, Hr2, Hr3⟩
    sl_unfold [tripG]
    sl_exec
    sl_step
    isplitl [HO]; · iexact HO
    isplitl [HW]; · iexists _; iexact HW
    isplitl [HF0_src Hrest]
    · isplitl [HF0_src]; · iexact HF0_src
      iexact Hrest
    isplitl [Hr1]; · iexact Hr1
    isplitl [Hr2]; · iexact Hr2
    isplitl [Hr3]; · iexact Hr3
    unfold freeP
    isplitl [HF0_dst]; · iexists _; iexact HF0_dst
    iexact HF0

/-- The kept weight before step `k`, from what it was before the loop. -/
def keptAt (f : Buf (Elt F) (kM.view.loc (c : Thread nD τ))) : ℕ → Buf (Elt F) (kM.view.loc (c : Thread nD τ))
  | 0 => f
  | k + 1 => if h : k < n then kept c hR wM X kM k h (keptAt f k) else keptAt f k

theorem keptAt_succ (f : Buf (Elt F) (kM.view.loc (c : Thread nD τ))) (k : ℕ) (hk : k < n) :
    keptAt c hR wM X kM f (k + 1) = kept c hR wM X kM k hk (keptAt c hR wM X kM f k) := by
  rw [keptAt, dif_pos hk]

end Trip

/-! ## The three loops -/

theorem tripsA : k0_t1_loop.trips = 8 := by decide
theorem tripsB : k0_t2_loop.trips = 4 := by decide
theorem tripsC : k0_t3_loop.trips = 16 := by decide

theorem stepA : ∀ k : Fin k0_t1_loop.trips, StepAt (k0_cond2 k) (k0_off1 k) (k0_off2 k) (k0_off3 k) (k0_off4 k) (k0_off5 k) (k0_off6 k) (k0_off7 k) (k0_off8 k) 8 k.val := by
  unfold StepAt; decide +kernel
theorem stepB : ∀ k : Fin k0_t2_loop.trips, StepAt (k0_cond3 k) (k0_off9 k) (k0_off10 k) (k0_off11 k) (k0_off12 k) (k0_off13 k) (k0_off14 k) (k0_off15 k) (k0_off16 k) 4 k.val := by
  unfold StepAt; decide +kernel
theorem stepC : ∀ k : Fin k0_t3_loop.trips, StepAt (k0_cond4 k) (k0_off17 k) (k0_off18 k) (k0_off19 k) (k0_off20 k) (k0_off21 k) (k0_off22 k) (k0_off23 k) (k0_off24 k) 16 k.val := by
  unfold StepAt; decide +kernel

section Loops
variable (c : Dev nD) (i : grid0.Coords) (h1 : k0_cond1 i = 1#1)
  (arg1 : Memref sig .tc .vmem S512x1024 .bf16) (harg1 : arg1.IsWhole) (arg2 : Memref sig .tc .vmem S512x512 .bf16) (harg2 : arg2.IsWhole)
  (arg3 : Memref sig .tc .vmem S512x4096 .bf16) (harg3 : arg3.IsWhole) (arg4 : Memref sig .tc .vmem S1x4096 .f32) (harg4 : arg4.IsWhole)
  (arg5 : Memref sig .tc .vmem S512x2048 .f32) (harg5 : arg5.IsWhole) (arg6 : Memref sig .tc .vmem S1x6x2048 .f32) (harg6 : arg6.IsWhole)
  (arg7 : Memref sig .tc .vmem S1x2048 .f32) (harg7 : arg7.IsWhole) (arg11 : Memref sig .tc .vmem S512x2048 .f32) (harg11 : arg11.IsWhole)
  (arg12 : Memref sig .tc .vmem S512x2048 .bf16) (harg12 : arg12.IsWhole)

set_option warn.classDefReducibility false in
/-- Before each step of the first weight's loop; -/
@[sl_loop] def loopA (X : Buf (Elt F) (wA.view.loc (c : Thread nD τ))) (f : Buf (Elt F) (kA.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7
      wA (Memref.isWhole_whole _) wB (Memref.isWhole_whole _) wC (Memref.isWhole_whole _) arg11 harg11 arg12 harg12
      kA (Memref.isWhole_whole _) kB (Memref.isWhole_whole _) kC (Memref.isWhole_whole _) bufM (Memref.isWhole_whole _) cc0_scratch4 h1 where
  inv k _ := resAt c hA wA X kA k (keptAt c hA wA X kA f k)
  step k _ := by
    have hk : k.val < 8 := Nat.lt_of_lt_of_eq k.isLt tripsA
    rw [keptAt_succ c hA wA X kA f k.val hk]
    exact trip c hA wA X kA (Memref.isWhole_whole _) _ _ _ _ _ _ _ _ _ _ _ _ _ _ _ _ _ (k0_off8_packedbf16 i k h1) k.val hk (stepA k) _

set_option warn.classDefReducibility false in
/-- of the second's; -/
@[sl_loop] def loopB (X : Buf (Elt F) (wB.view.loc (c : Thread nD τ))) (f : Buf (Elt F) (kB.view.loc (c : Thread nD τ))) :
    LoopInvTy_k0_t2 (F := F) Unit ℕ (UU nD τ) ℕ 𝒱₀ c none Set.univ i arg1 harg1 arg2 harg2 arg3 harg3 arg4 harg4 arg5 harg5 arg6 harg6 arg7 harg7
      wA (Memref.isWhole_whole _) wB (Memref.isWhole_whole _) wC (Memref.isWhole_whole _) arg11 harg11 arg12 harg12
      kA (Memref.isWhole_whole _) kB (Memref.isWhole_whole _) kC (Memref.isWhole_whole _) bufM (Memref.isWhole_whole _) cc0_scratch4 h1 where
  inv k _ := resAt c hB wB X kB k (keptAt c hB wB X kB f k)
  step k _ := by
    have hk : k.val < 4 := Nat.lt_of_lt_of_eq k.isLt tripsB
    rw [keptAt_succ c hB wB X kB f k.val hk]
    exact trip c hB wB X kB (Memref.isWhole_whole _) _ _ _ _ _ _ _ _ _ _ _ _ _ _ _ _ _ (k0_off16_packedbf16 i k h1) k.val hk (stepB k) _

set_option warn.classDefReducibility false in
/-- of the third's. -/
@[sl_loop] def loopC (X : Buf (Elt F) (wC.view.loc (c : Thread nD τ))) (f : Buf (Elt F) (kC.view.loc (c : Thread nD τ))) :
    LoopInvTy_k0_t3 (F := F) Unit ℕ (UU nD τ) ℕ 𝒱₀ c none Set.univ i arg1 harg1 arg2 harg2 arg3 harg3 arg4 harg4 arg5 harg5 arg6 harg6 arg7 harg7
      wA (Memref.isWhole_whole _) wB (Memref.isWhole_whole _) wC (Memref.isWhole_whole _) arg11 harg11 arg12 harg12
      kA (Memref.isWhole_whole _) kB (Memref.isWhole_whole _) kC (Memref.isWhole_whole _) bufM (Memref.isWhole_whole _) cc0_scratch4 h1 where
  inv k _ := resAt c hC wC X kC k (keptAt c hC wC X kC f k)
  step k _ := by
    have hk : k.val < 16 := Nat.lt_of_lt_of_eq k.isLt tripsC
    rw [keptAt_succ c hC wC X kC f k.val hk]
    exact trip c hC wC X kC (Memref.isWhole_whole _) _ _ _ _ _ _ _ _ _ _ _ _ _ _ _ _ _ (k0_off24_packedbf16 i k h1) k.val hk (stepC k) _

end Loops

end Cert.Post

end
-- ==== Proof.PostBody.lean ====
/-
  One block of rows of the mix: at the first block the three weights are brought in and kept; at every block the two
  halves of the two output blocks are computed from the kept weights.
-/
module

public import proofs.«01_k».proof.Proof.PostRing

@[expose] public section

set_option maxRecDepth 16384

noncomputable section

namespace Cert.Post

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem ent_of_eq {P Q : sProp 𝕄} (h : P = Q) : P ⊢ Q := by rw [h]

/-! ## Into a loop and out of it, for a weight of any height -/

section Weight
variable (c : Dev nD) {n R : ℕ} [NeZero n] (hR : 128 * n = R) (wM : Memref sig .tc .hbm (W3 R) .f32) (X : Buf (Elt F) (wM.view.loc (c : Thread nD τ)))
  (kM : Memref sig .tc .vmem (W2 R) .bf16) (f : Buf (Elt F) (kM.view.loc (c : Thread nD τ)))

/-- All blocks at home are the first three and the rest. -/
theorem homes_zero (h : 3 < n) :
    bigSep Finset.univ (homeP c hR wM X)
      = iprop(homeP c hR wM X (Ring.bk n 0) ∗ homeP c hR wM X (Ring.bk n 1) ∗ homeP c hR wM X (Ring.bk n 2) ∗ bigSep (Ring.homeSet 3 0) (homeP c hR wM X)) := by
  have v0 : (Ring.bk n 0).val = 0 := Ring.bk_val (by omega)
  have v1 : (Ring.bk n 1).val = 1 := Ring.bk_val (by omega)
  have v2 : (Ring.bk n 2).val = 2 := Ring.bk_val (by omega)
  have e : (Finset.univ : Finset (Fin n)) = insert (Ring.bk n 0) (insert (Ring.bk n 1) (insert (Ring.bk n 2) (Ring.homeSet (NB := n) 3 0))) := by
    ext b; simp only [Finset.mem_univ, Finset.mem_insert, Ring.mem_homeSet, true_iff, Fin.ext_iff, v0, v1, v2]; omega
  rw [e, bigSep_insert (by simp only [Finset.mem_insert, Ring.mem_homeSet, Fin.ext_iff, v0, v1, v2]; omega),
    bigSep_insert (by simp only [Finset.mem_insert, Ring.mem_homeSet, Fin.ext_iff, v1, v2]; omega), bigSep_insert (by simp only [Ring.mem_homeSet, v2]; omega)]
  rfl

/-- The three transfers sent for before the loop are what its first step expects. -/
theorem resAt_start (h : 3 < n) (f0 f1 f2) :
    iprop(heldP c kM f ∗ (∃ W, owes (c : Thread nD τ) 0 W) ∗ bigSep (Ring.homeSet 3 0) (homeP c hR wM X)
        ∗ flightP c hR wM X 0 (Ring.bk n 0) f0 ∗ flightP c hR wM X 1 (Ring.bk n 1) f1 ∗ flightP c hR wM X 2 (Ring.bk n 2) f2 ∗ freeP c 3)
      ⊢ resAt c hR wM X kM 0 (keptAt c hR wM X kM f 0) := by
  unfold resAt
  rw [roleP_of_lt c hR wM X (p := 0) (by omega), roleP_of_lt c hR wM X (p := 0 + 1) (by omega), roleP_of_lt c hR wM X (p := 0 + 2) (by omega)]
  iintro ⟨H7, HW, Hh, H0, H1, H2, H3⟩
  isplitl [H7]; · iexact H7
  isplitl [HW]; · iexact HW
  isplitl [Hh]; · iexact Hh
  isplitl [H0]; · iexists f0; iexact H0
  isplitl [H1]; · iexists f1; iexact H1
  isplitl [H2]; · iexists f2; iexact H2
  iexact H3

/-- The four slots free, whichever of them comes first. -/
theorem free_turn (q : ℕ) :
    (iprop(freeP c (Ring.sl 4 (4 * q)) ∗ freeP c (Ring.sl 4 (4 * q + 1)) ∗ freeP c (Ring.sl 4 (4 * q + 2)) ∗ freeP c (Ring.sl 4 (4 * q + 3))) : sProp 𝕄)
      = iprop(freeP c 0 ∗ freeP c 1 ∗ freeP c 2 ∗ freeP c 3) := by
  have e0 : Ring.sl 4 (4 * q) = 0 := Fin.ext (by show 4 * q % 4 = 0; omega)
  have e1 : Ring.sl 4 (4 * q + 1) = 1 := Fin.ext (by show (4 * q + 1) % 4 = 1; omega)
  have e2 : Ring.sl 4 (4 * q + 2) = 2 := Fin.ext (by show (4 * q + 2) % 4 = 2; omega)
  have e3 : Ring.sl 4 (4 * q + 3) = 3 := Fin.ext (by show (4 * q + 3) % 4 = 3; omega)
  rw [e0, e1, e2, e3]

/-- After the loop every block is back and every slot is free. -/
theorem resAt_end (q : ℕ) (hq : n = 4 * q) (g : Buf (Elt F) (kM.view.loc (c : Thread nD τ))) :
    resAt c hR wM X kM n g ⊢ iprop(heldP c kM g ∗ (∃ W, owes (c : Thread nD τ) 0 W) ∗ bigSep Finset.univ (homeP c hR wM X)
        ∗ freeP c 0 ∗ freeP c 1 ∗ freeP c 2 ∗ freeP c 3) := by
  unfold resAt
  rw [roleP_of_ge c hR wM X (p := n) (by omega), roleP_of_ge c hR wM X (p := n + 1) (by omega), roleP_of_ge c hR wM X (p := n + 2) (by omega),
    Ring.homeSet_last 3 n (Nat.le_refl _), ← free_turn (F := F) c q, ← hq]

end Weight

variable (c : Dev nD) (XA : Buf (Elt F) (wA.view.loc (c : Thread nD τ))) (XB : Buf (Elt F) (wB.view.loc (c : Thread nD τ))) (XC : Buf (Elt F) (wC.view.loc (c : Thread nD τ)))
  (i : grid0.Coords)
  (arg1 : Memref sig .tc .vmem S512x1024 .bf16) (harg1 : arg1.IsWhole) (arg2 : Memref sig .tc .vmem S512x512 .bf16) (harg2 : arg2.IsWhole)
  (arg3 : Memref sig .tc .vmem S512x4096 .bf16) (harg3 : arg3.IsWhole) (arg4 : Memref sig .tc .vmem S1x4096 .f32) (harg4 : arg4.IsWhole)
  (arg5 : Memref sig .tc .vmem S512x2048 .f32) (harg5 : arg5.IsWhole) (arg6 : Memref sig .tc .vmem S1x6x2048 .f32) (harg6 : arg6.IsWhole)
  (arg7 : Memref sig .tc .vmem S1x2048 .f32) (harg7 : arg7.IsWhole) (arg11 : Memref sig .tc .vmem S512x2048 .f32) (harg11 : arg11.IsWhole)
  (arg12 : Memref sig .tc .vmem S512x2048 .bf16) (harg12 : arg12.IsWhole)

/-- The kernel on the given blocks, the weights, the kept weights, the slots and their counters its own. -/
abbrev bodyG : Prog (TpuEff nD τ sig (Elt F) Λ₀ .tc) PUnit :=
  cc0_post i arg1 harg1 arg2 harg2 arg3 harg3 arg4 harg4 arg5 harg5 arg6 harg6 arg7 harg7
    wA (Memref.isWhole_whole _) wB (Memref.isWhole_whole _) wC (Memref.isWhole_whole _) arg11 harg11 arg12 harg12
    kA (Memref.isWhole_whole _) kB (Memref.isWhole_whole _) kC (Memref.isWhole_whole _) bufM (Memref.isWhole_whole _) cc0_scratch4

section Out
variable (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ))) (g6 : Buf (Elt F) (arg6.view.loc (c : Thread nD τ)))
  (g7 : Buf (Elt F) (arg7.view.loc (c : Thread nD τ)))
  (gX : Buf (Elt F) (arg11.view.loc (c : Thread nD τ))) (gH : Buf (Elt F) (arg12.view.loc (c : Thread nD τ)))
  (fA : Buf (Elt F) (kA.view.loc (c : Thread nD τ))) (fB : Buf (Elt F) (kB.view.loc (c : Thread nD τ))) (fC : Buf (Elt F) (kC.view.loc (c : Thread nD τ)))

abbrev keptWA : Vec F S1024x2048 .bf16 := kA.view.readAt (Elt F) (Rect.unit (s := S1024x2048) ![0, 0] S1024x2048.size inb_S1024x2048_S1024x2048_0_0).toLoadRect fA
abbrev keptWB : Vec F S512x2048 .bf16 := kB.view.readAt (Elt F) (Rect.unit (s := S512x2048) ![0, 0] S512x2048.size inb_S512x2048_S512x2048_0_0).toLoadRect fB
abbrev keptWC : Vec F S2048x2048 .bf16 := kC.view.readAt (Elt F) (Rect.unit (s := S2048x2048) ![0, 0] S2048x2048.size inb_S2048x2048_S2048x2048_0_0).toLoadRect fC
abbrev biasRow : Vec F S1x4096 .f32 := arg4.view.readAt (Elt F) (Rect.unit (s := S1x4096) ![0, 0] S1x4096.size inb_S1x4096_S1x4096_0_0).toLoadRect g4
abbrev normRow : Vec F S1x2048 .f32 := arg7.view.readAt (Elt F) (Rect.unit (s := S1x2048) ![0, 0] S1x2048.size inb_S1x2048_S1x2048_0_0).toLoadRect g7
abbrev gateRow : Vec F S1x1x2048 .f32 := arg6.view.readAt (Elt F) (Rect.unit (s := S1x6x2048) ![0, 2, 0] S1x1x2048.size inb_S1x6x2048_S1x1x2048_0_2_0).toLoadRect g6
abbrev shiftRow : Vec F S1x1x2048 .f32 := arg6.view.readAt (Elt F) (Rect.unit (s := S1x6x2048) ![0, 3, 0] S1x1x2048.size inb_S1x6x2048_S1x1x2048_0_3_0).toLoadRect g6
abbrev scaleRow : Vec F S1x1x2048 .f32 := arg6.view.readAt (Elt F) (Rect.unit (s := S1x6x2048) ![0, 4, 0] S1x1x2048.size inb_S1x6x2048_S1x1x2048_0_4_0).toLoadRect g6

/-- The upper half of the stream, -/
abbrev upperX : FVec F S256x2048 .f32 :=
  k0_pay11
    (k0_pay5 (arg1.view.readAt (Elt F) (Rect.unit (s := S512x1024) ![0, 0] S256x1024.size inb_S512x1024_S256x1024_0_0).toLoadRect g1) (keptWA c fA))
    (k0_pay7 (arg2.view.readAt (Elt F) (Rect.unit (s := S512x512) ![0, 0] S256x512.size inb_S512x512_S256x512_0_0).toLoadRect g2) (keptWB c fB))
    (k0_pay9 (arg3.view.readAt (Elt F) (Rect.unit (s := S512x4096) ![0, 0] S256x4096.size inb_S512x4096_S256x4096_0_0).toLoadRect g3) (biasRow c arg4 g4))
    (keptWC c fC)
    (arg5.view.readAt (Elt F) (Rect.unit (s := S512x2048) ![0, 0] S256x2048.size inb_S512x2048_S256x2048_0_0).toLoadRect g5)
    (gateRow c arg6 g6)
/-- its normed form; -/
abbrev upperH : FVec F S256x2048 .bf16 :=
  k0_pay12 (upperX c arg1 arg2 arg3 arg4 arg5 arg6 g1 g2 g3 g4 g5 g6 fA fB fC) (normRow c arg7 g7) (scaleRow c arg6 g6) (shiftRow c arg6 g6)
/-- the product of the lower half, -/
abbrev lowerT : FVec F S256x2048 .f32 :=
  k0_pay10
    (k0_pay6 (arg1.view.readAt (Elt F) (Rect.unit (s := S512x1024) ![256, 0] S256x1024.size inb_S512x1024_S256x1024_256_0).toLoadRect g1) (keptWA c fA))
    (k0_pay8 (arg2.view.readAt (Elt F) (Rect.unit (s := S512x512) ![256, 0] S256x512.size inb_S512x512_S256x512_256_0).toLoadRect g2) (keptWB c fB))
    (arg3.view.readAt (Elt F) (Rect.unit (s := S512x4096) ![256, 0] S256x4096.size inb_S512x4096_S256x4096_256_0).toLoadRect g3)
    (biasRow c arg4 g4) (keptWC c fC)
abbrev lowerIn : Vec F S256x2048 .f32 := arg5.view.readAt (Elt F) (Rect.unit (s := S512x2048) ![256, 0] S256x2048.size inb_S512x2048_S256x2048_256_0).toLoadRect g5
/-- the lower half of the stream -/
abbrev lowerX : FVec F S256x2048 .f32 :=
  k0_pay13 (lowerT c arg1 arg2 arg3 arg4 g1 g2 g3 g4 fA fB fC) (lowerIn c arg5 g5) (gateRow c arg6 g6)
/-- and its normed form. -/
abbrev lowerH : FVec F S256x2048 .bf16 :=
  k0_pay1 (lowerX c arg1 arg2 arg3 arg4 arg5 arg6 g1 g2 g3 g4 g5 g6 fA fB fC)
    (k0_pay14 (lowerT c arg1 arg2 arg3 arg4 g1 g2 g3 g4 fA fB fC) (lowerIn c arg5 g5) (gateRow c arg6 g6))
    (normRow c arg7 g7) (scaleRow c arg6 g6) (shiftRow c arg6 g6)
/-- The stream's block written over `gX`, -/
abbrev outX : Buf (Elt F) (arg11.view.loc (c : Thread nD τ)) :=
  arg11.view.writes (Elt F) gX
    [⟨Rect.unit (s := S512x2048) ![256, 0] S256x2048.size inb_S512x2048_S256x2048_256_0, lowerX c arg1 arg2 arg3 arg4 arg5 arg6 g1 g2 g3 g4 g5 g6 fA fB fC⟩,
     ⟨Rect.unit (s := S512x2048) ![0, 0] S256x2048.size inb_S512x2048_S256x2048_0_0, upperX c arg1 arg2 arg3 arg4 arg5 arg6 g1 g2 g3 g4 g5 g6 fA fB fC⟩]
/-- the normed block over `gH`. -/
abbrev outH : Buf (Elt F) (arg12.view.loc (c : Thread nD τ)) :=
  arg12.view.writes (Elt F) gH
    [⟨Rect.unit (s := S512x2048) ![256, 0] S256x2048.size inb_S512x2048_S256x2048_256_0, lowerH c arg1 arg2 arg3 arg4 arg5 arg6 arg7 g1 g2 g3 g4 g5 g6 g7 fA fB fC⟩,
     ⟨Rect.unit (s := S512x2048) ![0, 0] S256x2048.size inb_S512x2048_S256x2048_0_0, upperH c arg1 arg2 arg3 arg4 arg5 arg6 arg7 g1 g2 g3 g4 g5 g6 g7 fA fB fC⟩]

/-- The input blocks, -/
abbrev insP : sProp 𝕄 :=
  iprop(heldP c arg1 g1 ∗ heldP c arg2 g2 ∗ heldP c arg3 g3 ∗ heldP c arg4 g4 ∗ heldP c arg5 g5 ∗ heldP c arg6 g6 ∗ heldP c arg7 g7)
/-- the output blocks, -/
abbrev outsP : sProp 𝕄 := iprop(heldP c arg11 gX ∗ heldP c arg12 gH)
/-- the kept weights, -/
abbrev keepP : sProp 𝕄 := iprop(heldP c kA fA ∗ heldP c kB fB ∗ heldP c kC fC)
/-- the weights at home, -/
abbrev homesP : sProp 𝕄 := iprop(bigSep Finset.univ (homeP c hA wA XA) ∗ bigSep Finset.univ (homeP c hB wB XB) ∗ bigSep Finset.univ (homeP c hC wC XC))
/-- the slots free. -/
abbrev slotsP : sProp 𝕄 := iprop(freeP (F := F) c 0 ∗ freeP (F := F) c 1 ∗ freeP (F := F) c 2 ∗ freeP (F := F) c 3)

set_option backward.proofsInPublic true in
/-- At a later block of rows: the kept weights are only read. -/
theorem laterRun (h1 : ¬ k0_cond1 i = 1#1) (W : Waits sig Unit) (Q : PUnit → sProp 𝕄) :
    iprop((insP c arg1 arg2 arg3 arg4 arg5 arg6 arg7 g1 g2 g3 g4 g5 g6 g7 ∗ outsP c arg11 arg12 gX gH ∗ keepP c fA fB fC ∗ owes (c : Thread nD τ) 0 W)
        ∗ ((insP c arg1 arg2 arg3 arg4 arg5 arg6 arg7 g1 g2 g3 g4 g5 g6 g7
            ∗ outsP c arg11 arg12 (outX c arg1 arg2 arg3 arg4 arg5 arg6 arg11 g1 g2 g3 g4 g5 g6 gX fA fB fC)
                (outH c arg1 arg2 arg3 arg4 arg5 arg6 arg7 arg12 g1 g2 g3 g4 g5 g6 g7 gH fA fB fC)
            ∗ keepP c fA fB fC ∗ ∃ W, owes (c : Thread nD τ) 0 W) -∗ Q ⟨⟩))
      ⊢ wp frame (wpE (defs₀ (F := F)) 𝒱₀ (c : Thread nD τ) none) Set.univ
          (bodyG i arg1 harg1 arg2 harg2 arg3 harg3 arg4 harg4 arg5 harg5 arg6 harg6 arg7 harg7 arg11 harg11 arg12 harg12) Q := by
  iintro ⟨⟨⟨H1, H2, H3, H4, H5, H6, H7⟩, ⟨HX, HH⟩, ⟨HA, HB, HC⟩, HW⟩, Hk⟩
  sl_exec
  sl_step
  iapply Hk
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HX HH]
  · isplitl [HX]; · iexact HX
    iexact HH
  isplitl [HA HB HC]
  · isplitl [HA]; · iexact HA
    isplitl [HB]; · iexact HB
    iexact HC
  iexists _; iexact HW

set_option backward.proofsInPublic true in
set_option maxHeartbeats 2000000 in
/-- At the first block of rows: the weights are brought in first. -/
theorem firstRun (h1 : k0_cond1 i = 1#1) (W : Waits sig Unit) (Q : PUnit → sProp 𝕄) :
    iprop((insP c arg1 arg2 arg3 arg4 arg5 arg6 arg7 g1 g2 g3 g4 g5 g6 g7 ∗ outsP c arg11 arg12 gX gH ∗ keepP c fA fB fC ∗ owes (c : Thread nD τ) 0 W
          ∗ homesP c XA XB XC ∗ slotsP (F := F) c)
        ∗ ((insP c arg1 arg2 arg3 arg4 arg5 arg6 arg7 g1 g2 g3 g4 g5 g6 g7
            ∗ outsP c arg11 arg12
                (outX c arg1 arg2 arg3 arg4 arg5 arg6 arg11 g1 g2 g3 g4 g5 g6 gX (keptAt c hA wA XA kA fA 8) (keptAt c hB wB XB kB fB 4) (keptAt c hC wC XC kC fC 16))
                (outH c arg1 arg2 arg3 arg4 arg5 arg6 arg7 arg12 g1 g2 g3 g4 g5 g6 g7 gH (keptAt c hA wA XA kA fA 8) (keptAt c hB wB XB kB fB 4) (keptAt c hC wC XC kC fC 16))
            ∗ keepP c (keptAt c hA wA XA kA fA 8) (keptAt c hB wB XB kB fB 4) (keptAt c hC wC XC kC fC 16)
            ∗ (∃ W, owes (c : Thread nD τ) 0 W) ∗ homesP c XA XB XC ∗ slotsP (F := F) c) -∗ Q ⟨⟩))
      ⊢ wp frame (wpE (defs₀ (F := F)) 𝒱₀ (c : Thread nD τ) none) Set.univ
          (bodyG i arg1 harg1 arg2 harg2 arg3 harg3 arg4 harg4 arg5 harg5 arg6 harg6 arg7 harg7 arg11 harg11 arg12 harg12) Q := by
  have zA : bigSep Finset.univ (homeP c hA wA XA) = iprop(homeP c hA wA XA 0 ∗ homeP c hA wA XA 1 ∗ homeP c hA wA XA 2 ∗ bigSep (Ring.homeSet 3 0) (homeP c hA wA XA)) :=
    homes_zero c hA wA XA (by decide)
  have zB : bigSep Finset.univ (homeP c hB wB XB) = iprop(homeP c hB wB XB 0 ∗ homeP c hB wB XB 1 ∗ homeP c hB wB XB 2 ∗ bigSep (Ring.homeSet 3 0) (homeP c hB wB XB)) :=
    homes_zero c hB wB XB (by decide)
  have zC : bigSep Finset.univ (homeP c hC wC XC) = iprop(homeP c hC wC XC 0 ∗ homeP c hC wC XC 1 ∗ homeP c hC wC XC 2 ∗ bigSep (Ring.homeSet 3 0) (homeP c hC wC XC)) :=
    homes_zero c hC wC XC (by decide)
  iintro ⟨⟨⟨H1, H2, H3, H4, H5, H6, H7⟩, ⟨HX, HH⟩, ⟨HA, HB, HC⟩, HW, ⟨HhA, HhB, HhC⟩, Hf0, Hf1, Hf2, Hf3⟩, Hk⟩
  -- the first weight
  ihave Hh := (ent_of_eq zA) $$ HhA
  icases Hh with ⟨Hh0, Hh1, Hh2, Hh⟩
  ihave Hf0' := (free_open c 0) $$ Hf0
  icases Hf0' with ⟨⟨%a0, Hs0⟩, Hc0⟩
  ihave Hf1' := (free_open c 1) $$ Hf1
  icases Hf1' with ⟨⟨%a1, Hs1⟩, Hc1⟩
  ihave Hf2' := (free_open c 2) $$ Hf2
  icases Hf2' with ⟨⟨%a2, Hs2⟩, Hc2⟩
  sl_exec
  ihave HR := (resAt_start c hA wA XA kA fA (by decide) a0 a1 a2) $$ [HA HW Hh Hc0 Hc1 Hc2 Hf3]
  · isplitl [HA]; · iexact HA
    isplitl [HW]; · iexists _; iexact HW
    isplitl [Hh]; · iexact Hh
    isplitl [Hc0]; · iexact Hc0
    isplitl [Hc1]; · iexact Hc1
    isplitl [Hc2]; · iexact Hc2
    iexact Hf3
  sl_exec
  rw [show Scf.trips k0_t1_loop.lb k0_t1_loop.ub k0_t1_loop.st = 8 from tripsA]
  ihave HE := (resAt_end c hA wA XA kA 2 rfl (keptAt c hA wA XA kA fA 8)) $$ HR
  icases HE with ⟨HA, ⟨%W1, HW⟩, HhA, Hf0, Hf1, Hf2, Hf3⟩
  -- the second
  ihave Hh := (ent_of_eq zB) $$ HhB
  icases Hh with ⟨Hh0, Hh1, Hh2, Hh⟩
  ihave Hf0' := (free_open c 0) $$ Hf0
  icases Hf0' with ⟨⟨%b0, Hs0⟩, Hc0⟩
  ihave Hf1' := (free_open c 1) $$ Hf1
  icases Hf1' with ⟨⟨%b1, Hs1⟩, Hc1⟩
  ihave Hf2' := (free_open c 2) $$ Hf2
  icases Hf2' with ⟨⟨%b2, Hs2⟩, Hc2⟩
  sl_exec
  ihave HR := (resAt_start c hB wB XB kB fB (by decide) b0 b1 b2) $$ [HB HW Hh Hc0 Hc1 Hc2 Hf3]
  · isplitl [HB]; · iexact HB
    isplitl [HW]; · iexists _; iexact HW
    isplitl [Hh]; · iexact Hh
    isplitl [Hc0]; · iexact Hc0
    isplitl [Hc1]; · iexact Hc1
    isplitl [Hc2]; · iexact Hc2
    iexact Hf3
  sl_exec
  rw [show Scf.trips k0_t2_loop.lb k0_t2_loop.ub k0_t2_loop.st = 4 from tripsB]
  ihave HE := (resAt_end c hB wB XB kB 1 rfl (keptAt c hB wB XB kB fB 4)) $$ HR
  icases HE with ⟨HB, ⟨%W2, HW⟩, HhB, Hf0, Hf1, Hf2, Hf3⟩
  -- the third
  ihave Hh := (ent_of_eq zC) $$ HhC
  icases Hh with ⟨Hh0, Hh1, Hh2, Hh⟩
  ihave Hf0' := (free_open c 0) $$ Hf0
  icases Hf0' with ⟨⟨%d0, Hs0⟩, Hc0⟩
  ihave Hf1' := (free_open c 1) $$ Hf1
  icases Hf1' with ⟨⟨%d1, Hs1⟩, Hc1⟩
  ihave Hf2' := (free_open c 2) $$ Hf2
  icases Hf2' with ⟨⟨%d2, Hs2⟩, Hc2⟩
  sl_exec
  ihave HR := (resAt_start c hC wC XC kC fC (by decide) d0 d1 d2) $$ [HC HW Hh Hc0 Hc1 Hc2 Hf3]
  · isplitl [HC]; · iexact HC
    isplitl [HW]; · iexists _; iexact HW
    isplitl [Hh]; · iexact Hh
    isplitl [Hc0]; · iexact Hc0
    isplitl [Hc1]; · iexact Hc1
    isplitl [Hc2]; · iexact Hc2
    iexact Hf3
  sl_exec
  rw [show Scf.trips k0_t3_loop.lb k0_t3_loop.ub k0_t3_loop.st = 16 from tripsC]
  ihave HE := (resAt_end c hC wC XC kC 4 rfl (keptAt c hC wC XC kC fC 16)) $$ HR
  icases HE with ⟨HC, HW, HhC, Hf0, Hf1, Hf2, Hf3⟩
  sl_exec
  sl_step
  iapply Hk
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HX HH]
  · isplitl [HX]; · iexact HX
    iexact HH
  isplitl [HA HB HC]
  · isplitl [HA]; · iexact HA
    isplitl [HB]; · iexact HB
    iexact HC
  isplitl [HW]; · iexact HW
  isplitl [HhA HhB HhC]
  · isplitl [HhA]; · iexact HhA
    isplitl [HhB]; · iexact HhB
    iexact HhC
  isplitl [Hf0]; · iexact Hf0
  isplitl [Hf1]; · iexact Hf1
  isplitl [Hf2]; · iexact Hf2
  iexact Hf3

end Out

end Cert.Post

end
-- ==== Proof.PostKept.lean ====
/-
  What a kept weight holds once all its blocks have come in, whatever it held before, and what a block of rows then
  computes from the three.
-/
module

public import proofs.«01_k».proof.Proof.PostBody
public import Idealize.ShloMosaic.Lib.Writes
public import Idealize.ShloMosaic.Lib.VecWindow
public import Idealize.ShloMosaic.Lib.ValueIdx
public import Idealize.ShloMosaic.Lib.Pipeline.FrameBody

@[expose] public section

set_option maxRecDepth 16384

noncomputable section

namespace Cert.Post

open Cert.Kernel8Ideal Cert.Kernel8Ideal.Gen
open Idealize.ShloMosaic
open Idealize.ShloMosaic.TcCoe Idealize.ShloMosaic.Tactic Idealize.ShloMosaic.ValueIdx

variable {F : FTy → Type} [FloatOps F]

/-- The weights come in at the first block of rows only. -/
theorem first_iff : ∀ t : Fin grid0.N, k0_cond1 (grid0.coords t) = 1#1 ↔ t.val = 0 := by decide +kernel

section Weight
variable (c : Dev nD) {n R : ℕ} [NeZero n] (hR : 128 * n = R) (wM : Memref sig .tc .hbm (W3 R) .f32) (X : Buf (Elt F) (wM.view.loc (c : Thread nD τ)))
  (kM : Memref sig .tc .vmem (W2 R) .bf16) (f : Buf (Elt F) (kM.view.loc (c : Thread nD τ)))

/-- A block of the weight as kept. -/
def castBlock (k : ℕ) : S128x2048.Idx → Elt F .bf16 := k0_pay2 (staged c hR wM X k)
/-- The weight as kept: row `r` is row `r % 128` of block `r / 128`. -/
def castW : Vec F (W2 R) .bf16 := fun y =>
  castBlock c hR wM X ((y 0).val / 128) (ix2 (⟨(y 0).val % 128, by omega⟩ : Fin 128) (y 1))

/-- Before step `k` the rows of the first `k` blocks are kept. -/
theorem keptAt_read (k : ℕ) (hk : k ≤ n) (y : (W2 R).Idx) (hy : (y 0).val < 128 * k) :
    kM.view.read (Elt F) (keptAt c hR wM X kM f k) y = castW c hR wM X y := by
  induction k with
  | zero => omega
  | succ k ih =>
    rw [keptAt_succ c hR wM X kM f k hk]
    by_cases h : (y 0).val < 128 * k
    · refine (View.read_writes_cons_miss_of_axis _ _ _ _ y 0 (128 * k) 128 rfl rfl rfl (Or.inl h)).trans ?_
      exact ih (by omega) h
    · refine (View.read_writes_cons_hit_of_coords _ _ (Rect.unit (s := W2 R) ![128 * k, 0] S128x2048.size (keptOff_inb hR k hk)) _ _
        (ix2 (⟨(y 0).val % 128, by omega⟩ : Fin 128) (y 1)) y fun a => ?_).trans ?_
      · match a with
        | ⟨0, _⟩ => show (y 0).val = 128 * k + 1 * ((y 0).val % 128); omega
        | ⟨1, _⟩ => show (y 1).val = 0 + 1 * (y 1).val; omega
      · show castBlock c hR wM X k _ = castBlock c hR wM X ((y 0).val / 128) _
        rw [show (y 0).val / 128 = k by omega]

/-- After the last step all rows are. -/
theorem kept_all : kM.view.read (Elt F) (keptAt c hR wM X kM f n) = castW c hR wM X :=
  funext fun y => keptAt_read c hR wM X kM f n (Nat.le_refl _) y (lt_of_lt_of_eq (y 0).isLt hR.symm)

end Weight

/-! ## A block of rows, from the blocks' values -/

section Values
variable (x0 : Vec F S512x1024 .bf16) (x1 : Vec F S512x512 .bf16) (x2 : Vec F S512x4096 .bf16) (x3 : Vec F S1x4096 .f32) (x4 : Vec F S512x2048 .f32)
  (x5 : Vec F S1x6x2048 .f32) (x6 : Vec F S1x2048 .f32) (WA : Vec F S1024x2048 .bf16) (WB : Vec F S512x2048 .bf16) (WC : Vec F S2048x2048 .bf16)

/-- The gate of the branch, the shift and the scale of the norm. -/
def gateV : Vec F S1x1x2048 .f32 := View.ld x5 (Rect.unit (s := S1x6x2048) ![0, 2, 0] S1x1x2048.size inb_S1x6x2048_S1x1x2048_0_2_0)
def shiftV : Vec F S1x1x2048 .f32 := View.ld x5 (Rect.unit (s := S1x6x2048) ![0, 3, 0] S1x1x2048.size inb_S1x6x2048_S1x1x2048_0_3_0)
def scaleV : Vec F S1x1x2048 .f32 := View.ld x5 (Rect.unit (s := S1x6x2048) ![0, 4, 0] S1x1x2048.size inb_S1x6x2048_S1x1x2048_0_4_0)

/-- The upper half of the stream, -/
def upX : FVec F S256x2048 .f32 :=
  k0_pay11 (k0_pay5 (View.ld x0 (Rect.unit (s := S512x1024) ![0, 0] S256x1024.size inb_S512x1024_S256x1024_0_0)) WA)
    (k0_pay7 (View.ld x1 (Rect.unit (s := S512x512) ![0, 0] S256x512.size inb_S512x512_S256x512_0_0)) WB)
    (k0_pay9 (View.ld x2 (Rect.unit (s := S512x4096) ![0, 0] S256x4096.size inb_S512x4096_S256x4096_0_0)) x3) WC
    (View.ld x4 (Rect.unit (s := S512x2048) ![0, 0] S256x2048.size inb_S512x2048_S256x2048_0_0)) (gateV x5)
/-- the product of the lower half. -/
def loT : FVec F S256x2048 .f32 :=
  k0_pay10 (k0_pay6 (View.ld x0 (Rect.unit (s := S512x1024) ![256, 0] S256x1024.size inb_S512x1024_S256x1024_256_0)) WA)
    (k0_pay8 (View.ld x1 (Rect.unit (s := S512x512) ![256, 0] S256x512.size inb_S512x512_S256x512_256_0)) WB)
    (View.ld x2 (Rect.unit (s := S512x4096) ![256, 0] S256x4096.size inb_S512x4096_S256x4096_256_0)) x3 WC
/-- The lower half's stream before, -/
def loIn : FVec F S256x2048 .f32 := View.ld x4 (Rect.unit (s := S512x2048) ![256, 0] S256x2048.size inb_S512x2048_S256x2048_256_0)

/-- The two stores of the stream, the last first; -/
def piecesX : List (View.Piece (Elt F) S512x2048 .f32) :=
  [⟨Rect.unit (s := S512x2048) ![256, 0] S256x2048.size inb_S512x2048_S256x2048_256_0, k0_pay13 (loT x0 x1 x2 x3 WA WB WC) (loIn x4) (gateV x5)⟩,
   ⟨Rect.unit (s := S512x2048) ![0, 0] S256x2048.size inb_S512x2048_S256x2048_0_0, upX x0 x1 x2 x3 x4 x5 WA WB WC⟩]
/-- of the normed form. -/
def piecesH : List (View.Piece (Elt F) S512x2048 .bf16) :=
  [⟨Rect.unit (s := S512x2048) ![256, 0] S256x2048.size inb_S512x2048_S256x2048_256_0,
      k0_pay1 (k0_pay13 (loT x0 x1 x2 x3 WA WB WC) (loIn x4) (gateV x5)) (k0_pay14 (loT x0 x1 x2 x3 WA WB WC) (loIn x4) (gateV x5)) x6 (scaleV x5) (shiftV x5)⟩,
   ⟨Rect.unit (s := S512x2048) ![0, 0] S256x2048.size inb_S512x2048_S256x2048_0_0,
      k0_pay12 (upX x0 x1 x2 x3 x4 x5 WA WB WC) x6 (scaleV x5) (shiftV x5)⟩]

theorem piecesX_cover (y : S512x2048.Idx) : ∃ p ∈ piecesX x0 x1 x2 x3 x4 x5 WA WB WC, y ∈ p.1.set :=
  View.cover_of_tiledL _ ![256, 2048] (by sl_kernel_rfl) y
theorem piecesH_cover (y : S512x2048.Idx) : ∃ p ∈ piecesH x0 x1 x2 x3 x4 x5 x6 WA WB WC, y ∈ p.1.set :=
  View.cover_of_tiledL _ ![256, 2048] (by sl_kernel_rfl) y

variable (c : Dev nD)
  (arg1 : Memref sig .tc .vmem S512x1024 .bf16) (arg2 : Memref sig .tc .vmem S512x512 .bf16) (arg3 : Memref sig .tc .vmem S512x4096 .bf16)
  (arg4 : Memref sig .tc .vmem S1x4096 .f32) (arg5 : Memref sig .tc .vmem S512x2048 .f32) (arg6 : Memref sig .tc .vmem S1x6x2048 .f32)
  (arg7 : Memref sig .tc .vmem S1x2048 .f32) (arg11 : Memref sig .tc .vmem S512x2048 .f32) (arg12 : Memref sig .tc .vmem S512x2048 .bf16)
  (fA : Buf (Elt F) (kA.view.loc (c : Thread nD τ))) (fB : Buf (Elt F) (kB.view.loc (c : Thread nD τ))) (fC : Buf (Elt F) (kC.view.loc (c : Thread nD τ)))
  (hfA : kA.view.read (Elt F) fA = WA) (hfB : kB.view.read (Elt F) fB = WB) (hfC : kC.view.read (Elt F) fC = WC)

include hfA hfB hfC in
/-- What the stream's block reads afterwards, -/
theorem outX_read (gX : Buf (Elt F) (arg11.view.loc (c : Thread nD τ))) :
    arg11.view.read (Elt F) (outX c arg1 arg2 arg3 arg4 arg5 arg6 arg11 (arg1.view.rep x0) (arg2.view.rep x1) (arg3.view.rep x2) (arg4.view.rep x3)
      (arg5.view.rep x4) (arg6.view.rep x5) gX fA fB fC) = View.canon (piecesX x0 x1 x2 x3 x4 x5 WA WB WC) := by
  have e : outX c arg1 arg2 arg3 arg4 arg5 arg6 arg11 (arg1.view.rep x0) (arg2.view.rep x1) (arg3.view.rep x2) (arg4.view.rep x3)
      (arg5.view.rep x4) (arg6.view.rep x5) gX fA fB fC = arg11.view.writes (Elt F) gX (piecesX x0 x1 x2 x3 x4 x5 WA WB WC) := by
    unfold piecesX upX loT loIn gateV
    dsimp only [outX, upperX, lowerX, lowerT, lowerIn, gateRow, keptWA, keptWB, keptWC, biasRow]
    rw [View.readAt_full kA.view, View.readAt_full kB.view, View.readAt_full kC.view, View.readAt_full arg4.view, hfA, hfB, hfC, View.read_rep]
    simp only [View.readAt_eq_ld, View.read_rep]
  rw [e]
  exact View.read_writes_eq_canon _ _ _ (piecesX_cover x0 x1 x2 x3 x4 x5 WA WB WC)

include hfA hfB hfC in
/-- and the normed block. -/
theorem outH_read (gH : Buf (Elt F) (arg12.view.loc (c : Thread nD τ))) :
    arg12.view.read (Elt F) (outH c arg1 arg2 arg3 arg4 arg5 arg6 arg7 arg12 (arg1.view.rep x0) (arg2.view.rep x1) (arg3.view.rep x2) (arg4.view.rep x3)
      (arg5.view.rep x4) (arg6.view.rep x5) (arg7.view.rep x6) gH fA fB fC) = View.canon (piecesH x0 x1 x2 x3 x4 x5 x6 WA WB WC) := by
  have e : outH c arg1 arg2 arg3 arg4 arg5 arg6 arg7 arg12 (arg1.view.rep x0) (arg2.view.rep x1) (arg3.view.rep x2) (arg4.view.rep x3)
      (arg5.view.rep x4) (arg6.view.rep x5) (arg7.view.rep x6) gH fA fB fC = arg12.view.writes (Elt F) gH (piecesH x0 x1 x2 x3 x4 x5 x6 WA WB WC) := by
    unfold piecesH upX loT loIn gateV shiftV scaleV
    dsimp only [outH, upperX, upperH, lowerX, lowerH, lowerT, lowerIn, gateRow, shiftRow, scaleRow, keptWA, keptWB, keptWC, biasRow, normRow]
    rw [View.readAt_full kA.view, View.readAt_full kB.view, View.readAt_full kC.view, View.readAt_full arg4.view, View.readAt_full arg7.view, hfA, hfB, hfC,
      View.read_rep, View.read_rep]
    simp only [View.readAt_eq_ld, View.read_rep]
  rw [e]
  exact View.read_writes_eq_canon _ _ _ (piecesH_cover x0 x1 x2 x3 x4 x5 x6 WA WB WC)

end Values

end Cert.Post

end
-- ==== Proof.PostMath.lean ====
/-
  What a block of rows becomes, at an index: the two products gated and added, multiplied by the last weight, gated and
  added to the stream; and the stream normed.
-/
module

public import proofs.«01_k».proof.Proof.PostKept
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.KernelVsHost
public import Idealize.ShloMosaic.Lib.Pipeline.ValueKit.Geometry
public import Idealize.ShloMosaic.Lib.Pipeline.ValueKit.Held

@[expose] public section

set_option maxRecDepth 16384

noncomputable section

namespace Cert.Post

open Cert.Kernel8Ideal Cert.Kernel8Ideal.Gen
open Idealize.ShloMosaic Idealize.ShloMosaic.TcCoe Idealize.ShloMosaic.Tactic Idealize.ShloMosaic.ValueIdx
open scoped BigOperators

/-- The logistic function. -/
def logi (x : EReal) : EReal := Ideal.div 1 (1 + Ideal.exp (-x))

/-- A row over its root mean square, scaled by `g` and `1 + s` and shifted by `t`, at `d`. -/
def normed (Z : Fin 2048 → EReal) (g s t : EReal) (d : Fin 2048) : EReal :=
  Z d * Ideal.rsqrt (Ideal.div (∑ k : Fin 2048, Z k * Z k) (Ideal.ofBits .f32 0x45000000#32) + Ideal.ofBits .f32 0x358637BD#32) * g
    * (Ideal.ofBits .f32 0x3F800000#32 + s) + t

/-- Where the two gates of a column lie. -/
def lo (k : Fin 2048) : Fin 4096 := ⟨k.val, by have := k.isLt; omega⟩
def hi (k : Fin 2048) : Fin 4096 := ⟨2048 + k.val, by have := k.isLt; omega⟩

theorem product_apply {K : ℕ} (h : FVec Ideal ⟨2, ![256, K]⟩ .bf16) (W : FVec Ideal ⟨2, ![K, 2048]⟩ .bf16) (r : Fin 256) (d : Fin 2048) :
    FloatOps.matmul (F := Ideal) (DotDims.plain 256 K 2048) none h W (constant S256x2048 .f32 0x00000000#32) (ix2 r d) =
      ∑ k : Fin K, h (ix2 r k) * W (ix2 k d) := by
  rw [Ideal.matmul_plain_apply]
  show Ideal.ofBits .f32 0x00000000#32 + _ = _
  rw [Ideal.ofBits_zero_f32, zero_add]

section Half
variable (o : FVec Ideal S256x1024 .bf16) (l : FVec Ideal S256x512 .bf16) (p : FVec Ideal S256x4096 .bf16) (b : FVec Ideal S1x4096 .f32)
  (x : FVec Ideal S256x2048 .f32) (m s t : FVec Ideal S1x1x2048 .f32) (q : FVec Ideal S1x2048 .f32)
  (WA : FVec Ideal S1024x2048 .bf16) (WB : FVec Ideal S512x2048 .bf16) (WC : FVec Ideal S2048x2048 .bf16)

theorem pay5_apply (r : Fin 256) (d : Fin 2048) : k0_pay5 (F := Ideal) o WA (ix2 r d) = ∑ k : Fin 1024, o (ix2 r k) * WA (ix2 k d) :=
  (product_apply (shapeCast S256x1024 o shapeCasts_S256x1024_S256x1024) WA r d).trans
    (Finset.sum_congr rfl fun k _ => by rw [shapeCast_apply _ _ (ix2 r k) (ix2 r k) rfl])
theorem pay7_apply (r : Fin 256) (d : Fin 2048) : k0_pay7 (F := Ideal) l WB (ix2 r d) = ∑ k : Fin 512, l (ix2 r k) * WB (ix2 k d) :=
  (product_apply (shapeCast S256x512 l shapeCasts_S256x512_S256x512) WB r d).trans
    (Finset.sum_congr rfl fun k _ => by rw [shapeCast_apply _ _ (ix2 r k) (ix2 r k) rfl])

/-- The gates. -/
def gates : FVec Ideal S256x4096 .f32 := divf (broadcast S256x4096 (Scalar.ofBits (F := Ideal) .f32 0x3F800000#32)) (k0_pay9 p b)

theorem gates_apply (r : Fin 256) (k : Fin 4096) : gates p b (ix2 r k) = logi (p (ix2 r k) + b (ix2 (0 : Fin 1) k)) := by
  show Ideal.div (Ideal.ofBits .f32 0x3F800000#32) (Ideal.ofBits .f32 0x3F800000#32
    + Ideal.exp (Ideal.ofBits .f32 0x00000000#32 - (shapeCast S256x4096 p shapeCasts_S256x4096_S256x4096 (ix2 r k) + broadcastTo S256x4096 b broadcasts_S1x4096_S256x4096 (ix2 r k)))) = _
  rw [Ideal.ofBits_one_f32, Ideal.ofBits_zero_f32, zero_sub, shapeCast_apply _ _ (ix2 r k) (ix2 r k) rfl, broadcastTo_1b_ab_apply]
  rfl

/-- The two products gated, added and multiplied by the last weight. -/
def blend (ya yb : FVec Ideal S256x2048 .f32) (G : FVec Ideal S256x4096 .f32) : FVec Ideal S256x2048 .f32 :=
  matmul dot_S256x2048_S2048x2048_S256x2048_1_0_0_1_n_n none
    (truncf .bf16 (addf (mulf (extractStridedSlice S256x2048 ![0, 0] G slices_S256x4096_o0_0_S256x2048) ya)
      (mulf (extractStridedSlice S256x2048 ![0, 2048] G slices_S256x4096_o0_2048_S256x2048) yb)) bitsLt_bf16_f32) WC (constant S256x2048 .f32 0x00000000#32)

theorem blend_apply (ya yb : FVec Ideal S256x2048 .f32) (G : FVec Ideal S256x4096 .f32) (r : Fin 256) (d : Fin 2048) :
    blend WC ya yb G (ix2 r d) = ∑ k : Fin 2048, (G (ix2 r (lo k)) * ya (ix2 r k) + G (ix2 r (hi k)) * yb (ix2 r k)) * WC (ix2 k d) := by
  refine (product_apply _ _ r d).trans (Finset.sum_congr rfl fun k _ => congrArg (· * WC (ix2 k d)) ?_)
  refine congrArg₂ (· + ·) (congrArg (· * ya (ix2 r k)) ?_) (congrArg (· * yb (ix2 r k)) ?_)
  · refine extractStridedSlice_apply _ _ _ (ix2 r k) (ix2 r (lo k)) fun a => ?_
    match a with
    | ⟨0, _⟩ => show r.val = 0 + r.val; omega
    | ⟨1, _⟩ => show k.val = 0 + k.val; omega
  · refine extractStridedSlice_apply _ _ _ (ix2 r k) (ix2 r (hi k)) fun a => ?_
    match a with
    | ⟨0, _⟩ => show r.val = 0 + r.val; omega
    | ⟨1, _⟩ => rfl

theorem pay10_eq (ya yb : FVec Ideal S256x2048 .f32) : k0_pay10 (F := Ideal) ya yb p b WC = blend WC ya yb (gates p b) := rfl
theorem pay11_eq (ya yb : FVec Ideal S256x2048 .f32) :
    k0_pay11 (F := Ideal) ya yb (k0_pay9 p b) WC x m = k0_pay13 (F := Ideal) (blend WC ya yb (gates p b)) x m := rfl

theorem pay13_apply (T : FVec Ideal S256x2048 .f32) (r : Fin 256) (d : Fin 2048) :
    k0_pay13 (F := Ideal) T x m (ix2 r d) = x (ix2 r d) + m (ix3 (0 : Fin 1) (0 : Fin 1) d) * T (ix2 r d) := by
  refine congrArg₂ (· + ·) (shapeCast_apply _ _ _ _ rfl) (congrArg (· * T (ix2 r d)) ?_)
  rw [broadcastTo_1b_ab_apply]
  exact shapeCast_1ab_ab_apply _ _ _ _

/-- The sum of a row's squares. -/
def squares (z : FVec Ideal S256x2048 .f32) : FVec Ideal S256 .f32 :=
  multiReduction .add [1] S256 (mulf z z) 0x00000000#32 reduces_S256x2048_S256 (.inl rfl) rfl

theorem squares_apply (z : FVec Ideal S256x2048 .f32) (r : Fin 256) : squares z (ix1 r) = ∑ k : Fin 2048, z (ix2 r k) * z (ix2 r k) := by
  refine (Ideal.multiReduction_add_single _ _ _ _ _ _).trans (Finset.sum_congr rfl fun k _ => ?_)
  have e : reduces_S256x2048_S256.lift (ix1 r) k = ix2 r k := funext fun a => Fin.ext (by match a with | ⟨0, _⟩ => rfl | ⟨1, _⟩ => rfl)
  rw [e]
  rfl

theorem pay14_eq (T : FVec Ideal S256x2048 .f32) : k0_pay14 (F := Ideal) T x m = squares (k0_pay13 (F := Ideal) T x m) := rfl
theorem pay12_eq (z : FVec Ideal S256x2048 .f32) : k0_pay12 (F := Ideal) z q s t = k0_pay1 (F := Ideal) z (squares z) q s t := rfl

/-- The factor of each row, from the sums of squares. -/
def factor (S : FVec Ideal S256 .f32) : FVec Ideal S256x1 .f32 :=
  rsqrt (addf (divf (shapeCast S256x1 S shapeCasts_S256_S256x1) (broadcast S256x1 (Scalar.ofBits (F := Ideal) .f32 0x45000000#32)))
    (broadcast S256x1 (Scalar.ofBits (F := Ideal) .f32 0x358637BD#32)))

theorem factor_apply (S : FVec Ideal S256 .f32) (r : Fin 256) : factor S (ix2 r (0 : Fin 1)) =
    Ideal.rsqrt (Ideal.div (S (ix1 r)) (Ideal.ofBits .f32 0x45000000#32) + Ideal.ofBits .f32 0x358637BD#32) := by
  show Ideal.rsqrt (Ideal.div (shapeCast S256x1 _ shapeCasts_S256_S256x1 (ix2 r (0 : Fin 1))) _ + _) = _
  rw [shapeCast_apply _ _ (ix2 r (0 : Fin 1)) (ix1 r) (by rw [Shape.rowMajor_val_two, Shape.rowMajor_val_one]; show r.val = r.val * 1 + 0; omega)]
  rfl

theorem pay1_eq (z : FVec Ideal S256x2048 .f32) (S : FVec Ideal S256 .f32) : k0_pay1 (F := Ideal) z S q s t =
    truncf .bf16 (addf (mulf (mulf (mulf z (broadcastTo S256x2048 (factor S) broadcasts_S256x1_S256x2048)) (broadcastTo S256x2048 q broadcasts_S1x2048_S256x2048))
      (broadcastTo S256x2048 (addf (broadcast S1x2048 (Scalar.ofBits (F := Ideal) .f32 0x3F800000#32)) (shapeCast S1x2048 s shapeCasts_S1x1x2048_S1x2048)) broadcasts_S1x2048_S256x2048))
      (broadcastTo S256x2048 (shapeCast S1x2048 t shapeCasts_S1x1x2048_S1x2048) broadcasts_S1x2048_S256x2048)) bitsLt_bf16_f32 := rfl

/-- The normed form at an index. -/
theorem normed_apply (z : FVec Ideal S256x2048 .f32) (Z : Fin 2048 → EReal) (r : Fin 256) (d : Fin 2048) (hZ : ∀ d, z (ix2 r d) = Z d) :
    k0_pay1 (F := Ideal) z (squares z) q s t (ix2 r d) =
      normed Z (q (ix2 (0 : Fin 1) d)) (s (ix3 (0 : Fin 1) (0 : Fin 1) d)) (t (ix3 (0 : Fin 1) (0 : Fin 1) d)) d := by
  rw [pay1_eq, truncf_apply]
  refine congrArg₂ (· + ·) (congrArg₂ (· * ·) (congrArg₂ (· * ·) (congrArg₂ (· * ·) (hZ d) ?_) ?_) ?_) ?_
  · refine (broadcastTo_apply _ _ (ix2 r d) (ix2 r (0 : Fin 1)) fun a => ?_).trans ((factor_apply _ r).trans ?_)
    · match a with
      | ⟨0, _⟩ => rfl
      | ⟨1, _⟩ => rfl
    · rw [squares_apply]; simp only [hZ]
  · exact broadcastTo_1b_ab_apply _ _ _ _
  · rw [broadcastTo_1b_ab_apply]
    exact congrArg (Ideal.ofBits .f32 0x3F800000#32 + ·) (shapeCast_1ab_ab_apply _ _ _ _)
  · rw [broadcastTo_1b_ab_apply]
    exact shapeCast_1ab_ab_apply _ _ _ _

end Half

/-! ## A whole block -/

section Block
variable (x0 : FVec Ideal S512x1024 .bf16) (x1 : FVec Ideal S512x512 .bf16) (x2 : FVec Ideal S512x4096 .bf16) (x3 : FVec Ideal S1x4096 .f32)
  (x4 : FVec Ideal S512x2048 .f32) (x5 : FVec Ideal S1x6x2048 .f32) (x6 : FVec Ideal S1x2048 .f32)
  (WA : FVec Ideal S1024x2048 .bf16) (WB : FVec Ideal S512x2048 .bf16) (WC : FVec Ideal S2048x2048 .bf16)

/-- A row of the two products, gated and added. -/
def mixRow (r : Fin 512) (k : Fin 2048) : EReal :=
  logi (x2 (ix2 r (lo k)) + x3 (ix2 (0 : Fin 1) (lo k))) * (∑ j : Fin 1024, x0 (ix2 r j) * WA (ix2 j k))
    + logi (x2 (ix2 r (hi k)) + x3 (ix2 (0 : Fin 1) (hi k))) * (∑ j : Fin 512, x1 (ix2 r j) * WB (ix2 j k))
/-- A row of the stream. -/
def rowX (r : Fin 512) (d : Fin 2048) : EReal :=
  x4 (ix2 r d) + x5 (ix3 (0 : Fin 1) (2 : Fin 6) d) * ∑ k : Fin 2048, mixRow x0 x1 x2 x3 WA WB r k * WC (ix2 k d)
/-- Its normed form. -/
def rowH (r : Fin 512) (d : Fin 2048) : EReal :=
  normed (rowX x0 x1 x2 x3 x4 x5 WA WB WC r) (x6 (ix2 (0 : Fin 1) d)) (x5 (ix3 (0 : Fin 1) (4 : Fin 6) d)) (x5 (ix3 (0 : Fin 1) (3 : Fin 6) d)) d

/-- The rows from `o` on, loaded, at an index. -/
theorem ld_rows {n : ℕ} {e : EltTy} (X : (⟨2, ![512, n]⟩ : Shape).Idx → Elt Ideal e) (o : ℕ) (inb) (r : Fin 256) (R : Fin 512) (hR : R.val = o + r.val)
    (k : Fin n) : View.ld (Val := Elt Ideal) X (Rect.unit (s := ⟨2, ![512, n]⟩) ![o, 0] ![256, n] inb) (ix2 r k) = X (ix2 R k) := by
  refine congrArg X (funext fun a => Fin.ext ?_)
  rw [Rect.idx_unit_val]
  match a with
  | ⟨0, _⟩ => exact hR.symm
  | ⟨1, _⟩ => exact Nat.zero_add _

theorem ld_part (j : ℕ) (J : Fin 6) (hJ : J.val = j) (inb) (d : Fin 2048) :
    View.ld (Val := Elt Ideal) (e' := .f32) x5 (Rect.unit (s := S1x6x2048) ![0, j, 0] S1x1x2048.size inb) (ix3 (0 : Fin 1) (0 : Fin 1) d) = x5 (ix3 (0 : Fin 1) J d) := by
  refine congrArg x5 (funext fun a => Fin.ext ?_)
  rw [Rect.idx_unit_val]
  match a with
  | ⟨0, _⟩ => rfl
  | ⟨1, _⟩ => exact hJ.symm
  | ⟨2, _⟩ => exact Nat.zero_add _

/-- The stream's half from row `o` on. -/
def half (o : ℕ) (i0 : ∀ a, (![o, 0] : Fin 2 → ℕ) a + S256x1024.size a ≤ S512x1024.size a) (i1 : ∀ a, (![o, 0] : Fin 2 → ℕ) a + S256x512.size a ≤ S512x512.size a)
    (i2 : ∀ a, (![o, 0] : Fin 2 → ℕ) a + S256x4096.size a ≤ S512x4096.size a) (i4 : ∀ a, (![o, 0] : Fin 2 → ℕ) a + S256x2048.size a ≤ S512x2048.size a) : FVec Ideal S256x2048 .f32 :=
  k0_pay13 (F := Ideal) (blend WC
      (k0_pay5 (View.ld (Val := Elt Ideal) (e' := .bf16) x0 (Rect.unit (s := S512x1024) ![o, 0] S256x1024.size i0)) WA)
      (k0_pay7 (View.ld (Val := Elt Ideal) (e' := .bf16) x1 (Rect.unit (s := S512x512) ![o, 0] S256x512.size i1)) WB)
      (gates (View.ld (Val := Elt Ideal) (e' := .bf16) x2 (Rect.unit (s := S512x4096) ![o, 0] S256x4096.size i2)) x3))
    (View.ld (Val := Elt Ideal) (e' := .f32) x4 (Rect.unit (s := S512x2048) ![o, 0] S256x2048.size i4)) (gateV x5)

theorem half_at (o : ℕ) (i0 i1 i2 i4) (r : Fin 256) (R : Fin 512) (hR : R.val = o + r.val) (d : Fin 2048) :
    half x0 x1 x2 x3 x4 x5 WA WB WC o i0 i1 i2 i4 (ix2 r d) = rowX x0 x1 x2 x3 x4 x5 WA WB WC R d := by
  refine (pay13_apply _ _ _ r d).trans (congrArg₂ (· + ·) (ld_rows (e := .f32) x4 o i4 r R hR d) (congrArg₂ (· * ·) (ld_part x5 2 2 rfl _ d) ?_))
  refine (blend_apply WC _ _ _ r d).trans (Finset.sum_congr rfl fun k _ => congrArg (· * WC (ix2 k d)) ?_)
  refine congrArg₂ (· + ·) (congrArg₂ (· * ·) ?_ ?_) (congrArg₂ (· * ·) ?_ ?_)
  · exact (gates_apply _ _ r (lo k)).trans (congrArg (fun z => logi (z + x3 (ix2 (0 : Fin 1) (lo k)))) (ld_rows (e := .bf16) x2 o i2 r R hR (lo k)))
  · exact (pay5_apply _ _ r k).trans (Finset.sum_congr rfl fun j _ => congrArg (· * WA (ix2 j k)) (ld_rows (e := .bf16) x0 o i0 r R hR j))
  · exact (gates_apply _ _ r (hi k)).trans (congrArg (fun z => logi (z + x3 (ix2 (0 : Fin 1) (hi k)))) (ld_rows (e := .bf16) x2 o i2 r R hR (hi k)))
  · exact (pay7_apply _ _ r k).trans (Finset.sum_congr rfl fun j _ => congrArg (· * WB (ix2 j k)) (ld_rows (e := .bf16) x1 o i1 r R hR j))

theorem halfH_at (o : ℕ) (i0 i1 i2 i4) (r : Fin 256) (R : Fin 512) (hR : R.val = o + r.val) (d : Fin 2048) :
    k0_pay1 (F := Ideal) (half x0 x1 x2 x3 x4 x5 WA WB WC o i0 i1 i2 i4) (squares (half x0 x1 x2 x3 x4 x5 WA WB WC o i0 i1 i2 i4)) x6 (scaleV x5) (shiftV x5) (ix2 r d) =
      rowH x0 x1 x2 x3 x4 x5 x6 WA WB WC R d := by
  refine (normed_apply _ _ _ _ (rowX x0 x1 x2 x3 x4 x5 WA WB WC R) r d fun d => half_at x0 x1 x2 x3 x4 x5 WA WB WC o i0 i1 i2 i4 r R hR d).trans ?_
  exact congrArg₂ (fun s t => normed (rowX x0 x1 x2 x3 x4 x5 WA WB WC R) (x6 (ix2 (0 : Fin 1) d)) s t d) (ld_part x5 4 4 rfl _ d) (ld_part x5 3 3 rfl _ d)

theorem emb_col (o : ℕ) (i4) (x : (Rect.unit (s := S512x2048) ![o, 0] S256x2048.size i4).shape.Idx) :
    (Rect.unit (s := S512x2048) ![o, 0] S256x2048.size i4).emb x 1 = x 1 :=
  Fin.ext ((ValueKit.rect_emb_unit_val (s := S512x2048) ![o, 0] S256x2048.size i4 x 1).trans (Nat.zero_add _))

/-- A block of the stream at an index; -/
theorem outX_apply (y : S512x2048.Idx) :
    View.canon (piecesX (F := Ideal) x0 x1 x2 x3 x4 x5 WA WB WC) y = rowX x0 x1 x2 x3 x4 x5 WA WB WC (y 0) (y 1) := by
  refine View.canon_apply_of_pieces (Val := Elt Ideal) (e := .f32) (fun y : S512x2048.Idx => rowX x0 x1 x2 x3 x4 x5 WA WB WC (y 0) (y 1))
    _ ?_ y (piecesX_cover (F := Ideal) x0 x1 x2 x3 x4 x5 WA WB WC y)
  have key : ∀ (o : ℕ) (i0 i1 i2 i4) (x : (Rect.unit (s := S512x2048) ![o, 0] S256x2048.size i4).shape.Idx),
      half x0 x1 x2 x3 x4 x5 WA WB WC o i0 i1 i2 i4 x =
      rowX x0 x1 x2 x3 x4 x5 WA WB WC ((Rect.unit (s := S512x2048) ![o, 0] S256x2048.size i4).emb x 0) ((Rect.unit (s := S512x2048) ![o, 0] S256x2048.size i4).emb x 1) := by
    intro o i0 i1 i2 i4 x
    rw [emb_col]
    exact (congrArg _ (eq_ix2 x)).trans (half_at x0 x1 x2 x3 x4 x5 WA WB WC o i0 i1 i2 i4 (x 0) _ (ValueKit.rect_emb_unit_val (s := S512x2048) ![o, 0] S256x2048.size i4 x 0) (x 1))
  simp only [piecesX, List.forall_mem_cons]
  exact ⟨key 256 inb_S512x1024_S256x1024_256_0 inb_S512x512_S256x512_256_0 inb_S512x4096_S256x4096_256_0 _,
    key 0 inb_S512x1024_S256x1024_0_0 inb_S512x512_S256x512_0_0 inb_S512x4096_S256x4096_0_0 _, fun _ h => absurd h (List.not_mem_nil)⟩

/-- of its normed form. -/
theorem outH_apply (y : S512x2048.Idx) :
    View.canon (piecesH (F := Ideal) x0 x1 x2 x3 x4 x5 x6 WA WB WC) y = rowH x0 x1 x2 x3 x4 x5 x6 WA WB WC (y 0) (y 1) := by
  refine View.canon_apply_of_pieces (Val := Elt Ideal) (e := .bf16) (fun y : S512x2048.Idx => rowH x0 x1 x2 x3 x4 x5 x6 WA WB WC (y 0) (y 1))
    _ ?_ y (piecesH_cover (F := Ideal) x0 x1 x2 x3 x4 x5 x6 WA WB WC y)
  have key : ∀ (o : ℕ) (i0 i1 i2 i4) (x : (Rect.unit (s := S512x2048) ![o, 0] S256x2048.size i4).shape.Idx),
      k0_pay1 (F := Ideal) (half x0 x1 x2 x3 x4 x5 WA WB WC o i0 i1 i2 i4) (squares (half x0 x1 x2 x3 x4 x5 WA WB WC o i0 i1 i2 i4)) x6 (scaleV x5) (shiftV x5) x =
      rowH x0 x1 x2 x3 x4 x5 x6 WA WB WC ((Rect.unit (s := S512x2048) ![o, 0] S256x2048.size i4).emb x 0) ((Rect.unit (s := S512x2048) ![o, 0] S256x2048.size i4).emb x 1) := by
    intro o i0 i1 i2 i4 x
    rw [emb_col]
    exact (congrArg _ (eq_ix2 x)).trans (halfH_at x0 x1 x2 x3 x4 x5 x6 WA WB WC o i0 i1 i2 i4 (x 0) _ (ValueKit.rect_emb_unit_val (s := S512x2048) ![o, 0] S256x2048.size i4 x 0) (x 1))
  simp only [piecesH, List.forall_mem_cons]
  exact ⟨key 256 inb_S512x1024_S256x1024_256_0 inb_S512x512_S256x512_256_0 inb_S512x4096_S256x4096_256_0 inb_S512x2048_S256x2048_256_0,
    key 0 inb_S512x1024_S256x1024_0_0 inb_S512x512_S256x512_0_0 inb_S512x4096_S256x4096_0_0 inb_S512x2048_S256x2048_0_0, fun _ h => absurd h (List.not_mem_nil)⟩

end Block

/-! ## The kept weights -/

theorem pay2_apply (v : FVec Ideal S1x128x2048 .f32) (a : Fin 128) (b : Fin 2048) : k0_pay2 (F := Ideal) v (ix2 a b) = v (ix3 (0 : Fin 1) a b) := by
  show shapeCast S128x2048 (truncf (F := Ideal) .bf16 (shapeCast S128x2048 v shapeCasts_S1x128x2048_S128x2048) bitsLt_bf16_f32) shapeCasts_S128x2048_S128x2048 (ix2 a b) = _
  rw [shapeCast_apply _ _ (ix2 a b) (ix2 a b) rfl, truncf_apply]
  exact shapeCast_1ab_ab_apply _ _ _ _

/-- A slot read through the whole of the four. -/
theorem slot_read (c : Dev nD) (s : Fin 4) (inb) (f : Buf (Elt Ideal) ((slot s).view.loc (c : Thread nD τ))) (a : Fin 128) (d : Fin 2048) :
    bufM.view.readAt (Elt Ideal) (Rect.unit (s := S4x128x2048) (slotOff s) S1x128x2048.size inb).toLoadRect f (ix3 (0 : Fin 1) a d) =
      (slot s).view.read (Elt Ideal) f (ix2 a d) := by
  show _ = bufM.view.read (Elt Ideal) f ((Rect.unit (s := S4x128x2048) (slotOff s) S1x128x2048.size (slotOff_inb s)).emb
    (Shape.reshapeEquiv squeezes_S1x128x2048_S128x2048.numel_eq (ix2 a d)))
  rw [reshapeEquiv_ix2_1ab]
  rfl

section Weight
variable (c : Dev nD) {n R : ℕ} [NeZero n] (hR : 128 * n = R) (wM : Memref sig .tc .hbm (W3 R) .f32) (X : Buf (Elt Ideal) (wM.view.loc (c : Thread nD τ)))

/-- What a block of a weight reads. -/
theorem payload_apply (b : Fin n) (a : Fin 128) (d : Fin 2048) (k : Fin R) (hk : k.val = 128 * b.val + a.val) :
    payload c hR wM X b (ix2 a d) = wM.view.read (Elt Ideal) X (ix3 (0 : Fin 1) k d) := by
  show wM.view.read (Elt Ideal) X ((Rect.unit (s := W3 R) (rowsOff b.val) S1x128x2048.size (rowsOff_inb hR b)).emb
    (Shape.reshapeEquiv squeezes_S1x128x2048_S128x2048.numel_eq (ix2 a d))) = _
  rw [reshapeEquiv_ix2_1ab]
  refine congrArg (wM.view.read (Elt Ideal) X) (funext fun x => Fin.ext ?_)
  rw [ValueKit.rect_emb_unit_val]
  match x with
  | ⟨0, _⟩ => rfl
  | ⟨1, _⟩ => exact hk.symm
  | ⟨2, _⟩ => exact Nat.zero_add _

theorem landed_read (s : Fin 4) (b : Fin n) (f : Buf (Elt Ideal) ((slot s).view.loc (c : Thread nD τ))) :
    (slot s).view.read (Elt Ideal) (landed c hR wM X s b f) = payload c hR wM X b :=
  View.read_writes_whole _ _ _

/-- A weight as kept, at an index. -/
theorem castW_apply (k : Fin R) (d : Fin 2048) : castW (F := Ideal) c hR wM X (ix2 k d) = wM.view.read (Elt Ideal) X (ix3 (0 : Fin 1) k d) := by
  have hk := k.isLt
  unfold castW castBlock
  refine (pay2_apply _ _ _).trans ?_
  refine (slot_read c _ _ _ _ _).trans ?_
  rw [landed_read]
  refine payload_apply c hR wM X _ _ _ k ?_
  show k.val = 128 * (k.val / 128 % n) + k.val % 128
  rw [Nat.mod_eq_of_lt (by omega)]
  omega

end Weight

end Cert.Post

end
-- ==== Proof.PostRun.lean ====
/-
  The launch of the mix: the pipeline stages nine windows; the three weights stay where they are and reach the kernel split
  into their blocks; the kept weights, the four staging slots and their counters are the kernel's own.
-/
module

public import proofs.«01_k».proof.Proof.PostKept

@[expose] public section

set_option maxRecDepth 16384

noncomputable section

namespace Cert.Post

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The pipeline's share of the resources. -/
abbrev EP : Emb (UR sig nD τ) (MT nD τ sig Unit (Elt F) ℕ (UU nD τ) ℕ) := embL

/-- The weights as launched. -/
abbrev XA (c : Dev nD) : Buf (Elt F) (wA.view.loc (c : Thread nD τ)) := m ((c : Thread nD τ).loc main_arg7)
abbrev XB (c : Dev nD) : Buf (Elt F) (wB.view.loc (c : Thread nD τ)) := m ((c : Thread nD τ).loc main_arg8)
abbrev XC (c : Dev nD) : Buf (Elt F) (wC.view.loc (c : Thread nD τ)) := m ((c : Thread nD τ).loc main_arg9)

/-! ## The counters, the weights' blocks, the slots -/

abbrev osem : Fin 4 → SemLoc sig := fun s => .dma (csm s).sem
theorem ownSemFacts : Pipeline.OwnSemFacts spec0 osem := by decide

section Weight
variable {n R : ℕ} [NeZero n] (hR : 128 * n = R)

abbrev rowsSet (b : Fin n) : Finset (W3 R).Idx := (Rect.unit (s := W3 R) (rowsOff b.val) S1x128x2048.size (rowsOff_inb hR b)).set

theorem mem_rowsSet (b : Fin n) (y : (W3 R).Idx) : y ∈ rowsSet hR b ↔ (y 1).val / 128 = b.val := by
  rw [Rect.mem_set_unit]
  have h0 : (y 0).val < 1 := (y 0).isLt
  have h2 : (y 2).val < 2048 := (y 2).isLt
  constructor
  · intro H; have a1 : 128 * b.val ≤ (y 1).val ∧ (y 1).val < 128 * b.val + 128 := H 1; omega
  · intro H a; fin_cases a
    · show 0 ≤ (y 0).val ∧ (y 0).val < 0 + 1; omega
    · show 128 * b.val ≤ (y 1).val ∧ (y 1).val < 128 * b.val + 128; omega
    · show 0 ≤ (y 2).val ∧ (y 2).val < 0 + 2048; omega
theorem rowsSet_disjoint : ∀ b b' : Fin n, b ≠ b' → Disjoint (rowsSet hR b) (rowsSet hR b') := fun b b' hne =>
  Finset.disjoint_left.mpr fun y hy hy' => hne (Fin.ext (((mem_rowsSet hR b y).mp hy).symm.trans ((mem_rowsSet hR b' y).mp hy')))
theorem rowsSet_cover : (Finset.univ : Finset (Fin n)).biUnion (rowsSet hR) = Finset.univ :=
  Finset.eq_univ_iff_forall.mpr fun y => Finset.mem_biUnion.mpr
    ⟨⟨(y 1).val / 128, by have h : (y 1).val < R := (y 1).isLt; omega⟩, Finset.mem_univ _, (mem_rowsSet hR _ y).mpr rfl⟩

end Weight

theorem rowsA_set (b : Fin 8) : (rows hA wA b).view.set = rowsSet hA b := (View.set_reshape _ _).trans (View.set_slice_whole _ _)
theorem rowsB_set (b : Fin 4) : (rows hB wB b).view.set = rowsSet hB b := (View.set_reshape _ _).trans (View.set_slice_whole _ _)
theorem rowsC_set (b : Fin 16) : (rows hC wC b).view.set = rowsSet hC b := (View.set_reshape _ _).trans (View.set_slice_whole _ _)

theorem weightA_eq (c : Dev nD) :
    (((c : Thread nD τ).loc main_arg7) ↦{fullShare} m ((c : Thread nD τ).loc main_arg7) : sProp 𝕄) = bigSep Finset.univ (homeP c hA wA (XA m c)) := by
  rw [Ring.pointsTo_blocks (ℓ := (c : Thread nD τ).loc main_arg7) (rowsSet hA) (rowsSet_disjoint hA) (rowsSet_cover hA)]
  exact bigSep_congr fun b _ => by rw [← rowsA_set]; rfl
theorem weightB_eq (c : Dev nD) :
    (((c : Thread nD τ).loc main_arg8) ↦{fullShare} m ((c : Thread nD τ).loc main_arg8) : sProp 𝕄) = bigSep Finset.univ (homeP c hB wB (XB m c)) := by
  rw [Ring.pointsTo_blocks (ℓ := (c : Thread nD τ).loc main_arg8) (rowsSet hB) (rowsSet_disjoint hB) (rowsSet_cover hB)]
  exact bigSep_congr fun b _ => by rw [← rowsB_set]; rfl
theorem weightC_eq (c : Dev nD) :
    (((c : Thread nD τ).loc main_arg9) ↦{fullShare} m ((c : Thread nD τ).loc main_arg9) : sProp 𝕄) = bigSep Finset.univ (homeP c hC wC (XC m c)) := by
  rw [Ring.pointsTo_blocks (ℓ := (c : Thread nD τ).loc main_arg9) (rowsSet hC) (rowsSet_disjoint hC) (rowsSet_cover hC)]
  exact bigSep_congr fun b _ => by rw [← rowsC_set]; rfl

abbrev slotSet (s : Fin 4) : Finset S4x128x2048.Idx := (Rect.unit (s := S4x128x2048) (slotOff s) S1x128x2048.size (slotOff_inb s)).set
theorem slot_set (s : Fin 4) : (slot s).view.set = slotSet s := (View.set_reshape _ _).trans (View.set_slice_whole _ _)
theorem mem_slotSet (s : Fin 4) (y : S4x128x2048.Idx) : y ∈ slotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 128; omega
    · show 0 ≤ (y 2).val ∧ (y 2).val < 0 + 2048; omega
theorem slotSet_disjoint : ∀ s s' : Fin 4, s ≠ s' → Disjoint (slotSet s) (slotSet s') := fun s s' hne =>
  Finset.disjoint_left.mpr fun y hy hy' => hne (Fin.ext (((mem_slotSet s y).mp hy).symm.trans ((mem_slotSet s' y).mp hy')))
theorem slotSet_cover : (Finset.univ : Finset (Fin 4)).biUnion slotSet = Finset.univ :=
  Finset.eq_univ_iff_forall.mpr fun y => Finset.mem_biUnion.mpr ⟨y 0, Finset.mem_univ _, (mem_slotSet _ y).mpr rfl⟩

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem slotP_eq (c : Dev nD) (s : Fin 4) (f) : slotP c s f = (((c : Thread nD τ).loc cc0_scratch3) ↦[slotSet s]{fullShare} f : sProp 𝕄) :=
  congrArg (fun S => (_ ↦[S]{fullShare} f : sProp 𝕄)) (slot_set s)
/-- Slots at one contents are slots at some contents. -/
theorem slots_any (c : Dev nD) (f : Buf (Elt F) ((c : Thread nD τ).loc cc0_scratch3)) :
    (bigSep Finset.univ (fun s => ((c : Thread nD τ).loc cc0_scratch3) ↦[slotSet s]{fullShare} f) : sProp 𝕄) ⊢ bigSep Finset.univ (fun s => iprop(∃ f, slotP c s f)) := by
  refine bigSep_mono fun s _ => show ((((c : Thread nD τ).loc cc0_scratch3) ↦[slotSet s]{fullShare} f : sProp 𝕄)) ⊢ iprop(∃ f, slotP c s f) from ?_
  iintro H; iexists f; iapply (ent_of_eq (slotP_eq c s f).symm); iexact H
/-- The staging buffer whole is its four slots, -/
theorem stage_split (c : Dev nD) :
    iprop(∃ f : Buf (Elt F) ((c : Thread nD τ).loc cc0_scratch3), ((c : Thread nD τ).loc cc0_scratch3) ↦{fullShare} f)
      ⊢ (bigSep Finset.univ (fun s => iprop(∃ f, slotP c s f)) : sProp 𝕄) := by
  iintro ⟨%f, H⟩
  ihave H2 := (ent_of_eq (Ring.pointsTo_blocks (Ix := Unit) (Name := ℕ) (U := UU nD τ) (Lvl := ℕ) (q := fullShare) (ℓ := (c : Thread nD τ).loc cc0_scratch3) slotSet slotSet_disjoint slotSet_cover f)) $$ H
  iapply (slots_any c f)
  iexact H2
/-- and back. -/
theorem stage_join (c : Dev nD) :
    (bigSep Finset.univ (fun s => iprop(∃ f, slotP c s f)) : sProp 𝕄)
      ⊢ iprop(∃ f : Buf (Elt F) ((c : Thread nD τ).loc cc0_scratch3), ((c : Thread nD τ).loc cc0_scratch3) ↦{fullShare} f) := by
  refine BI.Entails.trans (bigSep_mono fun s _ => show iprop(∃ f, slotP c s f) ⊢ (iprop(∃ f, ((c : Thread nD τ).loc cc0_scratch3) ↦[slotSet s]{fullShare} f) : sProp 𝕄) from by
    iintro ⟨%f, H⟩; iexists f; iapply (ent_of_eq (slotP_eq c s f)); iexact H) ?_
  exact Ring.pointsTo_blocks_join_exists (ℓ := (c : Thread nD τ).loc cc0_scratch3) slotSet slotSet_disjoint slotSet_cover (fun _ => Classical.arbitrary _)

/-- The four slots free: the slots at anything, the counters at zero. -/
theorem free_all (c : Dev nD) :
    iprop(bigSep Finset.univ (fun s => iprop(∃ f, slotP c s f)) ∗ Pipeline.ownSems0 (Ix := Unit) (Name := ℕ) (U := UU nD τ) (Lvl := ℕ) (Val := Elt F) (τ := τ) osem c)
      ⊣⊢ (iprop(freeP c 0 ∗ freeP c 1 ∗ freeP c 2 ∗ freeP c 3) : sProp 𝕄) := by
  unfold Pipeline.ownSems0 freeP
  rw [bigSep_fin4, bigSep_fin4]
  constructor
  · iintro ⟨⟨S0, S1, S2, S3⟩, C0, C1, C2, C3⟩
    isplitl [S0 C0]
    · isplitl [S0] <;> iassumption
    isplitl [S1 C1]
    · isplitl [S1] <;> iassumption
    isplitl [S2 C2]
    · isplitl [S2] <;> iassumption
    isplitl [S3] <;> iassumption
  · iintro ⟨⟨S0, C0⟩, ⟨S1, C1⟩, ⟨S2, C2⟩, S3, C3⟩
    isplitl [S0 S1 S2 S3]
    · isplitl [S0]; · iassumption
      isplitl [S1]; · iassumption
      isplitl [S2] <;> iassumption
    isplitl [C0]; · iassumption
    isplitl [C1]; · iassumption
    isplitl [C2] <;> iassumption

/-! ## The pipeline's proof data -/

/-- The kept weights between blocks of rows: anything before the first, the weights cast afterwards. -/
def keptBetween (c : Dev nD) (n : ℕ) : sProp 𝕄 :=
  if n = 0 then iprop((∃ f, heldP c kA f) ∗ (∃ f, heldP c kB f) ∗ ∃ f, heldP c kC f)
  else keepP c (kA.view.rep (castW c hA wA (XA m c))) (kB.view.rep (castW c hB wB (XB m c))) (kC.view.rep (castW c hC wC (XC m c)))
/-- What the kernel holds of its own between blocks of rows. -/
def Φ (c : Dev nD) (n : ℕ) : sProp 𝕄 :=
  iprop(homesP c (XA m c) (XB m c) (XC m c) ∗ slotsP (F := F) c ∗ keptBetween m c n)

/-- What the body leaves in the output blocks at point `t`. -/
def outXAt (c : Dev nD) (t : Fin cfg0.N) : S512x2048.Idx → Elt F .f32 :=
  View.canon (piecesX (iblk m c 0 t : Vec F S512x1024 .bf16) (iblk m c 1 t : Vec F S512x512 .bf16) (iblk m c 2 t : Vec F S512x4096 .bf16) (iblk m c 3 t : Vec F S1x4096 .f32) (iblk m c 4 t : Vec F S512x2048 .f32) (iblk m c 5 t : Vec F S1x6x2048 .f32)
    (castW c hA wA (XA m c)) (castW c hB wB (XB m c)) (castW c hC wC (XC m c)))
def outHAt (c : Dev nD) (t : Fin cfg0.N) : S512x2048.Idx → Elt F .bf16 :=
  View.canon (piecesH (iblk m c 0 t : Vec F S512x1024 .bf16) (iblk m c 1 t : Vec F S512x512 .bf16) (iblk m c 2 t : Vec F S512x4096 .bf16) (iblk m c 3 t : Vec F S1x4096 .f32) (iblk m c 4 t : Vec F S512x2048 .f32) (iblk m c 5 t : Vec F S1x6x2048 .f32)
    (iblk m c 6 t : Vec F S1x2048 .f32) (castW c hA wA (XA m c)) (castW c hB wB (XB m c)) (castW c hC wC (XC m c)))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outXAt m c t
    | ⟨8, _⟩ => outHAt m c t
  Φ t := Φ m c t.val
  q _ := fullShare
  owed _ := 0

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans rfl
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; rfl) t d).trans rfl
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; rfl) t d).trans rfl
theorem after_7 (c : Dev nD) (t : Fin cfg0.N) : (dats m 0 c).after 7 t = outXAt m c t := by dsimp only [dats]
theorem after_8 (c : Dev nD) (t : Fin cfg0.N) : (dats m 0 c).after 8 t = outHAt m c t := by dsimp only [dats]

/-! ## The body at a point -/

abbrev st0 (t : Fin cfg0.N) : Memref sig .tc .vmem S512x1024 .bf16 := win0_0.stage (cfg0.slots t 0)
abbrev st1 (t : Fin cfg0.N) : Memref sig .tc .vmem S512x512 .bf16 := win0_1.stage (cfg0.slots t 1)
abbrev st2 (t : Fin cfg0.N) : Memref sig .tc .vmem S512x4096 .bf16 := win0_2.stage (cfg0.slots t 2)
abbrev st3 (t : Fin cfg0.N) : Memref sig .tc .vmem S1x4096 .f32 := win0_3.stage (cfg0.slots t 3)
abbrev st4 (t : Fin cfg0.N) : Memref sig .tc .vmem S512x2048 .f32 := win0_4.stage (cfg0.slots t 4)
abbrev st5 (t : Fin cfg0.N) : Memref sig .tc .vmem S1x6x2048 .f32 := win0_5.stage (cfg0.slots t 5)
abbrev st6 (t : Fin cfg0.N) : Memref sig .tc .vmem S1x2048 .f32 := win0_6.stage (cfg0.slots t 6)
abbrev st7 (t : Fin cfg0.N) : Memref sig .tc .vmem S512x2048 .f32 := win0_7.stage (cfg0.slots t 7)
abbrev st8 (t : Fin cfg0.N) : Memref sig .tc .vmem S512x2048 .bf16 := win0_8.stage (cfg0.slots t 8)

/-- The kernel at point `t`. -/
abbrev bodyT (t : Fin cfg0.N) : Prog (TpuEff nD τ sig (Elt F) Λ₀ .tc) PUnit :=
  bodyG (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8))

/-- The staged input blocks at point `t`. -/
abbrev insT (c : Dev nD) (t : Fin cfg0.N) : sProp 𝕄 :=
  insP c (st0 t) (st1 t) (st2 t) (st3 t) (st4 t) (st5 t) (st6 t) ((st0 t).view.rep (iblk m c 0 t)) ((st1 t).view.rep (iblk m c 1 t)) ((st2 t).view.rep (iblk m c 2 t)) ((st3 t).view.rep (iblk m c 3 t)) ((st4 t).view.rep (iblk m c 4 t)) ((st5 t).view.rep (iblk m c 5 t)) ((st6 t).view.rep (iblk m c 6 t))

/-- A block of rows, first or later. -/
theorem pointRun (c : Dev nD) (t : Fin cfg0.N) (gX : Buf (Elt F) ((st7 t).view.loc (c : Thread nD τ))) (gH : Buf (Elt F) ((st8 t).view.loc (c : Thread nD τ)))
    (W : Waits sig Unit) (Q : PUnit → sProp 𝕄) :
    iprop((insT m c t ∗ outsP c (st7 t) (st8 t) gX gH ∗ owes (c : Thread nD τ) 0 W ∗ Φ m c t.val)
        ∗ ((insT m c t ∗ ((∃ g, ⌜(st7 t).view.read (Elt F) g = outXAt m c t⌝ ∗ heldP c (st7 t) g) ∗ (∃ g, ⌜(st8 t).view.read (Elt F) g = outHAt m c t⌝ ∗ heldP c (st8 t) g))
          ∗ (∃ W, owes (c : Thread nD τ) 0 W) ∗ Φ m c (t.val + 1)) -∗ Q ⟨⟩))
      ⊢ wp frame (wpE (defs₀ (F := F)) 𝒱₀ (c : Thread nD τ) none) Set.univ (bodyT t) Q := by
  unfold Φ
  rw [show keptBetween m c (t.val + 1) = keepP c (kA.view.rep (castW c hA wA (XA m c))) (kB.view.rep (castW c hB wB (XB m c))) (kC.view.rep (castW c hC wC (XC m c))) from if_neg (Nat.succ_ne_zero _)]
  by_cases h0 : t.val = 0
  · rw [show keptBetween m c t.val = iprop((∃ f, heldP c kA f) ∗ (∃ f, heldP c kB f) ∗ ∃ f, heldP c kC f) from if_pos h0]
    have h1 := (first_iff t).mpr h0
    iintro ⟨⟨HI, HO, HW, Hh, Hf, ⟨%fA, HA⟩, ⟨%fB, HB⟩, ⟨%fC, HC⟩⟩, Hk⟩
    have eA := kept_all c hA wA (XA m c) kA fA
    have eB := kept_all c hB wB (XB m c) kB fB
    have eC := kept_all c hC wC (XC m c) kC fC
    iapply (firstRun c (XA m c) (XB m c) (XC m c) (grid0.coords t) (st0 t) _ (st1 t) _ (st2 t) _ (st3 t) _ (st4 t) _ (st5 t) _ (st6 t) _ (st7 t) _ (st8 t) _ _ _ _ _ _ _ _ gX gH fA fB fC h1 W)
    isplitr [Hk]
    · isplitl [HI]; · iexact HI
      isplitl [HO]; · iexact HO
      isplitl [HA HB HC]
      · isplitl [HA]; · iexact HA
        isplitl [HB]; · iexact HB
        iexact HC
      isplitl [HW]; · iexact HW
      isplitl [Hh]; · iexact Hh
      iexact Hf
    · iintro ⟨HI, ⟨HX, HH⟩, ⟨HA, HB, HC⟩, HW, Hh, Hf⟩
      ihave HA' := (pointsTo_rep_entails (c : Thread nD τ) kA _ fullShare) $$ HA
      ihave HB' := (pointsTo_rep_entails (c : Thread nD τ) kB _ fullShare) $$ HB
      ihave HC' := (pointsTo_rep_entails (c : Thread nD τ) kC _ fullShare) $$ HC
      rw [eA, eB, eC]
      iapply Hk
      isplitl [HI]; · iexact HI
      isplitl [HX HH]
      · isplitl [HX]
        · iexists _
          isplitr; · ipureintro; exact outX_read _ _ _ _ _ _ _ _ _ c (st0 t) (st1 t) (st2 t) (st3 t) (st4 t) (st5 t) (st7 t) _ _ _ eA eB eC gX
          iexact HX
        iexists _
        isplitr; · ipureintro; exact outH_read _ _ _ _ _ _ _ _ _ _ c (st0 t) (st1 t) (st2 t) (st3 t) (st4 t) (st5 t) (st6 t) (st8 t) _ _ _ eA eB eC gH
        iexact HH
      isplitl [HW]; · iexact HW
      isplitl [Hh]; · iexact Hh
      isplitl [Hf]; · iexact Hf
      isplitl [HA']; · iexact HA'
      isplitl [HB']; · iexact HB'
      iexact HC'
  · rw [show keptBetween m c t.val = keepP c (kA.view.rep (castW c hA wA (XA m c))) (kB.view.rep (castW c hB wB (XB m c))) (kC.view.rep (castW c hC wC (XC m c))) from if_neg h0]
    have h1 : ¬ k0_cond1 (grid0.coords t) = 1#1 := fun h => h0 ((first_iff t).mp h)
    iintro ⟨⟨HI, HO, HW, Hh, Hf, HK⟩, Hk⟩
    iapply (laterRun c (grid0.coords t) (st0 t) _ (st1 t) _ (st2 t) _ (st3 t) _ (st4 t) _ (st5 t) _ (st6 t) _ (st7 t) _ (st8 t) _ _ _ _ _ _ _ _ gX gH (kA.view.rep (castW c hA wA (XA m c))) (kB.view.rep (castW c hB wB (XB m c))) (kC.view.rep (castW c hC wC (XC m c))) h1 W)
    isplitl [HI HO HK HW]
    · isplitl [HI]; · iexact HI
      isplitl [HO]; · iexact HO
      isplitl [HK]; · iexact HK
      iexact HW
    · iintro ⟨HI, ⟨HX, HH⟩, HK, HW⟩
      iapply Hk
      isplitl [HI]; · iexact HI
      isplitl [HX HH]
      · isplitl [HX]
        · iexists _
          isplitr; · ipureintro; exact outX_read _ _ _ _ _ _ _ _ _ c (st0 t) (st1 t) (st2 t) (st3 t) (st4 t) (st5 t) (st7 t) _ _ _ (View.read_rep _ _) (View.read_rep _ _) (View.read_rep _ _) gX
          iexact HX
        iexists _
        isplitr; · ipureintro; exact outH_read _ _ _ _ _ _ _ _ _ _ c (st0 t) (st1 t) (st2 t) (st3 t) (st4 t) (st5 t) (st6 t) (st8 t) _ _ _ (View.read_rep _ _) (View.read_rep _ _) (View.read_rep _ _) gH
        iexact HH
      isplitl [HW]; · iexact HW
      isplitl [Hh]; · iexact Hh
      isplitl [Hf]; · iexact Hf
      iexact HK

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) := rfl
theorem prog_eq (t : Fin cfg0.N) : (defs₀ (F := F)) .tc cfg0.body (cfg0.bodyArgs t (cfg0.slots t)) = bodyT t := (congrFun defs_tc _).trans rfl

set_option backward.isDefEq.respectTransparency.types false in
/-- The body keeps the windows' blocks and what the kernel holds. -/
theorem body_obligation (c : Dev nD) : BodyObligation (dats (F := F) m 0 c) (defs₀ (F := F)) 𝒱₀ () Set.univ := fun t => by
  rw [bigSep_W0, bigSep_W0]
  dsimp only
  simp only [before_0, before_1, before_2, before_3, before_4, before_5, before_6, after_0, after_1, after_2, after_3, after_4, after_5, after_6, after_7, after_8]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %gX, -, HX⟩, ⟨%d8, %gH, -, HH⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  ihave H4' := (pointsTo_rep_entails (c : Thread nD τ) (st4 t) g4 fullShare) $$ H4
  ihave H5' := (pointsTo_rep_entails (c : Thread nD τ) (st5 t) g5 fullShare) $$ H5
  ihave H6' := (pointsTo_rep_entails (c : Thread nD τ) (st6 t) g6 fullShare) $$ H6
  rw [e0, e1, e2, e3, e4, e5, e6]
  sl_rw [prog_eq t]
  iapply (pointRun m c t gX gH W)
  isplitl [H0' H1' H2' H3' H4' H5' H6' HX HH HW HΦ]
  · isplitl [H0' H1' H2' H3' H4' H5' H6']
    · isplitl [H0']; · iexact H0'
      isplitl [H1']; · iexact H1'
      isplitl [H2']; · iexact H2'
      isplitl [H3']; · iexact H3'
      isplitl [H4']; · iexact H4'
      isplitl [H5']; · iexact H5'
      iexact H6'
    isplitl [HX HH]
    · isplitl [HX]; · iexact HX
      iexact HH
    isplitl [HW]; · iexact HW
    iexact HΦ
  · iintro ⟨⟨H0, H1, H2, H3, H4, H5, H6⟩, ⟨⟨%g, %eg, HX⟩, ⟨%g', %eg', HH⟩⟩, ⟨%W', HW⟩, HΦ⟩
    isplitl [HΦ]; · iexact HΦ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    isplitl [HX]
    · iexists g; isplitr; · ipureintro; exact eg
      iexact HX
    iexists g'; isplitr; · ipureintro; exact eg'
    iexact HH

/-! ## The run -/

/-- The arguments that nothing of the call touches, as the call finds them. -/
def asideP (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg4) ↦{fullShare} m ((c : Thread nD τ).loc main_arg4)) ∗ (((c : Thread nD τ).loc main_arg5) ↦{fullShare} m ((c : Thread nD τ).loc main_arg5)))
def intoP (c : Dev nD) : sProp 𝕄 := iprop(homesP c (XA m c) (XB m c) (XC m c) ∗ Pipeline.ownSems0 osem c)
def backP (c : Dev nD) : sProp 𝕄 :=
  iprop((((c : Thread nD τ).loc main_arg7) ↦{fullShare} m ((c : Thread nD τ).loc main_arg7)) ∗ (((c : Thread nD τ).loc main_arg8) ↦{fullShare} m ((c : Thread nD τ).loc main_arg8)) ∗ (((c : Thread nD τ).loc main_arg9) ↦{fullShare} m ((c : Thread nD τ).loc main_arg9)))
def u₀ : UU nD τ := (initOf (Pipeline.cells cfgs cellOf_inj) (Pipeline.launchToks cfgs cellOf_inj), 1)
/-- The output arrays after the run. -/
def G7 (c : Dev nD) : Buf (Elt F) ((cfg0.win 7).arr.view.loc (c : Thread nD τ)) := (dats m 0 c).arrAt 7 cfg0.N
def G8 (c : Dev nD) : Buf (Elt F) ((cfg0.win 8).arr.view.loc (c : Thread nD τ)) := (dats m 0 c).arrAt 8 cfg0.N

/-- The arguments that are no window end as launched. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9)
/-- The arguments end as launched. -/
def AllY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9)

theorem hmain : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The kernel's own memory and counters at launch. -/
theorem enter (c : Dev nD) : iprop(intoP m c ∗ Pipeline.scopedRest spec0 c) ⊢ Φ m c 0 := by
  rw [scopedRest0_eq]
  unfold intoP Φ
  rw [show keptBetween m c 0 = iprop((∃ f, heldP c kA f) ∗ (∃ f, heldP c kB f) ∗ ∃ f, heldP c kC f) from if_pos rfl]
  iintro ⟨⟨Hh, Hc⟩, ⟨%fA, HA⟩, ⟨%fB, HB⟩, ⟨%fC, HC⟩, Hs⟩
  isplitl [Hh]; · iexact Hh
  isplitl [Hc Hs]
  · iapply (free_all (F := F) c).1
    isplitl [Hs]; · iapply (stage_split c); iexact Hs
    iexact Hc
  isplitl [HA]
  · iexists fA
    iapply (ent_of_eq (congrArg (fun S => (((c : Thread nD τ).loc cc0_scratch0) ↦[S]{fullShare} fA : sProp 𝕄)) (View.set_whole cc0_scratch0).symm))
    iexact HA
  isplitl [HB]
  · iexists fB
    iapply (ent_of_eq (congrArg (fun S => (((c : Thread nD τ).loc cc0_scratch1) ↦[S]{fullShare} fB : sProp 𝕄)) (View.set_whole cc0_scratch1).symm))
    iexact HB
  iexists fC
  iapply (ent_of_eq (congrArg (fun S => (((c : Thread nD τ).loc cc0_scratch2) ↦[S]{fullShare} fC : sProp 𝕄)) (View.set_whole cc0_scratch2).symm))
  iexact HC
/-- They are given back at the end. -/
theorem leave (c : Dev nD) (n : ℕ) (hn : n ≠ 0) : Φ m c n ⊢ iprop(backP m c ∗ Pipeline.ownSems0 osem c ∗ Pipeline.scopedRest spec0 c) := by
  rw [scopedRest0_eq]
  unfold backP Φ
  rw [show keptBetween m c n = keepP c (kA.view.rep (castW c hA wA (XA m c))) (kB.view.rep (castW c hB wB (XB m c))) (kC.view.rep (castW c hC wC (XC m c))) from if_neg hn, weightA_eq m c, weightB_eq m c, weightC_eq m c]
  iintro ⟨Hh, Hf, HA, HB, HC⟩
  isplitl [Hh]; · iexact Hh
  ihave H := (free_all (F := F) c).2 $$ Hf
  icases H with ⟨Hs, Hc⟩
  isplitl [Hc]; · iexact Hc
  isplitl [HA]
  · iexists _
    iapply (ent_of_eq (congrArg (fun S => (((c : Thread nD τ).loc cc0_scratch0) ↦[S]{fullShare} _ : sProp 𝕄)) (View.set_whole cc0_scratch0)))
    iexact HA
  isplitl [HB]
  · iexists _
    iapply (ent_of_eq (congrArg (fun S => (((c : Thread nD τ).loc cc0_scratch1) ↦[S]{fullShare} _ : sProp 𝕄)) (View.set_whole cc0_scratch1)))
    iexact HB
  isplitl [HC]
  · iexists _
    iapply (ent_of_eq (congrArg (fun S => (((c : Thread nD τ).loc cc0_scratch2) ↦[S]{fullShare} _ : sProp 𝕄)) (View.set_whole cc0_scratch2)))
    iexact HC
  iapply (stage_join c); iexact Hs

set_option backward.isDefEq.respectTransparency.types false in
/-- From any memory with zero counters the program runs to its end; the output arrays are then `G7` and `G8`, the arguments
    are as launched, every counter is zero. -/
theorem run_main : θ_run defs (onTc (τ := τ) (main (F := F))) (s₀ m ρ)
    (fun r => (∀ c : Dev nD, r.2.mem ((cfg0.win 7).arr.view.loc (c : Thread nD τ)) = G7 m c ∧ r.2.mem ((cfg0.win 8).arr.view.loc (c : Thread nD τ)) = G8 m c
      ∧ AllY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m)
    (hA := fun _ _ => rfl)
    (X := intoP m) (Y := backP m) (Z := asideP m)
    (hX := fun c => by
      rw [unscopedRest0_eq, V_main_arg0, V_main_arg1, V_main_arg2, V_main_arg4, V_main_arg5, V_main_arg7, V_main_arg8, V_main_arg9, weightA_eq m c, weightB_eq m c, weightC_eq m c]
      unfold intoP asideP
      iintro ⟨⟨H0, H1, H2, H4, H5, H7, H8, H9, -⟩, HS, -⟩; imodintro
      isplitl [H7 H8 H9 HS]
      · isplitl [H7 H8 H9]
        · isplitl [H7]; · iexact H7
          isplitl [H8]; · iexact H8
          iexact H9
        iexact HS
      isplitl [H0]; · iexact H0
      isplitl [H1]; · iexact H1
      isplitl [H2]; · iexact H2
      isplitl [H4]; · iexact H4
      iexact H5)
    (hin := fun c => enter m c)
    (hout := fun c => leave m c cfg0.N (by rw [show cfg0.N = 16 from N_0]; decide))
    (QY := QY m)
    (hY := fun c s' => by
      unfold backP asideP
      iintro ⟨⟨H7, H8, H9⟩, ⟨H0, H1, H2, H4, H5⟩, HSI⟩
      icombine HSI H0 gives %h0
      icombine HSI H1 gives %h1
      icombine HSI H2 gives %h2
      icombine HSI H4 gives %h4
      icombine HSI H5 gives %h5
      icombine HSI H7 gives %h7
      icombine HSI H8 gives %h8
      icombine HSI H9 gives %h9
      imodintro
      isplitr
      · ipureintro
        exact ⟨Buf.eq_of_forall_mem_univ h0, Buf.eq_of_forall_mem_univ h1, Buf.eq_of_forall_mem_univ h2, Buf.eq_of_forall_mem_univ h4, Buf.eq_of_forall_mem_univ h5, Buf.eq_of_forall_mem_univ h7, Buf.eq_of_forall_mem_univ h8, Buf.eq_of_forall_mem_univ h9⟩
      iexact HSI)
    (hQ := fun _ hh hz => ⟨fun c => ⟨(hh c).1 7, (hh c).1 8, by
      obtain ⟨q0, q1, q2, q4, q5, q7, q8, q9⟩ := (hh c).2
      exact ⟨q0, q1, q2, ((hh c).1 3).trans (((dats m 0 c).arrAt_in 3 rfl _).trans (V_main_arg3 m c)), q4, q5,
        ((hh c).1 6).trans (((dats m 0 c).arrAt_in 6 rfl _).trans (V_main_arg6 m c)), q7, q8, q9⟩⟩, hz⟩)

end Cert.Post

end
-- ==== Proof.PostValue.lean ====
/-
  What the call leaves in its two output arrays, at an index.
-/
module

public import proofs.«01_k».proof.Proof.PostMath
public import proofs.«01_k».proof.Proof.PostRun

@[expose] public section

set_option maxRecDepth 16384

noncomputable section

namespace Cert.Post

open Cert.Kernel8Ideal Cert.Kernel8Ideal.Gen
open Idealize.ShloMosaic Idealize.ShloMosaic.TcCoe Idealize.ShloMosaic.Tactic Idealize.ShloMosaic.ValueIdx
open Idealize.ShloMosaic.Pipeline
open scoped BigOperators

/-! ## The results, written out -/

/-- The column of the conditioning that holds part `j` at `d`. -/
def part (j : Fin 6) (d : Fin 2048) : Fin 12288 := ⟨2048 * j.val + d.val, by have := j.isLt; have := d.isLt; omega⟩

section Result
variable (O : S4x2048x1024.Idx → EReal) (D : S4x2048x512.Idx → EReal) (P : S4x2048x4096.Idx → EReal) (B : S1x4096.Idx → EReal)
  (X : S4x2048x2048.Idx → EReal) (M : S4x12288.Idx → EReal) (N : S1x2048.Idx → EReal)
  (A : S1x1024x2048.Idx → EReal) (U : S1x512x2048.Idx → EReal) (W : S1x2048x2048.Idx → EReal)

/-- A gate. -/
def gate (b : Fin 4) (r : Fin 2048) (k : Fin 4096) : EReal := logi (P (ix3 b r k) + B (ix2 (0 : Fin 1) k))
/-- The two projections, gated and added. -/
def mix (b : Fin 4) (r k : Fin 2048) : EReal :=
  gate P B b r (lo k) * (∑ j : Fin 1024, O (ix3 b r j) * A (ix3 (0 : Fin 1) j k))
    + gate P B b r (hi k) * (∑ j : Fin 512, D (ix3 b r j) * U (ix3 (0 : Fin 1) j k))
/-- The residual stream with the gated product added. -/
def stream (b : Fin 4) (r d : Fin 2048) : EReal :=
  X (ix3 b r d) + M (ix2 b (part 2 d)) * ∑ k : Fin 2048, mix O D P B A U b r k * W (ix3 (0 : Fin 1) k d)
/-- Its normed form. -/
def result (b : Fin 4) (r d : Fin 2048) : EReal :=
  normed (stream O D P B X M A U W b r) (N (ix2 (0 : Fin 1) d)) (M (ix2 b (part 4 d))) (M (ix2 b (part 3 d))) d
end Result

/-- A batch element's rows, row under row. -/
def rowsOf (Z : Fin 4 → Fin 2048 → Fin 2048 → EReal) : S8192x2048.Idx → EReal := fun i =>
  Z (⟨(i 0).val / 2048, by have h : (i 0).val < 8192 := (i 0).isLt; omega⟩ : Fin 4) (⟨(i 0).val % 2048, by omega⟩ : Fin 2048) (i 1)

/-- Row under row, at an index. -/
theorem under_apply {n : ℕ} (X : (⟨3, ![4, 2048, n]⟩ : Shape).Idx → EReal) (h : (⟨3, ![4, 2048, n]⟩ : Shape).ShapeCasts ⟨2, ![8192, n]⟩)
    (y : (⟨2, ![8192, n]⟩ : Shape).Idx) (b : Fin 4) (r : Fin 2048) (d : Fin n) (h0 : (y 0).val = 2048 * b.val + r.val) (h1 : (y 1).val = d.val) :
    shapeCast ⟨2, ![8192, n]⟩ X h y = X (ix3 b r d) := by
  refine shapeCast_apply X h y (ix3 b r d) ?_
  rw [Shape.rowMajor_val_three, Shape.rowMajor_val_two]
  show (b.val * 2048 + r.val) * n + d.val = (y 0).val * n + (y 1).val
  rw [h0, h1, Nat.mul_comm 2048]

variable (m : (ℓ : Loc nD τ sig) → Buf (Elt Ideal) ℓ) (c : Dev nD)

/-- The arguments as given: the two attention results, -/
def oIn : S4x2048x1024.Idx → EReal := m ((c : Thread nD τ).loc main_arg0)
def dIn : S4x2048x512.Idx → EReal := m ((c : Thread nD τ).loc main_arg1)
/-- the gates and what is added to them, -/
def pIn : S4x2048x4096.Idx → EReal := m ((c : Thread nD τ).loc main_arg2)
def bIn : S1x4096.Idx → EReal := m ((c : Thread nD τ).loc main_arg3)
/-- the residual stream, the conditioning, the scale, -/
def xIn : S4x2048x2048.Idx → EReal := m ((c : Thread nD τ).loc main_arg4)
def mIn : S4x12288.Idx → EReal := m ((c : Thread nD τ).loc main_arg5)
def nIn : S1x2048.Idx → EReal := m ((c : Thread nD τ).loc main_arg6)
/-- the three weights. -/
def aIn : S1x1024x2048.Idx → EReal := m ((c : Thread nD τ).loc main_arg7)
def uIn : S1x512x2048.Idx → EReal := m ((c : Thread nD τ).loc main_arg8)
def wIn : S1x2048x2048.Idx → EReal := m ((c : Thread nD τ).loc main_arg9)

/-- What is read row under row. -/
def oRows : S8192x1024.Idx → EReal := V m c main_v2
def dRows : S8192x512.Idx → EReal := V m c main_v3
def pRows : S8192x4096.Idx → EReal := V m c main_v4
def xRows : S8192x2048.Idx → EReal := V m c main_v5
/-- The conditioning, padded, six rows to a batch element. -/
def mRows : S8x6x2048.Idx → EReal := V m c main_v1

theorem oRows_eq : oRows m c = shapeCast S8192x1024 (oIn m c) shapeCasts_S4x2048x1024_S8192x1024 := by
  unfold oRows
  simp only [V, List.flatten_cons, List.flatten_nil, List.append_nil, List.cons_append, List.nil_append]
  after_results_simp
  rfl
theorem dRows_eq : dRows m c = shapeCast S8192x512 (dIn m c) shapeCasts_S4x2048x512_S8192x512 := by
  unfold dRows
  simp only [V, List.flatten_cons, List.flatten_nil, List.append_nil, List.cons_append, List.nil_append]
  after_results_simp
  rfl
theorem pRows_eq : pRows m c = shapeCast S8192x4096 (pIn m c) shapeCasts_S4x2048x4096_S8192x4096 := by
  unfold pRows
  simp only [V, List.flatten_cons, List.flatten_nil, List.append_nil, List.cons_append, List.nil_append]
  after_results_simp
  rfl
theorem xRows_eq : xRows m c = shapeCast S8192x2048 (xIn m c) shapeCasts_S4x2048x2048_S8192x2048 := by
  unfold xRows
  simp only [V, List.flatten_cons, List.flatten_nil, List.append_nil, List.cons_append, List.nil_append]
  after_results_simp
  rfl
theorem mRows_eq : ∃ z : S_.Idx → EReal, mRows m c =
    shapeCast S8x6x2048 (pad S8x12288 ![0, 0] ![4, 0] ![0, 0] (mIn m c) z pads_S4x12288_S8x12288_040_000 h_S_) shapeCasts_S8x12288_S8x6x2048 := by
  unfold mRows
  simp only [V, List.flatten_cons, List.flatten_nil, List.append_nil, List.cons_append, List.nil_append]
  after_results_simp
  exact ⟨_, rfl⟩

/-- The six rows of a batch element are the six parts. -/
theorem mRows_apply (y : S8x6x2048.Idx) (b : Fin 4) (j : Fin 6) (d : Fin 2048) (h0 : (y 0).val = b.val) (h1 : (y 1).val = j.val) (h2 : (y 2).val = d.val) :
    mRows m c y = mIn m c (ix2 b (part j d)) := by
  have hb := b.isLt
  have hd := d.isLt
  obtain ⟨z, e⟩ := mRows_eq m c
  rw [e]
  refine (shapeCast_apply _ _ y (ix2 (⟨b.val, by omega⟩ : Fin 8) (part j d)) ?_).trans ?_
  · rw [Shape.rowMajor_val_three, Shape.rowMajor_val_two]
    show b.val * 12288 + (2048 * j.val + d.val) = ((y 0).val * 6 + (y 1).val) * 2048 + (y 2).val
    omega
  · refine pad_apply_of_inside _ _ _ _ _ _ _ _ (ix2 b (part j d)) fun a => ?_
    match a with
    | ⟨0, _⟩ => show b.val = 0 + b.val * 1; omega
    | ⟨1, _⟩ => show (part j d).val = 0 + (part j d).val * 1; omega

/-! ## The blocks a point reads: rows `512 t` on, those of batch element `t / 4`. -/

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val / 4, 0, 0] := (by decide +kernel : ∀ t : Fin grid0.N, win0_5.index t = ![t.val / 4, 0, 0])
theorem index_6 : ∀ t : Fin cfg0.N, win0_6.index t = ![0, 0] := (by decide +kernel : ∀ t : Fin grid0.N, win0_6.index t = ![0, 0])
theorem index_7 : ∀ t : Fin cfg0.N, win0_7.index t = ![t.val, 0] := (by decide +kernel : ∀ t : Fin grid0.N, win0_7.index t = ![t.val, 0])
theorem index_8 : ∀ t : Fin cfg0.N, win0_8.index t = ![t.val, 0] := (by decide +kernel : ∀ t : Fin grid0.N, win0_8.index t = ![t.val, 0])
theorem flushes_7 : ∀ t : Fin cfg0.N, (cfg0.win 7).flush t = true := (by decide +kernel : ∀ t : Fin grid0.N, win0_7.flush t = true)
theorem flushes_8 : ∀ t : Fin cfg0.N, (cfg0.win 8).flush t = true := (by decide +kernel : ∀ t : Fin grid0.N, win0_8.flush t = true)

/-- A point's batch element. -/
def batch (t : Fin cfg0.N) : Fin 4 := ⟨t.val / 4, by have h : t.val < 16 := lt_of_lt_of_eq t.isLt N_0; omega⟩
/-- A row of a point's block, within its batch element. -/
def within (t : Fin cfg0.N) (r : Fin 512) : Fin 2048 := ⟨512 * (t.val % 4) + r.val, by have := r.isLt; omega⟩

def oBlk (t : Fin cfg0.N) : S512x1024.Idx → EReal := iblk m c 0 t
def dBlk (t : Fin cfg0.N) : S512x512.Idx → EReal := iblk m c 1 t
def pBlk (t : Fin cfg0.N) : S512x4096.Idx → EReal := iblk m c 2 t
def bBlk (t : Fin cfg0.N) : S1x4096.Idx → EReal := iblk m c 3 t
def xBlk (t : Fin cfg0.N) : S512x2048.Idx → EReal := iblk m c 4 t
def mBlk (t : Fin cfg0.N) : S1x6x2048.Idx → EReal := iblk m c 5 t
def nBlk (t : Fin cfg0.N) : S1x2048.Idx → EReal := iblk m c 6 t

/-- Row `r` of block `t`, as batch element and row within it. -/
theorem row_split (t r : ℕ) : t * 512 + 1 * r = 2048 * (t / 4) + (512 * (t % 4) + r) := by omega

theorem read_0 (t : Fin cfg0.N) (r : Fin 512) (k : Fin 1024) : oBlk m c t (ix2 r k) = oIn m c (ix3 (batch t) (within t r) k) := by
  refine (congrFun (oRows_eq m c) (((cfg0.win 0).blk t).view.emb (ix2 r k))).trans (under_apply _ _ _ _ _ _ ?_ ?_)
  · show win0_0.index t 0 * 512 + 1 * r.val = _
    rw [index_0]; exact row_split _ _
  · show win0_0.index t 1 * 1024 + 1 * k.val = _
    rw [index_0]; show 0 * 1024 + 1 * k.val = _; omega
theorem read_1 (t : Fin cfg0.N) (r : Fin 512) (k : Fin 512) : dBlk m c t (ix2 r k) = dIn m c (ix3 (batch t) (within t r) k) := by
  refine (congrFun (dRows_eq m c) (((cfg0.win 1).blk t).view.emb (ix2 r k))).trans (under_apply _ _ _ _ _ _ ?_ ?_)
  · show win0_1.index t 0 * 512 + 1 * r.val = _
    rw [index_1]; exact row_split _ _
  · show win0_1.index t 1 * 512 + 1 * k.val = _
    rw [index_1]; show 0 * 512 + 1 * k.val = _; omega
theorem read_2 (t : Fin cfg0.N) (r : Fin 512) (k : Fin 4096) : pBlk m c t (ix2 r k) = pIn m c (ix3 (batch t) (within t r) k) := by
  refine (congrFun (pRows_eq m c) (((cfg0.win 2).blk t).view.emb (ix2 r k))).trans (under_apply _ _ _ _ _ _ ?_ ?_)
  · show win0_2.index t 0 * 512 + 1 * r.val = _
    rw [index_2]; exact row_split _ _
  · show win0_2.index t 1 * 4096 + 1 * k.val = _
    rw [index_2]; show 0 * 4096 + 1 * k.val = _; omega
theorem read_4 (t : Fin cfg0.N) (r : Fin 512) (d : Fin 2048) : xBlk m c t (ix2 r d) = xIn m c (ix3 (batch t) (within t r) d) := by
  refine (congrFun (xRows_eq m c) (((cfg0.win 4).blk t).view.emb (ix2 r d))).trans (under_apply _ _ _ _ _ _ ?_ ?_)
  · show win0_4.index t 0 * 512 + 1 * r.val = _
    rw [index_4]; exact row_split _ _
  · show win0_4.index t 1 * 2048 + 1 * d.val = _
    rw [index_4]; show 0 * 2048 + 1 * d.val = _; omega
theorem read_3 (t : Fin cfg0.N) (k : Fin 4096) : bBlk m c t (ix2 (0 : Fin 1) k) = bIn m c (ix2 (0 : Fin 1) k) := by
  refine (congrFun (V_main_arg3 m c) (((cfg0.win 3).blk t).view.emb (ix2 (0 : Fin 1) k))).trans (congrArg (bIn m c) (funext fun a => Fin.ext ?_))
  match a with
  | ⟨0, _⟩ => show win0_3.index t 0 * 1 + 1 * 0 = 0; rw [index_3]; rfl
  | ⟨1, _⟩ => show win0_3.index t 1 * 4096 + 1 * k.val = k.val; rw [index_3]; show 0 * 4096 + 1 * k.val = _; omega
theorem read_5 (t : Fin cfg0.N) (j : Fin 6) (d : Fin 2048) : mBlk m c t (ix3 (0 : Fin 1) j d) = mIn m c (ix2 (batch t) (part j d)) := by
  refine mRows_apply m c (((cfg0.win 5).blk t).view.emb (ix3 (0 : Fin 1) j d)) (batch t) j d ?_ ?_ ?_
  · show win0_5.index t 0 * 1 + 1 * 0 = t.val / 4
    rw [index_5]; show t.val / 4 * 1 + 1 * 0 = _; omega
  · show win0_5.index t 1 * 6 + 1 * j.val = j.val
    rw [index_5]; show 0 * 6 + 1 * j.val = _; omega
  · show win0_5.index t 2 * 2048 + 1 * d.val = _
    rw [index_5]; show 0 * 2048 + 1 * d.val = _; omega
theorem read_6 (t : Fin cfg0.N) (d : Fin 2048) : nBlk m c t (ix2 (0 : Fin 1) d) = nIn m c (ix2 (0 : Fin 1) d) := by
  refine (congrFun (V_main_arg6 m c) (((cfg0.win 6).blk t).view.emb (ix2 (0 : Fin 1) d))).trans (congrArg (nIn m c) (funext fun a => Fin.ext ?_))
  match a with
  | ⟨0, _⟩ => show win0_6.index t 0 * 1 + 1 * 0 = 0; rw [index_6]; rfl
  | ⟨1, _⟩ => show win0_6.index t 1 * 2048 + 1 * d.val = d.val; rw [index_6]; show 0 * 2048 + 1 * d.val = _; omega

/-- The stream over the arguments as given; -/
abbrev streamIn : Fin 4 → Fin 2048 → Fin 2048 → EReal :=
  stream (oIn m c) (dIn m c) (pIn m c) (bIn m c) (xIn m c) (mIn m c) (aIn m c) (uIn m c) (wIn m c)
/-- its normed form. -/
abbrev resultIn : Fin 4 → Fin 2048 → Fin 2048 → EReal :=
  result (oIn m c) (dIn m c) (pIn m c) (bIn m c) (xIn m c) (mIn m c) (nIn m c) (aIn m c) (uIn m c) (wIn m c)

theorem mix_at (t : Fin cfg0.N) (r : Fin 512) (k : Fin 2048) :
    mixRow (oBlk m c t) (dBlk m c t) (pBlk m c t) (bBlk m c t) (castW c hA wA (XA m c)) (castW c hB wB (XB m c)) r k =
      mix (oIn m c) (dIn m c) (pIn m c) (bIn m c) (aIn m c) (uIn m c) (batch t) (within t r) k := by
  unfold mixRow mix gate
  rw [read_2, read_2, read_3, read_3]
  refine congrArg₂ (· + ·) (congrArg₂ (· * ·) rfl (Finset.sum_congr rfl fun j _ => ?_)) (congrArg₂ (· * ·) rfl (Finset.sum_congr rfl fun j _ => ?_))
  · exact congrArg₂ (· * ·) (read_0 m c t r j) (castW_apply c hA wA (XA m c) j k)
  · exact congrArg₂ (· * ·) (read_1 m c t r j) (castW_apply c hB wB (XB m c) j k)

theorem row_at (t : Fin cfg0.N) (r : Fin 512) :
    rowX (oBlk m c t) (dBlk m c t) (pBlk m c t) (bBlk m c t) (xBlk m c t) (mBlk m c t) (castW c hA wA (XA m c)) (castW c hB wB (XB m c)) (castW c hC wC (XC m c)) r =
      streamIn m c (batch t) (within t r) := funext fun d => by
  refine congrArg₂ (· + ·) (read_4 m c t r d) (congrArg₂ (· * ·) (read_5 m c t 2 d) (Finset.sum_congr rfl fun k _ => ?_))
  exact congrArg₂ (· * ·) (mix_at m c t r k) (castW_apply c hC wC (XC m c) k d)

theorem norm_at (t : Fin cfg0.N) (r : Fin 512) (d : Fin 2048) :
    rowH (oBlk m c t) (dBlk m c t) (pBlk m c t) (bBlk m c t) (xBlk m c t) (mBlk m c t) (nBlk m c t) (castW c hA wA (XA m c)) (castW c hB wB (XB m c)) (castW c hC wC (XC m c)) r d =
      resultIn m c (batch t) (within t r) d := by
  unfold rowH
  rw [row_at, read_5 m c t 4 d, read_5 m c t 3 d, read_6 m c t d]
  rfl

/-- What a point leaves in the first output; -/
theorem point_7 (t : Fin cfg0.N) (y : S512x2048.Idx) : outXAt m c t y = streamIn m c (batch t) (within t (y 0)) (y 1) :=
  (outX_apply (oBlk m c t) (dBlk m c t) (pBlk m c t) (bBlk m c t) (xBlk m c t) (mBlk m c t) (castW c hA wA (XA m c)) (castW c hB wB (XB m c)) (castW c hC wC (XC m c)) y).trans
    (congrFun (row_at m c t (y 0)) (y 1))

/-- in the second. -/
theorem point_8 (t : Fin cfg0.N) (y : S512x2048.Idx) : outHAt m c t y = resultIn m c (batch t) (within t (y 0)) (y 1) :=
  (outH_apply (oBlk m c t) (dBlk m c t) (pBlk m c t) (bBlk m c t) (xBlk m c t) (mBlk m c t) (nBlk m c t) (castW c hA wA (XA m c)) (castW c hB wB (XB m c)) (castW c hC wC (XC m c)) y).trans
    (norm_at m c t (y 0) (y 1))

/-- A row of a block, among all the rows. -/
theorem all_rows (Z : Fin 4 → Fin 2048 → Fin 2048 → EReal) (t : Fin cfg0.N) (y : S512x2048.Idx) (i : S8192x2048.Idx) (e0 : (i 0).val = 512 * t.val + (y 0).val) (e1 : i 1 = y 1) :
    Z (batch t) (within t (y 0)) (y 1) = rowsOf Z i := by
  have h0 : (y 0).val < 512 := (y 0).isLt
  unfold rowsOf
  rw [e1]
  refine congrArg₂ (fun b r => Z b r (y 1)) (Fin.ext ?_) (Fin.ext ?_)
  · show t.val / 4 = (i 0).val / 2048
    rw [e0]; omega
  · show 512 * (t.val % 4) + (y 0).val = (i 0).val % 2048
    rw [e0]; omega

/-- A point writes back its rows: of the first output; -/
theorem flushed_7 (t : Fin cfg0.N) : (dats m 0 c).flushed 7 t = ((cfg0.win 7).blk t).view.read (Elt Ideal) (rowsOf (streamIn m c)) := by
  show (cfg0.win 7).cut (grid0.coords t) ((dats m 0 c).after 7 t) = _
  rw [after_7]
  funext y
  refine (point_7 m c t y).trans (all_rows (streamIn m c) t y (((cfg0.win 7).blk t).view.emb y) ?_ (Fin.ext ?_))
  · show win0_7.index t 0 * 512 + 1 * (y 0).val = _
    rw [index_7]; show t.val * 512 + 1 * (y 0).val = _; omega
  · show win0_7.index t 1 * 2048 + 1 * (y 1).val = _
    rw [index_7]; show 0 * 2048 + 1 * (y 1).val = _; omega

/-- of the second. -/
theorem flushed_8 (t : Fin cfg0.N) : (dats m 0 c).flushed 8 t = ((cfg0.win 8).blk t).view.read (Elt Ideal) (rowsOf (resultIn m c)) := by
  show (cfg0.win 8).cut (grid0.coords t) ((dats m 0 c).after 8 t) = _
  rw [after_8]
  funext y
  refine (point_8 m c t y).trans (all_rows (resultIn m c) t y (((cfg0.win 8).blk t).view.emb y) ?_ (Fin.ext ?_))
  · show win0_8.index t 0 * 512 + 1 * (y 0).val = _
    rw [index_8]; show t.val * 512 + 1 * (y 0).val = _; omega
  · show win0_8.index t 1 * 2048 + 1 * (y 1).val = _
    rw [index_8]; show 0 * 2048 + 1 * (y 1).val = _; omega

theorem mem_blk_7 (t : Fin cfg0.N) (i : S8192x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v6_0).slice (win0_7.rect t)).set ↔ _
  rw [View.set_slice_whole, Rect.mem_set_unit]
  exact Iff.rfl
theorem mem_blk_8 (t : Fin cfg0.N) (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v6_1).slice (win0_8.rect t)).set ↔ _
  rw [View.set_slice_whole, Rect.mem_set_unit]
  exact Iff.rfl

/-- Every row is in a block. -/
theorem in_block (i : S8192x2048.Idx) : ∃ t : Fin cfg0.N, ∀ a : Fin 2,
    (![t.val, 0] : Fin 2 → ℕ) a * S512x2048.size a ≤ (i a).val ∧ (i a).val < (![t.val, 0] : Fin 2 → ℕ) a * S512x2048.size a + S512x2048.size a := by
  have h0 : (i 0).val < 8192 := (i 0).isLt
  have h1 : (i 1).val < 2048 := (i 1).isLt
  refine ⟨⟨(i 0).val / 512, by rw [show cfg0.N = 16 from N_0]; omega⟩, fun a => ?_⟩
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- The output arrays after the run. -/
theorem G7_eq : G7 m c = rowsOf (streamIn m c) := by
  refine (dats m 0 c).arrAt_eq_of_cover 7 (rowsOf (streamIn m c)) (fun t _ => flushed_7 m c t) fun (i : S8192x2048.Idx) => ?_
  obtain ⟨t, h⟩ := in_block i
  exact ⟨t, flushes_7 t, (mem_blk_7 t i).2 (by rw [index_7]; exact h)⟩
theorem G8_eq : G8 m c = rowsOf (resultIn m c) := by
  refine (dats m 0 c).arrAt_eq_of_cover 8 (rowsOf (resultIn m c)) (fun t _ => flushed_8 m c t) fun (i : S8192x2048.Idx) => ?_
  obtain ⟨t, h⟩ := in_block i
  exact ⟨t, flushes_8 t, (mem_blk_8 t i).2 (by rw [index_8]; exact h)⟩

end Cert.Post
end
-- ==== Proof.PostClaims.lean ====
/-
  The claims about the call after the two attentions.
-/
module

public import proofs.«01_k».proof.Defs
public import proofs.«01_k».proof.Proof.Gen.Kernel8
public import proofs.«01_k».proof.Proof.Gen.Reference8Ideal.Run
public import proofs.«01_k».proof.Proof.Gen.Reference8Ideal.Read
public import proofs.«01_k».proof.Proof.PostValue
public import Idealize.ShloMosaic.Adequacy
public import Idealize.ShloMosaic.Init

@[expose] public section

set_option maxRecDepth 16384

noncomputable section

namespace Cert.Post

open Idealize.ShloMosaic Idealize.ShloMosaic.TcCoe Idealize.ShloMosaic.ValueIdx Idealize.SL.Sem
open scoped BigOperators

/-- On any floats the kernel runs to its end and leaves its arguments. -/
theorem frame_any {F : FTy → Type} [FloatOps F] (m : (ℓ : Loc Cert.Kernel8Ideal.nD Cert.Kernel8Ideal.τ Cert.Kernel8Ideal.sig) → Buf (Elt F) ℓ)
    (g : Dev Cert.Kernel8Ideal.nD → PrngReg) :
    θ_run Cert.Kernel8Ideal.defs (onTc (τ := Cert.Kernel8Ideal.τ) (Cert.Kernel8Ideal.main (F := F))) ⟨m, fun _ => 0, g⟩
      (fun r => (∀ c : Dev Cert.Kernel8Ideal.nD, AllY m c r.2) ∧ r.2.sem = fun _ => 0) :=
  (θ_run Cert.Kernel8Ideal.defs _ _).mono (fun _ h => ⟨fun c => (h.1 c).2.2, h.2⟩) (run_main (F := F) m g)

/-- The two programs' bodies are the same, label by label. -/
theorem bodies_eq : Cert.Kernel8.defs₀ (F := Bits) = Cert.Kernel8Ideal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel8.defs (F := Bits) = Cert.Kernel8Ideal.defs (F := Bits) :=
  congrArg (Pipeline.defs (Cert.Kernel8Ideal.pcfgs (F := Bits))) bodies_eq

/-- The kernel runs to its end on any floats and leaves its arguments: the one run, at bits. -/
theorem frame_p : Cert.quiescent_Kernel8 := fun m g _ => by
  rw [defs_eq]
  exact frame_any (F := Bits) m g

/-- The kernel over the extended reals runs to its end and leaves its arguments. -/
theorem frame_pi : Cert.quiescent_Kernel8Ideal := fun m g _ => frame_any (F := Ideal) m g

/-- The reference over the extended reals runs to its end and leaves its arguments. -/
theorem frame_ri : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

/-- Nothing is rewritten. -/
theorem preserves : Cert.preserves_Kernel8_Kernel8Ideal := trivial

section Reference
open Cert.Reference8Ideal Cert.Reference8Ideal.Read
variable (O : (⟨3, ![4, 2048, 1024]⟩ : Shape).Idx → EReal) (D : (⟨3, ![4, 2048, 512]⟩ : Shape).Idx → EReal) (P : (⟨3, ![4, 2048, 4096]⟩ : Shape).Idx → EReal)
  (B : (⟨2, ![1, 4096]⟩ : Shape).Idx → EReal) (X : (⟨3, ![4, 2048, 2048]⟩ : Shape).Idx → EReal) (M : (⟨2, ![4, 12288]⟩ : Shape).Idx → EReal)
  (N : (⟨2, ![1, 2048]⟩ : Shape).Idx → EReal) (A : (⟨3, ![1, 1024, 2048]⟩ : Shape).Idx → EReal) (U : (⟨3, ![1, 512, 2048]⟩ : Shape).Idx → EReal)
  (W : (⟨3, ![1, 2048, 2048]⟩ : Shape).Idx → EReal)

/-- The first projection. -/
theorem ref_first (b : Fin 4) (r d : Fin 2048) :
    val_main_v14 (F := Ideal) O A (ix3 b r d) = ∑ k : Fin 1024, O (ix3 b r k) * A (ix3 (0 : Fin 1) k d) := by
  rw [val_main_v14_apply]
  refine Finset.sum_congr rfl fun k _ => ?_
  have hk := k.isLt
  have hd := d.isLt
  rw [val_main_v13_apply, val_main_v12_apply]
  refine congrArg₂ (· * ·) (congrArg O (funext fun a => ?_)) (congrArg A (funext fun a => Fin.ext ?_))
  · match a with
    | ⟨0, _⟩ => rfl
    | ⟨1, _⟩ => rfl
    | ⟨2, _⟩ => rfl
  · match a with
    | ⟨0, _⟩ => rfl
    | ⟨1, _⟩ => show (k.val * 2048 + d.val) / 2048 % 1024 = k.val; omega
    | ⟨2, _⟩ => show (k.val * 2048 + d.val) % 2048 = d.val; omega

/-- The second. -/
theorem ref_second (b : Fin 4) (r d : Fin 2048) :
    val_main_v17 (F := Ideal) D U (ix3 b r d) = ∑ k : Fin 512, D (ix3 b r k) * U (ix3 (0 : Fin 1) k d) := by
  rw [val_main_v17_apply]
  refine Finset.sum_congr rfl fun k _ => ?_
  have hk := k.isLt
  have hd := d.isLt
  rw [val_main_v16_apply, val_main_v15_apply]
  refine congrArg₂ (· * ·) (congrArg D (funext fun a => ?_)) (congrArg U (funext fun a => Fin.ext ?_))
  · match a with
    | ⟨0, _⟩ => rfl
    | ⟨1, _⟩ => rfl
    | ⟨2, _⟩ => rfl
  · match a with
    | ⟨0, _⟩ => rfl
    | ⟨1, _⟩ => show (k.val * 2048 + d.val) / 2048 % 512 = k.val; omega
    | ⟨2, _⟩ => show (k.val * 2048 + d.val) % 2048 = d.val; omega

theorem ref_gate (b : Fin 4) (r : Fin 2048) (k : Fin 4096) : val_main_v28 (F := Ideal) P B (ix3 b r k) = gate P B b r k := by
  have hk := k.isLt
  have e : idx_main_v19 (idx_main_v20 (idx_main_v21 (ix3 b r k))) = ix2 (0 : Fin 1) k := funext fun a => Fin.ext (by
    match a with
    | ⟨0, _⟩ => rfl
    | ⟨1, _⟩ => show k.val % 4096 = k.val; omega)
  rw [val_main_v28_apply, val_main_v27_apply, val_main_cst_0_apply, val_main_v26_apply, val_main_v25_apply, val_main_cst_apply, val_main_v24_apply, val_main_v23_apply,
    val_main_v22_apply, val_main_v18_apply, val_main_v21_apply, val_main_v20_apply, val_main_v19_apply, e]
  show Ideal.div (Ideal.ofBits .f32 0x3F800000#32) (Ideal.ofBits .f32 0x3F800000#32 + Ideal.exp (-(P (ix3 b r k) + B (ix2 (0 : Fin 1) k)))) = _
  rw [Ideal.ofBits_one_f32]
  rfl

theorem ref_mix (b : Fin 4) (r k : Fin 2048) : val_main_v33 (F := Ideal) O D P B A U (ix3 b r k) = mix O D P B A U b r k := by
  have e0 : idx_main_v29 (ix3 b r k) = ix3 b r (lo k) := funext fun a => Fin.ext (by
    match a with
    | ⟨0, _⟩ => rfl
    | ⟨1, _⟩ => rfl
    | ⟨2, _⟩ => rfl)
  have e1 : idx_main_v30 (ix3 b r k) = ix3 b r (hi k) := funext fun a => Fin.ext (by
    match a with
    | ⟨0, _⟩ => rfl
    | ⟨1, _⟩ => rfl
    | ⟨2, _⟩ => rfl)
  rw [val_main_v33_apply, val_main_v31_apply, val_main_v32_apply, val_main_v29_apply, val_main_v30_apply, e0, e1, ref_gate, ref_gate, ref_first, ref_second]
  rfl

theorem ref_product (b : Fin 4) (r d : Fin 2048) :
    val_main_v35 (F := Ideal) O D P B A U W (ix3 b r d) = ∑ k : Fin 2048, mix O D P B A U b r k * W (ix3 (0 : Fin 1) k d) := by
  rw [val_main_v35_apply]
  refine Finset.sum_congr rfl fun k _ => ?_
  have hk := k.isLt
  have hd := d.isLt
  have e : lidx_main_v35 (ix3 b r d) k = ix3 b r k := funext fun a => by
    match a with
    | ⟨0, _⟩ => rfl
    | ⟨1, _⟩ => rfl
    | ⟨2, _⟩ => rfl
  rw [e, ref_mix, val_main_v34_apply]
  refine congrArg (fun z => mix O D P B A U b r k * W z) (funext fun a => Fin.ext ?_)
  match a with
  | ⟨0, _⟩ => rfl
  | ⟨1, _⟩ => show (k.val * 2048 + d.val) / 2048 % 2048 = k.val; omega
  | ⟨2, _⟩ => show (k.val * 2048 + d.val) % 2048 = d.val; omega

theorem ref_stream (b : Fin 4) (r d : Fin 2048) : val_main_v38 (F := Ideal) O D P B X M A U W (ix3 b r d) = stream O D P B X M A U W b r d := by
  have e : idx_main_v2 (idx_main_v8 (idx_main_v36 (ix3 b r d))) = ix2 b (part 2 d) := funext fun a => Fin.ext (by
    match a with
    | ⟨0, _⟩ => rfl
    | ⟨1, _⟩ => rfl)
  rw [val_main_v38_apply, val_main_v37_apply, val_main_v36_apply, val_main_v8_apply, val_main_v2_apply, ref_product, e]
  rfl

theorem ref_squares (b : Fin 4) (r : Fin 2048) :
    val_main_v40 (F := Ideal) O D P B X M A U W (ix2 b r) = ∑ k : Fin 2048, stream O D P B X M A U W b r k * stream O D P B X M A U W b r k := by
  rw [val_main_v40_apply, val_main_cst_1_apply]
  show Ideal.ofBits .f32 0x00000000#32 + _ = _
  rw [Ideal.ofBits_zero_f32, zero_add]
  refine Finset.sum_congr rfl fun k _ => ?_
  have e : idx_main_v40 (ix2 b r) k = ix3 b r k := funext fun a => by
    match a with
    | ⟨0, _⟩ => rfl
    | ⟨1, _⟩ => rfl
    | ⟨2, _⟩ => rfl
  rw [e, val_main_v39_apply, ref_stream]
  rfl

theorem ref_normed (b : Fin 4) (r d : Fin 2048) : val_main_v58 (F := Ideal) O D P B X M N A U W (ix3 b r d) = result O D P B X M N A U W b r d := by
  have hd := d.isLt
  have e : idx_main_v41 (idx_main_v47 (ix3 b r d)) = ix2 b r := funext fun a => by
    match a with
    | ⟨0, _⟩ => rfl
    | ⟨1, _⟩ => rfl
  have en : idx_main_v49 (idx_main_v50 (idx_main_v51 (ix3 b r d))) = ix2 (0 : Fin 1) d := funext fun a => Fin.ext (by
    match a with
    | ⟨0, _⟩ => rfl
    | ⟨1, _⟩ => show d.val % 2048 = d.val; omega)
  have e4 : idx_main_v4 (idx_main_v10 (idx_main_v55 (ix3 b r d))) = ix2 b (part 4 d) := funext fun a => Fin.ext (by
    match a with
    | ⟨0, _⟩ => rfl
    | ⟨1, _⟩ => rfl)
  have e3 : idx_main_v3 (idx_main_v9 (idx_main_v57 (ix3 b r d))) = ix2 b (part 3 d) := funext fun a => Fin.ext (by
    match a with
    | ⟨0, _⟩ => rfl
    | ⟨1, _⟩ => rfl)
  rw [val_main_v58_apply, val_main_v57_apply, val_main_v9_apply, val_main_v3_apply, e3, val_main_v56_apply, val_main_v55_apply, val_main_v54_apply, val_main_v53_apply,
    val_main_cst_4_apply, val_main_v10_apply, val_main_v4_apply, e4, val_main_v52_apply, val_main_v51_apply, val_main_v50_apply, val_main_v49_apply, en, val_main_v48_apply, ref_stream,
    val_main_v47_apply, val_main_v46_apply, val_main_v45_apply, val_main_v44_apply, val_main_cst_3_apply, val_main_v43_apply, val_main_v42_apply, val_main_cst_2_apply,
    val_main_v41_apply, e, ref_squares]
  rfl

/-- Row under row. -/
theorem row_index (y : (⟨2, ![8192, 2048]⟩ : Shape).Idx) (i : (⟨3, ![4, 2048, 2048]⟩ : Shape).Idx) (h0 : (i 0).val = ((y 0).val * 2048 + (y 1).val) / 4194304)
    (h1 : (i 1).val = ((y 0).val * 2048 + (y 1).val) / 2048 % 2048) (h2 : (i 2).val = ((y 0).val * 2048 + (y 1).val) % 2048) :
    i = ix3 (⟨(y 0).val / 2048, by have h : (y 0).val < 8192 := (y 0).isLt; omega⟩ : Fin 4) (⟨(y 0).val % 2048, by omega⟩ : Fin 2048) (y 1) := funext fun a => Fin.ext (by
  have hy : (y 1).val < 2048 := (y 1).isLt
  match a with
  | ⟨0, _⟩ => exact h0.trans (by show _ = (y 0).val / 2048; omega)
  | ⟨1, _⟩ => exact h1.trans (by show _ = (y 0).val % 2048; omega)
  | ⟨2, _⟩ => exact h2.trans (by show _ = (y 1).val; omega))

/-- The reference's first result. -/
theorem ref_result_first : val_main_v59 (F := Ideal) O D P B X M A U W = rowsOf (stream O D P B X M A U W) := funext fun y => by
  rw [val_main_v59_apply, row_index y (idx_main_v59 y) rfl rfl rfl]
  exact ref_stream O D P B X M A U W _ _ _

/-- The reference's second result. -/
theorem ref_result_second : val_main_v61 (F := Ideal) O D P B X M N A U W = rowsOf (result O D P B X M N A U W) := funext fun y => by
  rw [val_main_v61_apply, row_index y (idx_main_v61 y) rfl rfl rfl]
  refine (val_main_v60_apply (F := Ideal) O D P B X M N A U W _).trans ?_
  exact ref_normed O D P B X M N A U W _ _ _

end Reference

/-- Over the extended reals the kernel's results are the reference's. -/
theorem algebraic : Cert.algebraic_Kernel8Ideal_Reference8Ideal := by
  intro m g m' g' _ hagree
  refine ⟨_, _, (θ_run Cert.Kernel8Ideal.defs _ _).mono (fun _ h c => h.1 c) (run_main (F := Ideal) m g), ?_⟩
  refine (θ_run Cert.Reference8Ideal.defs _ _).mono (fun _ h c => ⟨(h c).1.trans ?_, (h c).2.1.trans ?_, (h c).2.2⟩) (Cert.Reference8Ideal.Value.run (F := Ideal) m' g')
  · obtain ⟨h0, h1, h2, h3, h4, h5, h6, h7, h8, h9⟩ := hagree c
    rw [Cert.Reference8Ideal.Read.val_main_v59_eq, h0, h1, h2, h3, h4, h5, h7, h8, h9]
    exact (ref_result_first (oIn m c) (dIn m c) (pIn m c) (bIn m c) (xIn m c) (mIn m c) (aIn m c) (uIn m c) (wIn m c)).trans (G7_eq m c).symm
  · obtain ⟨h0, h1, h2, h3, h4, h5, h6, h7, h8, h9⟩ := hagree c
    rw [Cert.Reference8Ideal.Read.val_main_v61_eq, h0, h1, h2, h3, h4, h5, h6, h7, h8, h9]
    exact (ref_result_second (oIn m c) (dIn m c) (pIn m c) (bIn m c) (xIn m c) (mIn m c) (nIn m c) (aIn m c) (uIn m c) (wIn m c)).trans (G8_eq m c).symm

end Cert.Post
end
-- ==== Proof.Ada.lean ====
/-
  The call that makes the conditioning, and the claims about it.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.PostMath
public import Idealize.ShloMosaic.Adequacy
public import Idealize.ShloMosaic.Init

@[expose] public section

set_option maxRecDepth 16384

noncomputable section

namespace Cert.Ada

open Idealize.ShloMosaic Idealize.ShloMosaic.TcCoe Idealize.ShloMosaic.Tactic Idealize.ShloMosaic.ValueIdx Idealize.SL.Sem
open scoped BigOperators
open Cert.Post (logi)

/-! ## The result, written out -/

/-- The gated rows times the weight, plus the bias, at row `r`, column `d`. -/
def modulation (C : (⟨2, ![8, 2048]⟩ : Shape).Idx → EReal) (W : (⟨3, ![1, 2048, 12288]⟩ : Shape).Idx → EReal) (B : (⟨2, ![1, 12288]⟩ : Shape).Idx → EReal)
    (r : Fin 8) (d : Fin 12288) : EReal :=
  (∑ k : Fin 2048, C (ix2 r k) * logi (C (ix2 r k)) * W (ix3 (0 : Fin 1) k d)) + B (ix2 (0 : Fin 1) d)

section Kernel
open Cert.Kernel9Ideal Cert.Kernel9Ideal.Gen

/-! ## A block -/

section Block
variable (C : FVec Ideal S8x2048 .f32) (w : FVec Ideal S2048x1024 .f32) (b : FVec Ideal S1x1024 .f32)

/-- The gated rows, as the kernel makes them. -/
def gated : FVec Ideal S8x2048 .f32 :=
  mulf C (divf (broadcast S8x2048 (Scalar.ofBits (F := Ideal) .f32 0x3F800000#32)) (addf (broadcast S8x2048 (Scalar.ofBits (F := Ideal) .f32 0x3F800000#32))
    (exp (subf (broadcast S8x2048 (Scalar.ofBits (F := Ideal) .f32 0x00000000#32)) C))))

theorem gated_apply (y : S8x2048.Idx) : gated C y = C y * logi (C y) := by
  show C y * Ideal.div (Ideal.ofBits .f32 0x3F800000#32) (Ideal.ofBits .f32 0x3F800000#32 + Ideal.exp (Ideal.ofBits .f32 0x00000000#32 - C y)) = _
  rw [Ideal.ofBits_one_f32, Ideal.ofBits_zero_f32, zero_sub]
  rfl

theorem pay1_apply (r : Fin 8) (d : Fin 1024) :
    k0_pay1 (F := Ideal) C w b (ix2 r d) = (∑ k : Fin 2048, C (ix2 r k) * logi (C (ix2 r k)) * w (ix2 k d)) + b (ix2 (0 : Fin 1) d) := by
  have ec : shapeCast S8x2048 C shapeCasts_S8x2048_S8x2048 = C := funext fun y => shapeCast_apply _ _ y y rfl
  have ew : shapeCast S2048x1024 w shapeCasts_S2048x1024_S2048x1024 = w := funext fun y => shapeCast_apply _ _ y y rfl
  have eb : shapeCast S1x1024 b shapeCasts_S1x1024_S1x1024 = b := funext fun y => shapeCast_apply _ _ y y rfl
  unfold k0_pay1
  rw [ec, ew, eb]
  refine congrArg₂ (· + ·) ?_ (broadcastTo_1b_ab_apply _ _ _ _)
  show FloatOps.matmul (F := Ideal) (DotDims.plain 8 2048 1024) none (truncf .bf16 (gated C) bitsLt_bf16_f32) (truncf .bf16 w bitsLt_bf16_f32)
    (constant S8x1024 .f32 0x00000000#32) (ix2 r d) = _
  rw [Ideal.matmul_plain_apply]
  show Ideal.ofBits .f32 0x00000000#32 + _ = _
  rw [Ideal.ofBits_zero_f32, zero_add]
  refine Finset.sum_congr rfl fun k _ => ?_
  rw [truncf_apply, truncf_apply, gated_apply]

/-- What a point's store leaves. -/
theorem out_eq : out0_3 (F := Ideal) C w b = k0_pay1 (F := Ideal) C w b := by
  unfold out0_3
  refine (View.canon_cons_unit_lit (S := S8x1024) _ _ _ (by decide)).trans ?_
  have ec : View.ld (Val := Elt Ideal) (e' := .f32) C r0_0 = C := View.ld_unit_lit (Val := Elt Ideal) (e := .f32) (S := S8x2048) (off := ![0, 0]) _ C (by decide)
  have ew : View.ld (Val := Elt Ideal) (e' := .f32) w r0_1 = w := View.ld_unit_lit (Val := Elt Ideal) (e := .f32) (S := S2048x1024) (off := ![0, 0]) _ w (by decide)
  have eb : View.ld (Val := Elt Ideal) (e' := .f32) b r0_2 = b := View.ld_unit_lit (Val := Elt Ideal) (e := .f32) (S := S1x1024) (off := ![0, 0]) _ b (by decide)
  rw [ec, ew, eb]

end Block

variable (m : (ℓ : Loc nD τ sig) → Buf (Elt Ideal) ℓ) (c : Dev nD)

/-- The arguments as given: the conditioning vectors, the weight, the bias. -/
def cIn : S4x2048.Idx → EReal := m ((c : Thread nD τ).loc main_arg0)
def wIn : S1x2048x12288.Idx → EReal := m ((c : Thread nD τ).loc main_arg1)
def bIn : S1x12288.Idx → EReal := m ((c : Thread nD τ).loc main_arg2)

/-- The conditioning vectors under rows of padding. -/
def padded (C : S4x2048.Idx → EReal) : S8x2048.Idx → EReal :=
  pad S8x2048 ![0, 0] ![4, 0] ![0, 0] C (sitofp (F := Ideal) .f32 (constantI S_ 32 0#32)) pads_S4x2048_S8x2048_040_000 h_S_

def cRows : S8x2048.Idx → EReal := V m c main_v0
def wRows : S2048x12288.Idx → EReal := V m c main_v1
def bRow : S1x12288.Idx → EReal := V m c main_v3

theorem cRows_eq : cRows m c = padded (cIn m c) := by
  unfold cRows
  simp only [V, List.flatten_cons, List.flatten_nil, List.append_nil, List.cons_append, List.nil_append]
  after_results_simp
  rfl
theorem wRows_eq : wRows m c = shapeCast S2048x12288 (wIn m c) shapeCasts_S1x2048x12288_S2048x12288 := by
  unfold wRows
  simp only [V, List.flatten_cons, List.flatten_nil, List.append_nil, List.cons_append, List.nil_append]
  after_results_simp
  rfl
theorem bRow_eq : bRow m c = broadcastInDim S1x12288 ![1] bcast_S12288_S1x12288_1 (shapeCast S12288 (bIn m c) shapeCasts_S1x12288_S12288) := by
  unfold bRow
  simp only [V, List.flatten_cons, List.flatten_nil, List.append_nil, List.cons_append, List.nil_append]
  after_results_simp
  rfl

theorem wRows_apply (y : S2048x12288.Idx) (k : Fin 2048) (d : Fin 12288) (h0 : (y 0).val = k.val) (h1 : (y 1).val = d.val) :
    wRows m c y = wIn m c (ix3 (0 : Fin 1) k d) := by
  rw [wRows_eq]
  refine shapeCast_apply _ _ y _ ?_
  rw [Shape.rowMajor_val_three, Shape.rowMajor_val_two]
  show (0 * 2048 + k.val) * 12288 + d.val = (y 0).val * 12288 + (y 1).val
  rw [h0, h1, Nat.zero_mul, Nat.zero_add]

theorem bRow_apply (y : S1x12288.Idx) (d : Fin 12288) (h1 : (y 1).val = d.val) : bRow m c y = bIn m c (ix2 (0 : Fin 1) d) := by
  rw [bRow_eq]
  refine (broadcastInDim_apply _ _ _ y (ix1 d) fun a => ?_).trans ?_
  · match a with
    | ⟨0, _⟩ => exact h1.symm
  · refine shapeCast_apply _ _ (ix1 d) _ ?_
    rw [Shape.rowMajor_val_two, Shape.rowMajor_val_one]
    show 0 * 12288 + d.val = d.val
    omega

/-! ## The blocks a point reads: all rows, columns `1024 t` on. -/

theorem index_0 : ∀ t : Fin cfg0.N, win0_0.index t = ![0, 0] := (by decide +kernel : ∀ t : Fin grid0.N, win0_0.index t = ![0, 0])
theorem index_1 : ∀ t : Fin cfg0.N, win0_1.index t = ![0, t.val] := (by decide +kernel : ∀ t : Fin grid0.N, win0_1.index t = ![0, t.val])
theorem index_2 : ∀ t : Fin cfg0.N, win0_2.index t = ![0, t.val] := (by decide +kernel : ∀ t : Fin grid0.N, win0_2.index t = ![0, t.val])
theorem index_3 : ∀ t : Fin cfg0.N, win0_3.index t = ![0, t.val] := (by decide +kernel : ∀ t : Fin grid0.N, win0_3.index t = ![0, t.val])
theorem flushes : ∀ t : Fin cfg0.N, (cfg0.win 3).flush t = true := (by decide +kernel : ∀ t : Fin grid0.N, win0_3.flush t = true)

def cBlk (t : Fin cfg0.N) : S8x2048.Idx → EReal := iblk m c 0 t
def wBlk (t : Fin cfg0.N) : S2048x1024.Idx → EReal := iblk m c 1 t
def bBlk (t : Fin cfg0.N) : S1x1024.Idx → EReal := iblk m c 2 t

/-- Column `d` of point `t`'s blocks. -/
def col (t : Fin cfg0.N) (d : Fin 1024) : Fin 12288 := ⟨1024 * t.val + d.val, by have h : t.val < 12 := lt_of_lt_of_eq t.isLt N_0; have := d.isLt; omega⟩

theorem read_0 (t : Fin cfg0.N) (r : Fin 8) (k : Fin 2048) : cBlk m c t (ix2 r k) = padded (cIn m c) (ix2 r k) := by
  refine (congrFun (cRows_eq m c) (((cfg0.win 0).blk t).view.emb (ix2 r k))).trans (congrArg (padded (cIn m c)) (funext fun a => Fin.ext ?_))
  match a with
  | ⟨0, _⟩ => show win0_0.index t 0 * 8 + 1 * r.val = r.val; rw [index_0]; show 0 * 8 + 1 * r.val = _; omega
  | ⟨1, _⟩ => show win0_0.index t 1 * 2048 + 1 * k.val = k.val; rw [index_0]; show 0 * 2048 + 1 * k.val = _; omega
theorem read_1 (t : Fin cfg0.N) (k : Fin 2048) (d : Fin 1024) : wBlk m c t (ix2 k d) = wIn m c (ix3 (0 : Fin 1) k (col t d)) := by
  refine wRows_apply m c (((cfg0.win 1).blk t).view.emb (ix2 k d)) k (col t d) ?_ ?_
  · show win0_1.index t 0 * 2048 + 1 * k.val = k.val
    rw [index_1]; show 0 * 2048 + 1 * k.val = _; omega
  · show win0_1.index t 1 * 1024 + 1 * d.val = 1024 * t.val + d.val
    rw [index_1]; show t.val * 1024 + 1 * d.val = _; omega
theorem read_2 (t : Fin cfg0.N) (d : Fin 1024) : bBlk m c t (ix2 (0 : Fin 1) d) = bIn m c (ix2 (0 : Fin 1) (col t d)) := by
  refine bRow_apply m c (((cfg0.win 2).blk t).view.emb (ix2 (0 : Fin 1) d)) (col t d) ?_
  show win0_2.index t 1 * 1024 + 1 * d.val = 1024 * t.val + d.val
  rw [index_2]; show t.val * 1024 + 1 * d.val = _; omega

/-- The whole result. -/
def whole (C : S4x2048.Idx → EReal) (W : S1x2048x12288.Idx → EReal) (B : S1x12288.Idx → EReal) : S8x12288.Idx → EReal := fun i => modulation (padded C) W B (i 0) (i 1)

/-- What a point leaves. -/
theorem point (t : Fin cfg0.N) (r : Fin 8) (d : Fin 1024) :
    k0_pay1 (F := Ideal) (cBlk m c t) (wBlk m c t) (bBlk m c t) (ix2 r d) = modulation (padded (cIn m c)) (wIn m c) (bIn m c) r (col t d) := by
  rw [pay1_apply, read_2]
  refine congrArg (· + bIn m c (ix2 (0 : Fin 1) (col t d))) (Finset.sum_congr rfl fun k _ => ?_)
  rw [read_0, read_1]

/-- A point writes back its columns. -/
theorem flushed_eq (t : Fin cfg0.N) : (dats m 0 c).flushed 3 t = ((cfg0.win 3).blk t).view.read (Elt Ideal) (whole (cIn m c) (wIn m c) (bIn m c)) := by
  rw [Cert.Kernel9Ideal.Value.flushed3]
  funext y
  have e : (((cfg0.win 3).blk t).view.emb y) = ix2 (y 0) (col t (y 1)) := funext fun a => Fin.ext (by
    match a with
    | ⟨0, _⟩ => show win0_3.index t 0 * 8 + 1 * (y 0).val = (y 0).val; rw [index_3]; show 0 * 8 + 1 * (y 0).val = _; omega
    | ⟨1, _⟩ => show win0_3.index t 1 * 1024 + 1 * (y 1).val = 1024 * t.val + (y 1).val; rw [index_3]; show t.val * 1024 + 1 * (y 1).val = _; omega)
  refine (congrFun (out_eq (cBlk m c t) (wBlk m c t) (bBlk m c t)) y).trans ?_
  refine (congrArg (k0_pay1 (F := Ideal) (cBlk m c t) (wBlk m c t) (bBlk m c t)) (eq_ix2 y)).trans ((point m c t (y 0) (y 1)).trans ?_)
  exact (congrArg (whole (cIn m c) (wIn m c) (bIn m c)) e).symm

theorem mem_blk (t : Fin cfg0.N) (i : S8x12288.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v4).slice (win0_3.rect t)).set ↔ _
  rw [View.set_slice_whole, Rect.mem_set_unit]
  exact Iff.rfl

/-- The output array after the run. -/
theorem array_eq : (dats m 0 c).arrAt 3 cfg0.N = whole (cIn m c) (wIn m c) (bIn m c) := by
  refine (dats m 0 c).arrAt_eq_of_cover 3 (whole (cIn m c) (wIn m c) (bIn m c)) (fun t _ => flushed_eq m c t) fun (i : S8x12288.Idx) => ?_
  have h0 : (i 0).val < 8 := (i 0).isLt
  have h1 : (i 1).val < 12288 := (i 1).isLt
  refine ⟨⟨(i 1).val / 1024, by rw [show cfg0.N = 12 from N_0]; omega⟩, flushes _, (mem_blk _ i).2 fun a => ?_⟩
  rw [index_3]
  match a with
  | ⟨0, _⟩ => show 0 * 8 ≤ (i 0).val ∧ (i 0).val < 0 * 8 + 8; omega
  | ⟨1, _⟩ => show (i 1).val / 1024 * 1024 ≤ (i 1).val ∧ (i 1).val < (i 1).val / 1024 * 1024 + 1024; omega

end Kernel

/-! ## The claims -/

/-- The kernel runs to its end on any floats and leaves its arguments. -/
theorem frame_p : Cert.quiescent_Kernel9 := fun m g _ => Cert.Kernel9.Gen.frame (F := Bits) m g

/-- The kernel over the extended reals runs to its end and leaves its arguments. -/
theorem frame_pi : Cert.quiescent_Kernel9Ideal := fun m g _ => Cert.Kernel9Ideal.Gen.frame (F := Ideal) m g

/-- The reference over the extended reals runs to its end and leaves its arguments. -/
theorem frame_ri : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- Nothing is rewritten. -/
theorem preserves : Cert.preserves_Kernel9_Kernel9Ideal := trivial

section Reference
open Cert.Reference9Ideal Cert.Reference9Ideal.Read
variable (C : (⟨2, ![4, 2048]⟩ : Shape).Idx → EReal) (W : (⟨3, ![1, 2048, 12288]⟩ : Shape).Idx → EReal) (B : (⟨2, ![1, 12288]⟩ : Shape).Idx → EReal)

theorem ref_padded : val_main_v0 (F := Ideal) C = padded C := rfl

theorem ref_gated (y : (⟨2, ![8, 2048]⟩ : Shape).Idx) : val_main_v1 (F := Ideal) C y = padded C y * logi (padded C y) := by
  rw [val_main_v1_apply, val_main_call1_v5_apply, val_main_call1_v4_apply, val_main_call1_cst_0_apply, val_main_call1_v3_apply, val_main_call1_v2_apply, val_main_call1_cst_apply,
    val_main_call1_v1_apply, val_main_call1_v0_apply, ref_padded]
  show padded C y * Ideal.div (Ideal.ofBits .f32 0x3F800000#32) (Ideal.ofBits .f32 0x3F800000#32 + Ideal.exp (-(padded C y))) = _
  rw [Ideal.ofBits_one_f32]
  rfl

/-- The reference's result, at an index. -/
theorem ref_at (r : Fin 8) (d : Fin 12288) : val_main_v7 (F := Ideal) C W B (ix2 r d) = modulation (padded C) W B r d := by
  have hd := d.isLt
  have eb : idx_main_v4 (idx_main_v5 (idx_main_v6 (ix2 r d))) = ix2 (0 : Fin 1) d := funext fun a => Fin.ext (by
    match a with
    | ⟨0, _⟩ => rfl
    | ⟨1, _⟩ => show d.val % 12288 = d.val; omega)
  rw [val_main_v7_apply, val_main_v6_apply, val_main_v5_apply, val_main_v4_apply, eb, val_main_v3_apply]
  refine congrArg (· + B (ix2 (0 : Fin 1) d)) (Finset.sum_congr rfl fun k _ => ?_)
  have hk := k.isLt
  have el : lidx_main_v3 (ix2 r d) k = ix2 r k := funext fun a => by
    match a with
    | ⟨0, _⟩ => rfl
    | ⟨1, _⟩ => rfl
  rw [el, ref_gated, val_main_v2_apply]
  refine congrArg (fun z => padded C (ix2 r k) * logi (padded C (ix2 r k)) * W z) (funext fun a => Fin.ext ?_)
  match a with
  | ⟨0, _⟩ => rfl
  | ⟨1, _⟩ => show (k.val * 12288 + d.val) / 12288 % 2048 = k.val; omega
  | ⟨2, _⟩ => show (k.val * 12288 + d.val) % 12288 = d.val; omega

/-- The reference's result. -/
theorem ref_result : val_main_v7 (F := Ideal) C W B = whole C W B := funext fun y =>
  (congrArg (val_main_v7 (F := Ideal) C W B) (eq_ix2 y)).trans (ref_at C W B (y 0) (y 1))

end Reference

/-- Over the extended reals the kernel's result is the reference's. -/
theorem algebraic : Cert.algebraic_Kernel9Ideal_Reference9Ideal := by
  intro m g m' g' _ hagree
  refine ⟨_, Cert.Kernel9Ideal.Value.run_blocks (F := Ideal) m g, ?_⟩
  refine (θ_run Cert.Reference9Ideal.defs _ _).mono (fun _ h c => ⟨(h c).1.trans ?_, (h c).2⟩) (Cert.Reference9Ideal.Value.run (F := Ideal) m' g')
  rw [Cert.Reference9Ideal.Read.val_main_v7_eq, (hagree c).1, (hagree c).2.1, (hagree c).2.2]
  exact (ref_result (cIn m c) (wIn m c) (bIn m c)).trans (array_eq m c).symm

end Cert.Ada
end
-- ==== Proof.lean ====
module

public import proofs.«01_k».proof.Defs
public import proofs.«01_k».proof.Proof.Claims
public import proofs.«01_k».proof.Proof.SwigluClaims
public import proofs.«01_k».proof.Proof.ProjectClaims
public import proofs.«01_k».proof.Proof.DownClaims
public import proofs.«01_k».proof.Proof.DilFirst
public import proofs.«01_k».proof.Proof.DilSecond
public import proofs.«01_k».proof.Proof.DilThird
public import proofs.«01_k».proof.Proof.PostClaims
public import proofs.«01_k».proof.Proof.Ada
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Frame
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Frame
public import proofs.«01_k».proof.Proof.Gen.Kernel8.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Stick.frame_p, Cert.Stick.frame_pi, Cert.Stick.frame_ri,
    Cert.Swiglu.frame_p, Cert.Swiglu.frame_pi, Cert.Swiglu.frame_ri,
    Cert.Project.frame_p, Cert.Project.frame_pi, Cert.Project.frame_ri,
    Cert.Down.frame_p, Cert.Down.frame_pi, Cert.Down.frame_ri,
    Cert.Dilated.First.frame_p, Cert.Dilated.First.frame_pi, Cert.Dilated.First.frame_ri,
    Cert.Dilated.Second.frame_p, Cert.Dilated.Second.frame_pi, Cert.Dilated.Second.frame_ri,
    Cert.Dilated.Third.frame_p, Cert.Dilated.Third.frame_pi, Cert.Dilated.Third.frame_ri,
    Cert.Post.frame_p, Cert.Post.frame_pi, Cert.Post.frame_ri,
    Cert.Ada.frame_p, Cert.Ada.frame_pi, Cert.Ada.frame_ri,
    Cert.Stick.preserves, Cert.Stick.algebraic, Cert.Swiglu.preserves, Cert.Swiglu.algebraic,
    Cert.Project.preserves, Cert.Project.algebraic, Cert.Down.preserves, Cert.Down.algebraic,
    Cert.Dilated.First.preserves, Cert.Dilated.First.algebraic,
    Cert.Dilated.Second.preserves, Cert.Dilated.Second.algebraic,
    Cert.Dilated.Third.preserves, Cert.Dilated.Third.algebraic,
    Cert.Post.preserves, Cert.Post.algebraic,
    Cert.Ada.preserves, Cert.Ada.algebraic⟩

end Cert.Proof

end
